-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x4x64 : S_.BroadcastsInDim S2x256x4x64 (![] : Fin 0 → Fin S2x256x4x64.rank)

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S2x256x512 1 × IVec S512x256 1 × IVec S2x256x4x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x256x4x64 .bf16 := Host.absf main_arg2
  let main_cst_1 : FVec F S_ .bf16 := constant S_ .bf16 0x7F80#16
  let main_v7 : FVec F S2x256x4x64 .bf16 := broadcastInDim S2x256x4x64 ![] bcast_S_S2x256x4x64 main_cst_1
  let main_v8 : IVec S2x256x4x64 1 := cmpf .olt main_v6 main_v7
  (main_v2, main_v5, main_v8)
-- ==== Pre_finite_scores_ReferenceIdeal.lean ====
abbrev S2x256x512 : Shape := ⟨3, ![2, 256, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x1024x4x64 : S_.BroadcastsInDim S2x1024x4x64 (![] : Fin 0 → Fin S2x1024x4x64.rank)

variable [Facts]

def fn {F : FTy → Type} [FloatOps F] (main_arg0 : FVec F S2x256x512 .bf16) (main_arg1 : FVec F S512x256 .bf16) (main_arg2 : FVec F S2x1024x4x64 .bf16) (main_arg3 : FVec F S2x1024x4x64 .bf16) (main_arg4 : FVec F S256x512 .bf16) : IVec S2x256x512 1 × IVec S512x256 1 × IVec S2x1024x4x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x1024x4x64 .bf16 := Host.absf main_arg2
  let main_cst_1 : FVec F S_ .bf16 := constant S_ .bf16 0x7F80#16
  let main_v7 : FVec F S2x1024x4x64 .bf16 := broadcastInDim S2x1024x4x64 ![] bcast_S_S2x1024x4x64 main_cst_1
  let main_v8 : IVec S2x1024x4x64 1 := cmpf .olt main_v6 main_v7
  (main_v2, main_v5, main_v8)
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x256x256 : Shape := ⟨3, ![2, 256, 256]⟩
abbrev S4x9x64x64 : Shape := ⟨4, ![4, 9, 64, 64]⟩
abbrev S6x9x64x64 : Shape := ⟨4, ![6, 9, 64, 64]⟩
abbrev S8 : Shape := ⟨1, ![8]⟩
abbrev S6 : Shape := ⟨1, ![6]⟩
abbrev S_ : Shape := ⟨0, ![]⟩
abbrev S256x256 : Shape := ⟨2, ![256, 256]⟩
abbrev S1x256x512 : Shape := ⟨3, ![1, 256, 512]⟩
abbrev S1x256x256 : Shape := ⟨3, ![1, 256, 256]⟩
abbrev S256x64 : Shape := ⟨2, ![256, 64]⟩
abbrev S256 : Shape := ⟨1, ![256]⟩
abbrev S256x1 : Shape := ⟨2, ![256, 1]⟩
abbrev S64x64 : Shape := ⟨2, ![64, 64]⟩
abbrev S1x1x64x64 : Shape := ⟨4, ![1, 1, 64, 64]⟩
abbrev S64x1 : Shape := ⟨2, ![64, 1]⟩
abbrev S1x1x64x1 : Shape := ⟨4, ![1, 1, 64, 1]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩
abbrev S1x128x256 : Shape := ⟨3, ![1, 128, 256]⟩
abbrev S128x64 : Shape := ⟨2, ![128, 64]⟩
abbrev S128 : Shape := ⟨1, ![128]⟩
abbrev S128x1 : Shape := ⟨2, ![128, 1]⟩
abbrev S1 : Shape := ⟨1, ![1]⟩
abbrev S1x9x64x64 : Shape := ⟨4, ![1, 9, 64, 64]⟩
abbrev S9x64x64 : Shape := ⟨3, ![9, 64, 64]⟩
abbrev S1x64x64 : Shape := ⟨3, ![1, 64, 64]⟩
abbrev S1x64x1 : Shape := ⟨3, ![1, 64, 1]⟩
abbrev S64x512 : Shape := ⟨2, ![64, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x256, .bf16⟩
  | .hbm, ⟨6, _⟩ => ⟨S2x256x256, .bf16⟩
  | .hbm, ⟨7, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x256, .bf16⟩
  | .local _ .vmem, ⟨3, _⟩ => ⟨S2x256x256, .bf16⟩
  | .local _ .vmem, ⟨4, _⟩ => ⟨S256x512, .bf16⟩
  | .local _ .vmem, ⟨5, _⟩ => ⟨S2x256x512, .f32⟩
  | .local _ .vmem, ⟨6, _⟩ => ⟨S4x9x64x64, .bf16⟩
  | .local _ .vmem, ⟨7, _⟩ => ⟨S6x9x64x64, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_31 : BitVec 32 := 0#32
  let v49 : BitVec 1 := Scalar.cmpi .eq v2 c0_i32_31
  let v50 : BitVec 32 := Scalar.extui v49
  let c0_i32_32 : BitVec 32 := 0#32
  let v51 : BitVec 1 := Scalar.cmpi .ne v50 c0_i32_32
  v51

def k0_dev4 : Nat :=
  let c0_i32_87 : BitVec 32 := 0#32
  let c1_i32_85 : BitVec 32 := 1#32
  let c1_i32_86 : BitVec 32 := 1#32
  let v332 : BitVec 32 := Scalar.muli c1_i32_85 c1_i32_86
  let v333 : BitVec 32 := Scalar.addi c0_i32_87 v332
  v333.toNat
def k0_dev5 : Nat :=
  let c0_i32_100 : BitVec 32 := 0#32
  let c1_i32_98 : BitVec 32 := 1#32
  let c1_i32_99 : BitVec 32 := 1#32
  let v342 : BitVec 32 := Scalar.muli c1_i32_98 c1_i32_99
  let v343 : BitVec 32 := Scalar.addi c0_i32_100 v342
  v343.toNat
def k0_dev6 : Nat :=
  let c0_i32_113 : BitVec 32 := 0#32
  let c1_i32_111 : BitVec 32 := 1#32
  let c1_i32_112 : BitVec 32 := 1#32
  let v352 : BitVec 32 := Scalar.muli c1_i32_111 c1_i32_112
  let v353 : BitVec 32 := Scalar.addi c0_i32_113 v352
  v353.toNat
def k0_dev7 : Nat :=
  let c0_i32_126 : BitVec 32 := 0#32
  let c1_i32_124 : BitVec 32 := 1#32
  let c1_i32_125 : BitVec 32 := 1#32
  let v362 : BitVec 32 := Scalar.muli c1_i32_124 c1_i32_125
  let v363 : BitVec 32 := Scalar.addi c0_i32_126 v362
  v363.toNat
def k0_dev8 : Nat :=
  let c0_i32_139 : BitVec 32 := 0#32
  let c3_i32_137 : BitVec 32 := 3#32
  let c1_i32_138 : BitVec 32 := 1#32
  let v372 : BitVec 32 := Scalar.muli c3_i32_137 c1_i32_138
  let v373 : BitVec 32 := Scalar.addi c0_i32_139 v372
  v373.toNat
def k0_dev9 : Nat :=
  let c0_i32_151 : BitVec 32 := 0#32
  let c3_i32_149 : BitVec 32 := 3#32
  let c1_i32_150 : BitVec 32 := 1#32
  let v382 : BitVec 32 := Scalar.muli c3_i32_149 c1_i32_150
  let v383 : BitVec 32 := Scalar.addi c0_i32_151 v382
  v383.toNat
def k0_dev10 : Nat :=
  let c0_i32_163 : BitVec 32 := 0#32
  let c3_i32_161 : BitVec 32 := 3#32
  let c1_i32_162 : BitVec 32 := 1#32
  let v392 : BitVec 32 := Scalar.muli c3_i32_161 c1_i32_162
  let v393 : BitVec 32 := Scalar.addi c0_i32_163 v392
  v393.toNat
def k0_dev11 : Nat :=
  let c0_i32_175 : BitVec 32 := 0#32
  let c3_i32_173 : BitVec 32 := 3#32
  let c1_i32_174 : BitVec 32 := 1#32
  let v402 : BitVec 32 := Scalar.muli c3_i32_173 c1_i32_174
  let v403 : BitVec 32 := Scalar.addi c0_i32_175 v402
  v403.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v52 : BitVec 1 := Scalar.cmpi .eq v2 c1_i32_33
  let v53 : BitVec 32 := Scalar.extui v52
  let c0_i32_34 : BitVec 32 := 0#32
  let v54 : BitVec 1 := Scalar.cmpi .ne v53 c0_i32_34
  v54

def k0_dev12 : Nat :=
  let c0_i32_87 : BitVec 32 := 0#32
  let c0_i32_85 : BitVec 32 := 0#32
  let c1_i32_86 : BitVec 32 := 1#32
  let v332 : BitVec 32 := Scalar.muli c0_i32_85 c1_i32_86
  let v333 : BitVec 32 := Scalar.addi c0_i32_87 v332
  v333.toNat
def k0_dev13 : Nat :=
  let c0_i32_99 : BitVec 32 := 0#32
  let c0_i32_97 : BitVec 32 := 0#32
  let c1_i32_98 : BitVec 32 := 1#32
  let v342 : BitVec 32 := Scalar.muli c0_i32_97 c1_i32_98
  let v343 : BitVec 32 := Scalar.addi c0_i32_99 v342
  v343.toNat
def k0_dev14 : Nat :=
  let c0_i32_112 : BitVec 32 := 0#32
  let c2_i32_110 : BitVec 32 := 2#32
  let c1_i32_111 : BitVec 32 := 1#32
  let v352 : BitVec 32 := Scalar.muli c2_i32_110 c1_i32_111
  let v353 : BitVec 32 := Scalar.addi c0_i32_112 v352
  v353.toNat
def k0_dev15 : Nat :=
  let c0_i32_125 : BitVec 32 := 0#32
  let c2_i32_123 : BitVec 32 := 2#32
  let c1_i32_124 : BitVec 32 := 1#32
  let v362 : BitVec 32 := Scalar.muli c2_i32_123 c1_i32_124
  let v363 : BitVec 32 := Scalar.addi c0_i32_125 v362
  v363.toNat
def k0_dev16 : Nat :=
  let c0_i32_167 : BitVec 32 := 0#32
  let c2_i32_165 : BitVec 32 := 2#32
  let c1_i32_166 : BitVec 32 := 1#32
  let v390 : BitVec 32 := Scalar.muli c2_i32_165 c1_i32_166
  let v391 : BitVec 32 := Scalar.addi c0_i32_167 v390
  v391.toNat
def k0_dev17 : Nat :=
  let c0_i32_193 : BitVec 32 := 0#32
  let c2_i32_191 : BitVec 32 := 2#32
  let c1_i32_192 : BitVec 32 := 1#32
  let v408 : BitVec 32 := Scalar.muli c2_i32_191 c1_i32_192
  let v409 : BitVec 32 := Scalar.addi c0_i32_193 v408
  v409.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_35 : BitVec 32 := 2#32
  let v55 : BitVec 1 := Scalar.cmpi .eq v2 c2_i32_35
  let v56 : BitVec 32 := Scalar.extui v55
  let c0_i32_36 : BitVec 32 := 0#32
  let v57 : BitVec 1 := Scalar.cmpi .ne v56 c0_i32_36
  v57

def k0_dev18 : Nat :=
  let c0_i32_100 : BitVec 32 := 0#32
  let c3_i32_98 : BitVec 32 := 3#32
  let c1_i32_99 : BitVec 32 := 1#32
  let v340 : BitVec 32 := Scalar.muli c3_i32_98 c1_i32_99
  let v341 : BitVec 32 := Scalar.addi c0_i32_100 v340
  v341.toNat
def k0_dev19 : Nat :=
  let c0_i32_125 : BitVec 32 := 0#32
  let c3_i32_123 : BitVec 32 := 3#32
  let c1_i32_124 : BitVec 32 := 1#32
  let v358 : BitVec 32 := Scalar.muli c3_i32_123 c1_i32_124
  let v359 : BitVec 32 := Scalar.addi c0_i32_125 v358
  v359.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_37 : BitVec 32 := 3#32
  let v58 : BitVec 1 := Scalar.cmpi .eq v2 c3_i32_37
  let v59 : BitVec 32 := Scalar.extui v58
  let c0_i32_38 : BitVec 32 := 0#32
  let v60 : BitVec 1 := Scalar.cmpi .ne v59 c0_i32_38
  v60

def k0_dev20 : Nat :=
  let c0_i32_100 : BitVec 32 := 0#32
  let c2_i32_98 : BitVec 32 := 2#32
  let c1_i32_99 : BitVec 32 := 1#32
  let v340 : BitVec 32 := Scalar.muli c2_i32_98 c1_i32_99
  let v341 : BitVec 32 := Scalar.addi c0_i32_100 v340
  v341.toNat
def k0_dev21 : Nat :=
  let c0_i32_126 : BitVec 32 := 0#32
  let c2_i32_124 : BitVec 32 := 2#32
  let c1_i32_125 : BitVec 32 := 1#32
  let v358 : BitVec 32 := Scalar.muli c2_i32_124 c1_i32_125
  let v359 : BitVec 32 := Scalar.addi c0_i32_126 v358
  v359.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x256 : Shape := ⟨2, ![512, 256]⟩
abbrev S2x1024x4x64 : Shape := ⟨4, ![2, 1024, 4, 64]⟩
abbrev S256x512 : Shape := ⟨2, ![256, 512]⟩
abbrev S2x256x256 : Shape := ⟨3, ![2, 256, 256]⟩
abbrev S2x256x4x64 : Shape := ⟨4, ![2, 256, 4, 64]⟩
abbrev S256 : Shape := ⟨1, ![256]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S_ : Shape := ⟨0, ![]⟩
abbrev S2x4x256x1024 : Shape := ⟨4, ![2, 4, 256, 1024]⟩
abbrev S1x1x256x1024 : Shape := ⟨4, ![1, 1, 256, 1024]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 62
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x1024x4x64, .bf16⟩
  | .hbm, ⟨3, _⟩ => ⟨S2x1024x4x64, .bf16⟩
  | .hbm, ⟨4, _⟩ => ⟨S256x512, .bf16⟩
  | .hbm, ⟨5, _⟩ => ⟨S2x256x256, .f32⟩
  | .hbm, ⟨6, _⟩ => ⟨S2x256x256, .bf16⟩
  | .hbm, ⟨7, _⟩ => ⟨S2x256x4x64, .bf16⟩
  | .hbm, ⟨8, _⟩ => ⟨S256, .i32⟩
  | .hbm, ⟨9, _⟩ => ⟨S256x1, .i32⟩
  | .hbm, ⟨10, _⟩ => ⟨S1024, .i32⟩
  | .hbm, ⟨11, _⟩ => ⟨S1x1024, .i32⟩
  | .hbm, ⟨12, _⟩ => ⟨S256x1024, .i32⟩
  | .hbm, ⟨13, _⟩ => ⟨S256x1024, .i32⟩
  | .hbm, ⟨14, _⟩ => ⟨S256x1024, .i32⟩
  | .hbm, ⟨15, _⟩ => ⟨S256x1024, .i32⟩
  | .hbm, ⟨16, _⟩ => ⟨S_, .i32⟩
  | .hbm, ⟨17, _⟩ => ⟨S256x1024, .i32⟩
  | .hbm, ⟨18, _⟩ => ⟨S256x1024, .i1⟩
  | .hbm, ⟨19, _⟩ => ⟨S2x4x256x1024, .f32⟩
  | .hbm, ⟨20, _⟩ => ⟨S2x4x256x1024, .bf16⟩
  | .hbm, ⟨21, _⟩ => ⟨S2x4x256x1024, .f32⟩
  | .hbm, ⟨22, _⟩ => ⟨S_, .f32⟩
  | .hbm, ⟨23, _⟩ => ⟨S2x4x256x1024, .f32⟩
  | .hbm, ⟨24, _⟩ => ⟨S2x4x256x1024, .f32⟩
  | .hbm, ⟨25, _⟩ => ⟨S1x1x256x1024, .i1⟩
  | .hbm, ⟨26, _⟩ => ⟨S_, .f32⟩
  | .hbm, ⟨27, _⟩ => ⟨S_, .f32⟩
  | .hbm, ⟨28, _⟩ => ⟨S2x4x256x1024, .i1⟩
  | .hbm, ⟨29, _⟩ => ⟨S2x4x256x1024, .f32⟩
  | .hbm, ⟨30, _⟩ => ⟨S2x4x256x1024, .f32⟩
  | .hbm, ⟨31, _⟩ => ⟨S_, .f32⟩
  | .hbm, ⟨32, _⟩ => ⟨S2x4x256, .f32⟩
  | .hbm, ⟨33, _⟩ => ⟨S2x4x256x1, .f32⟩
  | .hbm, ⟨34, _⟩ => ⟨S2x4x256x1024, .f32⟩
  | .hbm, ⟨35, _⟩ => ⟨S2x4x256x1024, .f32⟩
  | .hbm, ⟨36, _⟩ => ⟨S2x4x256x1024, .f32⟩
  | .hbm, ⟨37, _⟩ => ⟨S_, .i1⟩
  | .hbm, ⟨38, _⟩ => ⟨S256, .i1⟩
  | .hbm, ⟨39, _⟩ => ⟨S1x1x256x1, .i1⟩
  | .hbm, ⟨40, _⟩ => ⟨S_, .f32⟩
  | .hbm, ⟨41, _⟩ => ⟨S2x4x256, .f32⟩
  | .hbm, ⟨42, _⟩ => ⟨S2x4x256x1, .f32⟩
  | .hbm, ⟨43, _⟩ => ⟨S_, .f32⟩
  | .hbm, ⟨44, _⟩ => ⟨S_, .f32⟩
  | .hbm, ⟨45, _⟩ => ⟨S2x4x256x1, .i1⟩
  | .hbm, ⟨46, _⟩ => ⟨S2x4x256x1, .f32⟩
  | .hbm, ⟨47, _⟩ => ⟨S2x4x256x1, .f32⟩
  | .hbm, ⟨48, _⟩ => ⟨S2x4x256x1024, .f32⟩
  | .hbm, ⟨49, _⟩ => ⟨S2x4x256x1024, .f32⟩
  | .hbm, ⟨50, _⟩ => ⟨S1x1x256x1, .i1⟩
  | .hbm, ⟨51, _⟩ => ⟨S_, .f32⟩
  | .hbm, ⟨52, _⟩ => ⟨S_, .f32⟩
  | .hbm, ⟨53, _⟩ => ⟨S2x4x256x1024, .i1⟩
  | .hbm, ⟨54, _⟩ => ⟨S2x4x256x1024, .f32⟩
  | .hbm, ⟨55, _⟩ => ⟨S2x4x256x1024, .f32⟩
  | .hbm, ⟨56, _⟩ => ⟨S2x1024x4x64, .f32⟩
  | .hbm, ⟨57, _⟩ => ⟨S2x4x64x256, .f32⟩
  | .hbm, ⟨58, _⟩ => ⟨S2x256x4x64, .f32⟩
  | .hbm, ⟨59, _⟩ => ⟨S2x256x256, .f32⟩
  | .hbm, ⟨60, _⟩ => ⟨S256x512, .f32⟩
  | .hbm, ⟨61, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proof.Protocol.lean ====
/-
  The exchange of partial results between the four devices, as a schedule of rounds: what every semaphore cell is paid,
  by whom and with what. Device 0 and device 1 fill packets; packets 0 to 3 come from device 0, packets 4 and 5 from
  device 1; devices 2 and 3 pass on what the other is missing. Every cell is used in one round.
-/
module

public import proofs.«01_k».proof.Proof.Gen.KernelIdeal.Frame
public import proofs.«01_k».proof.Proof.Gen.KernelIdeal.Skeleton
public import Idealize.ShloMosaic.Lib.Rounds
public import Idealize.ShloMosaic.Lib.Pipeline.RegionTalk

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The pipeline's copy of the rounds' algebra and the exchange's. -/
abbrev UU : Type := UR sig nD τ × URounds (GSem nD τ sig) (Fin 4)

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

/-! ## Buffers, slots, cells -/

/-- The device's own packets and the six packets it ends with. -/
abbrev ownM : Memref sig .tc .vmem S4x9x64x64 .bf16 := Memref.whole cc0_scratch0
abbrev rcvM : Memref sig .tc .vmem S6x9x64x64 .bf16 := Memref.whole cc0_scratch1

/-- Packet `q` of the device's own. -/
abbrev ownS : Fin 4 → Memref sig .tc .vmem S9x64x64 .bf16
  | 0 => (ownM.slice (Rect.unit (s := S4x9x64x64) ![0, 0, 0, 0] S1x9x64x64.size inb_S4x9x64x64_S1x9x64x64_0_0_0_0) (fun _ => rfl)).squeeze S9x64x64 squeezes_S1x9x64x64_S9x64x64
  | 1 => (ownM.slice (Rect.unit (s := S4x9x64x64) ![1, 0, 0, 0] S1x9x64x64.size inb_S4x9x64x64_S1x9x64x64_1_0_0_0) (fun _ => rfl)).squeeze S9x64x64 squeezes_S1x9x64x64_S9x64x64
  | 2 => (ownM.slice (Rect.unit (s := S4x9x64x64) ![2, 0, 0, 0] S1x9x64x64.size inb_S4x9x64x64_S1x9x64x64_2_0_0_0) (fun _ => rfl)).squeeze S9x64x64 squeezes_S1x9x64x64_S9x64x64
  | 3 => (ownM.slice (Rect.unit (s := S4x9x64x64) ![3, 0, 0, 0] S1x9x64x64.size inb_S4x9x64x64_S1x9x64x64_3_0_0_0) (fun _ => rfl)).squeeze S9x64x64 squeezes_S1x9x64x64_S9x64x64

/-- Slot `k` for arriving packets. -/
abbrev rcvS : Fin 6 → Memref sig .tc .vmem S9x64x64 .bf16
  | 0 => (rcvM.slice (Rect.unit (s := S6x9x64x64) ![0, 0, 0, 0] S1x9x64x64.size inb_S6x9x64x64_S1x9x64x64_0_0_0_0) (fun _ => rfl)).squeeze S9x64x64 squeezes_S1x9x64x64_S9x64x64
  | 1 => (rcvM.slice (Rect.unit (s := S6x9x64x64) ![1, 0, 0, 0] S1x9x64x64.size inb_S6x9x64x64_S1x9x64x64_1_0_0_0) (fun _ => rfl)).squeeze S9x64x64 squeezes_S1x9x64x64_S9x64x64
  | 2 => (rcvM.slice (Rect.unit (s := S6x9x64x64) ![2, 0, 0, 0] S1x9x64x64.size inb_S6x9x64x64_S1x9x64x64_2_0_0_0) (fun _ => rfl)).squeeze S9x64x64 squeezes_S1x9x64x64_S9x64x64
  | 3 => (rcvM.slice (Rect.unit (s := S6x9x64x64) ![3, 0, 0, 0] S1x9x64x64.size inb_S6x9x64x64_S1x9x64x64_3_0_0_0) (fun _ => rfl)).squeeze S9x64x64 squeezes_S1x9x64x64_S9x64x64
  | 4 => (rcvM.slice (Rect.unit (s := S6x9x64x64) ![4, 0, 0, 0] S1x9x64x64.size inb_S6x9x64x64_S1x9x64x64_4_0_0_0) (fun _ => rfl)).squeeze S9x64x64 squeezes_S1x9x64x64_S9x64x64
  | 5 => (rcvM.slice (Rect.unit (s := S6x9x64x64) ![5, 0, 0, 0] S1x9x64x64.size inb_S6x9x64x64_S1x9x64x64_5_0_0_0) (fun _ => rfl)).squeeze S9x64x64 squeezes_S1x9x64x64_S9x64x64

abbrev barSem : Sem sig := barrier0
abbrev sndSem (d : Fin 8) : DmaSem sig := ⟨6 + d.val, by have := d.isLt; show 6 + d.val < 20; omega⟩
abbrev rcvSem (k : Fin 6) : DmaSem sig := ⟨14 + k.val, by have := k.isLt; show 14 + k.val < 20; omega⟩

abbrev barC (c : Dev nD) : GSem nD τ sig := ((c : Thread nD τ), .reg barSem)
abbrev sndC (c : Dev nD) (d : Fin 8) : GSem nD τ sig := ((c : Thread nD τ), .dma (sndSem d))
abbrev rcvC (c : Dev nD) (k : Fin 6) : GSem nD τ sig := ((c : Thread nD τ), .dma (rcvSem k))

/-- What one packet's copy counts. -/
abbrev N : ℕ := (rcvS 0).view.dmaCredit
theorem N_pos : 0 < N := View.dmaCredit_pos _ (by decide)

/-- A packet buffer at share `q` and contents `f`. -/
abbrev pkt (M : Memref sig .tc .vmem S9x64x64 .bf16) (c : Dev nD) (q : PosShare TreeShare) (f : Buf (Elt F) (M.view.loc (c : Thread nD τ))) : sProp 𝕄 :=
  M.view.loc (c : Thread nD τ) ↦[M.view.set]{q} f

/-- The entries of a packet that carry a result: the eight blocks of weighted values, and the eight columns of weight sums. -/
abbrev Mean (y : S9x64x64.Idx) : Prop := (y 0).val < 8 ∨ (y 2).val < 8

/-- A packet agrees with `P` where it carries a result. -/
def IsPk (P v : S9x64x64.Idx → F .bf16) : Prop := ∀ y, Mean y → v y = P y

variable (PK : Fin 6 → S9x64x64.Idx → F .bf16)

/-! ## Payloads -/

abbrev shA : PosShare TreeShare := fullShare.left.left
abbrev shB : PosShare TreeShare := fullShare.left.right
abbrev shK : PosShare TreeShare := fullShare.right
abbrev shL : PosShare TreeShare := fullShare.left

/-- What copy `d` of device `c` reads, and the share of it the copy holds. -/
abbrev srcM : Fin 4 → Fin 8 → Memref sig .tc .vmem S9x64x64 .bf16
  | 0, 0 => ownS 0 | 0, 1 => ownS 1 | 0, 2 => ownS 2 | 0, 3 => ownS 3
  | 0, 4 => ownS 2 | 0, 5 => ownS 3 | 0, 6 => ownS 0 | 0, 7 => ownS 1
  | 1, 0 => ownS 2 | 1, 1 => ownS 3 | 1, 2 => ownS 2 | 1, 3 => ownS 3
  | 1, 4 => rcvS 0 | 1, 5 => rcvS 1
  | 2, 0 => rcvS 4 | 2, 1 => rcvS 5
  | 3, 0 => rcvS 2 | 3, 1 => rcvS 3
  | _, _ => ownS 0
abbrev srcQ : Fin 4 → Fin 8 → PosShare TreeShare
  | 0, 0 => shA | 0, 1 => shA | 0, 2 => shA | 0, 3 => shA
  | 0, 4 => shB | 0, 5 => shB | 0, 6 => shB | 0, 7 => shB
  | 1, 0 => shA | 1, 1 => shA | 1, 2 => shB | 1, 3 => shB
  | _, _ => shL

/-- A sent packet's buffer back. -/
def sndPay (c : Dev nD) (d : Fin 8) : sProp 𝕄 := iprop(∃ f, pkt (srcM c d) c (srcQ c d) f)
/-- An arrived packet: slot `k` agrees with packet `k`. -/
def rcvPay (c : Dev nD) (k : Fin 6) : sProp 𝕄 := iprop(∃ f, pkt (rcvS k) c fullShare f ∗ ⌜IsPk (PK k) ((rcvS k).view.read (Elt F) f)⌝)
/-- Device `c`'s slot `k`, to be written by another, and that its cell is open. -/
def lend (c : Dev nD) (k : Fin 6) : sProp 𝕄 := iprop((∃ f, pkt (rcvS k) c fullShare f) ∗ reached (ER (F := F)) (rcvC c k) 0)
/-- The slots of device `p` that device `c` writes. -/
abbrev lends : Fin 4 → Fin 4 → List (Fin 6)
  | 0, 1 => [4, 5]
  | 1, 0 => [0, 1, 2, 3]
  | 2, 1 => [4, 5, 0, 1]
  | 2, 3 => [2, 3]
  | 3, 0 => [0, 1, 2, 3]
  | 3, 2 => [4, 5]
  | _, _ => []
def lendAll (p : Dev nD) : List (Fin 6) → sProp 𝕄
  | [] => iprop(emp)
  | k :: l => iprop(lend p k ∗ lendAll p l)
/-- Device `p`'s signal to device `c`: the slots of `p` that `c` writes. -/
def barPay (c p : Dev nD) : sProp 𝕄 := lendAll p (lends p c)

/-- Which of a device's DMA cells the exchange uses. -/
abbrev used : Fin 4 → ℕ → Bool
  | 0, s => (6 ≤ s && s < 14) || s == 18 || s == 19
  | 1, s => (6 ≤ s && s < 12) || (14 ≤ s && s < 18)
  | _, s => s == 6 || s == 7 || (14 ≤ s && s < 20)

def dutiesAt (c : Dev nD) : SemLoc sig → Finset (Fin 4)
  | .reg s => if s = barSem then Finset.univ.erase c else ∅
  | .dma s => if used c s.val then {0} else ∅
def amountAt : SemLoc sig → ℕ
  | .reg _ => 1
  | .dma _ => N
def payloadAt (c : Dev nD) (d : Fin 4) : SemLoc sig → sProp 𝕄
  | .reg _ => barPay c d
  | .dma s => if h : 14 ≤ s.val then rcvPay PK c ⟨s.val - 14, by have h2 : s.val < 20 := s.isLt; omega⟩
      else if h' : 6 ≤ s.val then sndPay c ⟨s.val - 6, by omega⟩ else iprop(emp)

instance sndPay_storable (c : Dev nD) (d : Fin 8) : BI.Storable (upEmb : UEmb _ 𝕄) (sndPay (F := F) c d) := by
  unfold sndPay; infer_instance
instance rcvPay_storable (c : Dev nD) (k : Fin 6) : BI.Storable (upEmb : UEmb _ 𝕄) (rcvPay PK c k) := by
  unfold rcvPay; infer_instance
instance lend_storable (c : Dev nD) (k : Fin 6) : BI.Storable (upEmb : UEmb _ 𝕄) (lend (F := F) c k) := by
  unfold lend; infer_instance
instance lendAll_storable (c : Dev nD) : (l : List (Fin 6)) → BI.Storable (upEmb : UEmb _ 𝕄) (lendAll (F := F) c l)
  | [] => by unfold lendAll; infer_instance
  | k :: l => by unfold lendAll; have := lendAll_storable c l; infer_instance
instance barPay_storable (c p : Dev nD) : BI.Storable (upEmb : UEmb _ 𝕄) (barPay (F := F) c p) := by
  unfold barPay; infer_instance

def sched : Rounds.Schedule (GSem nD τ sig) (Fin 4) 𝕄 where
  duties g r := if r = 0 ∧ g.1.2 = .tc then dutiesAt g.1.1 g.2 else ∅
  unitless _ := False
  amount g _ _ := amountAt g.2
  payload g _ d := payloadAt PK g.1.1 d g.2
  amount_pos g _ _ _ := by
    show 0 < amountAt g.2
    cases g.2
    · exact Nat.one_pos
    · exact N_pos

instance sched_storable (g : GSem nD τ sig) (r : ℕ) (d : Fin 4) : BI.Storable (upEmb : UEmb _ 𝕄) ((sched PK).payload g r d) := by
  show BI.Storable upEmb (payloadAt PK g.1.1 d g.2)
  cases g.2 with
  | reg s => unfold payloadAt; infer_instance
  | dma s =>
    show BI.Storable upEmb (if h : 14 ≤ s.val then rcvPay PK g.1.1 ⟨s.val - 14, by have h2 : s.val < 20 := s.isLt; omega⟩
      else if h' : 6 ≤ s.val then sndPay g.1.1 ⟨s.val - 6, by omega⟩ else iprop(emp) : sProp 𝕄)
    by_cases h : 14 ≤ s.val
    · rw [dif_pos h]; infer_instance
    · rw [dif_neg h]
      by_cases h' : 6 ≤ s.val
      · rw [dif_pos h']; infer_instance
      · rw [dif_neg h']; infer_instance

/-! ## The schedule's tables -/

theorem duties_bar (c : Dev nD) : (sched PK).duties (barC c) 0 = Finset.univ.erase c := by
  show (if (0 : ℕ) = 0 ∧ (c : Thread nD τ).2 = .tc then dutiesAt c (.reg barSem) else ∅) = _
  rw [if_pos ⟨rfl, rfl⟩]; show (if barSem = barSem then Finset.univ.erase c else (∅ : Finset (Fin 4))) = _
  rw [if_pos rfl]
theorem duties_dma (c : Dev nD) (s : DmaSem sig) (h : used c s.val = true) : (sched PK).duties ((c : Thread nD τ), .dma s) 0 = {0} := by
  show (if (0 : ℕ) = 0 ∧ (c : Thread nD τ).2 = .tc then dutiesAt c (.dma s) else ∅) = _
  rw [if_pos ⟨rfl, rfl⟩]; exact if_pos h
theorem duties_unused (c : Dev nD) (s : DmaSem sig) (h : used c s.val = false) (r : ℕ) : (sched PK).duties ((c : Thread nD τ), .dma s) r = ∅ := by
  show (if r = 0 ∧ (c : Thread nD τ).2 = .tc then dutiesAt c (.dma s) else ∅) = _
  split
  · exact if_neg (by rw [h]; decide)
  · rfl
theorem duties_later (g : GSem nD τ sig) : ∀ r, 1 ≤ r → (sched PK).duties g r = ∅ :=
  fun r hr => if_neg (fun h => by omega)

theorem expect_bar (c : Dev nD) : (sched PK).expect (barC c) 0 = 3 := by
  unfold Schedule.expect Schedule.amountOf; rw [duties_bar]
  show (∑ _x ∈ Finset.univ.erase c, 1) = 3
  rw [Finset.sum_const, Finset.card_erase_of_mem (Finset.mem_univ _)]; rfl
theorem expect_dma (c : Dev nD) (s : DmaSem sig) (h : used c s.val = true) : (sched PK).expect ((c : Thread nD τ), .dma s) 0 = N := by
  unfold Schedule.expect Schedule.amountOf; rw [duties_dma PK c s h, Finset.sum_singleton]; rfl

theorem payload_bar (c p : Dev nD) : (sched PK).payload (barC c) 0 p = barPay c p := rfl
theorem payload_snd (c : Dev nD) (d : Fin 8) : (sched PK).payload (sndC c d) 0 0 = sndPay c d := by
  show (if h : 14 ≤ 6 + d.val then _ else _ : sProp 𝕄) = _
  have := d.isLt
  rw [dif_neg (show ¬ 14 ≤ 6 + d.val by omega), dif_pos (show 6 ≤ 6 + d.val by omega)]
  congr 1; apply Fin.ext; show 6 + d.val - 6 = d.val; omega
theorem payload_rcv (c : Dev nD) (k : Fin 6) : (sched PK).payload (rcvC c k) 0 0 = rcvPay PK c k := by
  show (if h : 14 ≤ 14 + k.val then _ else _ : sProp 𝕄) = _
  rw [dif_pos (show 14 ≤ 14 + k.val by omega)]
  congr 1; apply Fin.ext; show 14 + k.val - 14 = k.val; omega

theorem rest_snd (c : Dev nD) (d : Fin 8) (h : used c (6 + d.val) = true) :
    bigSep ((sched PK).duties (sndC c d) 0 \ ∅) (fun u => (sched PK).payload (sndC c d) 0 u) = sndPay c d := by
  rw [Finset.sdiff_empty, duties_dma PK c (sndSem d) h, bigSep_singleton, payload_snd]
theorem rest_rcv (c : Dev nD) (k : Fin 6) (h : used c (14 + k.val) = true) :
    bigSep ((sched PK).duties (rcvC c k) 0 \ ∅) (fun u => (sched PK).payload (rcvC c k) 0 u) = rcvPay PK c k := by
  rw [Finset.sdiff_empty, duties_dma PK c (rcvSem k) h, bigSep_singleton, payload_rcv]

/-! ## What each device owes, and the order of waiting -/

/-- The packets a device sends, in order: to whom and into which slot. -/
abbrev sends : Fin 4 → List (Fin 4 × Fin 6)
  | 0 => [(1, 0), (1, 1), (1, 2), (1, 3), (3, 2), (3, 3), (3, 0), (3, 1)]
  | 1 => [(0, 4), (0, 5), (2, 4), (2, 5), (2, 0), (2, 1)]
  | 2 => [(3, 4), (3, 5)]
  | 3 => [(2, 2), (2, 3)]
abbrev owe : List (Fin 4 × Fin 6) → CellTallies nD τ sig Unit
  | [] => 0
  | x :: l => owe l + tallyAt (rcvC x.1 x.2) () N
/-- The device `p` places on. -/
abbrev nxt (c : Dev nD) (p : ℕ) : Dev nD := ⟨(c.val + p) % 4, Nat.mod_lt _ (by decide)⟩
def O₀ (c : Dev nD) : CellTallies nD τ sig Unit :=
  ((owe (sends c) + tallyAt (barC (nxt c 3)) () 1) + tallyAt (barC (nxt c 2)) () 1) + tallyAt (barC (nxt c 1)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier first; then the packets taken straight from their maker; then the packets passed on. -/
def lvAt : Fin 4 → SemLoc sig → ℕ
  | _, .reg _ => 1
  | c, .dma s => if 14 ≤ s.val then (if (c = 2 ∧ s.val < 18) ∨ (c = 3 ∧ 18 ≤ s.val) then 3 else 2) else 0
def lv (g : GSem nD τ sig) (_ : Unit) : ℕ := lvAt g.1.1 g.2

theorem owe_pos {l : List (Fin 4 × Fin 6)} {g : GSem nD τ sig} {u : Unit} (h : 0 < owe l g u) : ∃ x ∈ l, g = rcvC x.1 x.2 := by
  induction l with
  | nil => exact absurd h (Nat.lt_irrefl 0)
  | cons x l ih =>
    change 0 < (owe l + tallyAt (rcvC x.1 x.2) () N) g u at h
    rw [Pi.add_apply, Finsupp.add_apply, tallyAt_apply] at h
    by_cases hg : g = rcvC x.1 x.2 ∧ u = ()
    · exact ⟨x, List.mem_cons_self, hg.1⟩
    · rw [if_neg hg] at h
      obtain ⟨y, hy, e⟩ := ih h
      exact ⟨y, List.mem_cons_of_mem _ hy, e⟩

/-- A wait on a cell below everything still owed. -/
theorem mayWait (c : Dev nD) (sm : SemLoc sig) (l : List (Fin 4 × Fin 6))
    (h : ∀ x ∈ l, lvAt c sm < lvAt x.1 (.dma (rcvSem x.2))) :
    (levAts L lv : sProp 𝕄) ⊢ MayWait (c : Thread nD τ) sm () (owe l) :=
  MayOwe.of_cut (L := L) (lev := lv) (lvAt c sm) (fun p hp => by rw [Finset.mem_singleton.mp hp, L_tc]; exact Finset.mem_singleton_self _)
    (fun g u hg => by
      obtain ⟨x, -, rfl⟩ := owe_pos hg
      rw [L_tc]; exact Finset.mem_singleton_self _)
    (fun p hp => by rw [Finset.mem_singleton.mp hp]; exact le_refl _)
    (fun g u hg => by
      obtain ⟨x, hx, rfl⟩ := owe_pos hg
      exact h x hx)

theorem sem_snd0 : ((cc0_scratch2.slice (Rect.unit (s := S8) ![3] S1.size inb_S8_S1_3)).squeeze S_ squeezes_S1_S_).sem = sndSem 3 := rfl
theorem sem_rcv0 : ((cc0_scratch3.slice (Rect.unit (s := S6) ![5] S1.size inb_S6_S1_5)).squeeze S_ squeezes_S1_S_).sem = rcvSem 5 := rfl
theorem N_5 : (rcvS 5).view.dmaCredit = N := rfl

end Cert.KernelIdeal.Att
-- ==== Proof.Steps.lean ====
/-
  The exchange's statements, one lemma each: a signal to another device, the wait for the three signals, sending a
  packet, and the waits for an arriving and for a sent packet.
-/
module

public import proofs.«01_k».proof.Proof.Protocol
public import Idealize.ShloMosaic.Lib.Tactic
public import Idealize.ShloMosaic.Lib.Pipeline.Value

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (PK : Fin 6 → S9x64x64.Idx → F .bf16)

/-! ## The cells, and the records every device holds -/

def barEmb : Dev nD ↪ GSem nD τ sig := ⟨barC, fun a b h => congrArg (fun g : GSem nD τ sig => g.1.1) h⟩
/-- The scoped DMA cell `i` of a device. -/
abbrev scSem (i : Fin 14) : DmaSem sig := ⟨6 + i.val, by have := i.isLt; show 6 + i.val < 20; omega⟩
abbrev scC (p : Dev nD × Fin 14) : GSem nD τ sig := ((p.1 : Thread nD τ), .dma (scSem p.2))
def scEmb : Dev nD × Fin 14 ↪ GSem nD τ sig := ⟨scC, fun a b h => by
  have h1 : a.1 = b.1 := congrArg (fun g : GSem nD τ sig => g.1.1) h
  have h2 : (SemLoc.dma (scSem a.2) : SemLoc sig) = .dma (scSem b.2) := congrArg (fun g : GSem nD τ sig => g.2) h
  injection h2 with h3
  have h4 : 6 + a.2.val = 6 + b.2.val := congrArg Fin.val h3
  exact Prod.ext h1 (Fin.ext (by omega))⟩
def barCells : Finset (GSem nD τ sig) := Finset.univ.map barEmb
def scCells : Finset (GSem nD τ sig) := Finset.univ.map scEmb

theorem bar_mem (c : Dev nD) : barC c ∈ barCells ∪ scCells :=
  Finset.mem_union_left _ (Finset.mem_map_of_mem barEmb (Finset.mem_univ c))
theorem sc_mem (p : Dev nD × Fin 14) : scC p ∈ barCells ∪ scCells :=
  Finset.mem_union_right _ (Finset.mem_map_of_mem scEmb (Finset.mem_univ p))
theorem snd_mem (c : Dev nD) (d : Fin 8) : sndC c d ∈ barCells ∪ scCells := sc_mem (c, ⟨d.val, by omega⟩)
theorem rcv_eq (c : Dev nD) (k : Fin 6) : rcvC c k = scC (c, ⟨8 + k.val, by omega⟩) := by
  have : rcvSem k = scSem ⟨8 + k.val, by omega⟩ := Fin.ext (show 14 + k.val = 6 + (8 + k.val) by omega)
  show ((c : Thread nD τ), SemLoc.dma (rcvSem k)) = ((c : Thread nD τ), SemLoc.dma (scSem ⟨8 + k.val, by omega⟩))
  rw [this]
theorem rcv_mem (c : Dev nD) (k : Fin 6) : rcvC c k ∈ barCells ∪ scCells := by rw [rcv_eq]; exact sc_mem _

/-- What every device knows: the cells' invariants, that the barrier cells and the device's own DMA cells are open, the
    order of waiting. -/
def recs (K : GSem nD τ sig → ℕ) (c : Dev nD) : sProp 𝕄 :=
  iprop((bigSep (barCells ∪ scCells) fun g => cellInv ER (sched PK) (K g) g)
    ∗ (bigSep Finset.univ fun c' : Dev nD => reached ER (barC c') 0)
    ∗ (bigSep Finset.univ fun i : Fin 14 => reached ER (scC (c, i)) 0) ∗ levAts L lv)
instance recs_persistent (K : GSem nD τ sig → ℕ) (c : Dev nD) : BI.Persistent (recs PK K c) := by unfold recs; infer_instance

variable (K : GSem nD τ sig → ℕ) (c : Dev nD)

theorem recs_inv {g : GSem nD τ sig} (h : g ∈ barCells ∪ scCells) : recs PK K c ⊢ cellInv ER (sched PK) (K g) g := by
  unfold recs; exact sep_elim_left.trans (bigSep_elim h)
theorem recs_bar (c' : Dev nD) : recs PK K c ⊢ reached ER (barC c') 0 := by
  unfold recs; exact sep_elim_right.trans (sep_elim_left.trans (bigSep_elim (Finset.mem_univ c')))
theorem recs_sc (i : Fin 14) : recs PK K c ⊢ reached ER (scC (c, i)) 0 := by
  unfold recs; exact sep_elim_right.trans (sep_elim_right.trans (sep_elim_left.trans (bigSep_elim (Finset.mem_univ i))))
theorem recs_snd (d : Fin 8) : recs PK K c ⊢ reached ER (sndC c d) 0 := recs_sc PK K c ⟨d.val, by omega⟩
theorem recs_rcv (k : Fin 6) : recs PK K c ⊢ reached ER (rcvC c k) 0 := by rw [rcv_eq]; exact recs_sc PK K c _
theorem recs_lev : recs PK K c ⊢ levAts L lv := by unfold recs; iintro ⟨-, -, -, H⟩; iexact H

/-! ## The steps -/

variable {defs : Defs nD τ sig (Elt F) Λ₀} (𝒱 : Variants) {bd : Option 𝒱.V}
variable {α : Type} {Q : α → sProp (MT nD τ sig Unit (Elt F) ℕ UU ℕ)} {k : PUnit → Prog (TpuEff nD τ sig (Elt F) Λ₀ .tc) α}

theorem lv_bar : ∀ (c : Fin 4) (x : Fin 4 × Fin 6), lvAt c (.reg barSem) < lvAt x.1 (.dma (rcvSem x.2)) := by decide

/-- A signal to device `c'`. -/
theorem step_sig (c' d : Dev nD) (hd : d = c') (hne : c ≠ c') (sm : Sem sig) (hs : sm = barSem) {W : Waits sig Unit}
    (O : CellTallies nD τ sig Unit) {O' : CellTallies nD τ sig Unit} (hO : O' = O + tallyAt (barC c') () 1) :
    iprop(recs PK K c ∗ owes (c : Thread nD τ) O' W ∗ dutyTok ER (barC c') 0 c ∗ lendAll c (lends c c'))
      ⊢ iprop((owes (c : Thread nD τ) O W -∗ wp frame (wpE defs 𝒱 c bd) Set.univ (k ⟨⟩) Q)
          -∗ wp frame (wpE defs 𝒱 c bd) Set.univ (.op (.semSignal (d : Thread nD τ) sm 1) k) Q) := by
  subst hd hs
  have hd : c ∈ (sched PK).duties (barC d) 0 := by rw [duties_bar]; exact Finset.mem_erase.mpr ⟨hne, Finset.mem_univ _⟩
  have hr : τ.routes (c : Thread nD τ) (d : Thread nD τ) = true := by routes
  iintro ⟨#HR, HO, Ht, Hp⟩ Hk
  iapply (Rounds.wp_signal 𝒱 ER (sched PK) (c : Thread nD τ) bd (dst := (d : Thread nD τ)) (sem := barSem) (r := 0) (d := c) (κ := K (barC d))
      hd rfl () O hO hr) $$ [HO Ht Hp]
  · isplitr; · iapply (recs_inv PK K c (bar_mem d)); iexact HR
    isplitl [HO]; · iexact HO
    isplitl [Ht]; · iexact Ht
    isplitl [Hp]
    · ihave Hp := (Entails.of_eq (show lendAll c (lends c d) = (sched PK).payload (barC d) 0 c from rfl)) $$ Hp
      iexact Hp
    iapply (recs_bar PK K c d); iexact HR
  iexact Hk

/-- The wait for the other devices' signals. -/
theorem step_bar (sm : Sem sig) (hs : sm = barSem) (l : List (Fin 4 × Fin 6)) {W : Waits sig Unit} :
    iprop(recs PK K c ∗ owes (c : Thread nD τ) (owe l) W ∗ cred (tallyAt (barC c) () 3) ∗ atPos ER (barC c) 0 ∅ 0)
      ⊢ iprop(((∃ W', owes (c : Thread nD τ) (owe l) W') ∗ atPos ER (barC c) (0 + 1) ∅ 0 ∗ (bigSep (Finset.univ.erase c) fun p => barPay c p)
            -∗ wp frame (wpE defs 𝒱 c bd) Set.univ (k ⟨⟩) Q)
          -∗ wp frame (wpE defs 𝒱 c bd) Set.univ (.op (.semWait sm 3) k) Q) := by
  subst hs
  have hlv : ∀ x : Fin 4 × Fin 6, lvAt c (.reg barSem) < lvAt x.1 (.dma (rcvSem x.2)) := lv_bar c
  have hex := (Nat.zero_add 3).trans (expect_bar PK c).symm
  iintro ⟨#HR, HO, Hc, Ha⟩ Hk
  iapply (Rounds.wp_wait_rest_token 𝒱 ER (sched PK) (c : Thread nD τ) bd (κ := K (barC c))
      (wpE_semWait_eq 𝒱 (c : Thread nD τ) bd Set.univ) (Set.mem_univ _) () (O := owe l) (W := W) (R := 0) (m := 0) (T := ∅)
      hex) $$ [HO Hc Ha]
  · isplitr; · iapply (recs_inv PK K c (bar_mem c)); iexact HR
    isplitl [Hc]; · iexact Hc
    isplitl [HO]; · iexact HO
    isplitr
    · iapply (mayWait c (.reg barSem) l (fun x _ => hlv x))
      iapply (recs_lev PK K c); iexact HR
    iexact Ha
  iintro ⟨HO, Ha, -, Hp⟩
  iapply Hk
  isplitl [HO]; · iexists _; iexact HO
  isplitl [Ha]; · iexact Ha
  ihave Hp := (Entails.of_eq (show (bigSep ((sched PK).duties (barC c) 0 \ ∅) (fun u => (sched PK).payload (barC c) 0 u) : sProp 𝕄)
    = bigSep (Finset.univ.erase c) fun p => barPay c p by rw [Finset.sdiff_empty, duties_bar]; rfl)) $$ Hp
  iexact Hp

/-- The wait for the packet arriving in slot `k₀`. -/
theorem step_rcv (k₀ : Fin 6) (hu : used c (14 + k₀.val) = true) (sm : DmaSem sig) (hs : sm = rcvSem k₀)
    (l : List (Fin 4 × Fin 6)) (hl : ∀ x ∈ l, lvAt c (.dma (rcvSem k₀)) < lvAt x.1 (.dma (rcvSem x.2)))
    (src dst : Memref sig .tc .vmem S9x64x64 .bf16) (hN : dst.view.dmaCredit = N) {h₁ : src.view.WordExact} {h₂ : dst.view.WordExact} :
    iprop(recs PK K c ∗ (∃ W, owes (c : Thread nD τ) (owe l) W) ∗ cred (tallyAt (rcvC c k₀) () N) ∗ atPos ER (rcvC c k₀) 0 ∅ 0)
      ⊢ iprop(((∃ W', owes (c : Thread nD τ) (owe l) W') ∗ atPos ER (rcvC c k₀) (0 + 1) ∅ 0 ∗ rcvPay PK c k₀
            -∗ wp frame (wpE defs 𝒱 c bd) Set.univ (k ⟨⟩) Q)
          -∗ wp frame (wpE defs 𝒱 c bd) Set.univ (.op (.waitDma2 sm src dst h₁ h₂) k) Q) := by
  subst hs
  have hex : 0 + dst.view.dmaCredit = (sched PK).expect (rcvC c k₀) 0 := by rw [Nat.zero_add, hN]; exact (expect_dma PK c (rcvSem k₀) hu).symm
  iintro ⟨#HR, ⟨%W, HO⟩, Hc, Ha⟩ Hk
  iapply (Rounds.wp_wait_rest_token 𝒱 ER (sched PK) (c : Thread nD τ) bd (κ := K (rcvC c k₀))
      (wpE_waitDma2_eq 𝒱 (c : Thread nD τ) bd Set.univ) (Set.mem_univ _) () (O := owe l) (W := W) (R := 0) (m := 0) (T := ∅)
      hex) $$ [HO Hc Ha]
  · isplitr; · iapply (recs_inv PK K c (rcv_mem c k₀)); iexact HR
    isplitl [Hc]; · rw [hN]; iexact Hc
    isplitl [HO]; · iexact HO
    isplitr
    · iapply (mayWait c (.dma (rcvSem k₀)) l hl)
      iapply (recs_lev PK K c); iexact HR
    iexact Ha
  iintro ⟨HO, Ha, -, Hp⟩
  iapply Hk
  isplitl [HO]; · iexists _; iexact HO
  isplitl [Ha]; · iexact Ha
  ihave Hp := (Entails.of_eq (rest_rcv PK c k₀ hu)) $$ Hp
  iexact Hp

/-- The wait for a sent packet's buffer, owing nothing. -/
theorem step_snd (d : Fin 8) (hu : used c (6 + d.val) = true) (sm : DmaSem sig) (hs : sm = sndSem d)
    (src dst : Memref sig .tc .vmem S9x64x64 .bf16) (hN : dst.view.dmaCredit = N) {h₁ : src.view.WordExact} {h₂ : dst.view.WordExact} :
    iprop(recs PK K c ∗ (∃ W, owes (c : Thread nD τ) 0 W) ∗ cred (tallyAt (sndC c d) () N) ∗ atPos ER (sndC c d) 0 ∅ 0)
      ⊢ iprop(((∃ W', owes (c : Thread nD τ) 0 W') ∗ atPos ER (sndC c d) (0 + 1) ∅ 0 ∗ sndPay c d
            -∗ wp frame (wpE defs 𝒱 c bd) Set.univ (k ⟨⟩) Q)
          -∗ wp frame (wpE defs 𝒱 c bd) Set.univ (.op (.waitDma2 sm src dst h₁ h₂) k) Q) := by
  subst hs
  have hex : 0 + dst.view.dmaCredit = (sched PK).expect (sndC c d) 0 := by rw [Nat.zero_add, hN]; exact (expect_dma PK c (sndSem d) hu).symm
  iintro ⟨#HR, ⟨%W, HO⟩, Hc, Ha⟩ Hk
  iapply (Rounds.wp_wait_rest_token 𝒱 ER (sched PK) (c : Thread nD τ) bd (κ := K (sndC c d))
      (wpE_waitDma2_eq 𝒱 (c : Thread nD τ) bd Set.univ) (Set.mem_univ _) () (O := 0) (W := W) (R := 0) (m := 0) (T := ∅)
      hex) $$ [HO Hc Ha]
  · isplitr; · iapply (recs_inv PK K c (snd_mem c d)); iexact HR
    isplitl [Hc]; · rw [hN]; iexact Hc
    isplitl [HO]; · iexact HO
    isplitr; · rw [MayWait_zero]; iempintro
    iexact Ha
  iintro ⟨HO, Ha, -, Hp⟩
  iapply Hk
  isplitl [HO]; · iexists _; iexact HO
  isplitl [Ha]; · iexact Ha
  ihave Hp := (Entails.of_eq (rest_snd PK c d hu)) $$ Hp
  iexact Hp

/-- Sending a packet: copy `d` of device `c`, into slot `k₀` of device `c'`. -/
theorem step_send (d : Fin 8) (c' : Dev nD) (k₀ : Fin 6) (hu : used c (6 + d.val) = true) (hu' : used c' (14 + k₀.val) = true)
    (src dst : Memref sig .tc .vmem S9x64x64 .bf16) (c'' : Dev nD) (sS sR : DmaSem sig)
    (hsrc : src = srcM c d) (hdst : dst = rcvS k₀) (hc : c'' = c') (hS : sS = sndSem d) (hR : sR = rcvSem k₀)
    (hN : (rcvS k₀).view.dmaCredit = N)
    (l : List (Fin 4 × Fin 6))
    {hsc : dst.view.ref.isScScratch = false} {h₁ : src.view.WordExact} {h₂ : dst.view.WordExact}
    {h₃ : DmaTarget.Typed .vmem (.dma sR) (.remote (c'' : Thread nD τ) dst (.dma sS) hsc)}
    (f : Buf (Elt F) ((srcM c d).view.loc (c : Thread nD τ))) (hf : IsPk (PK k₀) ((srcM c d).view.read (Elt F) f)) :
    iprop(recs PK K c ∗ (∃ W, owes (c : Thread nD τ) (owe ((c', k₀) :: l)) W) ∗ pkt (srcM c d) c (srcQ c d) f ∗ lend c' k₀
        ∗ dutyTok ER (sndC c d) 0 0 ∗ dutyTok ER (rcvC c' k₀) 0 0)
      ⊢ iprop(((∃ W', owes (c : Thread nD τ) (owe l) W') ∗ cred (tallyAt (sndC c d) () N)
            -∗ wp frame (wpE defs 𝒱 c bd) Set.univ (k ⟨⟩) Q)
          -∗ wp frame (wpE defs 𝒱 c bd) Set.univ (.op (.enqueueDma src (.remote (c'' : Thread nD τ) dst (.dma sS) hsc) (.dma sR) h₁ h₂ h₃) k) Q) := by
  subst hsrc hdst hc hS hR
  have hd₁ : (0 : Fin 4) ∈ (sched PK).duties (sndC c d) 0 := by rw [duties_dma PK c (sndSem d) hu]; exact Finset.mem_singleton_self _
  have hd₂ : (0 : Fin 4) ∈ (sched PK).duties (rcvC c'' k₀) 0 := by rw [duties_dma PK c'' (rcvSem k₀) hu']; exact Finset.mem_singleton_self _
  have hr : τ.routes (c : Thread nD τ) (c'' : Thread nD τ) = true := by routes
  have hp₁ : pkt (srcM c d) c (srcQ c d) f ⊢ (sched PK).payload (sndC c d) 0 0 := by
    rw [payload_snd]; unfold sndPay; iintro H; iexists f; iexact H
  have hp₂ : ∀ fd : Buf (Elt F) ((rcvS k₀).view.loc (c'' : Thread nD τ)), pkt (rcvS k₀) c'' fullShare ((rcvS k₀).view.write (Elt F) fd ((srcM c d).view.read (Elt F) f) Finset.univ)
      ⊢ (sched PK).payload (rcvC c'' k₀) 0 0 := by
    intro fd
    rw [payload_rcv]; unfold rcvPay
    iintro H
    iexists ((rcvS k₀).view.write (Elt F) fd ((srcM c d).view.read (Elt F) f) Finset.univ)
    isplitl [H]; · iexact H
    ipureintro
    intro y hy
    rw [View.read_write_univ]
    exact hf y hy
  unfold lend
  iintro ⟨#HR, ⟨%W, HO⟩, Hs, ⟨⟨%fd, Hd⟩, Hr⟩, Ht, Ht'⟩ Hk
  iapply (Rounds.wp_send_pointsTo 𝒱 ER (sched PK) (c : Thread nD τ) bd (c' := (c'' : Thread nD τ)) (src := srcM c d) (dst := rcvS k₀)
      (sS := .dma (sndSem d)) (sem := .dma (rcvSem k₀)) (q := srcQ c d) (fs := f) (κ₁ := K (sndC c d)) (κ₂ := K (rcvC c'' k₀))
      (r₁ := 0) (r₂ := 0) (d₁ := 0) (d₂ := 0) (fd := fd)
      hd₁ hd₂ () () N hN rfl rfl (owe l) rfl (W := W) hp₁ (hp₂ fd) hr) $$ [HO Hs Hd Hr Ht Ht']
  · isplitr; · iapply (recs_inv PK K c (snd_mem c d)); iexact HR
    isplitr; · iapply (recs_inv PK K c (rcv_mem c'' k₀)); iexact HR
    isplitl [Hs]; · iexact Hs
    isplitl [Hd]; · iexact Hd
    isplitl [HO]; · iexact HO
    isplitl [Ht]; · iexact Ht
    isplitr; · iapply (recs_snd PK K c d); iexact HR
    isplitl [Ht']; · iexact Ht'
    iexact Hr
  iintro ⟨Hc, HO⟩
  iapply Hk
  isplitl [HO]; · iexists _; iexact HO
  iexact Hc

/-- Loading a whole packet of a buffer of packets. -/
theorem step_ld {s : Shape} (m : Memref sig .tc .vmem s .bf16) (r : Rect s) (hr : ∀ a, r.stride a = 1) (hq : r.shape.Squeezes S9x64x64)
    {hl : m.view.LoadsAt r.toLoadRect} {k : (r.shape.Idx → Elt F .bf16) → Prog (TpuEff nD τ sig (Elt F) Λ₀ .tc) α} {q : PosShare TreeShare}
    {f : Buf (Elt F) (((m.slice r hr).squeeze S9x64x64 hq).view.loc (c : Thread nD τ))} :
    pkt ((m.slice r hr).squeeze S9x64x64 hq) c q f
      ⊢ iprop((pkt ((m.slice r hr).squeeze S9x64x64 hq) c q f
          -∗ wp frame (wpE defs 𝒱 c bd) Set.univ (k (m.view.readAt (Elt F) r.toLoadRect f)) Q)
        -∗ wp frame (wpE defs 𝒱 c bd) Set.univ (.op (.load m r.toLoadRect hl) k) Q) := by
  have h := wp_load_rect (defs := defs) (Γ := []) (Ix := Unit) (Name := ℕ) (U := UU) (Lvl := ℕ) (hl := hl) 𝒱 (c : Thread nD τ) bd Set.univ (k := k) (Q := Q) (m := m) (r := r)
    (S := ((m.slice r hr).squeeze S9x64x64 hq).view.set) (q := q) (f := f)
    (by rw [Memref.set_view_squeeze])
  exact h

/-- Storing a whole packet of a buffer of packets. -/
theorem step_st {s : Shape} (m : Memref sig .tc .vmem s .bf16) (r : Rect s) (hr : ∀ a, r.stride a = 1) (hq : r.shape.Squeezes S9x64x64)
    {w : r.shape.Idx → Elt F .bf16} {hx : (m.access r).Stores Finset.univ} {hm : (Finset.univ : Finset r.shape.Idx) = Finset.univ ∨ ∀ a, r.stride a = 1}
    (hc : r.shape.ShapeCasts S9x64x64)
    {f : Buf (Elt F) (((m.slice r hr).squeeze S9x64x64 hq).view.loc (c : Thread nD τ))} :
    pkt ((m.slice r hr).squeeze S9x64x64 hq) c fullShare f
      ⊢ iprop(((∃ f', pkt ((m.slice r hr).squeeze S9x64x64 hq) c fullShare f'
              ∗ ⌜((m.slice r hr).squeeze S9x64x64 hq).view.read (Elt F) f' = shapeCast S9x64x64 w hc⌝)
          -∗ wp frame (wpE defs 𝒱 c bd) Set.univ (k ⟨⟩) Q)
        -∗ wp frame (wpE defs 𝒱 c bd) Set.univ (.op (.store m r w Finset.univ hx hm) k) Q) := by
  have hS : (m.access r).setOn Finset.univ ⊆ ((m.slice r hr).squeeze S9x64x64 hq).view.set := by
    rw [Memref.set_view_squeeze]; exact Finset.Subset.refl _
  have h := wp_store (defs := defs) (Γ := []) (Ix := Unit) (Name := ℕ) (U := UU) (Lvl := ℕ) (hx := hx) (hm := hm) 𝒱 (c : Thread nD τ) bd Set.univ (k := k) (Q := Q) (m := m) (r := r)
    (w := w) (S := ((m.slice r hr).squeeze S9x64x64 hq).view.set) (f := f) hS
  iintro H Hk
  iapply h $$ [H]
  · iexact H
  iintro H
  iapply Hk
  iexists ((m.access r).write (Elt F) f w Finset.univ)
  isplitl [H]; · iexact H
  ipureintro
  have e : m.view.readAt (Elt F) r.toLoadRect ((m.access r).write (Elt F) f w Finset.univ) = w :=
    View.read_write_univ (v := m.access r) f w
  rw [Memref.read_squeeze_slice (hc := hc), e]

/-! ## Packets held, and their shares -/

/-- Slot `k₀` at share `q`, agreeing with packet `k₀`. -/
def got (k₀ : Fin 6) (q : PosShare TreeShare) : sProp 𝕄 :=
  iprop(∃ f, pkt (rcvS k₀) c q f ∗ ⌜IsPk (PK k₀) ((rcvS k₀).view.read (Elt F) f)⌝)
/-- The device's own packet `p`, agreeing with packet `k₀`. -/
def made (p : Fin 4) (k₀ : Fin 6) : sProp 𝕄 :=
  iprop(∃ f, pkt (ownS p) c fullShare f ∗ ⌜IsPk (PK k₀) ((ownS p).view.read (Elt F) f)⌝)

/-- A packet's two halves. -/
theorem halves (M : Memref sig .tc .vmem S9x64x64 .bf16) (f : Buf (Elt F) (M.view.loc (c : Thread nD τ))) :
    (pkt M c fullShare f : sProp 𝕄) ⊢ iprop(pkt M c shL f ∗ pkt M c shK f) :=
  (pointsTo_share (PosShare.mem_left_op_right fullShare)).1
/-- A half's two quarters. -/
theorem quarters (M : Memref sig .tc .vmem S9x64x64 .bf16) (f : Buf (Elt F) (M.view.loc (c : Thread nD τ))) :
    (pkt M c shL f : sProp 𝕄) ⊢ iprop(pkt M c shA f ∗ pkt M c shB f) :=
  (pointsTo_share (PosShare.mem_left_op_right shL)).1

/-- Two shares of a packet, at whatever contents each is known at, are one. -/
theorem rejoin (M : Memref sig .tc .vmem S9x64x64 .bf16) (q : PosShare TreeShare)
    (f g : Buf (Elt F) (M.view.loc (c : Thread nD τ))) :
    (iprop(pkt M c q.left f ∗ pkt M c q.right g) : sProp 𝕄) ⊢ pkt M c q f := by
  iintro ⟨H1, H2⟩
  ihave %h := pointsTo_agree $$ [$H1 $H2]
  have e : (pkt M c q.right g : sProp 𝕄) = pkt M c q.right f :=
    pointsTo_congr fun i hi => ((h i (Finset.mem_inter.mpr ⟨hi, hi⟩)).1).symm
  ihave H2 := (Entails.of_eq e) $$ H2
  iapply (pointsTo_share (PosShare.mem_left_op_right q)).2
  isplitl [H1]; · iexact H1
  iexact H2

/-- The three others' terms of a sum over all but one device. -/
theorem bar_three {c a b d : Dev nD} (h : Finset.univ.erase c = {a, b, d}) (hab : a ≠ b) (had : a ≠ d) (hbd : b ≠ d)
    (Φ : Dev nD → sProp (MT nD τ sig Unit (Elt F) ℕ UU ℕ)) : bigSep (Finset.univ.erase c) Φ ⊢ iprop(Φ a ∗ Φ b ∗ Φ d) := by
  rw [h, bigSep_insert (by simp [hab, had]), bigSep_insert (by simp [hbd]), bigSep_singleton]
  exact BI.Entails.refl _

/-- A packet stored as loaded. -/
theorem isPk_copy {P : S9x64x64.Idx → F .bf16} (v : S1x9x64x64.Idx → F .bf16) {x y : S9x64x64.Idx → F .bf16}
    (h₁ : S1x9x64x64.ShapeCasts S9x64x64) (h₂ : S9x64x64.ShapeCasts S1x9x64x64)
    (hy : y = shapeCast S9x64x64 (shapeCast S1x9x64x64 (shapeCast S9x64x64 v h₁) h₂) h₁)
    (hx : x = shapeCast S9x64x64 v h₁) (h : IsPk P x) : IsPk P y := by
  rw [hy, shapeCast_shapeCast, ← hx]; exact h

end Cert.KernelIdeal.Att
-- ==== Proof.Packets.lean ====
/-
  The packets' values: each head's weights, weighted values and weight sums on the two computing devices.
-/
module

public import proofs.«01_k».proof.Proof.Steps
public import Idealize.ShloMosaic.Lib.ValueIdx
public import Idealize.ShloMosaic.Lib.ValueLayout
public import Idealize.ShloMosaic.Lib.Pointwise
public import Idealize.ShloMosaic.Lib.Ring

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Device 0 -/

/-- Head `h`'s columns. -/
def col0 {f : FTy} (h : Fin 4) (v : FVec F S256x256 f) : FVec F S256x64 f :=
  match h with
  | 0 => extractStridedSlice S256x64 ![0, 0] v slices_S256x256_o0_0_S256x64
  | 1 => extractStridedSlice S256x64 ![0, 64] v slices_S256x256_o0_64_S256x64
  | 2 => extractStridedSlice S256x64 ![0, 128] v slices_S256x256_o0_128_S256x64
  | 3 => extractStridedSlice S256x64 ![0, 192] v slices_S256x256_o0_192_S256x64

/-- Head `h`'s weights: the exponentials of the scores, where the mask holds. -/
def wts0 (x : Vec F S1x256x512 .bf16) (wq : Vec F S512x256 .bf16) (k : Vec F S1x256x256 .bf16) (h : Fin 4) : FVec F S256x256 .f32 :=
  select k0_pay2
    (exp (matmul dot_S256x64_S256x64_S256x256_1_1_0_0_n_n none
      (truncf .bf16 (mulf (col0 h (matmul dot_S256x512_S512x256_S256x256_1_0_0_1_n_n none (shapeCast S256x512 x shapeCasts_S1x256x512_S256x512)
        (shapeCast S512x256 wq shapeCasts_S512x256_S512x256) (constant S256x256 .f32 0x00000000#32)))
        (broadcast S256x64 (Scalar.ofBits .f32 0x3E000000#32))) bitsLt_bf16_f32)
      (col0 h (shapeCast S256x256 k shapeCasts_S1x256x256_S256x256)) (constant S256x256 .f32 0x00000000#32)))
    (broadcast S256x256 (Scalar.ofBits .f32 0x00000000#32))
/-- Head `h`'s weight sums. -/
def sum0 (x : Vec F S1x256x512 .bf16) (wq : Vec F S512x256 .bf16) (k : Vec F S1x256x256 .bf16) (h : Fin 4) : FVec F S256x1 .bf16 :=
  truncf .bf16 (shapeCast S256x1 (multiReduction .add [1] S256 (wts0 x wq k h) 0x00000000#32 reduces_S256x256_S256 (.inl rfl) rfl)
    shapeCasts_S256_S256x1) bitsLt_bf16_f32
/-- Head `h`'s weighted values. -/
def out0 (x : Vec F S1x256x512 .bf16) (wq : Vec F S512x256 .bf16) (k v : Vec F S1x256x256 .bf16) (h : Fin 4) : FVec F S256x64 .bf16 :=
  truncf .bf16 (matmul dot_S256x256_S256x64_S256x64_1_0_0_1_n_n none (truncf .bf16 (wts0 x wq k h) bitsLt_bf16_f32)
    (col0 h (shapeCast S256x256 v shapeCasts_S1x256x256_S256x256)) (constant S256x64 .f32 0x00000000#32)) bitsLt_bf16_f32

/-! ## Device 1 -/

/-- Head `h`'s columns. -/
def col1 {f : FTy} (h : Fin 4) (v : FVec F S128x256 f) : FVec F S128x64 f :=
  match h with
  | 0 => extractStridedSlice S128x64 ![0, 0] v slices_S128x256_o0_0_S128x64
  | 1 => extractStridedSlice S128x64 ![0, 64] v slices_S128x256_o0_64_S128x64
  | 2 => extractStridedSlice S128x64 ![0, 128] v slices_S128x256_o0_128_S128x64
  | 3 => extractStridedSlice S128x64 ![0, 192] v slices_S128x256_o0_192_S128x64

/-- Head `h`'s weights: the exponentials of the scores, where the mask holds. -/
def wts1 (x : Vec F S1x128x512 .bf16) (wq : Vec F S512x256 .bf16) (k : Vec F S1x128x256 .bf16) (h : Fin 4) : FVec F S128x128 .f32 :=
  select k0_pay107
    (exp (matmul dot_S128x64_S128x64_S128x128_1_1_0_0_n_n none
      (truncf .bf16 (mulf (col1 h (matmul dot_S128x512_S512x256_S128x256_1_0_0_1_n_n none (shapeCast S128x512 x shapeCasts_S1x128x512_S128x512)
        (shapeCast S512x256 wq shapeCasts_S512x256_S512x256) (constant S128x256 .f32 0x00000000#32)))
        (broadcast S128x64 (Scalar.ofBits .f32 0x3E000000#32))) bitsLt_bf16_f32)
      (col1 h (shapeCast S128x256 k shapeCasts_S1x128x256_S128x256)) (constant S128x128 .f32 0x00000000#32)))
    (broadcast S128x128 (Scalar.ofBits .f32 0x00000000#32))
/-- Head `h`'s weight sums. -/
def sum1 (x : Vec F S1x128x512 .bf16) (wq : Vec F S512x256 .bf16) (k : Vec F S1x128x256 .bf16) (h : Fin 4) : FVec F S128x1 .bf16 :=
  truncf .bf16 (shapeCast S128x1 (multiReduction .add [1] S128 (wts1 x wq k h) 0x00000000#32 reduces_S128x128_S128 (.inl rfl) rfl)
    shapeCasts_S128_S128x1) bitsLt_bf16_f32
/-- Head `h`'s weighted values. -/
def out1 (x : Vec F S1x128x512 .bf16) (wq : Vec F S512x256 .bf16) (k v : Vec F S1x128x256 .bf16) (h : Fin 4) : FVec F S128x64 .bf16 :=
  truncf .bf16 (matmul dot_S128x128_S128x64_S128x64_1_0_0_1_n_n none (truncf .bf16 (wts1 x wq k h) bitsLt_bf16_f32)
    (col1 h (shapeCast S128x256 v shapeCasts_S1x128x256_S128x256)) (constant S128x64 .f32 0x00000000#32)) bitsLt_bf16_f32

/-! ## A packet from its blocks -/

/-- A packet's entries: blocks `o`, and columns `s` in the last row of blocks. -/
def pkOf (o : Fin 8 → Fin 64 → Fin 64 → F .bf16) (s : Fin 8 → Fin 64 → F .bf16) (y : S9x64x64.Idx) : F .bf16 :=
  if h : (y 0).val < 8 then o ⟨(y 0).val, h⟩ (y 1) (y 2) else s ⟨(y 2).val % 8, Nat.mod_lt _ (by decide)⟩ (y 1)

/-- The buffer of packets: packet `q` from the blocks `o q` and the columns `s q`. -/
def bufOf (o : Fin 4 → Fin 8 → Fin 64 → Fin 64 → F .bf16) (s : Fin 4 → Fin 8 → Fin 64 → F .bf16) (y : S4x9x64x64.Idx) : F .bf16 :=
  pkOf (o (y 0)) (s (y 0)) (ix3 (y 1) (y 2) (y 3))

theorem bufOf_block (o : Fin 4 → Fin 8 → Fin 64 → Fin 64 → F .bf16) (s : Fin 4 → Fin 8 → Fin 64 → F .bf16) (q : Fin 4) (i : Fin 8) (a : Fin 9)
    (ha : a.val = i.val) (r d : Fin 64) : bufOf o s (ix4 q a r d) = o q i r d := by
  have h : a.val < 8 := ha ▸ i.isLt
  show (if h : a.val < 8 then o q ⟨a.val, h⟩ r d else _) = _
  rw [dif_pos h, show (⟨a.val, h⟩ : Fin 8) = i from Fin.ext ha]
theorem bufOf_col (o : Fin 4 → Fin 8 → Fin 64 → Fin 64 → F .bf16) (s : Fin 4 → Fin 8 → Fin 64 → F .bf16) (q : Fin 4) (i : Fin 8) (a : Fin 9)
    (ha : a.val = 8) (r d : Fin 64) (hd : d.val = i.val) : bufOf o s (ix4 q a r d) = s q i r := by
  have h : ¬ a.val < 8 := by omega
  show (if h : a.val < 8 then _ else s q ⟨d.val % 8, _⟩ r) = _
  have e : (⟨d.val % 8, Nat.mod_lt _ (by decide)⟩ : Fin 8) = i := Fin.ext (by show d.val % 8 = i.val; have := i.isLt; omega)
  rw [dif_neg h, e]

/-! ## The packets of the staged blocks -/

/-- A batch's rows. -/
def xb0 (X : Vec F S2x256x512 .bf16) : Fin 2 → Vec F S1x256x512 .bf16
  | 0 => View.ld X (Rect.unit (s := S2x256x512) ![0, 0, 0] S1x256x512.size inb_S2x256x512_S1x256x512_0_0_0)
  | 1 => View.ld X (Rect.unit (s := S2x256x512) ![1, 0, 0] S1x256x512.size inb_S2x256x512_S1x256x512_1_0_0)
/-- A batch's keys or values. -/
def kb0 (X : Vec F S2x256x256 .bf16) : Fin 2 → Vec F S1x256x256 .bf16
  | 0 => View.ld X (Rect.unit (s := S2x256x256) ![0, 0, 0] S1x256x256.size inb_S2x256x256_S1x256x256_0_0_0)
  | 1 => View.ld X (Rect.unit (s := S2x256x256) ![1, 0, 0] S1x256x256.size inb_S2x256x256_S1x256x256_1_0_0)
/-- A batch's lower rows. -/
def xb1 (X : Vec F S2x256x512 .bf16) : Fin 2 → Vec F S1x128x512 .bf16
  | 0 => View.ld X (Rect.unit (s := S2x256x512) ![0, 128, 0] S1x128x512.size inb_S2x256x512_S1x128x512_0_128_0)
  | 1 => View.ld X (Rect.unit (s := S2x256x512) ![1, 128, 0] S1x128x512.size inb_S2x256x512_S1x128x512_1_128_0)
/-- A batch's first keys or values. -/
def kb1 (X : Vec F S2x256x256 .bf16) : Fin 2 → Vec F S1x128x256 .bf16
  | 0 => View.ld X (Rect.unit (s := S2x256x256) ![0, 0, 0] S1x128x256.size inb_S2x256x256_S1x128x256_0_0_0)
  | 1 => View.ld X (Rect.unit (s := S2x256x256) ![1, 0, 0] S1x128x256.size inb_S2x256x256_S1x128x256_1_0_0)
/-- The query weights, as loaded. -/
def wqb (X : Vec F S512x256 .bf16) : Vec F S512x256 .bf16 := View.ld X (Rect.unit (s := S512x256) ![0, 0] S512x256.size inb_S512x256_S512x256_0_0)

/-- The batch and the head of block `i`. -/
abbrev bOf (i : Fin 8) : Fin 2 := ⟨i.val / 4, by have := i.isLt; omega⟩
abbrev hOf (i : Fin 8) : Fin 4 := ⟨i.val % 4, Nat.mod_lt _ (by decide)⟩

/-- Device 0's blocks and columns. -/
def o0 (X : Vec F S2x256x512 .bf16) (W : Vec F S512x256 .bf16) (K V : Vec F S2x256x256 .bf16) (q : Fin 4) (i : Fin 8) (r d : Fin 64) : F .bf16 :=
  out0 (xb0 X (bOf i)) (wqb W) (kb0 K (bOf i)) (kb0 V (bOf i)) (hOf i) (ix2 ⟨64 * q.val + r.val, by have := q.isLt; have := r.isLt; omega⟩ d)
def s0 (X : Vec F S2x256x512 .bf16) (W : Vec F S512x256 .bf16) (K : Vec F S2x256x256 .bf16) (q : Fin 4) (i : Fin 8) (r : Fin 64) : F .bf16 :=
  sum0 (xb0 X (bOf i)) (wqb W) (kb0 K (bOf i)) (hOf i) (ix2 ⟨64 * q.val + r.val, by have := q.isLt; have := r.isLt; omega⟩ 0)

theorem piece_o0 (o : Fin 4 → Fin 8 → Fin 64 → Fin 64 → F .bf16) (s : Fin 4 → Fin 8 → Fin 64 → F .bf16) (q : Fin 4) (i : Fin 8) (O : FVec F S256x64 .bf16)
    (ho : ∀ r d, o q i r d = O (ix2 ⟨64 * q.val + r.val, by have := q.isLt; have := r.isLt; omega⟩ d))
    (hs : S256x64.Slices ![64 * q.val, 0] S64x64) (hc : S64x64.ShapeCasts S1x1x64x64)
    (inb : ∀ a, (![q.val, i.val, 0, 0] : Fin 4 → ℕ) a + S1x1x64x64.size a ≤ S4x9x64x64.size a) (x : S1x1x64x64.Idx) :
    shapeCast S1x1x64x64 (extractStridedSlice S64x64 ![64 * q.val, 0] O hs) hc x
      = bufOf o s ((Rect.unit (s := S4x9x64x64) ![q.val, i.val, 0, 0] S1x1x64x64.size inb).emb x) := by
  obtain ⟨u, w, r, d, rfl⟩ : ∃ u w r d, x = ix4 u w r d := ⟨_, _, _, _, eq_ix4 x⟩
  have hw : w = 0 := Subsingleton.elim _ _
  have hu : u = 0 := Subsingleton.elim _ _
  subst hw hu
  have e : (Rect.unit (s := S4x9x64x64) ![q.val, i.val, 0, 0] S1x1x64x64.size inb).emb (ix4 0 0 r d) = ix4 q ⟨i.val, by omega⟩ r d := by
    funext a; apply Fin.ext; fin_cases a
    · show q.val + 1 * 0 = q.val; omega
    · show i.val + 1 * 0 = i.val; omega
    · show 0 + 1 * r.val = r.val; omega
    · show 0 + 1 * d.val = d.val; omega
  rw [e, bufOf_block o s q i ⟨i.val, by omega⟩ rfl r d, ho]
  pointwise
theorem piece_s0 (o : Fin 4 → Fin 8 → Fin 64 → Fin 64 → F .bf16) (s : Fin 4 → Fin 8 → Fin 64 → F .bf16) (q : Fin 4) (i : Fin 8) (O : FVec F S256x1 .bf16)
    (ho : ∀ r, s q i r = O (ix2 ⟨64 * q.val + r.val, by have := q.isLt; have := r.isLt; omega⟩ 0))
    (hs : S256x1.Slices ![64 * q.val, 0] S64x1) (hc : S64x1.ShapeCasts S1x1x64x1)
    (inb : ∀ a, (![q.val, 8, 0, i.val] : Fin 4 → ℕ) a + S1x1x64x1.size a ≤ S4x9x64x64.size a) (x : S1x1x64x1.Idx) :
    shapeCast S1x1x64x1 (extractStridedSlice S64x1 ![64 * q.val, 0] O hs) hc x
      = bufOf o s ((Rect.unit (s := S4x9x64x64) ![q.val, 8, 0, i.val] S1x1x64x1.size inb).emb x) := by
  obtain ⟨u, w, r, d, rfl⟩ : ∃ u w r d, x = ix4 u w r d := ⟨_, _, _, _, eq_ix4 x⟩
  have hw : w = 0 := Subsingleton.elim _ _
  have hu : u = 0 := Subsingleton.elim _ _
  have hd : d = 0 := Subsingleton.elim _ _
  subst hw hu hd
  have e : (Rect.unit (s := S4x9x64x64) ![q.val, 8, 0, i.val] S1x1x64x1.size inb).emb (ix4 0 0 r 0) = ix4 q 8 r ⟨i.val, by omega⟩ := by
    funext a; apply Fin.ext; fin_cases a
    · show q.val + 1 * 0 = q.val; omega
    · rfl
    · show 0 + 1 * r.val = r.val; omega
    · show i.val + 1 * 0 = i.val; omega
  rw [e, bufOf_col o s q i 8 rfl r ⟨i.val, by omega⟩ rfl, ho]
  pointwise

/-- Device 1's blocks and columns. -/
def o1 (X : Vec F S2x256x512 .bf16) (W : Vec F S512x256 .bf16) (K V : Vec F S2x256x256 .bf16) (q : Fin 4) (i : Fin 8) (r d : Fin 64) : F .bf16 :=
  out1 (xb1 X (bOf i)) (wqb W) (kb1 K (bOf i)) (kb1 V (bOf i)) (hOf i) (ix2 ⟨64 * (q.val % 2) + r.val, by have := q.isLt; have := r.isLt; omega⟩ d)
def s1 (X : Vec F S2x256x512 .bf16) (W : Vec F S512x256 .bf16) (K : Vec F S2x256x256 .bf16) (q : Fin 4) (i : Fin 8) (r : Fin 64) : F .bf16 :=
  sum1 (xb1 X (bOf i)) (wqb W) (kb1 K (bOf i)) (hOf i) (ix2 ⟨64 * (q.val % 2) + r.val, by have := q.isLt; have := r.isLt; omega⟩ 0)

theorem piece_o1 (o : Fin 4 → Fin 8 → Fin 64 → Fin 64 → F .bf16) (s : Fin 4 → Fin 8 → Fin 64 → F .bf16) (q : Fin 4) (i : Fin 8) (O : FVec F S128x64 .bf16)
    (ho : ∀ r d, o q i r d = O (ix2 ⟨64 * (q.val % 2) + r.val, by have := q.isLt; have := r.isLt; omega⟩ d))
    (hs : S128x64.Slices ![64 * (q.val % 2), 0] S64x64) (hc : S64x64.ShapeCasts S1x1x64x64)
    (inb : ∀ a, (![q.val, i.val, 0, 0] : Fin 4 → ℕ) a + S1x1x64x64.size a ≤ S4x9x64x64.size a) (x : S1x1x64x64.Idx) :
    shapeCast S1x1x64x64 (extractStridedSlice S64x64 ![64 * (q.val % 2), 0] O hs) hc x
      = bufOf o s ((Rect.unit (s := S4x9x64x64) ![q.val, i.val, 0, 0] S1x1x64x64.size inb).emb x) := by
  obtain ⟨u, w, r, d, rfl⟩ : ∃ u w r d, x = ix4 u w r d := ⟨_, _, _, _, eq_ix4 x⟩
  have hw : w = 0 := Subsingleton.elim _ _
  have hu : u = 0 := Subsingleton.elim _ _
  subst hw hu
  have e : (Rect.unit (s := S4x9x64x64) ![q.val, i.val, 0, 0] S1x1x64x64.size inb).emb (ix4 0 0 r d) = ix4 q ⟨i.val, by omega⟩ r d := by
    funext a; apply Fin.ext; fin_cases a
    · show q.val + 1 * 0 = q.val; omega
    · show i.val + 1 * 0 = i.val; omega
    · show 0 + 1 * r.val = r.val; omega
    · show 0 + 1 * d.val = d.val; omega
  rw [e, bufOf_block o s q i ⟨i.val, by omega⟩ rfl r d, ho]
  pointwise
theorem piece_s1 (o : Fin 4 → Fin 8 → Fin 64 → Fin 64 → F .bf16) (s : Fin 4 → Fin 8 → Fin 64 → F .bf16) (q : Fin 4) (i : Fin 8) (O : FVec F S128x1 .bf16)
    (ho : ∀ r, s q i r = O (ix2 ⟨64 * (q.val % 2) + r.val, by have := q.isLt; have := r.isLt; omega⟩ 0))
    (hs : S128x1.Slices ![64 * (q.val % 2), 0] S64x1) (hc : S64x1.ShapeCasts S1x1x64x1)
    (inb : ∀ a, (![q.val, 8, 0, i.val] : Fin 4 → ℕ) a + S1x1x64x1.size a ≤ S4x9x64x64.size a) (x : S1x1x64x1.Idx) :
    shapeCast S1x1x64x1 (extractStridedSlice S64x1 ![64 * (q.val % 2), 0] O hs) hc x
      = bufOf o s ((Rect.unit (s := S4x9x64x64) ![q.val, 8, 0, i.val] S1x1x64x1.size inb).emb x) := by
  obtain ⟨u, w, r, d, rfl⟩ : ∃ u w r d, x = ix4 u w r d := ⟨_, _, _, _, eq_ix4 x⟩
  have hw : w = 0 := Subsingleton.elim _ _
  have hu : u = 0 := Subsingleton.elim _ _
  have hd : d = 0 := Subsingleton.elim _ _
  subst hw hu hd
  have e : (Rect.unit (s := S4x9x64x64) ![q.val, 8, 0, i.val] S1x1x64x1.size inb).emb (ix4 0 0 r 0) = ix4 q 8 r ⟨i.val, by omega⟩ := by
    funext a; apply Fin.ext; fin_cases a
    · show q.val + 1 * 0 = q.val; omega
    · rfl
    · show 0 + 1 * r.val = r.val; omega
    · show i.val + 1 * 0 = i.val; omega
  rw [e, bufOf_col o s q i 8 rfl r ⟨i.val, by omega⟩ rfl, ho]
  pointwise

theorem mem_o (q : Fin 4) (i : Fin 8) (inb : ∀ a, (![q.val, i.val, 0, 0] : Fin 4 → ℕ) a + S1x1x64x64.size a ≤ S4x9x64x64.size a)
    (y : S4x9x64x64.Idx) (hq : y 0 = q) (hi : (y 1).val = i.val) :
    y ∈ (Rect.unit (s := S4x9x64x64) ![q.val, i.val, 0, 0] S1x1x64x64.size inb).set := by
  rw [Rect.mem_set_unit]
  have h2 := (y 2).isLt; have h3 := (y 3).isLt
  intro a
  fin_cases a
  · subst hq; exact ⟨le_refl _, Nat.lt_succ_self _⟩
  · exact ⟨hi.ge, by show (y 1).val < i.val + 1; omega⟩
  · exact ⟨Nat.zero_le _, by show (y 2).val < 0 + 64; rw [Nat.zero_add]; exact h2⟩
  · exact ⟨Nat.zero_le _, by show (y 3).val < 0 + 64; rw [Nat.zero_add]; exact h3⟩
theorem mem_s (q : Fin 4) (i : Fin 8) (inb : ∀ a, (![q.val, 8, 0, i.val] : Fin 4 → ℕ) a + S1x1x64x1.size a ≤ S4x9x64x64.size a)
    (y : S4x9x64x64.Idx) (hq : y 0 = q) (h8 : (y 1).val = 8) (hi : (y 3).val = i.val) :
    y ∈ (Rect.unit (s := S4x9x64x64) ![q.val, 8, 0, i.val] S1x1x64x1.size inb).set := by
  rw [Rect.mem_set_unit]
  have h2 := (y 2).isLt
  intro a
  fin_cases a
  · subst hq; exact ⟨le_refl _, Nat.lt_succ_self _⟩
  · exact ⟨h8.ge, by show (y 1).val < 8 + 1; omega⟩
  · exact ⟨Nat.zero_le _, by show (y 2).val < 0 + 64; rw [Nat.zero_add]; exact h2⟩
  · exact ⟨hi.ge, by show (y 3).val < i.val + 1; omega⟩

/-! ## The buffers as packets -/

/-- The six packets, by which slot they arrive in. -/
def pkts (X0 : Vec F S2x256x512 .bf16) (W0 : Vec F S512x256 .bf16) (K0 V0 : Vec F S2x256x256 .bf16)
    (X1 : Vec F S2x256x512 .bf16) (W1 : Vec F S512x256 .bf16) (K1 V1 : Vec F S2x256x256 .bf16) : Fin 6 → S9x64x64.Idx → F .bf16
  | 0 => pkOf (o0 X0 W0 K0 V0 0) (s0 X0 W0 K0 0)
  | 1 => pkOf (o0 X0 W0 K0 V0 1) (s0 X0 W0 K0 1)
  | 2 => pkOf (o0 X0 W0 K0 V0 2) (s0 X0 W0 K0 2)
  | 3 => pkOf (o0 X0 W0 K0 V0 3) (s0 X0 W0 K0 3)
  | 4 => pkOf (o1 X1 W1 K1 V1 2) (s1 X1 W1 K1 2)
  | 5 => pkOf (o1 X1 W1 K1 V1 3) (s1 X1 W1 K1 3)

variable (c : Dev nD)

/-- Slot `p`'s elements. -/
def ownRect (p : Fin 4) : Rect S4x9x64x64 := Rect.unit (s := S4x9x64x64) ![p.val, 0, 0, 0] S1x9x64x64.size
  (by intro a; have := p.isLt; fin_cases a <;> simp [S1x9x64x64, S4x9x64x64] <;> omega)
theorem own_set0 : (ownS 0).view.set = (ownRect 0).set := (Memref.set_view_squeeze _ squeezes_S1x9x64x64_S9x64x64).trans (View.set_slice_whole _ _)
theorem own_set1 : (ownS 1).view.set = (ownRect 1).set := (Memref.set_view_squeeze _ squeezes_S1x9x64x64_S9x64x64).trans (View.set_slice_whole _ _)
theorem own_set2 : (ownS 2).view.set = (ownRect 2).set := (Memref.set_view_squeeze _ squeezes_S1x9x64x64_S9x64x64).trans (View.set_slice_whole _ _)
theorem own_set3 : (ownS 3).view.set = (ownRect 3).set := (Memref.set_view_squeeze _ squeezes_S1x9x64x64_S9x64x64).trans (View.set_slice_whole _ _)
theorem own_disjoint (p p' : Fin 4) (h : p ≠ p') : Disjoint (ownRect p).set (ownRect p').set :=
  Ring.lead_disjoint (s := S4x9x64x64) 0 1 (fun b : Fin 4 => ![b.val, 0, 0, 0]) S1x9x64x64.size _ (fun b => by simp) rfl p p' h
theorem own_cover : Finset.univ.biUnion (fun p => (ownRect p).set) = Finset.univ :=
  Ring.lead_cover (s := S4x9x64x64) 0 1 (fun b : Fin 4 => ![b.val, 0, 0, 0]) S1x9x64x64.size _ (fun b => by simp)
    (fun b a ha => by fin_cases a <;> simp_all) rfl (fun a ha => by fin_cases a <;> simp_all [S1x9x64x64, S4x9x64x64]) rfl
theorem own_split (f : Buf (Elt F) (ownM.view.loc (c : Thread nD τ))) :
    ((ownM.view.loc (c : Thread nD τ) ↦{fullShare} f) : sProp 𝕄) ⊢ iprop(pkt (ownS 0) c fullShare f ∗ pkt (ownS 1) c fullShare f ∗ pkt (ownS 2) c fullShare f ∗ pkt (ownS 3) c fullShare f) := by
  rw [Ring.pointsTo_blocks (ℓ := ownM.view.loc (c : Thread nD τ)) (fun p : Fin 4 => (ownRect p).set) own_disjoint own_cover,
    show (Finset.univ : Finset (Fin 4)) = {0, 1, 2, 3} from by decide, bigSep_insert (by decide), bigSep_insert (by decide), bigSep_insert (by decide), bigSep_singleton]
  unfold pkt
  rw [own_set0, own_set1, own_set2, own_set3]
  exact BI.Entails.refl _
theorem own_join : (iprop((∃ f, pkt (ownS 0) c fullShare f) ∗ (∃ f, pkt (ownS 1) c fullShare f) ∗ (∃ f, pkt (ownS 2) c fullShare f) ∗ (∃ f, pkt (ownS 3) c fullShare f)) : sProp 𝕄)
    ⊢ iprop(∃ f, ownM.view.loc (c : Thread nD τ) ↦{fullShare} f) := by
  iintro ⟨⟨%f0, H0⟩, ⟨%f1, H1⟩, ⟨%f2, H2⟩, ⟨%f3, H3⟩⟩
  have h := Ring.pointsTo_blocks_join_exists (Ix := Unit) (Name := ℕ) (U := UU) (Lvl := ℕ) (Val := Elt F) (q := fullShare)
    (ℓ := ownM.view.loc (c : Thread nD τ)) (fun p : Fin 4 => (ownRect p).set) own_disjoint own_cover f0
  rw [show (Finset.univ : Finset (Fin 4)) = {0, 1, 2, 3} from by decide, bigSep_insert (by decide), bigSep_insert (by decide), bigSep_insert (by decide), bigSep_singleton] at h
  replace h : (iprop((∃ f, ownM.view.loc (c : Thread nD τ) ↦[(ownRect 0).set]{fullShare} f) ∗ (∃ f, ownM.view.loc (c : Thread nD τ) ↦[(ownRect 1).set]{fullShare} f) ∗ (∃ f, ownM.view.loc (c : Thread nD τ) ↦[(ownRect 2).set]{fullShare} f) ∗ (∃ f, ownM.view.loc (c : Thread nD τ) ↦[(ownRect 3).set]{fullShare} f)) : sProp 𝕄)
    ⊢ iprop(∃ f, ownM.view.loc (c : Thread nD τ) ↦{fullShare} f) := h
  unfold pkt
  rw [own_set0, own_set1, own_set2, own_set3]
  iapply h
  isplitl [H0]
  · iexists f0
    iexact H0
  isplitl [H1]
  · iexists f1
    iexact H1
  isplitl [H2]
  · iexists f2
    iexact H2
  iexists f3
  iexact H3

/-- Slot `p`'s elements. -/
def rcvRect (p : Fin 6) : Rect S6x9x64x64 := Rect.unit (s := S6x9x64x64) ![p.val, 0, 0, 0] S1x9x64x64.size
  (by intro a; have := p.isLt; fin_cases a <;> simp [S1x9x64x64, S6x9x64x64] <;> omega)
theorem rcv_set0 : (rcvS 0).view.set = (rcvRect 0).set := (Memref.set_view_squeeze _ squeezes_S1x9x64x64_S9x64x64).trans (View.set_slice_whole _ _)
theorem rcv_set1 : (rcvS 1).view.set = (rcvRect 1).set := (Memref.set_view_squeeze _ squeezes_S1x9x64x64_S9x64x64).trans (View.set_slice_whole _ _)
theorem rcv_set2 : (rcvS 2).view.set = (rcvRect 2).set := (Memref.set_view_squeeze _ squeezes_S1x9x64x64_S9x64x64).trans (View.set_slice_whole _ _)
theorem rcv_set3 : (rcvS 3).view.set = (rcvRect 3).set := (Memref.set_view_squeeze _ squeezes_S1x9x64x64_S9x64x64).trans (View.set_slice_whole _ _)
theorem rcv_set4 : (rcvS 4).view.set = (rcvRect 4).set := (Memref.set_view_squeeze _ squeezes_S1x9x64x64_S9x64x64).trans (View.set_slice_whole _ _)
theorem rcv_set5 : (rcvS 5).view.set = (rcvRect 5).set := (Memref.set_view_squeeze _ squeezes_S1x9x64x64_S9x64x64).trans (View.set_slice_whole _ _)
theorem rcv_disjoint (p p' : Fin 6) (h : p ≠ p') : Disjoint (rcvRect p).set (rcvRect p').set :=
  Ring.lead_disjoint (s := S6x9x64x64) 0 1 (fun b : Fin 6 => ![b.val, 0, 0, 0]) S1x9x64x64.size _ (fun b => by simp) rfl p p' h
theorem rcv_cover : Finset.univ.biUnion (fun p => (rcvRect p).set) = Finset.univ :=
  Ring.lead_cover (s := S6x9x64x64) 0 1 (fun b : Fin 6 => ![b.val, 0, 0, 0]) S1x9x64x64.size _ (fun b => by simp)
    (fun b a ha => by fin_cases a <;> simp_all) rfl (fun a ha => by fin_cases a <;> simp_all [S1x9x64x64, S6x9x64x64]) rfl
theorem rcv_split (f : Buf (Elt F) (rcvM.view.loc (c : Thread nD τ))) :
    ((rcvM.view.loc (c : Thread nD τ) ↦{fullShare} f) : sProp 𝕄) ⊢ iprop(pkt (rcvS 0) c fullShare f ∗ pkt (rcvS 1) c fullShare f ∗ pkt (rcvS 2) c fullShare f ∗ pkt (rcvS 3) c fullShare f ∗ pkt (rcvS 4) c fullShare f ∗ pkt (rcvS 5) c fullShare f) := by
  rw [Ring.pointsTo_blocks (ℓ := rcvM.view.loc (c : Thread nD τ)) (fun p : Fin 6 => (rcvRect p).set) rcv_disjoint rcv_cover,
    show (Finset.univ : Finset (Fin 6)) = {0, 1, 2, 3, 4, 5} from by decide, bigSep_insert (by decide), bigSep_insert (by decide), bigSep_insert (by decide), bigSep_insert (by decide), bigSep_insert (by decide), bigSep_singleton]
  unfold pkt
  rw [rcv_set0, rcv_set1, rcv_set2, rcv_set3, rcv_set4, rcv_set5]
  exact BI.Entails.refl _
theorem rcv_join : (iprop((∃ f, pkt (rcvS 0) c fullShare f) ∗ (∃ f, pkt (rcvS 1) c fullShare f) ∗ (∃ f, pkt (rcvS 2) c fullShare f) ∗ (∃ f, pkt (rcvS 3) c fullShare f) ∗ (∃ f, pkt (rcvS 4) c fullShare f) ∗ (∃ f, pkt (rcvS 5) c fullShare f)) : sProp 𝕄)
    ⊢ iprop(∃ f, rcvM.view.loc (c : Thread nD τ) ↦{fullShare} f) := by
  iintro ⟨⟨%f0, H0⟩, ⟨%f1, H1⟩, ⟨%f2, H2⟩, ⟨%f3, H3⟩, ⟨%f4, H4⟩, ⟨%f5, H5⟩⟩
  have h := Ring.pointsTo_blocks_join_exists (Ix := Unit) (Name := ℕ) (U := UU) (Lvl := ℕ) (Val := Elt F) (q := fullShare)
    (ℓ := rcvM.view.loc (c : Thread nD τ)) (fun p : Fin 6 => (rcvRect p).set) rcv_disjoint rcv_cover f0
  rw [show (Finset.univ : Finset (Fin 6)) = {0, 1, 2, 3, 4, 5} from by decide, bigSep_insert (by decide), bigSep_insert (by decide), bigSep_insert (by decide), bigSep_insert (by decide), bigSep_insert (by decide), bigSep_singleton] at h
  replace h : (iprop((∃ f, rcvM.view.loc (c : Thread nD τ) ↦[(rcvRect 0).set]{fullShare} f) ∗ (∃ f, rcvM.view.loc (c : Thread nD τ) ↦[(rcvRect 1).set]{fullShare} f) ∗ (∃ f, rcvM.view.loc (c : Thread nD τ) ↦[(rcvRect 2).set]{fullShare} f) ∗ (∃ f, rcvM.view.loc (c : Thread nD τ) ↦[(rcvRect 3).set]{fullShare} f) ∗ (∃ f, rcvM.view.loc (c : Thread nD τ) ↦[(rcvRect 4).set]{fullShare} f) ∗ (∃ f, rcvM.view.loc (c : Thread nD τ) ↦[(rcvRect 5).set]{fullShare} f)) : sProp 𝕄)
    ⊢ iprop(∃ f, rcvM.view.loc (c : Thread nD τ) ↦{fullShare} f) := h
  unfold pkt
  rw [rcv_set0, rcv_set1, rcv_set2, rcv_set3, rcv_set4, rcv_set5]
  iapply h
  isplitl [H0]
  · iexists f0
    iexact H0
  isplitl [H1]
  · iexists f1
    iexact H1
  isplitl [H2]
  · iexists f2
    iexact H2
  isplitl [H3]
  · iexists f3
    iexact H3
  isplitl [H4]
  · iexists f4
    iexact H4
  iexists f5
  iexact H5

end Cert.KernelIdeal.Att
-- ==== Proof.Out.lean ====
/-
  The output from the six packets: each head's quotients, projected by the output weights and summed over the heads.
-/
module

public import proofs.«01_k».proof.Proof.Packets

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The output as a value -/

theorem sl_blk (i : Fin 8) : S9x64x64.Slices ![i.val, 0, 0] S1x64x64 := by
  have := i.isLt
  exact ⟨rfl, fun a => by fin_cases a <;> simp <;> omega⟩
theorem sl_col (i : Fin 8) : S9x64x64.Slices ![8, 0, i.val] S1x64x1 := by
  have := i.isLt
  exact ⟨rfl, fun a => by fin_cases a <;> simp <;> omega⟩
theorem sl_wo (h : Fin 4) : S256x512.Slices ![64 * h.val, 0] S64x512 := by
  have := h.isLt
  exact ⟨rfl, fun a => by fin_cases a <;> simp <;> omega⟩

/-- Block `i` of a merged packet, divided by its column of sums. -/
def quo (i : Fin 8) (m : FVec F S9x64x64 .f32) : FVec F S64x64 .f32 :=
  divf (shapeCast S64x64 (extractStridedSlice S1x64x64 ![i.val, 0, 0] m (sl_blk i)) shapeCasts_S1x64x64_S64x64)
    (broadcastTo S64x64 (shapeCast S64x1 (extractStridedSlice S1x64x1 ![8, 0, i.val] m (sl_col i)) shapeCasts_S1x64x1_S64x1) broadcasts_S64x1_S64x64)

/-- A head's context rows: the four packets' quotients. -/
def ctx (i : Fin 8) (m0 m1 m2 m3 : FVec F S9x64x64 .f32) : FVec F S256x64 .bf16 :=
  truncf .bf16 (concatenate S256x64 0 [⟨S64x64, quo i m0⟩, ⟨S64x64, quo i m1⟩, ⟨S64x64, quo i m2⟩, ⟨S64x64, quo i m3⟩]
    concatenates_S64x64_S64x64_S64x64_S64x64_S256x64_d0) bitsLt_bf16_f32

/-- A head's share of the projection. -/
def prj (i : Fin 8) (h : Fin 4) (m0 m1 m2 m3 : FVec F S9x64x64 .f32) (wo : FVec F S256x512 .bf16) : FVec F S256x512 .f32 :=
  matmul dot_S256x64_S64x512_S256x512_1_0_0_1_n_n none (ctx i m0 m1 m2 m3) (extractStridedSlice S64x512 ![64 * h.val, 0] wo (sl_wo h))
    (constant S256x512 .f32 0x00000000#32)

/-- A batch's output. -/
def outB (b : Fin 2) (m0 m1 m2 m3 : FVec F S9x64x64 .f32) (wo : FVec F S256x512 .bf16) : FVec F S256x512 .f32 :=
  addf (addf (addf (addf (broadcast S256x512 (Scalar.ofBits .f32 0x00000000#32))
    (prj ⟨4 * b.val + 0, by omega⟩ 0 m0 m1 m2 m3 wo)) (prj ⟨4 * b.val + 1, by omega⟩ 1 m0 m1 m2 m3 wo))
    (prj ⟨4 * b.val + 2, by omega⟩ 2 m0 m1 m2 m3 wo)) (prj ⟨4 * b.val + 3, by omega⟩ 3 m0 m1 m2 m3 wo)

/-- The output weights, as loaded. -/
def wol (X : Vec F S256x512 .bf16) : FVec F S256x512 .bf16 :=
  shapeCast S256x512 (View.ld X (Rect.unit (s := S256x512) ![0, 0] S256x512.size inb_S256x512_S256x512_0_0)) shapeCasts_S256x512_S256x512

/-- The output. -/
def outV (m0 m1 m2 m3 : FVec F S9x64x64 .f32) (wo : FVec F S256x512 .bf16) (y : S2x256x512.Idx) : F .f32 :=
  outB (y 0) m0 m1 m2 m3 wo (ix2 (y 1) (y 2))

/-- The output, from the six packets. -/
def outP (PK : Fin 6 → S9x64x64.Idx → F .bf16) (X : Vec F S256x512 .bf16) : S2x256x512.Idx → F .f32 :=
  outV (extf .f32 (PK 0 : FVec F S9x64x64 .bf16) bitsLt_bf16_f32) (extf .f32 (PK 1 : FVec F S9x64x64 .bf16) bitsLt_bf16_f32)
    (addf (extf .f32 (PK 2 : FVec F S9x64x64 .bf16) bitsLt_bf16_f32) (extf .f32 (PK 4 : FVec F S9x64x64 .bf16) bitsLt_bf16_f32))
    (addf (extf .f32 (PK 3 : FVec F S9x64x64 .bf16) bitsLt_bf16_f32) (extf .f32 (PK 5 : FVec F S9x64x64 .bf16) bitsLt_bf16_f32)) (wol X)

theorem quo_apply (i : Fin 8) (m : FVec F S9x64x64 .f32) (r d : Fin 64) :
    quo i m (ix2 r d) = FloatOps.divf (m (ix3 ⟨i.val, by omega⟩ r d)) (m (ix3 8 r ⟨i.val, by omega⟩)) := by
  unfold quo
  have e1 : shapeCast S64x64 (extractStridedSlice S1x64x64 ![i.val, 0, 0] m (sl_blk i)) shapeCasts_S1x64x64_S64x64 (ix2 r d)
      = m (ix3 ⟨i.val, by omega⟩ r d) := by pointwise
  have e2 : broadcastTo S64x64 (shapeCast S64x1 (extractStridedSlice S1x64x1 ![8, 0, i.val] m (sl_col i)) shapeCasts_S1x64x1_S64x1) broadcasts_S64x1_S64x64 (ix2 r d)
      = m (ix3 8 r ⟨i.val, by omega⟩) := by pointwise
  show FloatOps.divf _ _ = _
  rw [e1, e2]

/-- The quotients look only at the entries that carry meaning. -/
theorem quo_congr (i : Fin 8) {m m' : FVec F S9x64x64 .f32} (h : ∀ y, Mean y → m y = m' y) : quo i m = quo i m' := by
  funext y
  obtain ⟨r, d, rfl⟩ : ∃ r d, y = ix2 r d := ⟨_, _, eq_ix2 y⟩
  rw [quo_apply, quo_apply, h _ (Or.inl i.isLt), h _ (Or.inr i.isLt)]

theorem outV_congr {m0 m1 m2 m3 n0 n1 n2 n3 : FVec F S9x64x64 .f32} (h0 : ∀ y, Mean y → m0 y = n0 y) (h1 : ∀ y, Mean y → m1 y = n1 y)
    (h2 : ∀ y, Mean y → m2 y = n2 y) (h3 : ∀ y, Mean y → m3 y = n3 y) (wo : FVec F S256x512 .bf16) :
    outV m0 m1 m2 m3 wo = outV n0 n1 n2 n3 wo := by
  have e : ∀ i h, prj i h m0 m1 m2 m3 wo = prj i h n0 n1 n2 n3 wo := fun i h => by
    unfold prj ctx
    rw [quo_congr i h0, quo_congr i h1, quo_congr i h2, quo_congr i h3]
  have e' : ∀ b, outB b m0 m1 m2 m3 wo = outB b n0 n1 n2 n3 wo := fun b => by
    unfold outB
    rw [e, e, e, e]
  funext y
  exact congrFun (e' (y 0)) _

/-- Slots that agree with the packets give the packets' output. -/
theorem outV_of {PK : Fin 6 → S9x64x64.Idx → F .bf16} {w0 w1 w2 w3 w4 w5 : FVec F S9x64x64 .bf16}
    (h0 : IsPk (PK 0) w0) (h1 : IsPk (PK 1) w1) (h2 : IsPk (PK 2) w2) (h3 : IsPk (PK 3) w3) (h4 : IsPk (PK 4) w4) (h5 : IsPk (PK 5) w5)
    (X : Vec F S256x512 .bf16) :
    outV (extf .f32 w0 bitsLt_bf16_f32) (extf .f32 w1 bitsLt_bf16_f32) (addf (extf .f32 w2 bitsLt_bf16_f32) (extf .f32 w4 bitsLt_bf16_f32))
      (addf (extf .f32 w3 bitsLt_bf16_f32) (extf .f32 w5 bitsLt_bf16_f32)) (wol X) = outP PK X := by
  have e : ∀ {P w : FVec F S9x64x64 .bf16}, IsPk P w → ∀ y, Mean y → extf .f32 w bitsLt_bf16_f32 y = extf .f32 P bitsLt_bf16_f32 y :=
    fun {P w} h y hy => congrArg (fun t : F .bf16 => extf .f32 (fun _ => t : FVec F S9x64x64 .bf16) bitsLt_bf16_f32 y) (h y hy)
  unfold outP
  exact outV_congr (e h0) (e h1) (fun y hy => congrArg₂ FloatOps.addf (e h2 y hy) (e h4 y hy))
    (fun y hy => congrArg₂ FloatOps.addf (e h3 y hy) (e h5 y hy)) _

variable (v61 v64 v67 v70 v74 v77 : Vec F S1x9x64x64 .bf16) (v81 : Vec F S256x512 .bf16)

/-- The first half of the first batch's sum, as printed. -/
theorem half0 : k0_pay195 (k0_pay185 v61) (k0_pay186 v64) (k0_pay187 v67 v70) (k0_pay188 v74 v77) (k0_pay189 v81) (k0_pay190 (F := F)) (k0_pay191 v61) (k0_pay192 v64) (k0_pay193 v67 v70) (k0_pay194 v67 v70)
    = addf (addf (broadcast S256x512 (Scalar.ofBits .f32 0x00000000#32)) (prj 0 0 (k0_pay185 v61) (k0_pay186 v64) (k0_pay187 v67 v70) (k0_pay188 v74 v77) (k0_pay189 v81))) (prj 1 1 (k0_pay185 v61) (k0_pay186 v64) (k0_pay187 v67 v70) (k0_pay188 v74 v77) (k0_pay189 v81)) := rfl
/-- The first batch's output, as printed. -/
theorem blk0 : k0_pay200 (k0_pay185 v61) (k0_pay186 v64) (k0_pay187 v67 v70) (k0_pay188 v74 v77) (k0_pay189 v81)
      (k0_pay195 (k0_pay185 v61) (k0_pay186 v64) (k0_pay187 v67 v70) (k0_pay188 v74 v77) (k0_pay189 v81) (k0_pay190 (F := F)) (k0_pay191 v61) (k0_pay192 v64) (k0_pay193 v67 v70) (k0_pay194 v67 v70))
      (k0_pay196 (k0_pay185 v61)) (k0_pay197 (k0_pay186 v64)) (k0_pay198 (k0_pay187 v67 v70)) (k0_pay199 (k0_pay187 v67 v70))
    = shapeCast S1x256x512 (outB 0 (k0_pay185 v61) (k0_pay186 v64) (k0_pay187 v67 v70) (k0_pay188 v74 v77) (k0_pay189 v81)) shapeCasts_S256x512_S1x256x512 := by
  rw [half0]; rfl
/-- The first half of the second batch's sum, as printed. -/
theorem half1 (m0 m1 m2 m3 : FVec F S9x64x64 .f32) (wo : FVec F S256x512 .bf16) : k0_pay203 m0 m1 m2 m3 wo (k0_pay201 (F := F)) (k0_pay202 m0)
    = addf (addf (broadcast S256x512 (Scalar.ofBits .f32 0x00000000#32)) (prj 4 0 m0 m1 m2 m3 wo)) (prj 5 1 m0 m1 m2 m3 wo) := rfl
/-- The second batch's output, as printed. -/
theorem blk1 (m0 m1 m2 m3 : FVec F S9x64x64 .f32) (wo : FVec F S256x512 .bf16) :
    k0_pay205 m0 m1 m2 m3 wo (k0_pay203 m0 m1 m2 m3 wo (k0_pay201 (F := F)) (k0_pay202 m0)) (k0_pay204 m0)
    = shapeCast S1x256x512 (outB 1 m0 m1 m2 m3 wo) shapeCasts_S256x512_S1x256x512 := by
  rw [half1]; rfl

theorem piece_out (b : Fin 2) (m0 m1 m2 m3 : FVec F S9x64x64 .f32) (wo : FVec F S256x512 .bf16) (hc : S256x512.ShapeCasts S1x256x512)
    (inb : ∀ a, (![b.val, 0, 0] : Fin 3 → ℕ) a + S1x256x512.size a ≤ S2x256x512.size a) (x : S1x256x512.Idx) :
    shapeCast S1x256x512 (outB b m0 m1 m2 m3 wo) hc x
      = outV m0 m1 m2 m3 wo ((Rect.unit (s := S2x256x512) ![b.val, 0, 0] S1x256x512.size inb).emb x) := by
  obtain ⟨u, r, d, rfl⟩ : ∃ u r d, x = ix3 u r d := ⟨_, _, _, eq_ix3 x⟩
  have hu : u = 0 := Subsingleton.elim _ _
  subst hu
  have e : (Rect.unit (s := S2x256x512) ![b.val, 0, 0] S1x256x512.size inb).emb (ix3 0 r d) = ix3 b r d := by
    funext a; apply Fin.ext; fin_cases a
    · show b.val + 1 * 0 = b.val; omega
    · show 0 + 1 * r.val = r.val; omega
    · show 0 + 1 * d.val = d.val; omega
  rw [e]
  show _ = outB b m0 m1 m2 m3 wo (ix2 r d)
  pointwise

theorem mem_out (b : Fin 2) (inb : ∀ a, (![b.val, 0, 0] : Fin 3 → ℕ) a + S1x256x512.size a ≤ S2x256x512.size a)
    (y : S2x256x512.Idx) (hb : y 0 = b) : y ∈ (Rect.unit (s := S2x256x512) ![b.val, 0, 0] S1x256x512.size inb).set := by
  rw [Rect.mem_set_unit]
  have h1 := (y 1).isLt; have h2 := (y 2).isLt
  intro a
  fin_cases a
  · subst hb; exact ⟨le_refl _, Nat.lt_succ_self _⟩
  · exact ⟨Nat.zero_le _, by show (y 1).val < 0 + 256; rw [Nat.zero_add]; exact h1⟩
  · exact ⟨Nat.zero_le _, by show (y 2).val < 0 + 512; rw [Nat.zero_add]; exact h2⟩

/-! ## The statements that write the output -/

variable (PK : Fin 6 → S9x64x64.Idx → F .bf16) (c : Dev nD)
variable {α : Type} (a0 : Memref sig .tc .vmem S2x256x512 .bf16) (h0 : a0.IsWhole) (a1 : Memref sig .tc .vmem S512x256 .bf16) (h1 : a1.IsWhole)
  (a2 : Memref sig .tc .vmem S2x256x256 .bf16) (h2 : a2.IsWhole) (a3 : Memref sig .tc .vmem S2x256x256 .bf16) (h3 : a3.IsWhole)
  (a4 : Memref sig .tc .vmem S256x512 .bf16) (h4 : a4.IsWhole) (a5 : Memref sig .tc .vmem S2x256x512 .f32) (h5 : a5.IsWhole)

/-- The statements that read the slots and write the output. -/
abbrev write (v61 : Vec F S1x9x64x64 .bf16) (kk : PUnit → Prog (TpuEff nD τ sig (Elt F) Λ₀ .tc) α) : Prog (TpuEff nD τ sig (Elt F) Λ₀ .tc) α := do
  let ⟨v63, v66, v73, v80, v82, v83, v89, v95, v97, v98⟩ ← k0_part41 a0 h0 a1 h1 a2 h2 a3 h3 a4 h4 a5 h5 ownM (Memref.isWhole_whole _) rcvM (Memref.isWhole_whole _) cc0_scratch2 cc0_scratch3 v61
  let ⟨v141, v147, v153, v155, v156⟩ ← k0_part42 a0 h0 a1 h1 a2 h2 a3 h3 a4 h4 a5 h5 ownM (Memref.isWhole_whole _) rcvM (Memref.isWhole_whole _) cc0_scratch2 cc0_scratch3 v63 v66 v73 v80 v82 v83 v89 v95 v97 v98
  let ⟨v203, v209⟩ ← k0_part43 a0 h0 a1 h1 a2 h2 a3 h3 a4 h4 a5 h5 ownM (Memref.isWhole_whole _) rcvM (Memref.isWhole_whole _) cc0_scratch2 cc0_scratch3 v63 v66 v73 v80 v82 v141 v147 v153 v155 v156
  let ⟨v261, v267⟩ ← k0_part44 a0 h0 a1 h1 a2 h2 a3 h3 a4 h4 a5 h5 ownM (Memref.isWhole_whole _) rcvM (Memref.isWhole_whole _) cc0_scratch2 cc0_scratch3 v63 v66 v73 v80 v82 v203 v209
  let v322 ← k0_part45 a0 h0 a1 h1 a2 h2 a3 h3 a4 h4 a5 h5 ownM (Memref.isWhole_whole _) rcvM (Memref.isWhole_whole _) cc0_scratch2 cc0_scratch3 v63 v66 v73 v80 v82 v261 v267
  Prog.lift (.store a5 (Rect.unit (s := S2x256x512) ![1, 0, 0] S1x256x512.size inb_S2x256x512_S1x256x512_1_0_0) v322 Finset.univ (View.stores_vmem_bits_univ h_S1x256x512 rfl) (.inl rfl))
  kk ⟨⟩

set_option maxHeartbeats 4000000 in
set_option maxRecDepth 65536 in
theorem written (v61 : Vec F S1x9x64x64 .bf16) (hv : IsPk (PK 0) (shapeCast S9x64x64 v61 shapeCasts_S1x9x64x64_S9x64x64))
    (q q1 q2 q3 q4 q5 : PosShare TreeShare) (f4 : Buf (Elt F) (a4.view.loc (c : Thread nD τ))) (f5 : Buf (Elt F) (a5.view.loc (c : Thread nD τ)))
    (kk : PUnit → Prog (TpuEff nD τ sig (Elt F) Λ₀ .tc) α) (Q : α → sProp (MT nD τ sig Unit (Elt F) ℕ UU ℕ)) :
    iprop(got PK c 1 q1 ∗ got PK c 2 q2 ∗ got PK c 3 q3 ∗ got PK c 4 q4 ∗ got PK c 5 q5
        ∗ (a4.view.loc (c : Thread nD τ) ↦{q} f4) ∗ (a5.view.loc (c : Thread nD τ) ↦{fullShare} f5))
      ⊢ iprop((got PK c 1 q1 ∗ got PK c 2 q2 ∗ got PK c 3 q3 ∗ got PK c 4 q4 ∗ got PK c 5 q5
          ∗ (a4.view.loc (c : Thread nD τ) ↦{q} f4) ∗ (∃ f, (a5.view.loc (c : Thread nD τ) ↦{fullShare} f)
            ∗ ⌜a5.view.read (Elt F) f = outP PK (a4.view.read (Elt F) f4)⌝)
          -∗ wp frame (wpE (defs₀ (F := F)) Variants.none c none) Set.univ (kk ⟨⟩) Q)
        -∗ wp frame (wpE (defs₀ (F := F)) Variants.none c none) Set.univ (write a0 h0 a1 h1 a2 h2 a3 h3 a4 h4 a5 h5 v61 kk) Q) := by
  unfold write
  rw [wp_bind, k0_part41_eq_skeleton]
  unfold k0_part41_skel
  unfold got
  iintro ⟨⟨%f1, H1, %g1⟩, ⟨%f2, H2, %g2⟩, ⟨%f3, H3, %g3⟩, ⟨%fb4, Hb4, %g4⟩, ⟨%fb5, Hb5, %g5⟩, H4, H5⟩ Hk
  iapply (step_ld c Variants.none rcvM (Rect.unit (s := S6x9x64x64) ![1, 0, 0, 0] S1x9x64x64.size inb_S6x9x64x64_S1x9x64x64_1_0_0_0) (fun _ => rfl) squeezes_S1x9x64x64_S9x64x64 (q := q1) (f := f1)) $$ [H1]
  · iexact H1
  iintro H1
  iapply (step_ld c Variants.none rcvM (Rect.unit (s := S6x9x64x64) ![2, 0, 0, 0] S1x9x64x64.size inb_S6x9x64x64_S1x9x64x64_2_0_0_0) (fun _ => rfl) squeezes_S1x9x64x64_S9x64x64 (q := q2) (f := f2)) $$ [H2]
  · iexact H2
  iintro H2
  iapply (step_ld c Variants.none rcvM (Rect.unit (s := S6x9x64x64) ![4, 0, 0, 0] S1x9x64x64.size inb_S6x9x64x64_S1x9x64x64_4_0_0_0) (fun _ => rfl) squeezes_S1x9x64x64_S9x64x64 (q := q4) (f := fb4)) $$ [Hb4]
  · iexact Hb4
  iintro Hb4
  iapply (step_ld c Variants.none rcvM (Rect.unit (s := S6x9x64x64) ![3, 0, 0, 0] S1x9x64x64.size inb_S6x9x64x64_S1x9x64x64_3_0_0_0) (fun _ => rfl) squeezes_S1x9x64x64_S9x64x64 (q := q3) (f := f3)) $$ [H3]
  · iexact H3
  iintro H3
  iapply (step_ld c Variants.none rcvM (Rect.unit (s := S6x9x64x64) ![5, 0, 0, 0] S1x9x64x64.size inb_S6x9x64x64_S1x9x64x64_5_0_0_0) (fun _ => rfl) squeezes_S1x9x64x64_S9x64x64 (q := q5) (f := fb5)) $$ [Hb5]
  · iexact Hb5
  iintro Hb5
  simp (config := {proj := false}) only [Prog.bind]
  sl_exec_parts
  iapply Hk
  isplitl [H1]
  · iexists f1
    isplitl [H1]; · iexact H1
    ipureintro; exact g1
  isplitl [H2]
  · iexists f2
    isplitl [H2]; · iexact H2
    ipureintro; exact g2
  isplitl [H3]
  · iexists f3
    isplitl [H3]; · iexact H3
    ipureintro; exact g3
  isplitl [Hb4]
  · iexists fb4
    isplitl [Hb4]; · iexact Hb4
    ipureintro; exact g4
  isplitl [Hb5]
  · iexists fb5
    isplitl [Hb5]; · iexact Hb5
    ipureintro; exact g5
  isplitl [H4]; · iexact H4
  iexists _
  isplitl [H5]; · iexact H5
  ipureintro
  have e1 : (rcvS 1).view.read (Elt F) f1 = shapeCast S9x64x64 (rcvM.view.readAt (Elt F)
      (Rect.unit (s := S6x9x64x64) ![1, 0, 0, 0] S1x9x64x64.size inb_S6x9x64x64_S1x9x64x64_1_0_0_0).toLoadRect f1) shapeCasts_S1x9x64x64_S9x64x64 :=
    Memref.read_squeeze_slice (hq := squeezes_S1x9x64x64_S9x64x64) (hc := shapeCasts_S1x9x64x64_S9x64x64) ..
  have e2 : (rcvS 2).view.read (Elt F) f2 = shapeCast S9x64x64 (rcvM.view.readAt (Elt F)
      (Rect.unit (s := S6x9x64x64) ![2, 0, 0, 0] S1x9x64x64.size inb_S6x9x64x64_S1x9x64x64_2_0_0_0).toLoadRect f2) shapeCasts_S1x9x64x64_S9x64x64 :=
    Memref.read_squeeze_slice (hq := squeezes_S1x9x64x64_S9x64x64) (hc := shapeCasts_S1x9x64x64_S9x64x64) ..
  have e3 : (rcvS 3).view.read (Elt F) f3 = shapeCast S9x64x64 (rcvM.view.readAt (Elt F)
      (Rect.unit (s := S6x9x64x64) ![3, 0, 0, 0] S1x9x64x64.size inb_S6x9x64x64_S1x9x64x64_3_0_0_0).toLoadRect f3) shapeCasts_S1x9x64x64_S9x64x64 :=
    Memref.read_squeeze_slice (hq := squeezes_S1x9x64x64_S9x64x64) (hc := shapeCasts_S1x9x64x64_S9x64x64) ..
  have e4 : (rcvS 4).view.read (Elt F) fb4 = shapeCast S9x64x64 (rcvM.view.readAt (Elt F)
      (Rect.unit (s := S6x9x64x64) ![4, 0, 0, 0] S1x9x64x64.size inb_S6x9x64x64_S1x9x64x64_4_0_0_0).toLoadRect fb4) shapeCasts_S1x9x64x64_S9x64x64 :=
    Memref.read_squeeze_slice (hq := squeezes_S1x9x64x64_S9x64x64) (hc := shapeCasts_S1x9x64x64_S9x64x64) ..
  have e5 : (rcvS 5).view.read (Elt F) fb5 = shapeCast S9x64x64 (rcvM.view.readAt (Elt F)
      (Rect.unit (s := S6x9x64x64) ![5, 0, 0, 0] S1x9x64x64.size inb_S6x9x64x64_S1x9x64x64_5_0_0_0).toLoadRect fb5) shapeCasts_S1x9x64x64_S9x64x64 :=
    Memref.read_squeeze_slice (hq := squeezes_S1x9x64x64_S9x64x64) (hc := shapeCasts_S1x9x64x64_S9x64x64) ..
  rw [e1] at g1; rw [e2] at g2; rw [e3] at g3; rw [e4] at g4; rw [e5] at g5
  rw [← outV_of hv g1 g2 g3 g4 g5]
  funext y
  refine View.read_writes_apply_of_pieces (Val := Elt F) a5.view _ _ _ ?_ y ?_
  · refine List.forall_mem_cons.2 ⟨fun x => (congrFun (blk1 _ _ _ _ _) x).trans <| piece_out 1 _ _ _ _ _ shapeCasts_S256x512_S1x256x512 inb_S2x256x512_S1x256x512_1_0_0 x, ?_⟩
    refine List.forall_mem_cons.2 ⟨fun x => (congrFun (blk0 v61 (rcvM.view.readAt (Elt F) (Rect.unit (s := S6x9x64x64) ![1, 0, 0, 0] S1x9x64x64.size inb_S6x9x64x64_S1x9x64x64_1_0_0_0).toLoadRect f1) (rcvM.view.readAt (Elt F) (Rect.unit (s := S6x9x64x64) ![2, 0, 0, 0] S1x9x64x64.size inb_S6x9x64x64_S1x9x64x64_2_0_0_0).toLoadRect f2) (rcvM.view.readAt (Elt F) (Rect.unit (s := S6x9x64x64) ![4, 0, 0, 0] S1x9x64x64.size inb_S6x9x64x64_S1x9x64x64_4_0_0_0).toLoadRect fb4) (rcvM.view.readAt (Elt F) (Rect.unit (s := S6x9x64x64) ![3, 0, 0, 0] S1x9x64x64.size inb_S6x9x64x64_S1x9x64x64_3_0_0_0).toLoadRect f3) (rcvM.view.readAt (Elt F) (Rect.unit (s := S6x9x64x64) ![5, 0, 0, 0] S1x9x64x64.size inb_S6x9x64x64_S1x9x64x64_5_0_0_0).toLoadRect fb5)
      (View.ld (a4.view.read (Elt F) f4) (Rect.unit (s := S256x512) ![0, 0] S256x512.size inb_S256x512_S256x512_0_0))) x).trans <| piece_out 0 _ _ _ _ _ shapeCasts_S256x512_S1x256x512 inb_S2x256x512_S1x256x512_0_0_0 x, ?_⟩
    exact List.forall_mem_nil _
  · obtain ⟨b, hb⟩ : ∃ b : Fin 2, y 0 = b := ⟨y 0, rfl⟩
    exact (match b, hb with
    | 0, hb => ⟨_, List.mem_of_getElem? (i := 1) rfl, mem_out 0 inb_S2x256x512_S1x256x512_0_0_0 y hb⟩
    | 1, hb => ⟨_, List.mem_of_getElem? (i := 0) rfl, mem_out 1 inb_S2x256x512_S1x256x512_1_0_0 y hb⟩)

end Cert.KernelIdeal.Att
-- ==== Proof.Head.lean ====
/-
  Small steps used by every device's run, and the packets read out of the buffers.
-/
module

public import proofs.«01_k».proof.Proof.Out

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- Reading the device's number. -/
theorem dev_step {α : Type} (c : Dev nD) {k : Dev nD → Prog (TpuEff nD τ sig (Elt F) Λ₀ .tc) α} {Q : α → sProp (MT nD τ sig Unit (Elt F) ℕ UU ℕ)} :
    wp frame (wpE (defs₀ (F := F)) Variants.none (c : Thread nD τ) none) Set.univ (k c) Q
      ⊢ wp frame (wpE (defs₀ (F := F)) Variants.none (c : Thread nD τ) none) Set.univ (.op .deviceId k) Q := by
  rw [wp_deviceId]

/-- A program that is done. -/
theorem ret_step {α : Type} (c : Dev nD) {a : α} {Q : α → sProp (MT nD τ sig Unit (Elt F) ℕ UU ℕ)} :
    Q a ⊢ wp frame (wpE (defs₀ (F := F)) Variants.none (c : Thread nD τ) none) Set.univ (.ret a) Q := by
  rw [wp_ret]; exact fupd_intro

/-- One program after another. -/
theorem bind_step {α β : Type} (c : Dev nD) {p : Prog (TpuEff nD τ sig (Elt F) Λ₀ .tc) α} {k : α → Prog (TpuEff nD τ sig (Elt F) Λ₀ .tc) β} {Q : β → sProp (MT nD τ sig Unit (Elt F) ℕ UU ℕ)} :
    wp frame (wpE (defs₀ (F := F)) Variants.none (c : Thread nD τ) none) Set.univ p (fun a => wp frame (wpE (defs₀ (F := F)) Variants.none (c : Thread nD τ) none) Set.univ (k a) Q)
      ⊢ wp frame (wpE (defs₀ (F := F)) Variants.none (c : Thread nD τ) none) Set.univ (p >>= k) Q := by
  rw [wp_bind]

/-- A slot lent. -/
theorem lend_mk {PK : Fin 6 → Vec F S9x64x64 .bf16} {K : GSem nD τ sig → ℕ} (c : Dev nD) (k : Fin 6) :
    iprop(recs PK K c ∗ (∃ f, pkt (rcvS k) c fullShare f)) ⊢ (lend c k : sProp (MT nD τ sig Unit (Elt F) ℕ UU ℕ)) := by
  unfold lend
  iintro ⟨#HR, H⟩
  isplitl [H]; · iexact H
  iapply (recs_rcv PK K c k); iexact HR

/-- A slot held, without what it holds. -/
theorem got_slot {PK : Fin 6 → Vec F S9x64x64 .bf16} (c : Dev nD) (k : Fin 6) (q : PosShare TreeShare) :
    got PK c k q ⊢ (iprop(∃ f, pkt (rcvS k) c q f) : sProp (MT nD τ sig Unit (Elt F) ℕ UU ℕ)) := by
  unfold got
  iintro ⟨%f, H, -⟩
  iexists f; iexact H

/-- Two shares of a packet, joined. -/
theorem join_ex (c : Dev nD) (M : Memref sig .tc .vmem S9x64x64 .bf16) (q : PosShare TreeShare) :
    (iprop((∃ f, pkt M c q.left f) ∗ (∃ f, pkt M c q.right f)) : sProp (MT nD τ sig Unit (Elt F) ℕ UU ℕ)) ⊢ iprop(∃ f, pkt M c q f) := by
  iintro ⟨⟨%f, H1⟩, ⟨%g, H2⟩⟩
  iexists f
  iapply (rejoin c M q f g)
  isplitl [H1]; · iexact H1
  iexact H2

/-- Slot 0, as loaded. -/
theorem own_ld {c : Dev nD} (f : Buf (Elt F) (rcvM.view.loc (c : Thread nD τ))) :
    (rcvS 0).view.read (Elt F) f = shapeCast S9x64x64 (rcvM.view.readAt (Elt F)
      (Rect.unit (s := S6x9x64x64) ![0, 0, 0, 0] S1x9x64x64.size inb_S6x9x64x64_S1x9x64x64_0_0_0_0).toLoadRect f) shapeCasts_S1x9x64x64_S9x64x64 :=
  Memref.read_squeeze_slice (hq := squeezes_S1x9x64x64_S9x64x64) (hc := shapeCasts_S1x9x64x64_S9x64x64) ..

/-- The buffer's packet 0. -/
theorem own_read0 {c : Dev nD} (f : Buf (Elt F) (ownM.view.loc (c : Thread nD τ))) (a : Fin 9) (r d : Fin 64) :
    (ownS 0).view.read (Elt F) f (ix3 a r d) = ownM.view.read (Elt F) f (ix4 0 a r d) := by
  rw [show (ownS 0).view.read (Elt F) f = shapeCast S9x64x64 (ownM.view.readAt (Elt F)
      (Rect.unit (s := S4x9x64x64) ![0, 0, 0, 0] S1x9x64x64.size inb_S4x9x64x64_S1x9x64x64_0_0_0_0).toLoadRect f) shapeCasts_S1x9x64x64_S9x64x64 from
    Memref.read_squeeze_slice (hq := squeezes_S1x9x64x64_S9x64x64) (hc := shapeCasts_S1x9x64x64_S9x64x64) .., View.readAt_eq_ld, View.ld_unit]
  pointwise
/-- The buffer's packet 1. -/
theorem own_read1 {c : Dev nD} (f : Buf (Elt F) (ownM.view.loc (c : Thread nD τ))) (a : Fin 9) (r d : Fin 64) :
    (ownS 1).view.read (Elt F) f (ix3 a r d) = ownM.view.read (Elt F) f (ix4 1 a r d) := by
  rw [show (ownS 1).view.read (Elt F) f = shapeCast S9x64x64 (ownM.view.readAt (Elt F)
      (Rect.unit (s := S4x9x64x64) ![1, 0, 0, 0] S1x9x64x64.size inb_S4x9x64x64_S1x9x64x64_1_0_0_0).toLoadRect f) shapeCasts_S1x9x64x64_S9x64x64 from
    Memref.read_squeeze_slice (hq := squeezes_S1x9x64x64_S9x64x64) (hc := shapeCasts_S1x9x64x64_S9x64x64) .., View.readAt_eq_ld, View.ld_unit]
  pointwise
/-- The buffer's packet 2. -/
theorem own_read2 {c : Dev nD} (f : Buf (Elt F) (ownM.view.loc (c : Thread nD τ))) (a : Fin 9) (r d : Fin 64) :
    (ownS 2).view.read (Elt F) f (ix3 a r d) = ownM.view.read (Elt F) f (ix4 2 a r d) := by
  rw [show (ownS 2).view.read (Elt F) f = shapeCast S9x64x64 (ownM.view.readAt (Elt F)
      (Rect.unit (s := S4x9x64x64) ![2, 0, 0, 0] S1x9x64x64.size inb_S4x9x64x64_S1x9x64x64_2_0_0_0).toLoadRect f) shapeCasts_S1x9x64x64_S9x64x64 from
    Memref.read_squeeze_slice (hq := squeezes_S1x9x64x64_S9x64x64) (hc := shapeCasts_S1x9x64x64_S9x64x64) .., View.readAt_eq_ld, View.ld_unit]
  pointwise
/-- The buffer's packet 3. -/
theorem own_read3 {c : Dev nD} (f : Buf (Elt F) (ownM.view.loc (c : Thread nD τ))) (a : Fin 9) (r d : Fin 64) :
    (ownS 3).view.read (Elt F) f (ix3 a r d) = ownM.view.read (Elt F) f (ix4 3 a r d) := by
  rw [show (ownS 3).view.read (Elt F) f = shapeCast S9x64x64 (ownM.view.readAt (Elt F)
      (Rect.unit (s := S4x9x64x64) ![3, 0, 0, 0] S1x9x64x64.size inb_S4x9x64x64_S1x9x64x64_3_0_0_0).toLoadRect f) shapeCasts_S1x9x64x64_S9x64x64 from
    Memref.read_squeeze_slice (hq := squeezes_S1x9x64x64_S9x64x64) (hc := shapeCasts_S1x9x64x64_S9x64x64) .., View.readAt_eq_ld, View.ld_unit]
  pointwise
/-- A packet of a filled buffer. -/
theorem isPk_own0 {X : Vec F S2x256x512 .bf16} {W : Vec F S512x256 .bf16} {K V : Vec F S2x256x256 .bf16} (q : Fin 4) {v : S4x9x64x64.Idx → F .bf16}
    (hg : ∀ y, ((y 1).val < 8 ∨ (y 3).val < 8) → v y = bufOf (o0 X W K V) (s0 X W K) y) {w P : S9x64x64.Idx → F .bf16}
    (hw : ∀ a r d, w (ix3 a r d) = v (ix4 q a r d)) (e : P = pkOf (o0 X W K V q) (s0 X W K q)) : IsPk P w := by
  intro y hy
  obtain ⟨a, r, d, rfl⟩ : ∃ a r d, y = ix3 a r d := ⟨_, _, _, eq_ix3 y⟩
  rw [hw, hg _ hy, e]; rfl
/-- A packet of a buffer filled in its last two packets. -/
theorem isPk_own1 {X : Vec F S2x256x512 .bf16} {W : Vec F S512x256 .bf16} {K V : Vec F S2x256x256 .bf16} (q : Fin 4) (hq : 2 ≤ q.val) {v : S4x9x64x64.Idx → F .bf16}
    (hg : ∀ y, ((y 1).val < 8 ∨ (y 3).val < 8) → 2 ≤ (y 0).val → v y = bufOf (o1 X W K V) (s1 X W K) y) {w P : S9x64x64.Idx → F .bf16}
    (hw : ∀ a r d, w (ix3 a r d) = v (ix4 q a r d)) (e : P = pkOf (o1 X W K V q) (s1 X W K q)) : IsPk P w := by
  intro y hy
  obtain ⟨a, r, d, rfl⟩ : ∃ a r d, y = ix3 a r d := ⟨_, _, _, eq_ix3 y⟩
  rw [hw, hg _ hy hq, e]; rfl

end Cert.KernelIdeal.Att
-- ==== Proof.Comm0.lean ====
/-
  Device 0's exchange: its four packets go to device 1 and to device 3, and into its own slots; packets 4 and 5 arrive.
-/
module

public import proofs.«01_k».proof.Proof.Steps

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (PK : Fin 6 → S9x64x64.Idx → F .bf16) (K : GSem nD τ sig → ℕ)

/-- What device 0 has when its signals are sent. -/
def pre0 : sProp 𝕄 :=
  iprop(recs PK K 0 ∗ (∃ W, owes ((0 : Dev nD) : Thread nD τ) (owe (sends 0)) W)
    ∗ cred (tallyAt (barC 0) () 3) ∗ atPos ER (barC 0) 0 ∅ 0
    ∗ (cred (tallyAt (rcvC 0 4) () N) ∗ atPos ER (rcvC 0 4) 0 ∅ 0)
    ∗ (cred (tallyAt (rcvC 0 5) () N) ∗ atPos ER (rcvC 0 5) 0 ∅ 0)
    ∗ (dutyTok ER (sndC 0 0) 0 0 ∗ dutyTok ER (rcvC 1 0) 0 0)
    ∗ (dutyTok ER (sndC 0 1) 0 0 ∗ dutyTok ER (rcvC 1 1) 0 0)
    ∗ (dutyTok ER (sndC 0 2) 0 0 ∗ dutyTok ER (rcvC 1 2) 0 0)
    ∗ (dutyTok ER (sndC 0 3) 0 0 ∗ dutyTok ER (rcvC 1 3) 0 0)
    ∗ (dutyTok ER (sndC 0 4) 0 0 ∗ dutyTok ER (rcvC 3 2) 0 0)
    ∗ (dutyTok ER (sndC 0 5) 0 0 ∗ dutyTok ER (rcvC 3 3) 0 0)
    ∗ (dutyTok ER (sndC 0 6) 0 0 ∗ dutyTok ER (rcvC 3 0) 0 0)
    ∗ (dutyTok ER (sndC 0 7) 0 0 ∗ dutyTok ER (rcvC 3 1) 0 0)
    ∗ made PK 0 0 0 ∗ (∃ f, pkt (rcvS 0) 0 fullShare f)
    ∗ made PK 0 1 1 ∗ (∃ f, pkt (rcvS 1) 0 fullShare f)
    ∗ made PK 0 2 2 ∗ (∃ f, pkt (rcvS 2) 0 fullShare f)
    ∗ made PK 0 3 3 ∗ (∃ f, pkt (rcvS 3) 0 fullShare f))

/-- What device 0 has when its exchange is done. -/
def post0 : sProp 𝕄 :=
  iprop((∃ W, owes ((0 : Dev nD) : Thread nD τ) 0 W) ∗ atPos ER (barC 0) 1 ∅ 0
    ∗ (got PK 0 4 fullShare ∗ atPos ER (rcvC 0 4) 1 ∅ 0)
    ∗ (got PK 0 5 fullShare ∗ atPos ER (rcvC 0 5) 1 ∅ 0)
    ∗ got PK 0 0 fullShare ∗ (∃ f, pkt (ownS 0) 0 shK f)
    ∗ got PK 0 1 fullShare ∗ (∃ f, pkt (ownS 1) 0 shK f)
    ∗ got PK 0 2 fullShare ∗ (∃ f, pkt (ownS 2) 0 shK f)
    ∗ got PK 0 3 fullShare ∗ (∃ f, pkt (ownS 3) 0 shK f)
    ∗ cred (tallyAt (sndC 0 0) () N)
    ∗ cred (tallyAt (sndC 0 1) () N)
    ∗ cred (tallyAt (sndC 0 2) () N)
    ∗ cred (tallyAt (sndC 0 3) () N)
    ∗ cred (tallyAt (sndC 0 4) () N)
    ∗ cred (tallyAt (sndC 0 5) () N)
    ∗ cred (tallyAt (sndC 0 6) () N)
    ∗ cred (tallyAt (sndC 0 7) () N))
variable {α : Type} (a0 : Memref sig .tc .vmem S2x256x512 .bf16) (h0 : a0.IsWhole) (a1 : Memref sig .tc .vmem S512x256 .bf16) (h1 : a1.IsWhole)
  (a2 : Memref sig .tc .vmem S2x256x256 .bf16) (h2 : a2.IsWhole) (a3 : Memref sig .tc .vmem S2x256x256 .bf16) (h3 : a3.IsWhole)
  (a4 : Memref sig .tc .vmem S256x512 .bf16) (h4 : a4.IsWhole) (a5 : Memref sig .tc .vmem S2x256x512 .f32) (h5 : a5.IsWhole)

/-- The exchange's statements. -/
abbrev prog0 (k0_h3 : k0_cond3 0 = 1#1)
    (kk : PUnit → Prog (TpuEff nD τ sig (Elt F) Λ₀ .tc) α) : Prog (TpuEff nD τ sig (Elt F) Λ₀ .tc) α := do
          k0_part22 a0 h0 a1 h1 a2 h2 a3 h3 a4 h4 a5 h5 ownM (Memref.isWhole_whole _) rcvM (Memref.isWhole_whole _) cc0_scratch2 cc0_scratch3 0 (SemArray.scalar (sig.barrier 0 rfl)) k0_h3
          k0_part23 a0 h0 a1 h1 a2 h2 a3 h3 a4 h4 a5 h5 ownM (Memref.isWhole_whole _) rcvM (Memref.isWhole_whole _) cc0_scratch2 cc0_scratch3 0 k0_h3
          k0_part24 a0 h0 a1 h1 a2 h2 a3 h3 a4 h4 a5 h5 ownM (Memref.isWhole_whole _) rcvM (Memref.isWhole_whole _) cc0_scratch2 cc0_scratch3 0 k0_h3
          k0_part25 a0 h0 a1 h1 a2 h2 a3 h3 a4 h4 a5 h5 ownM (Memref.isWhole_whole _) rcvM (Memref.isWhole_whole _) cc0_scratch2 cc0_scratch3 0 k0_h3
          let v427 : Vec F S1x9x64x64 .bf16 ← Prog.lift (.load ownM (Rect.unit (s := S4x9x64x64) ![3, 0, 0, 0] S1x9x64x64.size inb_S4x9x64x64_S1x9x64x64_3_0_0_0).toLoadRect (View.loadsAt_vmem h_S1x9x64x64))
          let v429 : Vec F S1x9x64x64 .bf16 ← Prog.lift (.load rcvM (Rect.unit (s := S6x9x64x64) ![3, 0, 0, 0] S1x9x64x64.size inb_S6x9x64x64_S1x9x64x64_3_0_0_0).toLoadRect (View.loadsAt_vmem h_S1x9x64x64))
          Prog.lift (.store rcvM (Rect.unit (s := S6x9x64x64) ![3, 0, 0, 0] S1x9x64x64.size inb_S6x9x64x64_S1x9x64x64_3_0_0_0) (k0_pay184 v427) Finset.univ (View.stores_vmem h_S1x9x64x64 ((Memref.isWhole_whole cc0_scratch1).storeExact_slice rfl _ packedbf16_S6x9x64x64_S1x9x64x64_3_0_0_0) (fun _ => rfl)) (.inl rfl))
          let v434 : DmaSems sig S1 := cc0_scratch3.slice (Rect.unit (s := S6) ![4] S1.size inb_S6_S1_4)
          let v435 : DmaSems sig S_ := v434.squeeze S_ squeezes_S1_S_
          let v436 : Memref sig .tc .vmem S1x9x64x64 .bf16 := rcvM.slice (Rect.unit (s := S6x9x64x64) ![4, 0, 0, 0] S1x9x64x64.size inb_S6x9x64x64_S1x9x64x64_4_0_0_0) (fun _ => rfl)
          let v437 : Memref sig .tc .vmem S9x64x64 .bf16 := v436.squeeze S9x64x64 squeezes_S1x9x64x64_S9x64x64
          let v438 : Memref sig .tc .vmem S1x9x64x64 .bf16 := rcvM.slice (Rect.unit (s := S6x9x64x64) ![4, 0, 0, 0] S1x9x64x64.size inb_S6x9x64x64_S1x9x64x64_4_0_0_0) (fun _ => rfl)
          let v439 : Memref sig .tc .vmem S9x64x64 .bf16 := v438.squeeze S9x64x64 squeezes_S1x9x64x64_S9x64x64
          Prog.lift (.waitDma2 v435.sem v439 v437 (((Memref.isWhole_whole cc0_scratch1).wordExact_slice rfl _ wordsbf16_S6x9x64x64_S1x9x64x64_4_0_0_0).reshape _ _) (((Memref.isWhole_whole cc0_scratch1).wordExact_slice rfl _ wordsbf16_S6x9x64x64_S1x9x64x64_4_0_0_0).reshape _ _))
          let v442 : DmaSems sig S1 := cc0_scratch3.slice (Rect.unit (s := S6) ![5] S1.size inb_S6_S1_5)
          let v443 : DmaSems sig S_ := v442.squeeze S_ squeezes_S1_S_
          let v444 : Memref sig .tc .vmem S1x9x64x64 .bf16 := rcvM.slice (Rect.unit (s := S6x9x64x64) ![5, 0, 0, 0] S1x9x64x64.size inb_S6x9x64x64_S1x9x64x64_5_0_0_0) (fun _ => rfl)
          let v445 : Memref sig .tc .vmem S9x64x64 .bf16 := v444.squeeze S9x64x64 squeezes_S1x9x64x64_S9x64x64
          let v446 : Memref sig .tc .vmem S1x9x64x64 .bf16 := rcvM.slice (Rect.unit (s := S6x9x64x64) ![5, 0, 0, 0] S1x9x64x64.size inb_S6x9x64x64_S1x9x64x64_5_0_0_0) (fun _ => rfl)
          let v447 : Memref sig .tc .vmem S9x64x64 .bf16 := v446.squeeze S9x64x64 squeezes_S1x9x64x64_S9x64x64
          Prog.lift (.waitDma2 v443.sem v447 v445 (((Memref.isWhole_whole cc0_scratch1).wordExact_slice rfl _ wordsbf16_S6x9x64x64_S1x9x64x64_5_0_0_0).reshape _ _) (((Memref.isWhole_whole cc0_scratch1).wordExact_slice rfl _ wordsbf16_S6x9x64x64_S1x9x64x64_5_0_0_0).reshape _ _))
          kk ⟨⟩

set_option maxHeartbeats 4000000 in
set_option maxRecDepth 65536 in
theorem comm0 (k0_h3 : k0_cond3 0 = 1#1) (kk : PUnit → Prog (TpuEff nD τ sig (Elt F) Λ₀ .tc) α)
    (Q : α → sProp (MT nD τ sig Unit (Elt F) ℕ UU ℕ)) :
    pre0 PK K ⊢ iprop((post0 PK -∗ wp frame (wpE (defs₀ (F := F)) Variants.none (0 : Dev nD) none) Set.univ (kk ⟨⟩) Q)
      -∗ wp frame (wpE (defs₀ (F := F)) Variants.none (0 : Dev nD) none) Set.univ (prog0 a0 h0 a1 h1 a2 h2 a3 h3 a4 h4 a5 h5 k0_h3 kk) Q) := by
  unfold prog0
  simp only [k0_part22_eq_skeleton, k0_part23_eq_skeleton, k0_part24_eq_skeleton, k0_part25_eq_skeleton]
  unfold k0_part22_skel k0_part23_skel k0_part24_skel k0_part25_skel
  unfold pre0 made
  iintro ⟨#HR, HO, HcB, HaB, ⟨Hc4, Ha4⟩, ⟨Hc5, Ha5⟩, ⟨Ht0, Hu0⟩, ⟨Ht1, Hu1⟩, ⟨Ht2, Hu2⟩, ⟨Ht3, Hu3⟩, ⟨Ht4, Hu4⟩, ⟨Ht5, Hu5⟩, ⟨Ht6, Hu6⟩, ⟨Ht7, Hu7⟩, ⟨%fo0, Ho0, %ho0⟩, ⟨%fs0, Hb0⟩, ⟨%fo1, Ho1, %ho1⟩, ⟨%fs1, Hb1⟩, ⟨%fo2, Ho2, %ho2⟩, ⟨%fs2, Hb2⟩, ⟨%fo3, Ho3, %ho3⟩, ⟨%fs3, Hb3⟩⟩ Hk
  -- the other devices' signals, and the slots they lend
  icases HO with ⟨%W, HO⟩
  iapply (step_bar PK K 0 Variants.none _ rfl [(1, 0), (1, 1), (1, 2), (1, 3), (3, 2), (3, 3), (3, 0), (3, 1)]) $$ [HO HcB HaB]
  · isplitr; · iexact HR
    isplitl [HO]; · iexact HO
    isplitl [HcB]; · iexact HcB
    iexact HaB
  iintro ⟨HO, HaB, Hp⟩
  ihave Hp := (bar_three (by decide) (by decide) (by decide) (by decide) (fun p => barPay (F := F) 0 p) (c := 0) (a := 1) (b := 2) (d := 3)) $$ Hp
  icases Hp with ⟨Hp1, -, Hp3⟩
  ihave Hp1 := (Entails.of_eq (show barPay (F := F) 0 1 = iprop(lend 1 0 ∗ lend 1 1 ∗ lend 1 2 ∗ lend 1 3 ∗ emp) from rfl)) $$ Hp1
  icases Hp1 with ⟨HL10, HL11, HL12, HL13, -⟩
  ihave Hp3 := (Entails.of_eq (show barPay (F := F) 0 3 = iprop(lend 3 0 ∗ lend 3 1 ∗ lend 3 2 ∗ lend 3 3 ∗ emp) from rfl)) $$ Hp3
  icases Hp3 with ⟨HL30, HL31, HL32, HL33, -⟩
  ihave Ho0 := (halves 0 (ownS 0) fo0) $$ Ho0
  icases Ho0 with ⟨Ho0, HoK0⟩
  ihave Ho0 := (quarters 0 (ownS 0) fo0) $$ Ho0
  icases Ho0 with ⟨HoA0, HoB0⟩
  ihave Ho1 := (halves 0 (ownS 1) fo1) $$ Ho1
  icases Ho1 with ⟨Ho1, HoK1⟩
  ihave Ho1 := (quarters 0 (ownS 1) fo1) $$ Ho1
  icases Ho1 with ⟨HoA1, HoB1⟩
  ihave Ho2 := (halves 0 (ownS 2) fo2) $$ Ho2
  icases Ho2 with ⟨Ho2, HoK2⟩
  ihave Ho2 := (quarters 0 (ownS 2) fo2) $$ Ho2
  icases Ho2 with ⟨HoA2, HoB2⟩
  ihave Ho3 := (halves 0 (ownS 3) fo3) $$ Ho3
  icases Ho3 with ⟨Ho3, HoK3⟩
  ihave Ho3 := (quarters 0 (ownS 3) fo3) $$ Ho3
  icases Ho3 with ⟨HoA3, HoB3⟩
  -- packet 0 goes to device 1
  iapply (step_send PK K 0 Variants.none 0 1 0 rfl rfl _ _ _ _ _ rfl rfl (Fin.ext (show k0_dev4 = 1 from rfl)) rfl rfl rfl [(1, 1), (1, 2), (1, 3), (3, 2), (3, 3), (3, 0), (3, 1)] fo0 ho0) $$ [HO HoA0 HL10 Ht0 Hu0]
  · isplitr; · iexact HR
    isplitl [HO]; · iexact HO
    isplitl [HoA0]; · iexact HoA0
    isplitl [HL10]; · iexact HL10
    isplitl [Ht0]; · iexact Ht0
    iexact Hu0
  iintro ⟨HO, HS0⟩
  -- packet 1 goes to device 1
  iapply (step_send PK K 0 Variants.none 1 1 1 rfl rfl _ _ _ _ _ rfl rfl (Fin.ext (show k0_dev5 = 1 from rfl)) rfl rfl rfl [(1, 2), (1, 3), (3, 2), (3, 3), (3, 0), (3, 1)] fo1 ho1) $$ [HO HoA1 HL11 Ht1 Hu1]
  · isplitr; · iexact HR
    isplitl [HO]; · iexact HO
    isplitl [HoA1]; · iexact HoA1
    isplitl [HL11]; · iexact HL11
    isplitl [Ht1]; · iexact Ht1
    iexact Hu1
  iintro ⟨HO, HS1⟩
  -- packet 2 goes to device 1
  iapply (step_send PK K 0 Variants.none 2 1 2 rfl rfl _ _ _ _ _ rfl rfl (Fin.ext (show k0_dev6 = 1 from rfl)) rfl rfl rfl [(1, 3), (3, 2), (3, 3), (3, 0), (3, 1)] fo2 ho2) $$ [HO HoA2 HL12 Ht2 Hu2]
  · isplitr; · iexact HR
    isplitl [HO]; · iexact HO
    isplitl [HoA2]; · iexact HoA2
    isplitl [HL12]; · iexact HL12
    isplitl [Ht2]; · iexact Ht2
    iexact Hu2
  iintro ⟨HO, HS2⟩
  -- packet 3 goes to device 1
  iapply (step_send PK K 0 Variants.none 3 1 3 rfl rfl _ _ _ _ _ rfl rfl (Fin.ext (show k0_dev7 = 1 from rfl)) rfl rfl rfl [(3, 2), (3, 3), (3, 0), (3, 1)] fo3 ho3) $$ [HO HoA3 HL13 Ht3 Hu3]
  · isplitr; · iexact HR
    isplitl [HO]; · iexact HO
    isplitl [HoA3]; · iexact HoA3
    isplitl [HL13]; · iexact HL13
    isplitl [Ht3]; · iexact Ht3
    iexact Hu3
  iintro ⟨HO, HS3⟩
  -- packet 2 goes to device 3
  iapply (step_send PK K 0 Variants.none 4 3 2 rfl rfl _ _ _ _ _ rfl rfl (Fin.ext (show k0_dev8 = 3 from rfl)) rfl rfl rfl [(3, 3), (3, 0), (3, 1)] fo2 ho2) $$ [HO HoB2 HL32 Ht4 Hu4]
  · isplitr; · iexact HR
    isplitl [HO]; · iexact HO
    isplitl [HoB2]; · iexact HoB2
    isplitl [HL32]; · iexact HL32
    isplitl [Ht4]; · iexact Ht4
    iexact Hu4
  iintro ⟨HO, HS4⟩
  -- packet 3 goes to device 3
  iapply (step_send PK K 0 Variants.none 5 3 3 rfl rfl _ _ _ _ _ rfl rfl (Fin.ext (show k0_dev9 = 3 from rfl)) rfl rfl rfl [(3, 0), (3, 1)] fo3 ho3) $$ [HO HoB3 HL33 Ht5 Hu5]
  · isplitr; · iexact HR
    isplitl [HO]; · iexact HO
    isplitl [HoB3]; · iexact HoB3
    isplitl [HL33]; · iexact HL33
    isplitl [Ht5]; · iexact Ht5
    iexact Hu5
  iintro ⟨HO, HS5⟩
  -- packet 0 goes to device 3
  iapply (step_send PK K 0 Variants.none 6 3 0 rfl rfl _ _ _ _ _ rfl rfl (Fin.ext (show k0_dev10 = 3 from rfl)) rfl rfl rfl [(3, 1)] fo0 ho0) $$ [HO HoB0 HL30 Ht6 Hu6]
  · isplitr; · iexact HR
    isplitl [HO]; · iexact HO
    isplitl [HoB0]; · iexact HoB0
    isplitl [HL30]; · iexact HL30
    isplitl [Ht6]; · iexact Ht6
    iexact Hu6
  iintro ⟨HO, HS6⟩
  -- packet 1 goes to device 3
  iapply (step_send PK K 0 Variants.none 7 3 1 rfl rfl _ _ _ _ _ rfl rfl (Fin.ext (show k0_dev11 = 3 from rfl)) rfl rfl rfl [] fo1 ho1) $$ [HO HoB1 HL31 Ht7 Hu7]
  · isplitr; · iexact HR
    isplitl [HO]; · iexact HO
    isplitl [HoB1]; · iexact HoB1
    isplitl [HL31]; · iexact HL31
    isplitl [Ht7]; · iexact Ht7
    iexact Hu7
  iintro ⟨HO, HS7⟩
  -- the own packet 0 into slot 0
  iapply (step_ld 0 Variants.none ownM (Rect.unit (s := S4x9x64x64) ![0, 0, 0, 0] S1x9x64x64.size inb_S4x9x64x64_S1x9x64x64_0_0_0_0) (fun _ => rfl)
    squeezes_S1x9x64x64_S9x64x64 (q := shK) (f := fo0)) $$ [HoK0]
  · iexact HoK0
  iintro HoK0
  iapply (step_ld 0 Variants.none rcvM (Rect.unit (s := S6x9x64x64) ![0, 0, 0, 0] S1x9x64x64.size inb_S6x9x64x64_S1x9x64x64_0_0_0_0) (fun _ => rfl)
    squeezes_S1x9x64x64_S9x64x64 (q := fullShare) (f := fs0)) $$ [Hb0]
  · iexact Hb0
  iintro Hb0
  iapply (step_st 0 Variants.none rcvM (Rect.unit (s := S6x9x64x64) ![0, 0, 0, 0] S1x9x64x64.size inb_S6x9x64x64_S1x9x64x64_0_0_0_0) (fun _ => rfl)
    squeezes_S1x9x64x64_S9x64x64 shapeCasts_S1x9x64x64_S9x64x64 (f := fs0)) $$ [Hb0]
  · iexact Hb0
  iintro ⟨%fs0', Hb0, %hy0⟩
  have hs0 : IsPk (PK 0) ((rcvS 0).view.read (Elt F) fs0') :=
    isPk_copy (ownM.view.readAt (Elt F) (Rect.unit (s := S4x9x64x64) ![0, 0, 0, 0] S1x9x64x64.size inb_S4x9x64x64_S1x9x64x64_0_0_0_0).toLoadRect fo0)
      shapeCasts_S1x9x64x64_S9x64x64 shapeCasts_S9x64x64_S1x9x64x64 hy0 rfl ho0
  -- the own packet 1 into slot 1
  iapply (step_ld 0 Variants.none ownM (Rect.unit (s := S4x9x64x64) ![1, 0, 0, 0] S1x9x64x64.size inb_S4x9x64x64_S1x9x64x64_1_0_0_0) (fun _ => rfl)
    squeezes_S1x9x64x64_S9x64x64 (q := shK) (f := fo1)) $$ [HoK1]
  · iexact HoK1
  iintro HoK1
  iapply (step_ld 0 Variants.none rcvM (Rect.unit (s := S6x9x64x64) ![1, 0, 0, 0] S1x9x64x64.size inb_S6x9x64x64_S1x9x64x64_1_0_0_0) (fun _ => rfl)
    squeezes_S1x9x64x64_S9x64x64 (q := fullShare) (f := fs1)) $$ [Hb1]
  · iexact Hb1
  iintro Hb1
  iapply (step_st 0 Variants.none rcvM (Rect.unit (s := S6x9x64x64) ![1, 0, 0, 0] S1x9x64x64.size inb_S6x9x64x64_S1x9x64x64_1_0_0_0) (fun _ => rfl)
    squeezes_S1x9x64x64_S9x64x64 shapeCasts_S1x9x64x64_S9x64x64 (f := fs1)) $$ [Hb1]
  · iexact Hb1
  iintro ⟨%fs1', Hb1, %hy1⟩
  have hs1 : IsPk (PK 1) ((rcvS 1).view.read (Elt F) fs1') :=
    isPk_copy (ownM.view.readAt (Elt F) (Rect.unit (s := S4x9x64x64) ![1, 0, 0, 0] S1x9x64x64.size inb_S4x9x64x64_S1x9x64x64_1_0_0_0).toLoadRect fo1)
      shapeCasts_S1x9x64x64_S9x64x64 shapeCasts_S9x64x64_S1x9x64x64 hy1 rfl ho1
  -- the own packet 2 into slot 2
  iapply (step_ld 0 Variants.none ownM (Rect.unit (s := S4x9x64x64) ![2, 0, 0, 0] S1x9x64x64.size inb_S4x9x64x64_S1x9x64x64_2_0_0_0) (fun _ => rfl)
    squeezes_S1x9x64x64_S9x64x64 (q := shK) (f := fo2)) $$ [HoK2]
  · iexact HoK2
  iintro HoK2
  iapply (step_ld 0 Variants.none rcvM (Rect.unit (s := S6x9x64x64) ![2, 0, 0, 0] S1x9x64x64.size inb_S6x9x64x64_S1x9x64x64_2_0_0_0) (fun _ => rfl)
    squeezes_S1x9x64x64_S9x64x64 (q := fullShare) (f := fs2)) $$ [Hb2]
  · iexact Hb2
  iintro Hb2
  iapply (step_st 0 Variants.none rcvM (Rect.unit (s := S6x9x64x64) ![2, 0, 0, 0] S1x9x64x64.size inb_S6x9x64x64_S1x9x64x64_2_0_0_0) (fun _ => rfl)
    squeezes_S1x9x64x64_S9x64x64 shapeCasts_S1x9x64x64_S9x64x64 (f := fs2)) $$ [Hb2]
  · iexact Hb2
  iintro ⟨%fs2', Hb2, %hy2⟩
  have hs2 : IsPk (PK 2) ((rcvS 2).view.read (Elt F) fs2') :=
    isPk_copy (ownM.view.readAt (Elt F) (Rect.unit (s := S4x9x64x64) ![2, 0, 0, 0] S1x9x64x64.size inb_S4x9x64x64_S1x9x64x64_2_0_0_0).toLoadRect fo2)
      shapeCasts_S1x9x64x64_S9x64x64 shapeCasts_S9x64x64_S1x9x64x64 hy2 rfl ho2
  -- the own packet 3 into slot 3
  iapply (step_ld 0 Variants.none ownM (Rect.unit (s := S4x9x64x64) ![3, 0, 0, 0] S1x9x64x64.size inb_S4x9x64x64_S1x9x64x64_3_0_0_0) (fun _ => rfl)
    squeezes_S1x9x64x64_S9x64x64 (q := shK) (f := fo3)) $$ [HoK3]
  · iexact HoK3
  iintro HoK3
  iapply (step_ld 0 Variants.none rcvM (Rect.unit (s := S6x9x64x64) ![3, 0, 0, 0] S1x9x64x64.size inb_S6x9x64x64_S1x9x64x64_3_0_0_0) (fun _ => rfl)
    squeezes_S1x9x64x64_S9x64x64 (q := fullShare) (f := fs3)) $$ [Hb3]
  · iexact Hb3
  iintro Hb3
  iapply (step_st 0 Variants.none rcvM (Rect.unit (s := S6x9x64x64) ![3, 0, 0, 0] S1x9x64x64.size inb_S6x9x64x64_S1x9x64x64_3_0_0_0) (fun _ => rfl)
    squeezes_S1x9x64x64_S9x64x64 shapeCasts_S1x9x64x64_S9x64x64 (f := fs3)) $$ [Hb3]
  · iexact Hb3
  iintro ⟨%fs3', Hb3, %hy3⟩
  have hs3 : IsPk (PK 3) ((rcvS 3).view.read (Elt F) fs3') :=
    isPk_copy (ownM.view.readAt (Elt F) (Rect.unit (s := S4x9x64x64) ![3, 0, 0, 0] S1x9x64x64.size inb_S4x9x64x64_S1x9x64x64_3_0_0_0).toLoadRect fo3)
      shapeCasts_S1x9x64x64_S9x64x64 shapeCasts_S9x64x64_S1x9x64x64 hy3 rfl ho3
  -- packet 4 arrives
  iapply (step_rcv PK K 0 Variants.none 4 rfl _ rfl [] (by decide) (rcvS 4) (rcvS 4) rfl) $$ [HO Hc4 Ha4]
  · isplitr; · iexact HR
    isplitl [HO]; · iexact HO
    isplitl [Hc4]; · iexact Hc4
    iexact Ha4
  unfold rcvPay
  iintro ⟨HO, Ha4, ⟨%fs4', Hb4, %hs4⟩⟩
  -- packet 5 arrives
  iapply (step_rcv PK K 0 Variants.none 5 rfl _ rfl [] (by decide) (rcvS 5) (rcvS 5) rfl) $$ [HO Hc5 Ha5]
  · isplitr; · iexact HR
    isplitl [HO]; · iexact HO
    isplitl [Hc5]; · iexact Hc5
    iexact Ha5
  unfold rcvPay
  iintro ⟨HO, Ha5, ⟨%fs5', Hb5, %hs5⟩⟩
  simp only [Prog.bind]
  iapply Hk
  unfold post0 got
  isplitl [HO]; · iexact HO
  isplitl [HaB]; · iexact HaB
  isplitl [Hb4 Ha4]
  · isplitl [Hb4]
    · iexists fs4'
      isplitl [Hb4]; · iexact Hb4
      ipureintro; exact hs4
    iexact Ha4
  isplitl [Hb5 Ha5]
  · isplitl [Hb5]
    · iexists fs5'
      isplitl [Hb5]; · iexact Hb5
      ipureintro; exact hs5
    iexact Ha5
  isplitl [Hb0]
  · iexists fs0'
    isplitl [Hb0]; · iexact Hb0
    ipureintro; exact hs0
  isplitl [HoK0]
  · iexists fo0; iexact HoK0
  isplitl [Hb1]
  · iexists fs1'
    isplitl [Hb1]; · iexact Hb1
    ipureintro; exact hs1
  isplitl [HoK1]
  · iexists fo1; iexact HoK1
  isplitl [Hb2]
  · iexists fs2'
    isplitl [Hb2]; · iexact Hb2
    ipureintro; exact hs2
  isplitl [HoK2]
  · iexists fo2; iexact HoK2
  isplitl [Hb3]
  · iexists fs3'
    isplitl [Hb3]; · iexact Hb3
    ipureintro; exact hs3
  isplitl [HoK3]
  · iexists fo3; iexact HoK3
  isplitl [HS0]
  · iexact HS0
  isplitl [HS1]
  · iexact HS1
  isplitl [HS2]
  · iexact HS2
  isplitl [HS3]
  · iexact HS3
  isplitl [HS4]
  · iexact HS4
  isplitl [HS5]
  · iexact HS5
  isplitl [HS6]
  · iexact HS6
  iexact HS7

end Cert.KernelIdeal.Att
-- ==== Proof.Comp0.lean ====
/-
  Device 0's packets: every head's window sums over its keys.
-/
module

public import proofs.«01_k».proof.Proof.Packets

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {α : Type} (c : Dev nD) (a0 : Memref sig .tc .vmem S2x256x512 .bf16) (h0 : a0.IsWhole) (a1 : Memref sig .tc .vmem S512x256 .bf16) (h1 : a1.IsWhole)
  (a2 : Memref sig .tc .vmem S2x256x256 .bf16) (h2 : a2.IsWhole) (a3 : Memref sig .tc .vmem S2x256x256 .bf16) (h3 : a3.IsWhole)
  (a4 : Memref sig .tc .vmem S256x512 .bf16) (h4 : a4.IsWhole) (a5 : Memref sig .tc .vmem S2x256x512 .f32) (h5 : a5.IsWhole)

/-- The statements that fill the packets. -/
abbrev fill0 (kk : PUnit → Prog (TpuEff nD τ sig (Elt F) Λ₀ .tc) α) : Prog (TpuEff nD τ sig (Elt F) Λ₀ .tc) α := do
          let ⟨v333, v339, v342, v344, v346, v358, v362, v367⟩ : Σ' (v333 : FVec F S512x256 .bf16) (v339 : IVec S256x256 1) (v342 : FVec F S256x256 .f32) (v344 : FVec F S256x256 .bf16) (v346 : FVec F S256x256 .bf16) (v358 : FVec F S256x1 .bf16) (v362 : FVec F S256x64 .bf16), FVec F S64x1 .bf16 ← k0_part1 a0 h0 a1 h1 a2 h2 a3 h3 a4 h4 a5 h5 ownM (Memref.isWhole_whole _) rcvM (Memref.isWhole_whole _) cc0_scratch2 cc0_scratch3
          let v394 : FVec F S1x1x64x1 .bf16 ← k0_part2 a0 h0 a1 h1 a2 h2 a3 h3 a4 h4 a5 h5 ownM (Memref.isWhole_whole _) rcvM (Memref.isWhole_whole _) cc0_scratch2 cc0_scratch3 v358 v362 v367
          let ⟨v406, v410, v427⟩ : Σ' (v406 : FVec F S256x1 .bf16) (v410 : FVec F S256x64 .bf16), FVec F S64x64 .bf16 ← k0_part3 a0 h0 a1 h1 a2 h2 a3 h3 a4 h4 a5 h5 ownM (Memref.isWhole_whole _) rcvM (Memref.isWhole_whole _) cc0_scratch2 cc0_scratch3 v339 v342 v344 v346 v394
          let ⟨v454, v458, v459⟩ : Σ' (v454 : FVec F S256x1 .bf16) (v458 : FVec F S256x64 .bf16), FVec F S64x64 .bf16 ← k0_part4 a0 h0 a1 h1 a2 h2 a3 h3 a4 h4 a5 h5 ownM (Memref.isWhole_whole _) rcvM (Memref.isWhole_whole _) cc0_scratch2 cc0_scratch3 v339 v342 v344 v346 v406 v410 v427
          let v487 : FVec F S64x1 .bf16 ← k0_part5 a0 h0 a1 h1 a2 h2 a3 h3 a4 h4 a5 h5 ownM (Memref.isWhole_whole _) rcvM (Memref.isWhole_whole _) cc0_scratch2 cc0_scratch3 v454 v458 v459
          let ⟨v502, v506, v519⟩ : Σ' (v502 : FVec F S256x1 .bf16) (v506 : FVec F S256x64 .bf16), FVec F S64x1 .bf16 ← k0_part6 a0 h0 a1 h1 a2 h2 a3 h3 a4 h4 a5 h5 ownM (Memref.isWhole_whole _) rcvM (Memref.isWhole_whole _) cc0_scratch2 cc0_scratch3 v339 v342 v344 v346 v487
          let ⟨v541, v543, v545, v546, v547⟩ : Σ' (v541 : FVec F S256x256 .f32) (v543 : FVec F S256x256 .bf16) (v545 : FVec F S256x256 .bf16) (v546 : FVec F S256x64 .f32), FVec F S256x64 .f32 ← k0_part7 a0 h0 a1 h1 a2 h2 a3 h3 a4 h4 a5 h5 ownM (Memref.isWhole_whole _) rcvM (Memref.isWhole_whole _) cc0_scratch2 cc0_scratch3 v333 v502 v506 v519
          let ⟨v557, v561, v578, v579⟩ : Σ' (v557 : FVec F S256x1 .bf16) (v561 : FVec F S256x64 .bf16) (v578 : FVec F S64x64 .bf16), Vec F S1x1x64x64 .bf16 ← k0_part8 a0 h0 a1 h1 a2 h2 a3 h3 a4 h4 a5 h5 ownM (Memref.isWhole_whole _) rcvM (Memref.isWhole_whole _) cc0_scratch2 cc0_scratch3 v339 v543 v545 v546 v547
          let ⟨v605, v609⟩ : Σ' (v605 : FVec F S256x1 .bf16), FVec F S256x64 .bf16 ← k0_part9 a0 h0 a1 h1 a2 h2 a3 h3 a4 h4 a5 h5 ownM (Memref.isWhole_whole _) rcvM (Memref.isWhole_whole _) cc0_scratch2 cc0_scratch3 v339 v541 v543 v545 v557 v561 v578 v579
          let ⟨v638, v639⟩ : Σ' (v638 : FVec F S64x1 .bf16), Vec F S1x1x64x1 .bf16 ← k0_part10 a0 h0 a1 h1 a2 h2 a3 h3 a4 h4 a5 h5 ownM (Memref.isWhole_whole _) rcvM (Memref.isWhole_whole _) cc0_scratch2 cc0_scratch3 v605 v609
          let ⟨v653, v657⟩ : Σ' (v653 : FVec F S256x1 .bf16), FVec F S256x64 .bf16 ← k0_part11 a0 h0 a1 h1 a2 h2 a3 h3 a4 h4 a5 h5 ownM (Memref.isWhole_whole _) rcvM (Memref.isWhole_whole _) cc0_scratch2 cc0_scratch3 v339 v541 v543 v545 v638 v639
          let ⟨v701, v705, v706⟩ : Σ' (v701 : FVec F S256x1 .bf16) (v705 : FVec F S256x64 .bf16), FVec F S64x64 .bf16 ← k0_part12 a0 h0 a1 h1 a2 h2 a3 h3 a4 h4 a5 h5 ownM (Memref.isWhole_whole _) rcvM (Memref.isWhole_whole _) cc0_scratch2 cc0_scratch3 v339 v541 v543 v545 v653 v657
          k0_part13 a0 h0 a1 h1 a2 h2 a3 h3 a4 h4 a5 h5 ownM (Memref.isWhole_whole _) rcvM (Memref.isWhole_whole _) cc0_scratch2 cc0_scratch3 v701 v705 v706
          let v735 : Vec F S1x1x64x1 .bf16 ← Prog.lift (.load ownM (Rect.unit (s := S4x9x64x64) ![3, 8, 0, 7] S1x1x64x1.size inb_S4x9x64x64_S1x1x64x1_3_8_0_7).toLoadRect (View.loadsAt_vmem h_S1x1x64x1))
          Prog.lift (.store ownM (Rect.unit (s := S4x9x64x64) ![3, 8, 0, 7] S1x1x64x1.size inb_S4x9x64x64_S1x1x64x1_3_8_0_7) (k0_pay181 v701) Finset.univ (View.stores_vmem h_S1x1x64x1 ((Memref.isWhole_whole cc0_scratch0).storeExact_slice rfl _ packedbf16_S4x9x64x64_S1x1x64x1_3_8_0_7) (fun _ => rfl)) (.inl rfl))
          kk ⟨⟩

/-- What the buffer holds then, where it carries a result. -/
def Filled0 (X : Vec F S2x256x512 .bf16) (W : Vec F S512x256 .bf16) (K V : Vec F S2x256x256 .bf16) (v : S4x9x64x64.Idx → F .bf16) : Prop :=
  ∀ y, ((y 1).val < 8 ∨ (y 3).val < 8) → v y = bufOf (o0 X W K V) (s0 X W K) y

set_option maxHeartbeats 8000000 in
set_option maxRecDepth 65536 in
theorem comp0 (q : PosShare TreeShare) (f0 : Buf (Elt F) (a0.view.loc (c : Thread nD τ))) (f1 : Buf (Elt F) (a1.view.loc (c : Thread nD τ)))
    (f2 : Buf (Elt F) (a2.view.loc (c : Thread nD τ))) (f3 : Buf (Elt F) (a3.view.loc (c : Thread nD τ))) (f6 : Buf (Elt F) (ownM.view.loc (c : Thread nD τ)))
    (kk : PUnit → Prog (TpuEff nD τ sig (Elt F) Λ₀ .tc) α) (Q : α → sProp (MT nD τ sig Unit (Elt F) ℕ UU ℕ)) :
    iprop((a0.view.loc (c : Thread nD τ) ↦{q} f0) ∗ (a1.view.loc (c : Thread nD τ) ↦{q} f1) ∗ (a2.view.loc (c : Thread nD τ) ↦{q} f2)
        ∗ (a3.view.loc (c : Thread nD τ) ↦{q} f3) ∗ (ownM.view.loc (c : Thread nD τ) ↦{fullShare} f6))
      ⊢ iprop(((a0.view.loc (c : Thread nD τ) ↦{q} f0) ∗ (a1.view.loc (c : Thread nD τ) ↦{q} f1) ∗ (a2.view.loc (c : Thread nD τ) ↦{q} f2)
          ∗ (a3.view.loc (c : Thread nD τ) ↦{q} f3) ∗ (∃ f, (ownM.view.loc (c : Thread nD τ) ↦{fullShare} f)
            ∗ ⌜Filled0 (a0.view.read (Elt F) f0) (a1.view.read (Elt F) f1) (a2.view.read (Elt F) f2) (a3.view.read (Elt F) f3) (ownM.view.read (Elt F) f)⌝)
          -∗ wp frame (wpE (defs₀ (F := F)) Variants.none c none) Set.univ (kk ⟨⟩) Q)
        -∗ wp frame (wpE (defs₀ (F := F)) Variants.none c none) Set.univ (fill0 a0 h0 a1 h1 a2 h2 a3 h3 a4 h4 a5 h5 kk) Q) := by
  unfold fill0
  iintro ⟨H0, H1, H2, H3, H6⟩ Hk
  sl_exec_parts
  iapply Hk
  isplitl [H0]; · iexact H0
  isplitl [H1]; · iexact H1
  isplitl [H2]; · iexact H2
  isplitl [H3]; · iexact H3
  iexists _
  isplitl [H6]; · iexact H6
  ipureintro
  intro y hy
  refine View.read_writes_apply_of_pieces (Val := Elt F) ownM.view _ (bufOf (o0 (a0.view.read (Elt F) f0) (a1.view.read (Elt F) f1) (a2.view.read (Elt F) f2) (a3.view.read (Elt F) f3))
    (s0 (a0.view.read (Elt F) f0) (a1.view.read (Elt F) f1) (a2.view.read (Elt F) f2))) _ ?_ y ?_
  · clear hy
    refine List.forall_mem_cons.2 ⟨fun x => piece_s0 _ _ 3 7 (sum0 (xb0 (a0.view.read (Elt F) f0) 1) (wqb (a1.view.read (Elt F) f1)) (kb0 (a2.view.read (Elt F) f2) 1) 3) (fun _ => rfl) slices_S256x1_o192_0_S64x1 shapeCasts_S64x1_S1x1x64x1 inb_S4x9x64x64_S1x1x64x1_3_8_0_7 x, ?_⟩
    refine List.forall_mem_cons.2 ⟨fun x => piece_o0 _ _ 3 7 (out0 (xb0 (a0.view.read (Elt F) f0) 1) (wqb (a1.view.read (Elt F) f1)) (kb0 (a2.view.read (Elt F) f2) 1) (kb0 (a3.view.read (Elt F) f3) 1) 3) (fun _ _ => rfl) slices_S256x64_o192_0_S64x64 shapeCasts_S64x64_S1x1x64x64 inb_S4x9x64x64_S1x1x64x64_3_7_0_0 x, ?_⟩
    refine List.forall_mem_cons.2 ⟨fun x => piece_s0 _ _ 2 7 (sum0 (xb0 (a0.view.read (Elt F) f0) 1) (wqb (a1.view.read (Elt F) f1)) (kb0 (a2.view.read (Elt F) f2) 1) 3) (fun _ => rfl) slices_S256x1_o128_0_S64x1 shapeCasts_S64x1_S1x1x64x1 inb_S4x9x64x64_S1x1x64x1_2_8_0_7 x, ?_⟩
    refine List.forall_mem_cons.2 ⟨fun x => piece_o0 _ _ 2 7 (out0 (xb0 (a0.view.read (Elt F) f0) 1) (wqb (a1.view.read (Elt F) f1)) (kb0 (a2.view.read (Elt F) f2) 1) (kb0 (a3.view.read (Elt F) f3) 1) 3) (fun _ _ => rfl) slices_S256x64_o128_0_S64x64 shapeCasts_S64x64_S1x1x64x64 inb_S4x9x64x64_S1x1x64x64_2_7_0_0 x, ?_⟩
    refine List.forall_mem_cons.2 ⟨fun x => piece_s0 _ _ 1 7 (sum0 (xb0 (a0.view.read (Elt F) f0) 1) (wqb (a1.view.read (Elt F) f1)) (kb0 (a2.view.read (Elt F) f2) 1) 3) (fun _ => rfl) slices_S256x1_o64_0_S64x1 shapeCasts_S64x1_S1x1x64x1 inb_S4x9x64x64_S1x1x64x1_1_8_0_7 x, ?_⟩
    refine List.forall_mem_cons.2 ⟨fun x => piece_o0 _ _ 1 7 (out0 (xb0 (a0.view.read (Elt F) f0) 1) (wqb (a1.view.read (Elt F) f1)) (kb0 (a2.view.read (Elt F) f2) 1) (kb0 (a3.view.read (Elt F) f3) 1) 3) (fun _ _ => rfl) slices_S256x64_o64_0_S64x64 shapeCasts_S64x64_S1x1x64x64 inb_S4x9x64x64_S1x1x64x64_1_7_0_0 x, ?_⟩
    refine List.forall_mem_cons.2 ⟨fun x => piece_s0 _ _ 0 7 (sum0 (xb0 (a0.view.read (Elt F) f0) 1) (wqb (a1.view.read (Elt F) f1)) (kb0 (a2.view.read (Elt F) f2) 1) 3) (fun _ => rfl) slices_S256x1_o0_0_S64x1 shapeCasts_S64x1_S1x1x64x1 inb_S4x9x64x64_S1x1x64x1_0_8_0_7 x, ?_⟩
    refine List.forall_mem_cons.2 ⟨fun x => piece_o0 _ _ 0 7 (out0 (xb0 (a0.view.read (Elt F) f0) 1) (wqb (a1.view.read (Elt F) f1)) (kb0 (a2.view.read (Elt F) f2) 1) (kb0 (a3.view.read (Elt F) f3) 1) 3) (fun _ _ => rfl) slices_S256x64_o0_0_S64x64 shapeCasts_S64x64_S1x1x64x64 inb_S4x9x64x64_S1x1x64x64_0_7_0_0 x, ?_⟩
    refine List.forall_mem_cons.2 ⟨fun x => piece_s0 _ _ 3 6 (sum0 (xb0 (a0.view.read (Elt F) f0) 1) (wqb (a1.view.read (Elt F) f1)) (kb0 (a2.view.read (Elt F) f2) 1) 2) (fun _ => rfl) slices_S256x1_o192_0_S64x1 shapeCasts_S64x1_S1x1x64x1 inb_S4x9x64x64_S1x1x64x1_3_8_0_6 x, ?_⟩
    refine List.forall_mem_cons.2 ⟨fun x => piece_o0 _ _ 3 6 (out0 (xb0 (a0.view.read (Elt F) f0) 1) (wqb (a1.view.read (Elt F) f1)) (kb0 (a2.view.read (Elt F) f2) 1) (kb0 (a3.view.read (Elt F) f3) 1) 2) (fun _ _ => rfl) slices_S256x64_o192_0_S64x64 shapeCasts_S64x64_S1x1x64x64 inb_S4x9x64x64_S1x1x64x64_3_6_0_0 x, ?_⟩
    refine List.forall_mem_cons.2 ⟨fun x => piece_s0 _ _ 2 6 (sum0 (xb0 (a0.view.read (Elt F) f0) 1) (wqb (a1.view.read (Elt F) f1)) (kb0 (a2.view.read (Elt F) f2) 1) 2) (fun _ => rfl) slices_S256x1_o128_0_S64x1 shapeCasts_S64x1_S1x1x64x1 inb_S4x9x64x64_S1x1x64x1_2_8_0_6 x, ?_⟩
    refine List.forall_mem_cons.2 ⟨fun x => piece_o0 _ _ 2 6 (out0 (xb0 (a0.view.read (Elt F) f0) 1) (wqb (a1.view.read (Elt F) f1)) (kb0 (a2.view.read (Elt F) f2) 1) (kb0 (a3.view.read (Elt F) f3) 1) 2) (fun _ _ => rfl) slices_S256x64_o128_0_S64x64 shapeCasts_S64x64_S1x1x64x64 inb_S4x9x64x64_S1x1x64x64_2_6_0_0 x, ?_⟩
    refine List.forall_mem_cons.2 ⟨fun x => piece_s0 _ _ 1 6 (sum0 (xb0 (a0.view.read (Elt F) f0) 1) (wqb (a1.view.read (Elt F) f1)) (kb0 (a2.view.read (Elt F) f2) 1) 2) (fun _ => rfl) slices_S256x1_o64_0_S64x1 shapeCasts_S64x1_S1x1x64x1 inb_S4x9x64x64_S1x1x64x1_1_8_0_6 x, ?_⟩
    refine List.forall_mem_cons.2 ⟨fun x => piece_o0 _ _ 1 6 (out0 (xb0 (a0.view.read (Elt F) f0) 1) (wqb (a1.view.read (Elt F) f1)) (kb0 (a2.view.read (Elt F) f2) 1) (kb0 (a3.view.read (Elt F) f3) 1) 2) (fun _ _ => rfl) slices_S256x64_o64_0_S64x64 shapeCasts_S64x64_S1x1x64x64 inb_S4x9x64x64_S1x1x64x64_1_6_0_0 x, ?_⟩
    refine List.forall_mem_cons.2 ⟨fun x => piece_s0 _ _ 0 6 (sum0 (xb0 (a0.view.read (Elt F) f0) 1) (wqb (a1.view.read (Elt F) f1)) (kb0 (a2.view.read (Elt F) f2) 1) 2) (fun _ => rfl) slices_S256x1_o0_0_S64x1 shapeCasts_S64x1_S1x1x64x1 inb_S4x9x64x64_S1x1x64x1_0_8_0_6 x, ?_⟩
    refine List.forall_mem_cons.2 ⟨fun x => piece_o0 _ _ 0 6 (out0 (xb0 (a0.view.read (Elt F) f0) 1) (wqb (a1.view.read (Elt F) f1)) (kb0 (a2.view.read (Elt F) f2) 1) (kb0 (a3.view.read (Elt F) f3) 1) 2) (fun _ _ => rfl) slices_S256x64_o0_0_S64x64 shapeCasts_S64x64_S1x1x64x64 inb_S4x9x64x64_S1x1x64x64_0_6_0_0 x, ?_⟩
    refine List.forall_mem_cons.2 ⟨fun x => piece_s0 _ _ 3 5 (sum0 (xb0 (a0.view.read (Elt F) f0) 1) (wqb (a1.view.read (Elt F) f1)) (kb0 (a2.view.read (Elt F) f2) 1) 1) (fun _ => rfl) slices_S256x1_o192_0_S64x1 shapeCasts_S64x1_S1x1x64x1 inb_S4x9x64x64_S1x1x64x1_3_8_0_5 x, ?_⟩
    refine List.forall_mem_cons.2 ⟨fun x => piece_o0 _ _ 3 5 (out0 (xb0 (a0.view.read (Elt F) f0) 1) (wqb (a1.view.read (Elt F) f1)) (kb0 (a2.view.read (Elt F) f2) 1) (kb0 (a3.view.read (Elt F) f3) 1) 1) (fun _ _ => rfl) slices_S256x64_o192_0_S64x64 shapeCasts_S64x64_S1x1x64x64 inb_S4x9x64x64_S1x1x64x64_3_5_0_0 x, ?_⟩
    refine List.forall_mem_cons.2 ⟨fun x => piece_s0 _ _ 2 5 (sum0 (xb0 (a0.view.read (Elt F) f0) 1) (wqb (a1.view.read (Elt F) f1)) (kb0 (a2.view.read (Elt F) f2) 1) 1) (fun _ => rfl) slices_S256x1_o128_0_S64x1 shapeCasts_S64x1_S1x1x64x1 inb_S4x9x64x64_S1x1x64x1_2_8_0_5 x, ?_⟩
    refine List.forall_mem_cons.2 ⟨fun x => piece_o0 _ _ 2 5 (out0 (xb0 (a0.view.read (Elt F) f0) 1) (wqb (a1.view.read (Elt F) f1)) (kb0 (a2.view.read (Elt F) f2) 1) (kb0 (a3.view.read (Elt F) f3) 1) 1) (fun _ _ => rfl) slices_S256x64_o128_0_S64x64 shapeCasts_S64x64_S1x1x64x64 inb_S4x9x64x64_S1x1x64x64_2_5_0_0 x, ?_⟩
    refine List.forall_mem_cons.2 ⟨fun x => piece_s0 _ _ 1 5 (sum0 (xb0 (a0.view.read (Elt F) f0) 1) (wqb (a1.view.read (Elt F) f1)) (kb0 (a2.view.read (Elt F) f2) 1) 1) (fun _ => rfl) slices_S256x1_o64_0_S64x1 shapeCasts_S64x1_S1x1x64x1 inb_S4x9x64x64_S1x1x64x1_1_8_0_5 x, ?_⟩
    refine List.forall_mem_cons.2 ⟨fun x => piece_o0 _ _ 1 5 (out0 (xb0 (a0.view.read (Elt F) f0) 1) (wqb (a1.view.read (Elt F) f1)) (kb0 (a2.view.read (Elt F) f2) 1) (kb0 (a3.view.read (Elt F) f3) 1) 1) (fun _ _ => rfl) slices_S256x64_o64_0_S64x64 shapeCasts_S64x64_S1x1x64x64 inb_S4x9x64x64_S1x1x64x64_1_5_0_0 x, ?_⟩
    refine List.forall_mem_cons.2 ⟨fun x => piece_s0 _ _ 0 5 (sum0 (xb0 (a0.view.read (Elt F) f0) 1) (wqb (a1.view.read (Elt F) f1)) (kb0 (a2.view.read (Elt F) f2) 1) 1) (fun _ => rfl) slices_S256x1_o0_0_S64x1 shapeCasts_S64x1_S1x1x64x1 inb_S4x9x64x64_S1x1x64x1_0_8_0_5 x, ?_⟩
    refine List.forall_mem_cons.2 ⟨fun x => piece_o0 _ _ 0 5 (out0 (xb0 (a0.view.read (Elt F) f0) 1) (wqb (a1.view.read (Elt F) f1)) (kb0 (a2.view.read (Elt F) f2) 1) (kb0 (a3.view.read (Elt F) f3) 1) 1) (fun _ _ => rfl) slices_S256x64_o0_0_S64x64 shapeCasts_S64x64_S1x1x64x64 inb_S4x9x64x64_S1x1x64x64_0_5_0_0 x, ?_⟩
    refine List.forall_mem_cons.2 ⟨fun x => piece_s0 _ _ 3 4 (sum0 (xb0 (a0.view.read (Elt F) f0) 1) (wqb (a1.view.read (Elt F) f1)) (kb0 (a2.view.read (Elt F) f2) 1) 0) (fun _ => rfl) slices_S256x1_o192_0_S64x1 shapeCasts_S64x1_S1x1x64x1 inb_S4x9x64x64_S1x1x64x1_3_8_0_4 x, ?_⟩
    refine List.forall_mem_cons.2 ⟨fun x => piece_o0 _ _ 3 4 (out0 (xb0 (a0.view.read (Elt F) f0) 1) (wqb (a1.view.read (Elt F) f1)) (kb0 (a2.view.read (Elt F) f2) 1) (kb0 (a3.view.read (Elt F) f3) 1) 0) (fun _ _ => rfl) slices_S256x64_o192_0_S64x64 shapeCasts_S64x64_S1x1x64x64 inb_S4x9x64x64_S1x1x64x64_3_4_0_0 x, ?_⟩
    refine List.forall_mem_cons.2 ⟨fun x => piece_s0 _ _ 2 4 (sum0 (xb0 (a0.view.read (Elt F) f0) 1) (wqb (a1.view.read (Elt F) f1)) (kb0 (a2.view.read (Elt F) f2) 1) 0) (fun _ => rfl) slices_S256x1_o128_0_S64x1 shapeCasts_S64x1_S1x1x64x1 inb_S4x9x64x64_S1x1x64x1_2_8_0_4 x, ?_⟩
    refine List.forall_mem_cons.2 ⟨fun x => piece_o0 _ _ 2 4 (out0 (xb0 (a0.view.read (Elt F) f0) 1) (wqb (a1.view.read (Elt F) f1)) (kb0 (a2.view.read (Elt F) f2) 1) (kb0 (a3.view.read (Elt F) f3) 1) 0) (fun _ _ => rfl) slices_S256x64_o128_0_S64x64 shapeCasts_S64x64_S1x1x64x64 inb_S4x9x64x64_S1x1x64x64_2_4_0_0 x, ?_⟩
    refine List.forall_mem_cons.2 ⟨fun x => piece_s0 _ _ 1 4 (sum0 (xb0 (a0.view.read (Elt F) f0) 1) (wqb (a1.view.read (Elt F) f1)) (kb0 (a2.view.read (Elt F) f2) 1) 0) (fun _ => rfl) slices_S256x1_o64_0_S64x1 shapeCasts_S64x1_S1x1x64x1 inb_S4x9x64x64_S1x1x64x1_1_8_0_4 x, ?_⟩
    refine List.forall_mem_cons.2 ⟨fun x => piece_o0 _ _ 1 4 (out0 (xb0 (a0.view.read (Elt F) f0) 1) (wqb (a1.view.read (Elt F) f1)) (kb0 (a2.view.read (Elt F) f2) 1) (kb0 (a3.view.read (Elt F) f3) 1) 0) (fun _ _ => rfl) slices_S256x64_o64_0_S64x64 shapeCasts_S64x64_S1x1x64x64 inb_S4x9x64x64_S1x1x64x64_1_4_0_0 x, ?_⟩
    refine List.forall_mem_cons.2 ⟨fun x => piece_s0 _ _ 0 4 (sum0 (xb0 (a0.view.read (Elt F) f0) 1) (wqb (a1.view.read (Elt F) f1)) (kb0 (a2.view.read (Elt F) f2) 1) 0) (fun _ => rfl) slices_S256x1_o0_0_S64x1 shapeCasts_S64x1_S1x1x64x1 inb_S4x9x64x64_S1x1x64x1_0_8_0_4 x, ?_⟩
    refine List.forall_mem_cons.2 ⟨fun x => piece_o0 _ _ 0 4 (out0 (xb0 (a0.view.read (Elt F) f0) 1) (wqb (a1.view.read (Elt F) f1)) (kb0 (a2.view.read (Elt F) f2) 1) (kb0 (a3.view.read (Elt F) f3) 1) 0) (fun _ _ => rfl) slices_S256x64_o0_0_S64x64 shapeCasts_S64x64_S1x1x64x64 inb_S4x9x64x64_S1x1x64x64_0_4_0_0 x, ?_⟩
    refine List.forall_mem_cons.2 ⟨fun x => piece_s0 _ _ 3 3 (sum0 (xb0 (a0.view.read (Elt F) f0) 0) (wqb (a1.view.read (Elt F) f1)) (kb0 (a2.view.read (Elt F) f2) 0) 3) (fun _ => rfl) slices_S256x1_o192_0_S64x1 shapeCasts_S64x1_S1x1x64x1 inb_S4x9x64x64_S1x1x64x1_3_8_0_3 x, ?_⟩
    refine List.forall_mem_cons.2 ⟨fun x => piece_o0 _ _ 3 3 (out0 (xb0 (a0.view.read (Elt F) f0) 0) (wqb (a1.view.read (Elt F) f1)) (kb0 (a2.view.read (Elt F) f2) 0) (kb0 (a3.view.read (Elt F) f3) 0) 3) (fun _ _ => rfl) slices_S256x64_o192_0_S64x64 shapeCasts_S64x64_S1x1x64x64 inb_S4x9x64x64_S1x1x64x64_3_3_0_0 x, ?_⟩
    refine List.forall_mem_cons.2 ⟨fun x => piece_s0 _ _ 2 3 (sum0 (xb0 (a0.view.read (Elt F) f0) 0) (wqb (a1.view.read (Elt F) f1)) (kb0 (a2.view.read (Elt F) f2) 0) 3) (fun _ => rfl) slices_S256x1_o128_0_S64x1 shapeCasts_S64x1_S1x1x64x1 inb_S4x9x64x64_S1x1x64x1_2_8_0_3 x, ?_⟩
    refine List.forall_mem_cons.2 ⟨fun x => piece_o0 _ _ 2 3 (out0 (xb0 (a0.view.read (Elt F) f0) 0) (wqb (a1.view.read (Elt F) f1)) (kb0 (a2.view.read (Elt F) f2) 0) (kb0 (a3.view.read (Elt F) f3) 0) 3) (fun _ _ => rfl) slices_S256x64_o128_0_S64x64 shapeCasts_S64x64_S1x1x64x64 inb_S4x9x64x64_S1x1x64x64_2_3_0_0 x, ?_⟩
    refine List.forall_mem_cons.2 ⟨fun x => piece_s0 _ _ 1 3 (sum0 (xb0 (a0.view.read (Elt F) f0) 0) (wqb (a1.view.read (Elt F) f1)) (kb0 (a2.view.read (Elt F) f2) 0) 3) (fun _ => rfl) slices_S256x1_o64_0_S64x1 shapeCasts_S64x1_S1x1x64x1 inb_S4x9x64x64_S1x1x64x1_1_8_0_3 x, ?_⟩
    refine List.forall_mem_cons.2 ⟨fun x => piece_o0 _ _ 1 3 (out0 (xb0 (a0.view.read (Elt F) f0) 0) (wqb (a1.view.read (Elt F) f1)) (kb0 (a2.view.read (Elt F) f2) 0) (kb0 (a3.view.read (Elt F) f3) 0) 3) (fun _ _ => rfl) slices_S256x64_o64_0_S64x64 shapeCasts_S64x64_S1x1x64x64 inb_S4x9x64x64_S1x1x64x64_1_3_0_0 x, ?_⟩
    refine List.forall_mem_cons.2 ⟨fun x => piece_s0 _ _ 0 3 (sum0 (xb0 (a0.view.read (Elt F) f0) 0) (wqb (a1.view.read (Elt F) f1)) (kb0 (a2.view.read (Elt F) f2) 0) 3) (fun _ => rfl) slices_S256x1_o0_0_S64x1 shapeCasts_S64x1_S1x1x64x1 inb_S4x9x64x64_S1x1x64x1_0_8_0_3 x, ?_⟩
    refine List.forall_mem_cons.2 ⟨fun x => piece_o0 _ _ 0 3 (out0 (xb0 (a0.view.read (Elt F) f0) 0) (wqb (a1.view.read (Elt F) f1)) (kb0 (a2.view.read (Elt F) f2) 0) (kb0 (a3.view.read (Elt F) f3) 0) 3) (fun _ _ => rfl) slices_S256x64_o0_0_S64x64 shapeCasts_S64x64_S1x1x64x64 inb_S4x9x64x64_S1x1x64x64_0_3_0_0 x, ?_⟩
    refine List.forall_mem_cons.2 ⟨fun x => piece_s0 _ _ 3 2 (sum0 (xb0 (a0.view.read (Elt F) f0) 0) (wqb (a1.view.read (Elt F) f1)) (kb0 (a2.view.read (Elt F) f2) 0) 2) (fun _ => rfl) slices_S256x1_o192_0_S64x1 shapeCasts_S64x1_S1x1x64x1 inb_S4x9x64x64_S1x1x64x1_3_8_0_2 x, ?_⟩
    refine List.forall_mem_cons.2 ⟨fun x => piece_o0 _ _ 3 2 (out0 (xb0 (a0.view.read (Elt F) f0) 0) (wqb (a1.view.read (Elt F) f1)) (kb0 (a2.view.read (Elt F) f2) 0) (kb0 (a3.view.read (Elt F) f3) 0) 2) (fun _ _ => rfl) slices_S256x64_o192_0_S64x64 shapeCasts_S64x64_S1x1x64x64 inb_S4x9x64x64_S1x1x64x64_3_2_0_0 x, ?_⟩
    refine List.forall_mem_cons.2 ⟨fun x => piece_s0 _ _ 2 2 (sum0 (xb0 (a0.view.read (Elt F) f0) 0) (wqb (a1.view.read (Elt F) f1)) (kb0 (a2.view.read (Elt F) f2) 0) 2) (fun _ => rfl) slices_S256x1_o128_0_S64x1 shapeCasts_S64x1_S1x1x64x1 inb_S4x9x64x64_S1x1x64x1_2_8_0_2 x, ?_⟩
    refine List.forall_mem_cons.2 ⟨fun x => piece_o0 _ _ 2 2 (out0 (xb0 (a0.view.read (Elt F) f0) 0) (wqb (a1.view.read (Elt F) f1)) (kb0 (a2.view.read (Elt F) f2) 0) (kb0 (a3.view.read (Elt F) f3) 0) 2) (fun _ _ => rfl) slices_S256x64_o128_0_S64x64 shapeCasts_S64x64_S1x1x64x64 inb_S4x9x64x64_S1x1x64x64_2_2_0_0 x, ?_⟩
    refine List.forall_mem_cons.2 ⟨fun x => piece_s0 _ _ 1 2 (sum0 (xb0 (a0.view.read (Elt F) f0) 0) (wqb (a1.view.read (Elt F) f1)) (kb0 (a2.view.read (Elt F) f2) 0) 2) (fun _ => rfl) slices_S256x1_o64_0_S64x1 shapeCasts_S64x1_S1x1x64x1 inb_S4x9x64x64_S1x1x64x1_1_8_0_2 x, ?_⟩
    refine List.forall_mem_cons.2 ⟨fun x => piece_o0 _ _ 1 2 (out0 (xb0 (a0.view.read (Elt F) f0) 0) (wqb (a1.view.read (Elt F) f1)) (kb0 (a2.view.read (Elt F) f2) 0) (kb0 (a3.view.read (Elt F) f3) 0) 2) (fun _ _ => rfl) slices_S256x64_o64_0_S64x64 shapeCasts_S64x64_S1x1x64x64 inb_S4x9x64x64_S1x1x64x64_1_2_0_0 x, ?_⟩
    refine List.forall_mem_cons.2 ⟨fun x => piece_s0 _ _ 0 2 (sum0 (xb0 (a0.view.read (Elt F) f0) 0) (wqb (a1.view.read (Elt F) f1)) (kb0 (a2.view.read (Elt F) f2) 0) 2) (fun _ => rfl) slices_S256x1_o0_0_S64x1 shapeCasts_S64x1_S1x1x64x1 inb_S4x9x64x64_S1x1x64x1_0_8_0_2 x, ?_⟩
    refine List.forall_mem_cons.2 ⟨fun x => piece_o0 _ _ 0 2 (out0 (xb0 (a0.view.read (Elt F) f0) 0) (wqb (a1.view.read (Elt F) f1)) (kb0 (a2.view.read (Elt F) f2) 0) (kb0 (a3.view.read (Elt F) f3) 0) 2) (fun _ _ => rfl) slices_S256x64_o0_0_S64x64 shapeCasts_S64x64_S1x1x64x64 inb_S4x9x64x64_S1x1x64x64_0_2_0_0 x, ?_⟩
    refine List.forall_mem_cons.2 ⟨fun x => piece_s0 _ _ 3 1 (sum0 (xb0 (a0.view.read (Elt F) f0) 0) (wqb (a1.view.read (Elt F) f1)) (kb0 (a2.view.read (Elt F) f2) 0) 1) (fun _ => rfl) slices_S256x1_o192_0_S64x1 shapeCasts_S64x1_S1x1x64x1 inb_S4x9x64x64_S1x1x64x1_3_8_0_1 x, ?_⟩
    refine List.forall_mem_cons.2 ⟨fun x => piece_o0 _ _ 3 1 (out0 (xb0 (a0.view.read (Elt F) f0) 0) (wqb (a1.view.read (Elt F) f1)) (kb0 (a2.view.read (Elt F) f2) 0) (kb0 (a3.view.read (Elt F) f3) 0) 1) (fun _ _ => rfl) slices_S256x64_o192_0_S64x64 shapeCasts_S64x64_S1x1x64x64 inb_S4x9x64x64_S1x1x64x64_3_1_0_0 x, ?_⟩
    refine List.forall_mem_cons.2 ⟨fun x => piece_s0 _ _ 2 1 (sum0 (xb0 (a0.view.read (Elt F) f0) 0) (wqb (a1.view.read (Elt F) f1)) (kb0 (a2.view.read (Elt F) f2) 0) 1) (fun _ => rfl) slices_S256x1_o128_0_S64x1 shapeCasts_S64x1_S1x1x64x1 inb_S4x9x64x64_S1x1x64x1_2_8_0_1 x, ?_⟩
    refine List.forall_mem_cons.2 ⟨fun x => piece_o0 _ _ 2 1 (out0 (xb0 (a0.view.read (Elt F) f0) 0) (wqb (a1.view.read (Elt F) f1)) (kb0 (a2.view.read (Elt F) f2) 0) (kb0 (a3.view.read (Elt F) f3) 0) 1) (fun _ _ => rfl) slices_S256x64_o128_0_S64x64 shapeCasts_S64x64_S1x1x64x64 inb_S4x9x64x64_S1x1x64x64_2_1_0_0 x, ?_⟩
    refine List.forall_mem_cons.2 ⟨fun x => piece_s0 _ _ 1 1 (sum0 (xb0 (a0.view.read (Elt F) f0) 0) (wqb (a1.view.read (Elt F) f1)) (kb0 (a2.view.read (Elt F) f2) 0) 1) (fun _ => rfl) slices_S256x1_o64_0_S64x1 shapeCasts_S64x1_S1x1x64x1 inb_S4x9x64x64_S1x1x64x1_1_8_0_1 x, ?_⟩
    refine List.forall_mem_cons.2 ⟨fun x => piece_o0 _ _ 1 1 (out0 (xb0 (a0.view.read (Elt F) f0) 0) (wqb (a1.view.read (Elt F) f1)) (kb0 (a2.view.read (Elt F) f2) 0) (kb0 (a3.view.read (Elt F) f3) 0) 1) (fun _ _ => rfl) slices_S256x64_o64_0_S64x64 shapeCasts_S64x64_S1x1x64x64 inb_S4x9x64x64_S1x1x64x64_1_1_0_0 x, ?_⟩
    refine List.forall_mem_cons.2 ⟨fun x => piece_s0 _ _ 0 1 (sum0 (xb0 (a0.view.read (Elt F) f0) 0) (wqb (a1.view.read (Elt F) f1)) (kb0 (a2.view.read (Elt F) f2) 0) 1) (fun _ => rfl) slices_S256x1_o0_0_S64x1 shapeCasts_S64x1_S1x1x64x1 inb_S4x9x64x64_S1x1x64x1_0_8_0_1 x, ?_⟩
    refine List.forall_mem_cons.2 ⟨fun x => piece_o0 _ _ 0 1 (out0 (xb0 (a0.view.read (Elt F) f0) 0) (wqb (a1.view.read (Elt F) f1)) (kb0 (a2.view.read (Elt F) f2) 0) (kb0 (a3.view.read (Elt F) f3) 0) 1) (fun _ _ => rfl) slices_S256x64_o0_0_S64x64 shapeCasts_S64x64_S1x1x64x64 inb_S4x9x64x64_S1x1x64x64_0_1_0_0 x, ?_⟩
    refine List.forall_mem_cons.2 ⟨fun x => piece_s0 _ _ 3 0 (sum0 (xb0 (a0.view.read (Elt F) f0) 0) (wqb (a1.view.read (Elt F) f1)) (kb0 (a2.view.read (Elt F) f2) 0) 0) (fun _ => rfl) slices_S256x1_o192_0_S64x1 shapeCasts_S64x1_S1x1x64x1 inb_S4x9x64x64_S1x1x64x1_3_8_0_0 x, ?_⟩
    refine List.forall_mem_cons.2 ⟨fun x => piece_o0 _ _ 3 0 (out0 (xb0 (a0.view.read (Elt F) f0) 0) (wqb (a1.view.read (Elt F) f1)) (kb0 (a2.view.read (Elt F) f2) 0) (kb0 (a3.view.read (Elt F) f3) 0) 0) (fun _ _ => rfl) slices_S256x64_o192_0_S64x64 shapeCasts_S64x64_S1x1x64x64 inb_S4x9x64x64_S1x1x64x64_3_0_0_0 x, ?_⟩
    refine List.forall_mem_cons.2 ⟨fun x => piece_s0 _ _ 2 0 (sum0 (xb0 (a0.view.read (Elt F) f0) 0) (wqb (a1.view.read (Elt F) f1)) (kb0 (a2.view.read (Elt F) f2) 0) 0) (fun _ => rfl) slices_S256x1_o128_0_S64x1 shapeCasts_S64x1_S1x1x64x1 inb_S4x9x64x64_S1x1x64x1_2_8_0_0 x, ?_⟩
    refine List.forall_mem_cons.2 ⟨fun x => piece_o0 _ _ 2 0 (out0 (xb0 (a0.view.read (Elt F) f0) 0) (wqb (a1.view.read (Elt F) f1)) (kb0 (a2.view.read (Elt F) f2) 0) (kb0 (a3.view.read (Elt F) f3) 0) 0) (fun _ _ => rfl) slices_S256x64_o128_0_S64x64 shapeCasts_S64x64_S1x1x64x64 inb_S4x9x64x64_S1x1x64x64_2_0_0_0 x, ?_⟩
    refine List.forall_mem_cons.2 ⟨fun x => piece_s0 _ _ 1 0 (sum0 (xb0 (a0.view.read (Elt F) f0) 0) (wqb (a1.view.read (Elt F) f1)) (kb0 (a2.view.read (Elt F) f2) 0) 0) (fun _ => rfl) slices_S256x1_o64_0_S64x1 shapeCasts_S64x1_S1x1x64x1 inb_S4x9x64x64_S1x1x64x1_1_8_0_0 x, ?_⟩
    refine List.forall_mem_cons.2 ⟨fun x => piece_o0 _ _ 1 0 (out0 (xb0 (a0.view.read (Elt F) f0) 0) (wqb (a1.view.read (Elt F) f1)) (kb0 (a2.view.read (Elt F) f2) 0) (kb0 (a3.view.read (Elt F) f3) 0) 0) (fun _ _ => rfl) slices_S256x64_o64_0_S64x64 shapeCasts_S64x64_S1x1x64x64 inb_S4x9x64x64_S1x1x64x64_1_0_0_0 x, ?_⟩
    refine List.forall_mem_cons.2 ⟨fun x => piece_s0 _ _ 0 0 (sum0 (xb0 (a0.view.read (Elt F) f0) 0) (wqb (a1.view.read (Elt F) f1)) (kb0 (a2.view.read (Elt F) f2) 0) 0) (fun _ => rfl) slices_S256x1_o0_0_S64x1 shapeCasts_S64x1_S1x1x64x1 inb_S4x9x64x64_S1x1x64x1_0_8_0_0 x, ?_⟩
    refine List.forall_mem_cons.2 ⟨fun x => piece_o0 _ _ 0 0 (out0 (xb0 (a0.view.read (Elt F) f0) 0) (wqb (a1.view.read (Elt F) f1)) (kb0 (a2.view.read (Elt F) f2) 0) (kb0 (a3.view.read (Elt F) f3) 0) 0) (fun _ _ => rfl) slices_S256x64_o0_0_S64x64 shapeCasts_S64x64_S1x1x64x64 inb_S4x9x64x64_S1x1x64x64_0_0_0_0 x, ?_⟩
    exact List.forall_mem_nil _
  · by_cases h : (y 1).val < 8
    · obtain ⟨q, hq⟩ : ∃ q : Fin 4, y 0 = q := ⟨y 0, rfl⟩
      obtain ⟨i, hi⟩ : ∃ i : Fin 8, (y 1).val = i.val := ⟨⟨(y 1).val, h⟩, rfl⟩
      exact (match q, i, hq, hi with
      | 0, 0, hq, hi => ⟨_, List.mem_of_getElem? (i := 63) rfl, mem_o 0 0 inb_S4x9x64x64_S1x1x64x64_0_0_0_0 y hq hi⟩
      | 0, 1, hq, hi => ⟨_, List.mem_of_getElem? (i := 55) rfl, mem_o 0 1 inb_S4x9x64x64_S1x1x64x64_0_1_0_0 y hq hi⟩
      | 0, 2, hq, hi => ⟨_, List.mem_of_getElem? (i := 47) rfl, mem_o 0 2 inb_S4x9x64x64_S1x1x64x64_0_2_0_0 y hq hi⟩
      | 0, 3, hq, hi => ⟨_, List.mem_of_getElem? (i := 39) rfl, mem_o 0 3 inb_S4x9x64x64_S1x1x64x64_0_3_0_0 y hq hi⟩
      | 0, 4, hq, hi => ⟨_, List.mem_of_getElem? (i := 31) rfl, mem_o 0 4 inb_S4x9x64x64_S1x1x64x64_0_4_0_0 y hq hi⟩
      | 0, 5, hq, hi => ⟨_, List.mem_of_getElem? (i := 23) rfl, mem_o 0 5 inb_S4x9x64x64_S1x1x64x64_0_5_0_0 y hq hi⟩
      | 0, 6, hq, hi => ⟨_, List.mem_of_getElem? (i := 15) rfl, mem_o 0 6 inb_S4x9x64x64_S1x1x64x64_0_6_0_0 y hq hi⟩
      | 0, 7, hq, hi => ⟨_, List.mem_of_getElem? (i := 7) rfl, mem_o 0 7 inb_S4x9x64x64_S1x1x64x64_0_7_0_0 y hq hi⟩
      | 1, 0, hq, hi => ⟨_, List.mem_of_getElem? (i := 61) rfl, mem_o 1 0 inb_S4x9x64x64_S1x1x64x64_1_0_0_0 y hq hi⟩
      | 1, 1, hq, hi => ⟨_, List.mem_of_getElem? (i := 53) rfl, mem_o 1 1 inb_S4x9x64x64_S1x1x64x64_1_1_0_0 y hq hi⟩
      | 1, 2, hq, hi => ⟨_, List.mem_of_getElem? (i := 45) rfl, mem_o 1 2 inb_S4x9x64x64_S1x1x64x64_1_2_0_0 y hq hi⟩
      | 1, 3, hq, hi => ⟨_, List.mem_of_getElem? (i := 37) rfl, mem_o 1 3 inb_S4x9x64x64_S1x1x64x64_1_3_0_0 y hq hi⟩
      | 1, 4, hq, hi => ⟨_, List.mem_of_getElem? (i := 29) rfl, mem_o 1 4 inb_S4x9x64x64_S1x1x64x64_1_4_0_0 y hq hi⟩
      | 1, 5, hq, hi => ⟨_, List.mem_of_getElem? (i := 21) rfl, mem_o 1 5 inb_S4x9x64x64_S1x1x64x64_1_5_0_0 y hq hi⟩
      | 1, 6, hq, hi => ⟨_, List.mem_of_getElem? (i := 13) rfl, mem_o 1 6 inb_S4x9x64x64_S1x1x64x64_1_6_0_0 y hq hi⟩
      | 1, 7, hq, hi => ⟨_, List.mem_of_getElem? (i := 5) rfl, mem_o 1 7 inb_S4x9x64x64_S1x1x64x64_1_7_0_0 y hq hi⟩
      | 2, 0, hq, hi => ⟨_, List.mem_of_getElem? (i := 59) rfl, mem_o 2 0 inb_S4x9x64x64_S1x1x64x64_2_0_0_0 y hq hi⟩
      | 2, 1, hq, hi => ⟨_, List.mem_of_getElem? (i := 51) rfl, mem_o 2 1 inb_S4x9x64x64_S1x1x64x64_2_1_0_0 y hq hi⟩
      | 2, 2, hq, hi => ⟨_, List.mem_of_getElem? (i := 43) rfl, mem_o 2 2 inb_S4x9x64x64_S1x1x64x64_2_2_0_0 y hq hi⟩
      | 2, 3, hq, hi => ⟨_, List.mem_of_getElem? (i := 35) rfl, mem_o 2 3 inb_S4x9x64x64_S1x1x64x64_2_3_0_0 y hq hi⟩
      | 2, 4, hq, hi => ⟨_, List.mem_of_getElem? (i := 27) rfl, mem_o 2 4 inb_S4x9x64x64_S1x1x64x64_2_4_0_0 y hq hi⟩
      | 2, 5, hq, hi => ⟨_, List.mem_of_getElem? (i := 19) rfl, mem_o 2 5 inb_S4x9x64x64_S1x1x64x64_2_5_0_0 y hq hi⟩
      | 2, 6, hq, hi => ⟨_, List.mem_of_getElem? (i := 11) rfl, mem_o 2 6 inb_S4x9x64x64_S1x1x64x64_2_6_0_0 y hq hi⟩
      | 2, 7, hq, hi => ⟨_, List.mem_of_getElem? (i := 3) rfl, mem_o 2 7 inb_S4x9x64x64_S1x1x64x64_2_7_0_0 y hq hi⟩
      | 3, 0, hq, hi => ⟨_, List.mem_of_getElem? (i := 57) rfl, mem_o 3 0 inb_S4x9x64x64_S1x1x64x64_3_0_0_0 y hq hi⟩
      | 3, 1, hq, hi => ⟨_, List.mem_of_getElem? (i := 49) rfl, mem_o 3 1 inb_S4x9x64x64_S1x1x64x64_3_1_0_0 y hq hi⟩
      | 3, 2, hq, hi => ⟨_, List.mem_of_getElem? (i := 41) rfl, mem_o 3 2 inb_S4x9x64x64_S1x1x64x64_3_2_0_0 y hq hi⟩
      | 3, 3, hq, hi => ⟨_, List.mem_of_getElem? (i := 33) rfl, mem_o 3 3 inb_S4x9x64x64_S1x1x64x64_3_3_0_0 y hq hi⟩
      | 3, 4, hq, hi => ⟨_, List.mem_of_getElem? (i := 25) rfl, mem_o 3 4 inb_S4x9x64x64_S1x1x64x64_3_4_0_0 y hq hi⟩
      | 3, 5, hq, hi => ⟨_, List.mem_of_getElem? (i := 17) rfl, mem_o 3 5 inb_S4x9x64x64_S1x1x64x64_3_5_0_0 y hq hi⟩
      | 3, 6, hq, hi => ⟨_, List.mem_of_getElem? (i := 9) rfl, mem_o 3 6 inb_S4x9x64x64_S1x1x64x64_3_6_0_0 y hq hi⟩
      | 3, 7, hq, hi => ⟨_, List.mem_of_getElem? (i := 1) rfl, mem_o 3 7 inb_S4x9x64x64_S1x1x64x64_3_7_0_0 y hq hi⟩
      )
    · have h8 : (y 1).val = 8 := by have := (y 1).isLt; change _ < 9 at this; omega
      have h3 : (y 3).val < 8 := hy.resolve_left h
      obtain ⟨q, hq⟩ : ∃ q : Fin 4, y 0 = q := ⟨y 0, rfl⟩
      obtain ⟨i, hi⟩ : ∃ i : Fin 8, (y 3).val = i.val := ⟨⟨(y 3).val, h3⟩, rfl⟩
      exact (match q, i, hq, hi with
      | 0, 0, hq, hi => ⟨_, List.mem_of_getElem? (i := 62) rfl, mem_s 0 0 inb_S4x9x64x64_S1x1x64x1_0_8_0_0 y hq h8 hi⟩
      | 0, 1, hq, hi => ⟨_, List.mem_of_getElem? (i := 54) rfl, mem_s 0 1 inb_S4x9x64x64_S1x1x64x1_0_8_0_1 y hq h8 hi⟩
      | 0, 2, hq, hi => ⟨_, List.mem_of_getElem? (i := 46) rfl, mem_s 0 2 inb_S4x9x64x64_S1x1x64x1_0_8_0_2 y hq h8 hi⟩
      | 0, 3, hq, hi => ⟨_, List.mem_of_getElem? (i := 38) rfl, mem_s 0 3 inb_S4x9x64x64_S1x1x64x1_0_8_0_3 y hq h8 hi⟩
      | 0, 4, hq, hi => ⟨_, List.mem_of_getElem? (i := 30) rfl, mem_s 0 4 inb_S4x9x64x64_S1x1x64x1_0_8_0_4 y hq h8 hi⟩
      | 0, 5, hq, hi => ⟨_, List.mem_of_getElem? (i := 22) rfl, mem_s 0 5 inb_S4x9x64x64_S1x1x64x1_0_8_0_5 y hq h8 hi⟩
      | 0, 6, hq, hi => ⟨_, List.mem_of_getElem? (i := 14) rfl, mem_s 0 6 inb_S4x9x64x64_S1x1x64x1_0_8_0_6 y hq h8 hi⟩
      | 0, 7, hq, hi => ⟨_, List.mem_of_getElem? (i := 6) rfl, mem_s 0 7 inb_S4x9x64x64_S1x1x64x1_0_8_0_7 y hq h8 hi⟩
      | 1, 0, hq, hi => ⟨_, List.mem_of_getElem? (i := 60) rfl, mem_s 1 0 inb_S4x9x64x64_S1x1x64x1_1_8_0_0 y hq h8 hi⟩
      | 1, 1, hq, hi => ⟨_, List.mem_of_getElem? (i := 52) rfl, mem_s 1 1 inb_S4x9x64x64_S1x1x64x1_1_8_0_1 y hq h8 hi⟩
      | 1, 2, hq, hi => ⟨_, List.mem_of_getElem? (i := 44) rfl, mem_s 1 2 inb_S4x9x64x64_S1x1x64x1_1_8_0_2 y hq h8 hi⟩
      | 1, 3, hq, hi => ⟨_, List.mem_of_getElem? (i := 36) rfl, mem_s 1 3 inb_S4x9x64x64_S1x1x64x1_1_8_0_3 y hq h8 hi⟩
      | 1, 4, hq, hi => ⟨_, List.mem_of_getElem? (i := 28) rfl, mem_s 1 4 inb_S4x9x64x64_S1x1x64x1_1_8_0_4 y hq h8 hi⟩
      | 1, 5, hq, hi => ⟨_, List.mem_of_getElem? (i := 20) rfl, mem_s 1 5 inb_S4x9x64x64_S1x1x64x1_1_8_0_5 y hq h8 hi⟩
      | 1, 6, hq, hi => ⟨_, List.mem_of_getElem? (i := 12) rfl, mem_s 1 6 inb_S4x9x64x64_S1x1x64x1_1_8_0_6 y hq h8 hi⟩
      | 1, 7, hq, hi => ⟨_, List.mem_of_getElem? (i := 4) rfl, mem_s 1 7 inb_S4x9x64x64_S1x1x64x1_1_8_0_7 y hq h8 hi⟩
      | 2, 0, hq, hi => ⟨_, List.mem_of_getElem? (i := 58) rfl, mem_s 2 0 inb_S4x9x64x64_S1x1x64x1_2_8_0_0 y hq h8 hi⟩
      | 2, 1, hq, hi => ⟨_, List.mem_of_getElem? (i := 50) rfl, mem_s 2 1 inb_S4x9x64x64_S1x1x64x1_2_8_0_1 y hq h8 hi⟩
      | 2, 2, hq, hi => ⟨_, List.mem_of_getElem? (i := 42) rfl, mem_s 2 2 inb_S4x9x64x64_S1x1x64x1_2_8_0_2 y hq h8 hi⟩
      | 2, 3, hq, hi => ⟨_, List.mem_of_getElem? (i := 34) rfl, mem_s 2 3 inb_S4x9x64x64_S1x1x64x1_2_8_0_3 y hq h8 hi⟩
      | 2, 4, hq, hi => ⟨_, List.mem_of_getElem? (i := 26) rfl, mem_s 2 4 inb_S4x9x64x64_S1x1x64x1_2_8_0_4 y hq h8 hi⟩
      | 2, 5, hq, hi => ⟨_, List.mem_of_getElem? (i := 18) rfl, mem_s 2 5 inb_S4x9x64x64_S1x1x64x1_2_8_0_5 y hq h8 hi⟩
      | 2, 6, hq, hi => ⟨_, List.mem_of_getElem? (i := 10) rfl, mem_s 2 6 inb_S4x9x64x64_S1x1x64x1_2_8_0_6 y hq h8 hi⟩
      | 2, 7, hq, hi => ⟨_, List.mem_of_getElem? (i := 2) rfl, mem_s 2 7 inb_S4x9x64x64_S1x1x64x1_2_8_0_7 y hq h8 hi⟩
      | 3, 0, hq, hi => ⟨_, List.mem_of_getElem? (i := 56) rfl, mem_s 3 0 inb_S4x9x64x64_S1x1x64x1_3_8_0_0 y hq h8 hi⟩
      | 3, 1, hq, hi => ⟨_, List.mem_of_getElem? (i := 48) rfl, mem_s 3 1 inb_S4x9x64x64_S1x1x64x1_3_8_0_1 y hq h8 hi⟩
      | 3, 2, hq, hi => ⟨_, List.mem_of_getElem? (i := 40) rfl, mem_s 3 2 inb_S4x9x64x64_S1x1x64x1_3_8_0_2 y hq h8 hi⟩
      | 3, 3, hq, hi => ⟨_, List.mem_of_getElem? (i := 32) rfl, mem_s 3 3 inb_S4x9x64x64_S1x1x64x1_3_8_0_3 y hq h8 hi⟩
      | 3, 4, hq, hi => ⟨_, List.mem_of_getElem? (i := 24) rfl, mem_s 3 4 inb_S4x9x64x64_S1x1x64x1_3_8_0_4 y hq h8 hi⟩
      | 3, 5, hq, hi => ⟨_, List.mem_of_getElem? (i := 16) rfl, mem_s 3 5 inb_S4x9x64x64_S1x1x64x1_3_8_0_5 y hq h8 hi⟩
      | 3, 6, hq, hi => ⟨_, List.mem_of_getElem? (i := 8) rfl, mem_s 3 6 inb_S4x9x64x64_S1x1x64x1_3_8_0_6 y hq h8 hi⟩
      | 3, 7, hq, hi => ⟨_, List.mem_of_getElem? (i := 0) rfl, mem_s 3 7 inb_S4x9x64x64_S1x1x64x1_3_8_0_7 y hq h8 hi⟩
      )

end Cert.KernelIdeal.Att
-- ==== Proof.Dev0.lean ====
/-
  Device 0's run: it computes its four packets, hands them on, and writes the output.
-/
module

public import proofs.«01_k».proof.Proof.Head
public import proofs.«01_k».proof.Proof.Comm0
public import proofs.«01_k».proof.Proof.Comp0

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (PK : Fin 6 → S9x64x64.Idx → F .bf16) (K : GSem nD τ sig → ℕ)

variable (a0 : Memref sig .tc .vmem S2x256x512 .bf16) (h0 : a0.IsWhole) (a1 : Memref sig .tc .vmem S512x256 .bf16) (h1 : a1.IsWhole)
  (a2 : Memref sig .tc .vmem S2x256x256 .bf16) (h2 : a2.IsWhole) (a3 : Memref sig .tc .vmem S2x256x256 .bf16) (h3 : a3.IsWhole)
  (a4 : Memref sig .tc .vmem S256x512 .bf16) (h4 : a4.IsWhole) (a5 : Memref sig .tc .vmem S2x256x512 .f32) (h5 : a5.IsWhole)

set_option maxHeartbeats 4000000 in
set_option maxRecDepth 65536 in
/-- The first two signals. -/
theorem sig0 (Q : _ → sProp (MT nD τ sig Unit (Elt F) ℕ UU ℕ)) :
    iprop(recs PK K 0 ∗ (∃ W, owes ((0 : Dev nD) : Thread nD τ) (O₀ 0) W) ∗ dutyTok ER (barC 1) 0 0 ∗ dutyTok ER (barC 2) 0 0
        ∗ lendAll 0 (lends 0 1) ∗ lendAll 0 (lends 0 2))
      ⊢ iprop(((∃ W, owes ((0 : Dev nD) : Thread nD τ) (owe (sends 0) + tallyAt (barC (nxt 0 3)) () 1) W)
          -∗ Q ⟨0, (Scalar.remsi (Scalar.divsi (Dev.word (0 : Dev nD)) 1#32) 4#32), SemArray.scalar (sig.barrier 0 rfl), Scalar.addi (Scalar.remsi (Scalar.divsi (Dev.word (0 : Dev nD)) 1#32) 4#32) 3#32, 4#32, Scalar.cmpi .eq 4#32 0#32⟩)
        -∗ wp frame (wpE (defs₀ (F := F)) Variants.none (0 : Dev nD) none) Set.univ (k0_part39 a0 h0 a1 h1 a2 h2 a3 h3 a4 h4 a5 h5 ownM (Memref.isWhole_whole _) rcvM (Memref.isWhole_whole _) cc0_scratch2 cc0_scratch3) Q) := by
  rw [k0_part39_eq_skeleton]
  unfold k0_part39_skel
  iintro ⟨#HR, ⟨%W, HO⟩, Ht1, Ht2, Hl1, Hl2⟩ Hk
  iapply (dev_step (F := F) 0)
  iapply (step_sig PK K 0 Variants.none 1 _ (Fin.ext (show k0_dev1 0 = 1 from rfl)) (by decide) _ rfl
    ((owe (sends 0) + tallyAt (barC (nxt 0 3)) () 1) + tallyAt (barC (nxt 0 2)) () 1) rfl) $$ [HO Ht1 Hl1]
  · isplitr; · iexact HR
    isplitl [HO]; · iexact HO
    isplitl [Ht1]; · iexact Ht1
    iexact Hl1
  iintro HO
  iapply (step_sig PK K 0 Variants.none 2 _ (Fin.ext (show k0_dev2 0 = 2 from rfl)) (by decide) _ rfl
    (owe (sends 0) + tallyAt (barC (nxt 0 3)) () 1) rfl) $$ [HO Ht2 Hl2]
  · isplitr; · iexact HR
    isplitl [HO]; · iexact HO
    isplitl [Ht2]; · iexact Ht2
    iexact Hl2
  iintro HO
  iapply (ret_step (F := F) 0)
  iapply Hk
  iexists _
  iexact HO

set_option maxHeartbeats 4000000 in
set_option maxRecDepth 65536 in
/-- From the last signal to the load of the first packet. -/
theorem head0 (q : PosShare TreeShare) (f0 : Buf (Elt F) (a0.view.loc ((0 : Dev nD) : Thread nD τ))) (f1 : Buf (Elt F) (a1.view.loc ((0 : Dev nD) : Thread nD τ))) (f2 : Buf (Elt F) (a2.view.loc ((0 : Dev nD) : Thread nD τ))) (f3 : Buf (Elt F) (a3.view.loc ((0 : Dev nD) : Thread nD τ))) (f6 : Buf (Elt F) (ownM.view.loc ((0 : Dev nD) : Thread nD τ)))
    (e0 : PK 0 = pkOf (o0 (a0.view.read (Elt F) f0) (a1.view.read (Elt F) f1) (a2.view.read (Elt F) f2) (a3.view.read (Elt F) f3) 0) (s0 (a0.view.read (Elt F) f0) (a1.view.read (Elt F) f1) (a2.view.read (Elt F) f2) 0))
    (e1 : PK 1 = pkOf (o0 (a0.view.read (Elt F) f0) (a1.view.read (Elt F) f1) (a2.view.read (Elt F) f2) (a3.view.read (Elt F) f3) 1) (s0 (a0.view.read (Elt F) f0) (a1.view.read (Elt F) f1) (a2.view.read (Elt F) f2) 1))
    (e2 : PK 2 = pkOf (o0 (a0.view.read (Elt F) f0) (a1.view.read (Elt F) f1) (a2.view.read (Elt F) f2) (a3.view.read (Elt F) f3) 2) (s0 (a0.view.read (Elt F) f0) (a1.view.read (Elt F) f1) (a2.view.read (Elt F) f2) 2))
    (e3 : PK 3 = pkOf (o0 (a0.view.read (Elt F) f0) (a1.view.read (Elt F) f1) (a2.view.read (Elt F) f2) (a3.view.read (Elt F) f3) 3) (s0 (a0.view.read (Elt F) f0) (a1.view.read (Elt F) f1) (a2.view.read (Elt F) f2) 3))
    (v30 : BitVec 32) (v31 : BitVec 1) (Q : Vec F S1x9x64x64 .bf16 → sProp (MT nD τ sig Unit (Elt F) ℕ UU ℕ)) :
    iprop(recs PK K 0
        ∗ (∃ W, owes ((0 : Dev nD) : Thread nD τ) (owe (sends 0) + tallyAt (barC (nxt 0 3)) () 1) W)
        ∗ dutyTok ER (barC 3) 0 0
        ∗ lendAll 0 (lends 0 3)
        ∗ (cred (tallyAt (barC 0) () 3) ∗ atPos ER (barC 0) 0 ∅ 0)
        ∗ (cred (tallyAt (rcvC 0 4) () N) ∗ atPos ER (rcvC 0 4) 0 ∅ 0)
        ∗ (cred (tallyAt (rcvC 0 5) () N) ∗ atPos ER (rcvC 0 5) 0 ∅ 0)
        ∗ (dutyTok ER (sndC 0 0) 0 0 ∗ dutyTok ER (rcvC 1 0) 0 0)
        ∗ (dutyTok ER (sndC 0 1) 0 0 ∗ dutyTok ER (rcvC 1 1) 0 0)
        ∗ (dutyTok ER (sndC 0 2) 0 0 ∗ dutyTok ER (rcvC 1 2) 0 0)
        ∗ (dutyTok ER (sndC 0 3) 0 0 ∗ dutyTok ER (rcvC 1 3) 0 0)
        ∗ (dutyTok ER (sndC 0 4) 0 0 ∗ dutyTok ER (rcvC 3 2) 0 0)
        ∗ (dutyTok ER (sndC 0 5) 0 0 ∗ dutyTok ER (rcvC 3 3) 0 0)
        ∗ (dutyTok ER (sndC 0 6) 0 0 ∗ dutyTok ER (rcvC 3 0) 0 0)
        ∗ (dutyTok ER (sndC 0 7) 0 0 ∗ dutyTok ER (rcvC 3 1) 0 0)
        ∗ (∃ f, pkt (rcvS 0) 0 fullShare f)
        ∗ (∃ f, pkt (rcvS 1) 0 fullShare f)
        ∗ (∃ f, pkt (rcvS 2) 0 fullShare f)
        ∗ (∃ f, pkt (rcvS 3) 0 fullShare f)
        ∗ (a0.view.loc ((0 : Dev nD) : Thread nD τ) ↦{q} f0)
        ∗ (a1.view.loc ((0 : Dev nD) : Thread nD τ) ↦{q} f1)
        ∗ (a2.view.loc ((0 : Dev nD) : Thread nD τ) ↦{q} f2)
        ∗ (a3.view.loc ((0 : Dev nD) : Thread nD τ) ↦{q} f3)
        ∗ (ownM.view.loc ((0 : Dev nD) : Thread nD τ) ↦{fullShare} f6))
      ⊢ iprop((∀ v, ⌜IsPk (PK 0) (shapeCast S9x64x64 v shapeCasts_S1x9x64x64_S9x64x64)⌝
          -∗ (∃ W, owes ((0 : Dev nD) : Thread nD τ) 0 W)
          ∗ atPos ER (barC 0) 1 ∅ 0
          ∗ (got PK 0 4 fullShare ∗ atPos ER (rcvC 0 4) 1 ∅ 0)
          ∗ (got PK 0 5 fullShare ∗ atPos ER (rcvC 0 5) 1 ∅ 0)
          ∗ got PK 0 0 fullShare ∗ (∃ f, pkt (ownS 0) 0 shK f)
          ∗ got PK 0 1 fullShare ∗ (∃ f, pkt (ownS 1) 0 shK f)
          ∗ got PK 0 2 fullShare ∗ (∃ f, pkt (ownS 2) 0 shK f)
          ∗ got PK 0 3 fullShare ∗ (∃ f, pkt (ownS 3) 0 shK f)
          ∗ cred (tallyAt (sndC 0 0) () N)
          ∗ cred (tallyAt (sndC 0 1) () N)
          ∗ cred (tallyAt (sndC 0 2) () N)
          ∗ cred (tallyAt (sndC 0 3) () N)
          ∗ cred (tallyAt (sndC 0 4) () N)
          ∗ cred (tallyAt (sndC 0 5) () N)
          ∗ cred (tallyAt (sndC 0 6) () N)
          ∗ cred (tallyAt (sndC 0 7) () N)
          ∗ (a0.view.loc ((0 : Dev nD) : Thread nD τ) ↦{q} f0)
          ∗ (a1.view.loc ((0 : Dev nD) : Thread nD τ) ↦{q} f1)
          ∗ (a2.view.loc ((0 : Dev nD) : Thread nD τ) ↦{q} f2)
          ∗ (a3.view.loc ((0 : Dev nD) : Thread nD τ) ↦{q} f3) -∗ Q v)
        -∗ wp frame (wpE (defs₀ (F := F)) Variants.none (0 : Dev nD) none) Set.univ (k0_part40 a0 h0 a1 h1 a2 h2 a3 h3 a4 h4 a5 h5 ownM (Memref.isWhole_whole _) rcvM (Memref.isWhole_whole _) cc0_scratch2 cc0_scratch3 0 (Scalar.remsi (Scalar.divsi (Dev.word (0 : Dev nD)) 1#32) 4#32) (SemArray.scalar (sig.barrier 0 rfl)) v30 4#32 v31) Q) := by
  rw [k0_part40_eq_skeleton]
  unfold k0_part40_skel
  rw [dif_pos (show _ = 1#1 from by decide), dif_neg (show ¬ _ from by decide), dif_pos (show k0_cond3 0 = 1#1 from by decide), dif_neg (show ¬ _ from by decide), dif_neg (show ¬ _ from by decide), dif_neg (show ¬ _ from by decide)]
  iintro ⟨#HR, ⟨%W, HO⟩, Ht, Hl, ⟨HcB, HaB⟩, Hr4, Hr5, Hd0, Hd1, Hd2, Hd3, Hd4, Hd5, Hd6, Hd7, Hs0, Hs1, Hs2, Hs3, H0, H1, H2, H3, H6⟩ Hk
  iapply (step_sig PK K 0 Variants.none 3 _ (Fin.ext (show k0_dev3 0 = 3 from rfl)) (by decide) _ rfl (owe (sends 0)) rfl) $$ [HO Ht Hl]
  · isplitr; · iexact HR
    isplitl [HO]; · iexact HO
    isplitl [Ht]; · iexact Ht
    iexact Hl
  iintro HO
  iapply (comp0 (α := Vec F S1x9x64x64 .bf16) (0 : Dev nD) a0 h0 a1 h1 a2 h2 a3 h3 a4 h4 a5 h5 q f0 f1 f2 f3 f6 (fun _ : PUnit.{1} => _)) $$ [H0 H1 H2 H3 H6]
  · isplitl [H0]; · iexact H0
    isplitl [H1]; · iexact H1
    isplitl [H2]; · iexact H2
    isplitl [H3]; · iexact H3
    iexact H6
  iintro ⟨H0, H1, H2, H3, ⟨%g, H6, %hg⟩⟩
  ihave H6 := (own_split (0 : Dev nD) g) $$ H6
  icases H6 with ⟨Hp0, Hp1, Hp2, Hp3⟩
  have m0 := isPk_own0 0 hg (own_read0 g) e0
  have m1 := isPk_own0 1 hg (own_read1 g) e1
  have m2 := isPk_own0 2 hg (own_read2 g) e2
  have m3 := isPk_own0 3 hg (own_read3 g) e3
  iapply (comm0 PK K a0 h0 a1 h1 a2 h2 a3 h3 a4 h4 a5 h5 _ (fun _ : PUnit.{1} => Prog.lift _)) $$ [HO HcB HaB Hr4 Hr5 Hd0 Hd1 Hd2 Hd3 Hd4 Hd5 Hd6 Hd7 Hp0 Hs0 Hp1 Hs1 Hp2 Hs2 Hp3 Hs3]
  · unfold pre0
    isplitr; · iexact HR
    isplitl [HO]; · iexists _; iexact HO
    isplitl [HcB]; · iexact HcB
    isplitl [HaB]; · iexact HaB
    isplitl [Hr4]; · iexact Hr4
    isplitl [Hr5]; · iexact Hr5
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hp0]
    · unfold made
      iexists g
      isplitl [Hp0]; · iexact Hp0
      ipureintro; exact m0
    isplitl [Hs0]; · iexact Hs0
    isplitl [Hp1]
    · unfold made
      iexists g
      isplitl [Hp1]; · iexact Hp1
      ipureintro; exact m1
    isplitl [Hs1]; · iexact Hs1
    isplitl [Hp2]
    · unfold made
      iexists g
      isplitl [Hp2]; · iexact Hp2
      ipureintro; exact m2
    isplitl [Hs2]; · iexact Hs2
    isplitl [Hp3]
    · unfold made
      iexists g
      isplitl [Hp3]; · iexact Hp3
      ipureintro; exact m3
    iexact Hs3
  unfold post0
  iintro ⟨HO, HaB, ⟨Hg4, Ha4⟩, ⟨Hg5, Ha5⟩, Hg0, Ho0, Hg1, Ho1, Hg2, Ho2, Hg3, Ho3, Hc0, Hc1, Hc2, Hc3, Hc4, Hc5, Hc6, Hc7⟩
  ihave Hg0 := (Entails.of_eq (show got PK 0 0 fullShare = iprop(∃ f, pkt (rcvS 0) 0 fullShare f ∗ ⌜IsPk (PK 0) ((rcvS 0).view.read (Elt F) f)⌝) from rfl)) $$ Hg0
  icases Hg0 with ⟨%r0, Hg0, %hr0⟩
  iapply (step_ld (0 : Dev nD) Variants.none rcvM (Rect.unit (s := S6x9x64x64) ![0, 0, 0, 0] S1x9x64x64.size inb_S6x9x64x64_S1x9x64x64_0_0_0_0) (fun _ => rfl) squeezes_S1x9x64x64_S9x64x64 (q := fullShare) (f := r0)) $$ [Hg0]
  · iexact Hg0
  iintro Hg0
  iapply (ret_step (F := F) 0)
  ispecialize Hk $$ %(rcvM.view.readAt (Elt F) (Rect.unit (s := S6x9x64x64) ![0, 0, 0, 0] S1x9x64x64.size inb_S6x9x64x64_S1x9x64x64_0_0_0_0).toLoadRect r0)
  iapply Hk $$ []
  · ipureintro
    rw [← own_ld r0]; exact hr0
  isplitl [HO]; · iexact HO
  isplitl [HaB]; · iexact HaB
  isplitl [Hg4 Ha4]
  · isplitl [Hg4]
    · iexact Hg4
    iexact Ha4
  isplitl [Hg5 Ha5]
  · isplitl [Hg5]
    · iexact Hg5
    iexact Ha5
  isplitl [Hg0]
  · unfold got
    iexists r0
    isplitl [Hg0]; · iexact Hg0
    ipureintro; exact hr0
  isplitl [Ho0]; · iexact Ho0
  isplitl [Hg1]
  · iexact Hg1
  isplitl [Ho1]; · iexact Ho1
  isplitl [Hg2]
  · iexact Hg2
  isplitl [Ho2]; · iexact Ho2
  isplitl [Hg3]
  · iexact Hg3
  isplitl [Ho3]; · iexact Ho3
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [H0]; · iexact H0
  isplitl [H1]; · iexact H1
  isplitl [H2]; · iexact H2
  iexact H3

set_option maxHeartbeats 4000000 in
set_option maxRecDepth 65536 in
/-- Three sends done: their sources are back. -/
theorem drain36 (Q : PUnit → sProp (MT nD τ sig Unit (Elt F) ℕ UU ℕ)) :
    iprop(recs PK K 0 ∗ (∃ W, owes ((0 : Dev nD) : Thread nD τ) 0 W) ∗ (cred (tallyAt (sndC 0 0) () N) ∗ atPos ER (sndC 0 0) 0 ∅ 0) ∗ (cred (tallyAt (sndC 0 1) () N) ∗ atPos ER (sndC 0 1) 0 ∅ 0) ∗ (cred (tallyAt (sndC 0 2) () N) ∗ atPos ER (sndC 0 2) 0 ∅ 0))
      ⊢ iprop(((∃ W, owes ((0 : Dev nD) : Thread nD τ) 0 W) ∗ (atPos ER (sndC 0 0) 1 ∅ 0 ∗ sndPay 0 0) ∗ (atPos ER (sndC 0 1) 1 ∅ 0 ∗ sndPay 0 1) ∗ (atPos ER (sndC 0 2) 1 ∅ 0 ∗ sndPay 0 2) -∗ Q ⟨⟩)
        -∗ wp frame (wpE (defs₀ (F := F)) Variants.none (0 : Dev nD) none) Set.univ (k0_part36 a0 h0 a1 h1 a2 h2 a3 h3 a4 h4 a5 h5 ownM (Memref.isWhole_whole _) rcvM (Memref.isWhole_whole _) cc0_scratch2 cc0_scratch3) Q) := by
  rw [k0_part36_eq_skeleton]
  unfold k0_part36_skel
  iintro ⟨#HR, HO, ⟨Hc0, Hx0⟩, ⟨Hc1, Hx1⟩, ⟨Hc2, Hx2⟩⟩ Hk
  iapply (step_snd PK K 0 Variants.none 0 (by decide) _ rfl (rcvS 0) (ownS 0) rfl) $$ [HO Hc0 Hx0]
  · isplitr; · iexact HR
    isplitl [HO]; · iexact HO
    isplitl [Hc0]; · iexact Hc0
    iexact Hx0
  iintro ⟨HO, Hx0, Hq0⟩
  iapply (step_snd PK K 0 Variants.none 1 (by decide) _ rfl (rcvS 0) (ownS 0) rfl) $$ [HO Hc1 Hx1]
  · isplitr; · iexact HR
    isplitl [HO]; · iexact HO
    isplitl [Hc1]; · iexact Hc1
    iexact Hx1
  iintro ⟨HO, Hx1, Hq1⟩
  iapply (step_snd PK K 0 Variants.none 2 (by decide) _ rfl (rcvS 0) (ownS 0) rfl) $$ [HO Hc2 Hx2]
  · isplitr; · iexact HR
    isplitl [HO]; · iexact HO
    isplitl [Hc2]; · iexact Hc2
    iexact Hx2
  iintro ⟨HO, Hx2, Hq2⟩
  iapply (ret_step (F := F) 0)
  iapply Hk
  isplitl [HO]; · iexact HO
  isplitl [Hx0 Hq0]
  · isplitl [Hx0]; · iexact Hx0
    iexact Hq0
  isplitl [Hx1 Hq1]
  · isplitl [Hx1]; · iexact Hx1
    iexact Hq1
  isplitl [Hx2]; · iexact Hx2
  iexact Hq2

set_option maxHeartbeats 4000000 in
set_option maxRecDepth 65536 in
/-- Three sends done: their sources are back. -/
theorem drain37 (Q : PUnit → sProp (MT nD τ sig Unit (Elt F) ℕ UU ℕ)) :
    iprop(recs PK K 0 ∗ (∃ W, owes ((0 : Dev nD) : Thread nD τ) 0 W) ∗ (cred (tallyAt (sndC 0 3) () N) ∗ atPos ER (sndC 0 3) 0 ∅ 0) ∗ (cred (tallyAt (sndC 0 4) () N) ∗ atPos ER (sndC 0 4) 0 ∅ 0) ∗ (cred (tallyAt (sndC 0 5) () N) ∗ atPos ER (sndC 0 5) 0 ∅ 0))
      ⊢ iprop(((∃ W, owes ((0 : Dev nD) : Thread nD τ) 0 W) ∗ (atPos ER (sndC 0 3) 1 ∅ 0 ∗ sndPay 0 3) ∗ (atPos ER (sndC 0 4) 1 ∅ 0 ∗ sndPay 0 4) ∗ (atPos ER (sndC 0 5) 1 ∅ 0 ∗ sndPay 0 5) -∗ Q ⟨⟩)
        -∗ wp frame (wpE (defs₀ (F := F)) Variants.none (0 : Dev nD) none) Set.univ (k0_part37 a0 h0 a1 h1 a2 h2 a3 h3 a4 h4 a5 h5 ownM (Memref.isWhole_whole _) rcvM (Memref.isWhole_whole _) cc0_scratch2 cc0_scratch3) Q) := by
  rw [k0_part37_eq_skeleton]
  unfold k0_part37_skel
  iintro ⟨#HR, HO, ⟨Hc3, Hx3⟩, ⟨Hc4, Hx4⟩, ⟨Hc5, Hx5⟩⟩ Hk
  iapply (step_snd PK K 0 Variants.none 3 (by decide) _ rfl (rcvS 0) (ownS 0) rfl) $$ [HO Hc3 Hx3]
  · isplitr; · iexact HR
    isplitl [HO]; · iexact HO
    isplitl [Hc3]; · iexact Hc3
    iexact Hx3
  iintro ⟨HO, Hx3, Hq3⟩
  iapply (step_snd PK K 0 Variants.none 4 (by decide) _ rfl (rcvS 0) (ownS 0) rfl) $$ [HO Hc4 Hx4]
  · isplitr; · iexact HR
    isplitl [HO]; · iexact HO
    isplitl [Hc4]; · iexact Hc4
    iexact Hx4
  iintro ⟨HO, Hx4, Hq4⟩
  iapply (step_snd PK K 0 Variants.none 5 (by decide) _ rfl (rcvS 0) (ownS 0) rfl) $$ [HO Hc5 Hx5]
  · isplitr; · iexact HR
    isplitl [HO]; · iexact HO
    isplitl [Hc5]; · iexact Hc5
    iexact Hx5
  iintro ⟨HO, Hx5, Hq5⟩
  iapply (ret_step (F := F) 0)
  iapply Hk
  isplitl [HO]; · iexact HO
  isplitl [Hx3 Hq3]
  · isplitl [Hx3]; · iexact Hx3
    iexact Hq3
  isplitl [Hx4 Hq4]
  · isplitl [Hx4]; · iexact Hx4
    iexact Hq4
  isplitl [Hx5]; · iexact Hx5
  iexact Hq5

set_option maxHeartbeats 4000000 in
set_option maxRecDepth 65536 in
/-- The whole body on device 0. -/
theorem body0 (q : PosShare TreeShare) (f0 : Buf (Elt F) (a0.view.loc ((0 : Dev nD) : Thread nD τ))) (f1 : Buf (Elt F) (a1.view.loc ((0 : Dev nD) : Thread nD τ))) (f2 : Buf (Elt F) (a2.view.loc ((0 : Dev nD) : Thread nD τ))) (f3 : Buf (Elt F) (a3.view.loc ((0 : Dev nD) : Thread nD τ))) (f4 : Buf (Elt F) (a4.view.loc ((0 : Dev nD) : Thread nD τ))) (f5 : Buf (Elt F) (a5.view.loc ((0 : Dev nD) : Thread nD τ)))
    (e0 : PK 0 = pkOf (o0 (a0.view.read (Elt F) f0) (a1.view.read (Elt F) f1) (a2.view.read (Elt F) f2) (a3.view.read (Elt F) f3) 0) (s0 (a0.view.read (Elt F) f0) (a1.view.read (Elt F) f1) (a2.view.read (Elt F) f2) 0))
    (e1 : PK 1 = pkOf (o0 (a0.view.read (Elt F) f0) (a1.view.read (Elt F) f1) (a2.view.read (Elt F) f2) (a3.view.read (Elt F) f3) 1) (s0 (a0.view.read (Elt F) f0) (a1.view.read (Elt F) f1) (a2.view.read (Elt F) f2) 1))
    (e2 : PK 2 = pkOf (o0 (a0.view.read (Elt F) f0) (a1.view.read (Elt F) f1) (a2.view.read (Elt F) f2) (a3.view.read (Elt F) f3) 2) (s0 (a0.view.read (Elt F) f0) (a1.view.read (Elt F) f1) (a2.view.read (Elt F) f2) 2))
    (e3 : PK 3 = pkOf (o0 (a0.view.read (Elt F) f0) (a1.view.read (Elt F) f1) (a2.view.read (Elt F) f2) (a3.view.read (Elt F) f3) 3) (s0 (a0.view.read (Elt F) f0) (a1.view.read (Elt F) f1) (a2.view.read (Elt F) f2) 3))
    (Q : PUnit → sProp (MT nD τ sig Unit (Elt F) ℕ UU ℕ)) :
    iprop(recs PK K 0
        ∗ (∃ W, owes ((0 : Dev nD) : Thread nD τ) (O₀ 0) W)
        ∗ dutyTok ER (barC 1) 0 0
        ∗ dutyTok ER (barC 2) 0 0
        ∗ dutyTok ER (barC 3) 0 0
        ∗ (cred (tallyAt (barC 0) () 3) ∗ atPos ER (barC 0) 0 ∅ 0)
        ∗ (cred (tallyAt (rcvC 0 4) () N) ∗ atPos ER (rcvC 0 4) 0 ∅ 0)
        ∗ (cred (tallyAt (rcvC 0 5) () N) ∗ atPos ER (rcvC 0 5) 0 ∅ 0)
        ∗ (dutyTok ER (sndC 0 0) 0 0 ∗ dutyTok ER (rcvC 1 0) 0 0)
        ∗ (dutyTok ER (sndC 0 1) 0 0 ∗ dutyTok ER (rcvC 1 1) 0 0)
        ∗ (dutyTok ER (sndC 0 2) 0 0 ∗ dutyTok ER (rcvC 1 2) 0 0)
        ∗ (dutyTok ER (sndC 0 3) 0 0 ∗ dutyTok ER (rcvC 1 3) 0 0)
        ∗ (dutyTok ER (sndC 0 4) 0 0 ∗ dutyTok ER (rcvC 3 2) 0 0)
        ∗ (dutyTok ER (sndC 0 5) 0 0 ∗ dutyTok ER (rcvC 3 3) 0 0)
        ∗ (dutyTok ER (sndC 0 6) 0 0 ∗ dutyTok ER (rcvC 3 0) 0 0)
        ∗ (dutyTok ER (sndC 0 7) 0 0 ∗ dutyTok ER (rcvC 3 1) 0 0)
        ∗ atPos ER (sndC 0 0) 0 ∅ 0
        ∗ atPos ER (sndC 0 1) 0 ∅ 0
        ∗ atPos ER (sndC 0 2) 0 ∅ 0
        ∗ atPos ER (sndC 0 3) 0 ∅ 0
        ∗ atPos ER (sndC 0 4) 0 ∅ 0
        ∗ atPos ER (sndC 0 5) 0 ∅ 0
        ∗ atPos ER (sndC 0 6) 0 ∅ 0
        ∗ atPos ER (sndC 0 7) 0 ∅ 0
        ∗ (a0.view.loc ((0 : Dev nD) : Thread nD τ) ↦{q} f0)
        ∗ (a1.view.loc ((0 : Dev nD) : Thread nD τ) ↦{q} f1)
        ∗ (a2.view.loc ((0 : Dev nD) : Thread nD τ) ↦{q} f2)
        ∗ (a3.view.loc ((0 : Dev nD) : Thread nD τ) ↦{q} f3)
        ∗ (a4.view.loc ((0 : Dev nD) : Thread nD τ) ↦{q} f4)
        ∗ (a5.view.loc ((0 : Dev nD) : Thread nD τ) ↦{fullShare} f5)
        ∗ (∃ f, ownM.view.loc ((0 : Dev nD) : Thread nD τ) ↦{fullShare} f)
        ∗ (∃ f, rcvM.view.loc ((0 : Dev nD) : Thread nD τ) ↦{fullShare} f))
      ⊢ iprop(((∃ W, owes ((0 : Dev nD) : Thread nD τ) 0 W)
          ∗ atPos ER (barC 0) 1 ∅ 0
          ∗ atPos ER (rcvC 0 4) 1 ∅ 0
          ∗ atPos ER (rcvC 0 5) 1 ∅ 0
          ∗ atPos ER (sndC 0 0) 1 ∅ 0
          ∗ atPos ER (sndC 0 1) 1 ∅ 0
          ∗ atPos ER (sndC 0 2) 1 ∅ 0
          ∗ atPos ER (sndC 0 3) 1 ∅ 0
          ∗ atPos ER (sndC 0 4) 1 ∅ 0
          ∗ atPos ER (sndC 0 5) 1 ∅ 0
          ∗ atPos ER (sndC 0 6) 1 ∅ 0
          ∗ atPos ER (sndC 0 7) 1 ∅ 0
          ∗ (a0.view.loc ((0 : Dev nD) : Thread nD τ) ↦{q} f0)
          ∗ (a1.view.loc ((0 : Dev nD) : Thread nD τ) ↦{q} f1)
          ∗ (a2.view.loc ((0 : Dev nD) : Thread nD τ) ↦{q} f2)
          ∗ (a3.view.loc ((0 : Dev nD) : Thread nD τ) ↦{q} f3)
          ∗ (a4.view.loc ((0 : Dev nD) : Thread nD τ) ↦{q} f4)
          ∗ (∃ f, (a5.view.loc ((0 : Dev nD) : Thread nD τ) ↦{fullShare} f) ∗ ⌜a5.view.read (Elt F) f = outP PK (a4.view.read (Elt F) f4)⌝)
          ∗ (∃ f, ownM.view.loc ((0 : Dev nD) : Thread nD τ) ↦{fullShare} f)
          ∗ (∃ f, rcvM.view.loc ((0 : Dev nD) : Thread nD τ) ↦{fullShare} f) -∗ Q ⟨⟩)
        -∗ wp frame (wpE (defs₀ (F := F)) Variants.none (0 : Dev nD) none) Set.univ (cc0_body a0 h0 a1 h1 a2 h2 a3 h3 a4 h4 a5 h5 ownM (Memref.isWhole_whole _) rcvM (Memref.isWhole_whole _) cc0_scratch2 cc0_scratch3) Q) := by
  rw [cc0_body_eq_skeleton]
  unfold cc0_body_skel
  iintro ⟨#HR, HO, Ht1, Ht2, Ht3, HB, Hr4, Hr5, Hd0, Hd1, Hd2, Hd3, Hd4, Hd5, Hd6, Hd7, Hx0, Hx1, Hx2, Hx3, Hx4, Hx5, Hx6, Hx7, H0, H1, H2, H3, H4, H5, ⟨%f6, H6⟩, ⟨%f7, H7⟩⟩ Hk
  ihave H7 := (rcv_split (0 : Dev nD) f7) $$ H7
  icases H7 with ⟨Hs0, Hs1, Hs2, Hs3, Hs4, Hs5⟩
  ihave Hl1 : (lendAll 0 (lends 0 1) : sProp (MT nD τ sig Unit (Elt F) ℕ UU ℕ)) $$ [Hs4 Hs5]
  · iapply (Entails.of_eq (show iprop(lend 0 4 ∗ lend 0 5 ∗ emp) = lendAll 0 (lends 0 1) from rfl))
    isplitl [Hs4]
    · iapply (lend_mk (PK := PK) (K := K) 0 4)
      isplitr; · iexact HR
      iexists f7; iexact Hs4
    isplitl [Hs5]
    · iapply (lend_mk (PK := PK) (K := K) 0 5)
      isplitr; · iexact HR
      iexists f7; iexact Hs5
    iempintro
  ihave Hl2 : (lendAll 0 (lends 0 2) : sProp (MT nD τ sig Unit (Elt F) ℕ UU ℕ)) $$ []
  · iapply (Entails.of_eq (show iprop(emp) = lendAll 0 (lends 0 2) from rfl))
    iempintro
  ihave Hl3 : (lendAll 0 (lends 0 3) : sProp (MT nD τ sig Unit (Elt F) ℕ UU ℕ)) $$ []
  · iapply (Entails.of_eq (show iprop(emp) = lendAll 0 (lends 0 3) from rfl))
    iempintro
  iapply (bind_step (F := F) 0)
  iapply (sig0 PK K a0 h0 a1 h1 a2 h2 a3 h3 a4 h4 a5 h5) $$ [HO Ht1 Ht2 Hl1 Hl2]
  · isplitr; · iexact HR
    isplitl [HO]; · iexact HO
    isplitl [Ht1]; · iexact Ht1
    isplitl [Ht2]; · iexact Ht2
    isplitl [Hl1]; · iexact Hl1
    iexact Hl2
  iintro HO
  iapply (bind_step (F := F) 0)
  iapply (head0 PK K a0 h0 a1 h1 a2 h2 a3 h3 a4 h4 a5 h5 q f0 f1 f2 f3 f6 e0 e1 e2 e3) $$ [HO Ht3 Hl3 HB Hr4 Hr5 Hd0 Hd1 Hd2 Hd3 Hd4 Hd5 Hd6 Hd7 Hs0 Hs1 Hs2 Hs3 H0 H1 H2 H3 H6]
  · isplitr; · iexact HR
    isplitl [HO]; · iexact HO
    isplitl [Ht3]; · iexact Ht3
    isplitl [Hl3]; · iexact Hl3
    isplitl [HB]; · iexact HB
    isplitl [Hr4]; · iexact Hr4
    isplitl [Hr5]; · iexact Hr5
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hs0]; · iexists f7; iexact Hs0
    isplitl [Hs1]; · iexists f7; iexact Hs1
    isplitl [Hs2]; · iexists f7; iexact Hs2
    isplitl [Hs3]; · iexists f7; iexact Hs3
    isplitl [H0]; · iexact H0
    isplitl [H1]; · iexact H1
    isplitl [H2]; · iexact H2
    isplitl [H3]; · iexact H3
    iexact H6
  iintro %v61 %hv ⟨HO, HaB, ⟨Hg4, Ha4⟩, ⟨Hg5, Ha5⟩, Hg0, Ho0, Hg1, Ho1, Hg2, Ho2, Hg3, Ho3, Hc0, Hc1, Hc2, Hc3, Hc4, Hc5, Hc6, Hc7, H0, H1, H2, H3⟩
  iapply (written PK 0 a0 h0 a1 h1 a2 h2 a3 h3 a4 h4 a5 h5 v61 hv q fullShare fullShare fullShare fullShare fullShare f4 f5 (fun _ : PUnit.{1} => _)) $$ [Hg1 Hg2 Hg3 Hg4 Hg5 H4 H5]
  · isplitl [Hg1]; · iexact Hg1
    isplitl [Hg2]; · iexact Hg2
    isplitl [Hg3]; · iexact Hg3
    isplitl [Hg4]; · iexact Hg4
    isplitl [Hg5]; · iexact Hg5
    isplitl [H4]; · iexact H4
    iexact H5
  iintro ⟨Hg1, Hg2, Hg3, Hg4, Hg5, H4, H5⟩
  rw [dif_pos (show _ = 1#1 from by decide), dif_neg (show ¬ _ from by decide), dif_neg (show ¬ _ from by decide)]
  iapply (bind_step (F := F) 0)
  iapply (drain36 PK K a0 h0 a1 h1 a2 h2 a3 h3 a4 h4 a5 h5) $$ [HO Hc0 Hx0 Hc1 Hx1 Hc2 Hx2]
  · isplitr; · iexact HR
    isplitl [HO]; · iexact HO
    isplitl [Hc0 Hx0]
    · isplitl [Hc0]; · iexact Hc0
      iexact Hx0
    isplitl [Hc1 Hx1]
    · isplitl [Hc1]; · iexact Hc1
      iexact Hx1
    isplitl [Hc2]; · iexact Hc2
    iexact Hx2
  iintro ⟨HO, ⟨Hx0, Hq0⟩, ⟨Hx1, Hq1⟩, ⟨Hx2, Hq2⟩⟩
  iapply (bind_step (F := F) 0)
  iapply (drain37 PK K a0 h0 a1 h1 a2 h2 a3 h3 a4 h4 a5 h5) $$ [HO Hc3 Hx3 Hc4 Hx4 Hc5 Hx5]
  · isplitr; · iexact HR
    isplitl [HO]; · iexact HO
    isplitl [Hc3 Hx3]
    · isplitl [Hc3]; · iexact Hc3
      iexact Hx3
    isplitl [Hc4 Hx4]
    · isplitl [Hc4]; · iexact Hc4
      iexact Hx4
    isplitl [Hc5]; · iexact Hc5
    iexact Hx5
  iintro ⟨HO, ⟨Hx3, Hq3⟩, ⟨Hx4, Hq4⟩, ⟨Hx5, Hq5⟩⟩
  iapply (step_snd PK K 0 Variants.none 6 (by decide) _ rfl (rcvS 0) (ownS 0) rfl) $$ [HO Hc6 Hx6]
  · isplitr; · iexact HR
    isplitl [HO]; · iexact HO
    isplitl [Hc6]; · iexact Hc6
    iexact Hx6
  iintro ⟨HO, Hx6, Hq6⟩
  iapply (step_snd PK K 0 Variants.none 7 (by decide) _ rfl (rcvS 0) (ownS 0) rfl) $$ [HO Hc7 Hx7]
  · isplitr; · iexact HR
    isplitl [HO]; · iexact HO
    isplitl [Hc7]; · iexact Hc7
    iexact Hx7
  iintro ⟨HO, Hx7, Hq7⟩
  iapply (ret_step (F := F) 0)
  ihave Hg0 := (got_slot (PK := PK) 0 0 fullShare) $$ Hg0
  ihave Hg1 := (got_slot (PK := PK) 0 1 fullShare) $$ Hg1
  ihave Hg2 := (got_slot (PK := PK) 0 2 fullShare) $$ Hg2
  ihave Hg3 := (got_slot (PK := PK) 0 3 fullShare) $$ Hg3
  ihave Hg4 := (got_slot (PK := PK) 0 4 fullShare) $$ Hg4
  ihave Hg5 := (got_slot (PK := PK) 0 5 fullShare) $$ Hg5
  ihave Hq0 := (Entails.of_eq (show sndPay 0 0 = iprop(∃ f, pkt (ownS 0) 0 shA f) from rfl)) $$ Hq0
  ihave Hq1 := (Entails.of_eq (show sndPay 0 1 = iprop(∃ f, pkt (ownS 1) 0 shA f) from rfl)) $$ Hq1
  ihave Hq2 := (Entails.of_eq (show sndPay 0 2 = iprop(∃ f, pkt (ownS 2) 0 shA f) from rfl)) $$ Hq2
  ihave Hq3 := (Entails.of_eq (show sndPay 0 3 = iprop(∃ f, pkt (ownS 3) 0 shA f) from rfl)) $$ Hq3
  ihave Hq4 := (Entails.of_eq (show sndPay 0 4 = iprop(∃ f, pkt (ownS 2) 0 shB f) from rfl)) $$ Hq4
  ihave Hq5 := (Entails.of_eq (show sndPay 0 5 = iprop(∃ f, pkt (ownS 3) 0 shB f) from rfl)) $$ Hq5
  ihave Hq6 := (Entails.of_eq (show sndPay 0 6 = iprop(∃ f, pkt (ownS 0) 0 shB f) from rfl)) $$ Hq6
  ihave Hq7 := (Entails.of_eq (show sndPay 0 7 = iprop(∃ f, pkt (ownS 1) 0 shB f) from rfl)) $$ Hq7
  ihave Hq0 := (join_ex 0 (ownS 0) shL) $$ [Hq0 Hq6]
  · isplitl [Hq0]; · iexact Hq0
    iexact Hq6
  ihave Ho0 := (join_ex 0 (ownS 0) fullShare) $$ [Hq0 Ho0]
  · isplitl [Hq0]; · iexact Hq0
    iexact Ho0
  ihave Hq1 := (join_ex 0 (ownS 1) shL) $$ [Hq1 Hq7]
  · isplitl [Hq1]; · iexact Hq1
    iexact Hq7
  ihave Ho1 := (join_ex 0 (ownS 1) fullShare) $$ [Hq1 Ho1]
  · isplitl [Hq1]; · iexact Hq1
    iexact Ho1
  ihave Hq2 := (join_ex 0 (ownS 2) shL) $$ [Hq2 Hq4]
  · isplitl [Hq2]; · iexact Hq2
    iexact Hq4
  ihave Ho2 := (join_ex 0 (ownS 2) fullShare) $$ [Hq2 Ho2]
  · isplitl [Hq2]; · iexact Hq2
    iexact Ho2
  ihave Hq3 := (join_ex 0 (ownS 3) shL) $$ [Hq3 Hq5]
  · isplitl [Hq3]; · iexact Hq3
    iexact Hq5
  ihave Ho3 := (join_ex 0 (ownS 3) fullShare) $$ [Hq3 Ho3]
  · isplitl [Hq3]; · iexact Hq3
    iexact Ho3
  ihave H6 := (own_join (0 : Dev nD)) $$ [Ho0 Ho1 Ho2 Ho3]
  · isplitl [Ho0]; · iexact Ho0
    isplitl [Ho1]; · iexact Ho1
    isplitl [Ho2]; · iexact Ho2
    iexact Ho3
  ihave H7 := (rcv_join (0 : Dev nD)) $$ [Hg0 Hg1 Hg2 Hg3 Hg4 Hg5]
  · isplitl [Hg0]; · iexact Hg0
    isplitl [Hg1]; · iexact Hg1
    isplitl [Hg2]; · iexact Hg2
    isplitl [Hg3]; · iexact Hg3
    isplitl [Hg4]; · iexact Hg4
    iexact Hg5
  iapply Hk
  isplitl [HO]; · iexact HO
  isplitl [HaB]; · iexact HaB
  isplitl [Ha4]; · iexact Ha4
  isplitl [Ha5]; · iexact Ha5
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Att
-- ==== Proof.Comm1.lean ====
/-
  Device 1's exchange: its two packets go to device 0 and to device 2, and into its own slots; packets 0 to 3 arrive, the first two are passed on to device 2.
-/
module

public import proofs.«01_k».proof.Proof.Steps

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (PK : Fin 6 → S9x64x64.Idx → F .bf16) (K : GSem nD τ sig → ℕ)

/-- What device 1 has when its signals are sent. -/
def pre1 : sProp 𝕄 :=
  iprop(recs PK K 1 ∗ (∃ W, owes ((1 : Dev nD) : Thread nD τ) (owe (sends 1)) W)
    ∗ cred (tallyAt (barC 1) () 3) ∗ atPos ER (barC 1) 0 ∅ 0
    ∗ (cred (tallyAt (rcvC 1 0) () N) ∗ atPos ER (rcvC 1 0) 0 ∅ 0)
    ∗ (cred (tallyAt (rcvC 1 1) () N) ∗ atPos ER (rcvC 1 1) 0 ∅ 0)
    ∗ (cred (tallyAt (rcvC 1 2) () N) ∗ atPos ER (rcvC 1 2) 0 ∅ 0)
    ∗ (cred (tallyAt (rcvC 1 3) () N) ∗ atPos ER (rcvC 1 3) 0 ∅ 0)
    ∗ (dutyTok ER (sndC 1 0) 0 0 ∗ dutyTok ER (rcvC 0 4) 0 0)
    ∗ (dutyTok ER (sndC 1 1) 0 0 ∗ dutyTok ER (rcvC 0 5) 0 0)
    ∗ (dutyTok ER (sndC 1 2) 0 0 ∗ dutyTok ER (rcvC 2 4) 0 0)
    ∗ (dutyTok ER (sndC 1 3) 0 0 ∗ dutyTok ER (rcvC 2 5) 0 0)
    ∗ (dutyTok ER (sndC 1 4) 0 0 ∗ dutyTok ER (rcvC 2 0) 0 0)
    ∗ (dutyTok ER (sndC 1 5) 0 0 ∗ dutyTok ER (rcvC 2 1) 0 0)
    ∗ made PK 1 2 4 ∗ (∃ f, pkt (rcvS 4) 1 fullShare f)
    ∗ made PK 1 3 5 ∗ (∃ f, pkt (rcvS 5) 1 fullShare f))

/-- What device 1 has when its exchange is done. -/
def post1 : sProp 𝕄 :=
  iprop((∃ W, owes ((1 : Dev nD) : Thread nD τ) 0 W) ∗ atPos ER (barC 1) 1 ∅ 0
    ∗ (got PK 1 0 shK ∗ atPos ER (rcvC 1 0) 1 ∅ 0)
    ∗ (got PK 1 1 shK ∗ atPos ER (rcvC 1 1) 1 ∅ 0)
    ∗ (got PK 1 2 fullShare ∗ atPos ER (rcvC 1 2) 1 ∅ 0)
    ∗ (got PK 1 3 fullShare ∗ atPos ER (rcvC 1 3) 1 ∅ 0)
    ∗ got PK 1 4 fullShare ∗ (∃ f, pkt (ownS 2) 1 shK f)
    ∗ got PK 1 5 fullShare ∗ (∃ f, pkt (ownS 3) 1 shK f)
    ∗ cred (tallyAt (sndC 1 0) () N)
    ∗ cred (tallyAt (sndC 1 1) () N)
    ∗ cred (tallyAt (sndC 1 2) () N)
    ∗ cred (tallyAt (sndC 1 3) () N)
    ∗ cred (tallyAt (sndC 1 4) () N)
    ∗ cred (tallyAt (sndC 1 5) () N))
variable {α : Type} (a0 : Memref sig .tc .vmem S2x256x512 .bf16) (h0 : a0.IsWhole) (a1 : Memref sig .tc .vmem S512x256 .bf16) (h1 : a1.IsWhole)
  (a2 : Memref sig .tc .vmem S2x256x256 .bf16) (h2 : a2.IsWhole) (a3 : Memref sig .tc .vmem S2x256x256 .bf16) (h3 : a3.IsWhole)
  (a4 : Memref sig .tc .vmem S256x512 .bf16) (h4 : a4.IsWhole) (a5 : Memref sig .tc .vmem S2x256x512 .f32) (h5 : a5.IsWhole)

/-- The exchange's statements. -/
abbrev prog1 (k0_h4 : k0_cond4 1 = 1#1)
    (kk : PUnit → Prog (TpuEff nD τ sig (Elt F) Λ₀ .tc) α) : Prog (TpuEff nD τ sig (Elt F) Λ₀ .tc) α := do
          k0_part26 a0 h0 a1 h1 a2 h2 a3 h3 a4 h4 a5 h5 ownM (Memref.isWhole_whole _) rcvM (Memref.isWhole_whole _) cc0_scratch2 cc0_scratch3 1 (SemArray.scalar (sig.barrier 0 rfl)) k0_h4
          let v378 : FVec F S9x64x64 .bf16 ← k0_part27 a0 h0 a1 h1 a2 h2 a3 h3 a4 h4 a5 h5 ownM (Memref.isWhole_whole _) rcvM (Memref.isWhole_whole _) cc0_scratch2 cc0_scratch3 1 k0_h4
          let v400 : BitVec 32 ← k0_part28 a0 h0 a1 h1 a2 h2 a3 h3 a4 h4 a5 h5 ownM (Memref.isWhole_whole _) rcvM (Memref.isWhole_whole _) cc0_scratch2 cc0_scratch3 1 k0_h4 v378
          k0_part29 a0 h0 a1 h1 a2 h2 a3 h3 a4 h4 a5 h5 ownM (Memref.isWhole_whole _) rcvM (Memref.isWhole_whole _) cc0_scratch2 cc0_scratch3 1 k0_h4 v400
          let v420 : DmaSems sig S1 := cc0_scratch3.slice (Rect.unit (s := S6) ![2] S1.size inb_S6_S1_2)
          let v421 : DmaSems sig S_ := v420.squeeze S_ squeezes_S1_S_
          let v422 : Memref sig .tc .vmem S1x9x64x64 .bf16 := rcvM.slice (Rect.unit (s := S6x9x64x64) ![2, 0, 0, 0] S1x9x64x64.size inb_S6x9x64x64_S1x9x64x64_2_0_0_0) (fun _ => rfl)
          let v423 : Memref sig .tc .vmem S9x64x64 .bf16 := v422.squeeze S9x64x64 squeezes_S1x9x64x64_S9x64x64
          let v424 : Memref sig .tc .vmem S1x9x64x64 .bf16 := rcvM.slice (Rect.unit (s := S6x9x64x64) ![2, 0, 0, 0] S1x9x64x64.size inb_S6x9x64x64_S1x9x64x64_2_0_0_0) (fun _ => rfl)
          let v425 : Memref sig .tc .vmem S9x64x64 .bf16 := v424.squeeze S9x64x64 squeezes_S1x9x64x64_S9x64x64
          Prog.lift (.waitDma2 v421.sem v425 v423 (((Memref.isWhole_whole cc0_scratch1).wordExact_slice rfl _ wordsbf16_S6x9x64x64_S1x9x64x64_2_0_0_0).reshape _ _) (((Memref.isWhole_whole cc0_scratch1).wordExact_slice rfl _ wordsbf16_S6x9x64x64_S1x9x64x64_2_0_0_0).reshape _ _))
          let v428 : DmaSems sig S1 := cc0_scratch3.slice (Rect.unit (s := S6) ![3] S1.size inb_S6_S1_3)
          let v429 : DmaSems sig S_ := v428.squeeze S_ squeezes_S1_S_
          let v430 : Memref sig .tc .vmem S1x9x64x64 .bf16 := rcvM.slice (Rect.unit (s := S6x9x64x64) ![3, 0, 0, 0] S1x9x64x64.size inb_S6x9x64x64_S1x9x64x64_3_0_0_0) (fun _ => rfl)
          let v431 : Memref sig .tc .vmem S9x64x64 .bf16 := v430.squeeze S9x64x64 squeezes_S1x9x64x64_S9x64x64
          let v432 : Memref sig .tc .vmem S1x9x64x64 .bf16 := rcvM.slice (Rect.unit (s := S6x9x64x64) ![3, 0, 0, 0] S1x9x64x64.size inb_S6x9x64x64_S1x9x64x64_3_0_0_0) (fun _ => rfl)
          let v433 : Memref sig .tc .vmem S9x64x64 .bf16 := v432.squeeze S9x64x64 squeezes_S1x9x64x64_S9x64x64
          Prog.lift (.waitDma2 v429.sem v433 v431 (((Memref.isWhole_whole cc0_scratch1).wordExact_slice rfl _ wordsbf16_S6x9x64x64_S1x9x64x64_3_0_0_0).reshape _ _) (((Memref.isWhole_whole cc0_scratch1).wordExact_slice rfl _ wordsbf16_S6x9x64x64_S1x9x64x64_3_0_0_0).reshape _ _))
          kk ⟨⟩

set_option maxHeartbeats 4000000 in
set_option maxRecDepth 65536 in
theorem comm1 (k0_h4 : k0_cond4 1 = 1#1) (kk : PUnit → Prog (TpuEff nD τ sig (Elt F) Λ₀ .tc) α)
    (Q : α → sProp (MT nD τ sig Unit (Elt F) ℕ UU ℕ)) :
    pre1 PK K ⊢ iprop((post1 PK -∗ wp frame (wpE (defs₀ (F := F)) Variants.none (1 : Dev nD) none) Set.univ (kk ⟨⟩) Q)
      -∗ wp frame (wpE (defs₀ (F := F)) Variants.none (1 : Dev nD) none) Set.univ (prog1 a0 h0 a1 h1 a2 h2 a3 h3 a4 h4 a5 h5 k0_h4 kk) Q) := by
  unfold prog1
  simp only [k0_part26_eq_skeleton, k0_part27_eq_skeleton, k0_part28_eq_skeleton, k0_part29_eq_skeleton]
  unfold k0_part26_skel k0_part27_skel k0_part28_skel k0_part29_skel
  unfold pre1 made
  iintro ⟨#HR, HO, HcB, HaB, ⟨Hc0, Ha0⟩, ⟨Hc1, Ha1⟩, ⟨Hc2, Ha2⟩, ⟨Hc3, Ha3⟩, ⟨Ht0, Hu0⟩, ⟨Ht1, Hu1⟩, ⟨Ht2, Hu2⟩, ⟨Ht3, Hu3⟩, ⟨Ht4, Hu4⟩, ⟨Ht5, Hu5⟩, ⟨%fo2, Ho2, %ho2⟩, ⟨%fs4, Hb4⟩, ⟨%fo3, Ho3, %ho3⟩, ⟨%fs5, Hb5⟩⟩ Hk
  -- the other devices' signals, and the slots they lend
  icases HO with ⟨%W, HO⟩
  iapply (step_bar PK K 1 Variants.none _ rfl [(0, 4), (0, 5), (2, 4), (2, 5), (2, 0), (2, 1)]) $$ [HO HcB HaB]
  · isplitr; · iexact HR
    isplitl [HO]; · iexact HO
    isplitl [HcB]; · iexact HcB
    iexact HaB
  iintro ⟨HO, HaB, Hp⟩
  ihave Hp := (bar_three (by decide) (by decide) (by decide) (by decide) (fun p => barPay (F := F) 1 p) (c := 1) (a := 0) (b := 2) (d := 3)) $$ Hp
  icases Hp with ⟨Hp0, Hp2, -⟩
  ihave Hp0 := (Entails.of_eq (show barPay (F := F) 1 0 = iprop(lend 0 4 ∗ lend 0 5 ∗ emp) from rfl)) $$ Hp0
  icases Hp0 with ⟨HL04, HL05, -⟩
  ihave Hp2 := (Entails.of_eq (show barPay (F := F) 1 2 = iprop(lend 2 4 ∗ lend 2 5 ∗ lend 2 0 ∗ lend 2 1 ∗ emp) from rfl)) $$ Hp2
  icases Hp2 with ⟨HL24, HL25, HL20, HL21, -⟩
  ihave Ho2 := (halves 1 (ownS 2) fo2) $$ Ho2
  icases Ho2 with ⟨Ho2, HoK2⟩
  ihave Ho2 := (quarters 1 (ownS 2) fo2) $$ Ho2
  icases Ho2 with ⟨HoA2, HoB2⟩
  ihave Ho3 := (halves 1 (ownS 3) fo3) $$ Ho3
  icases Ho3 with ⟨Ho3, HoK3⟩
  ihave Ho3 := (quarters 1 (ownS 3) fo3) $$ Ho3
  icases Ho3 with ⟨HoA3, HoB3⟩
  -- packet 4 goes to device 0
  iapply (step_send PK K 1 Variants.none 0 0 4 rfl rfl _ _ _ _ _ rfl rfl (Fin.ext (show k0_dev12 = 0 from rfl)) rfl rfl rfl [(0, 5), (2, 4), (2, 5), (2, 0), (2, 1)] fo2 ho2) $$ [HO HoA2 HL04 Ht0 Hu0]
  · isplitr; · iexact HR
    isplitl [HO]; · iexact HO
    isplitl [HoA2]; · iexact HoA2
    isplitl [HL04]; · iexact HL04
    isplitl [Ht0]; · iexact Ht0
    iexact Hu0
  iintro ⟨HO, HS0⟩
  -- packet 5 goes to device 0
  iapply (step_send PK K 1 Variants.none 1 0 5 rfl rfl _ _ _ _ _ rfl rfl (Fin.ext (show k0_dev13 = 0 from rfl)) rfl rfl rfl [(2, 4), (2, 5), (2, 0), (2, 1)] fo3 ho3) $$ [HO HoA3 HL05 Ht1 Hu1]
  · isplitr; · iexact HR
    isplitl [HO]; · iexact HO
    isplitl [HoA3]; · iexact HoA3
    isplitl [HL05]; · iexact HL05
    isplitl [Ht1]; · iexact Ht1
    iexact Hu1
  iintro ⟨HO, HS1⟩
  -- packet 4 goes to device 2
  iapply (step_send PK K 1 Variants.none 2 2 4 rfl rfl _ _ _ _ _ rfl rfl (Fin.ext (show k0_dev14 = 2 from rfl)) rfl rfl rfl [(2, 5), (2, 0), (2, 1)] fo2 ho2) $$ [HO HoB2 HL24 Ht2 Hu2]
  · isplitr; · iexact HR
    isplitl [HO]; · iexact HO
    isplitl [HoB2]; · iexact HoB2
    isplitl [HL24]; · iexact HL24
    isplitl [Ht2]; · iexact Ht2
    iexact Hu2
  iintro ⟨HO, HS2⟩
  -- packet 5 goes to device 2
  iapply (step_send PK K 1 Variants.none 3 2 5 rfl rfl _ _ _ _ _ rfl rfl (Fin.ext (show k0_dev15 = 2 from rfl)) rfl rfl rfl [(2, 0), (2, 1)] fo3 ho3) $$ [HO HoB3 HL25 Ht3 Hu3]
  · isplitr; · iexact HR
    isplitl [HO]; · iexact HO
    isplitl [HoB3]; · iexact HoB3
    isplitl [HL25]; · iexact HL25
    isplitl [Ht3]; · iexact Ht3
    iexact Hu3
  iintro ⟨HO, HS3⟩
  -- the own packet 2 into slot 4
  iapply (step_ld 1 Variants.none ownM (Rect.unit (s := S4x9x64x64) ![2, 0, 0, 0] S1x9x64x64.size inb_S4x9x64x64_S1x9x64x64_2_0_0_0) (fun _ => rfl)
    squeezes_S1x9x64x64_S9x64x64 (q := shK) (f := fo2)) $$ [HoK2]
  · iexact HoK2
  iintro HoK2
  iapply (step_ld 1 Variants.none rcvM (Rect.unit (s := S6x9x64x64) ![4, 0, 0, 0] S1x9x64x64.size inb_S6x9x64x64_S1x9x64x64_4_0_0_0) (fun _ => rfl)
    squeezes_S1x9x64x64_S9x64x64 (q := fullShare) (f := fs4)) $$ [Hb4]
  · iexact Hb4
  iintro Hb4
  iapply (step_st 1 Variants.none rcvM (Rect.unit (s := S6x9x64x64) ![4, 0, 0, 0] S1x9x64x64.size inb_S6x9x64x64_S1x9x64x64_4_0_0_0) (fun _ => rfl)
    squeezes_S1x9x64x64_S9x64x64 shapeCasts_S1x9x64x64_S9x64x64 (f := fs4)) $$ [Hb4]
  · iexact Hb4
  iintro ⟨%fs4', Hb4, %hy4⟩
  have hs4 : IsPk (PK 4) ((rcvS 4).view.read (Elt F) fs4') :=
    isPk_copy (ownM.view.readAt (Elt F) (Rect.unit (s := S4x9x64x64) ![2, 0, 0, 0] S1x9x64x64.size inb_S4x9x64x64_S1x9x64x64_2_0_0_0).toLoadRect fo2)
      shapeCasts_S1x9x64x64_S9x64x64 shapeCasts_S9x64x64_S1x9x64x64 hy4 rfl ho2
  -- the own packet 3 into slot 5
  iapply (step_ld 1 Variants.none ownM (Rect.unit (s := S4x9x64x64) ![3, 0, 0, 0] S1x9x64x64.size inb_S4x9x64x64_S1x9x64x64_3_0_0_0) (fun _ => rfl)
    squeezes_S1x9x64x64_S9x64x64 (q := shK) (f := fo3)) $$ [HoK3]
  · iexact HoK3
  iintro HoK3
  iapply (step_ld 1 Variants.none rcvM (Rect.unit (s := S6x9x64x64) ![5, 0, 0, 0] S1x9x64x64.size inb_S6x9x64x64_S1x9x64x64_5_0_0_0) (fun _ => rfl)
    squeezes_S1x9x64x64_S9x64x64 (q := fullShare) (f := fs5)) $$ [Hb5]
  · iexact Hb5
  iintro Hb5
  iapply (step_st 1 Variants.none rcvM (Rect.unit (s := S6x9x64x64) ![5, 0, 0, 0] S1x9x64x64.size inb_S6x9x64x64_S1x9x64x64_5_0_0_0) (fun _ => rfl)
    squeezes_S1x9x64x64_S9x64x64 shapeCasts_S1x9x64x64_S9x64x64 (f := fs5)) $$ [Hb5]
  · iexact Hb5
  iintro ⟨%fs5', Hb5, %hy5⟩
  have hs5 : IsPk (PK 5) ((rcvS 5).view.read (Elt F) fs5') :=
    isPk_copy (ownM.view.readAt (Elt F) (Rect.unit (s := S4x9x64x64) ![3, 0, 0, 0] S1x9x64x64.size inb_S4x9x64x64_S1x9x64x64_3_0_0_0).toLoadRect fo3)
      shapeCasts_S1x9x64x64_S9x64x64 shapeCasts_S9x64x64_S1x9x64x64 hy5 rfl ho3
  -- packet 0 arrives
  iapply (step_rcv PK K 1 Variants.none 0 rfl _ rfl [(2, 0), (2, 1)] (by decide) (rcvS 0) (rcvS 0) rfl) $$ [HO Hc0 Ha0]
  · isplitr; · iexact HR
    isplitl [HO]; · iexact HO
    isplitl [Hc0]; · iexact Hc0
    iexact Ha0
  unfold rcvPay
  iintro ⟨HO, Ha0, ⟨%fs0', Hb0, %hs0⟩⟩
  ihave Hb0 := (halves 1 (rcvS 0) fs0') $$ Hb0
  icases Hb0 with ⟨HbL0, Hb0⟩
  -- packet 0 goes to device 2
  iapply (step_send PK K 1 Variants.none 4 2 0 rfl rfl _ _ _ _ _ rfl rfl (Fin.ext (show k0_dev16 = 2 from rfl)) rfl rfl rfl [(2, 1)] fs0' hs0) $$ [HO HbL0 HL20 Ht4 Hu4]
  · isplitr; · iexact HR
    isplitl [HO]; · iexact HO
    isplitl [HbL0]; · iexact HbL0
    isplitl [HL20]; · iexact HL20
    isplitl [Ht4]; · iexact Ht4
    iexact Hu4
  iintro ⟨HO, HS4⟩
  -- packet 1 arrives
  iapply (step_rcv PK K 1 Variants.none 1 rfl _ rfl [(2, 1)] (by decide) (rcvS 1) (rcvS 1) rfl) $$ [HO Hc1 Ha1]
  · isplitr; · iexact HR
    isplitl [HO]; · iexact HO
    isplitl [Hc1]; · iexact Hc1
    iexact Ha1
  unfold rcvPay
  iintro ⟨HO, Ha1, ⟨%fs1', Hb1, %hs1⟩⟩
  ihave Hb1 := (halves 1 (rcvS 1) fs1') $$ Hb1
  icases Hb1 with ⟨HbL1, Hb1⟩
  -- packet 1 goes to device 2
  iapply (step_send PK K 1 Variants.none 5 2 1 rfl rfl _ _ _ _ _ rfl rfl (Fin.ext (show k0_dev17 = 2 from rfl)) rfl rfl rfl [] fs1' hs1) $$ [HO HbL1 HL21 Ht5 Hu5]
  · isplitr; · iexact HR
    isplitl [HO]; · iexact HO
    isplitl [HbL1]; · iexact HbL1
    isplitl [HL21]; · iexact HL21
    isplitl [Ht5]; · iexact Ht5
    iexact Hu5
  iintro ⟨HO, HS5⟩
  -- packet 2 arrives
  iapply (step_rcv PK K 1 Variants.none 2 rfl _ rfl [] (by decide) (rcvS 2) (rcvS 2) rfl) $$ [HO Hc2 Ha2]
  · isplitr; · iexact HR
    isplitl [HO]; · iexact HO
    isplitl [Hc2]; · iexact Hc2
    iexact Ha2
  unfold rcvPay
  iintro ⟨HO, Ha2, ⟨%fs2', Hb2, %hs2⟩⟩
  -- packet 3 arrives
  iapply (step_rcv PK K 1 Variants.none 3 rfl _ rfl [] (by decide) (rcvS 3) (rcvS 3) rfl) $$ [HO Hc3 Ha3]
  · isplitr; · iexact HR
    isplitl [HO]; · iexact HO
    isplitl [Hc3]; · iexact Hc3
    iexact Ha3
  unfold rcvPay
  iintro ⟨HO, Ha3, ⟨%fs3', Hb3, %hs3⟩⟩
  simp only [Prog.bind]
  iapply Hk
  unfold post1 got
  isplitl [HO]; · iexact HO
  isplitl [HaB]; · iexact HaB
  isplitl [Hb0 Ha0]
  · isplitl [Hb0]
    · iexists fs0'
      isplitl [Hb0]; · iexact Hb0
      ipureintro; exact hs0
    iexact Ha0
  isplitl [Hb1 Ha1]
  · isplitl [Hb1]
    · iexists fs1'
      isplitl [Hb1]; · iexact Hb1
      ipureintro; exact hs1
    iexact Ha1
  isplitl [Hb2 Ha2]
  · isplitl [Hb2]
    · iexists fs2'
      isplitl [Hb2]; · iexact Hb2
      ipureintro; exact hs2
    iexact Ha2
  isplitl [Hb3 Ha3]
  · isplitl [Hb3]
    · iexists fs3'
      isplitl [Hb3]; · iexact Hb3
      ipureintro; exact hs3
    iexact Ha3
  isplitl [Hb4]
  · iexists fs4'
    isplitl [Hb4]; · iexact Hb4
    ipureintro; exact hs4
  isplitl [HoK2]
  · iexists fo2; iexact HoK2
  isplitl [Hb5]
  · iexists fs5'
    isplitl [Hb5]; · iexact Hb5
    ipureintro; exact hs5
  isplitl [HoK3]
  · iexists fo3; iexact HoK3
  isplitl [HS0]
  · iexact HS0
  isplitl [HS1]
  · iexact HS1
  isplitl [HS2]
  · iexact HS2
  isplitl [HS3]
  · iexact HS3
  isplitl [HS4]
  · iexact HS4
  iexact HS5

end Cert.KernelIdeal.Att
-- ==== Proof.Comp1.lean ====
/-
  Device 1's packets: the lower two quarters of the rows against its first keys.
-/
module

public import proofs.«01_k».proof.Proof.Packets

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {α : Type} (c : Dev nD) (a0 : Memref sig .tc .vmem S2x256x512 .bf16) (h0 : a0.IsWhole) (a1 : Memref sig .tc .vmem S512x256 .bf16) (h1 : a1.IsWhole)
  (a2 : Memref sig .tc .vmem S2x256x256 .bf16) (h2 : a2.IsWhole) (a3 : Memref sig .tc .vmem S2x256x256 .bf16) (h3 : a3.IsWhole)
  (a4 : Memref sig .tc .vmem S256x512 .bf16) (h4 : a4.IsWhole) (a5 : Memref sig .tc .vmem S2x256x512 .f32) (h5 : a5.IsWhole)

/-- The statements that fill the packets. -/
abbrev fill1 (kk : PUnit → Prog (TpuEff nD τ sig (Elt F) Λ₀ .tc) α) : Prog (TpuEff nD τ sig (Elt F) Λ₀ .tc) α := do
          let ⟨v333, v336, v339, v341, v343, v355, v364, v365⟩ : Σ' (v333 : FVec F S512x256 .bf16) (v336 : IVec S128x128 1) (v339 : FVec F S128x256 .f32) (v341 : FVec F S128x256 .bf16) (v343 : FVec F S128x256 .bf16) (v355 : FVec F S128x1 .bf16) (v364 : FVec F S64x64 .bf16), Vec F S1x1x64x64 .bf16 ← k0_part14 a0 h0 a1 h1 a2 h2 a3 h3 a4 h4 a5 h5 ownM (Memref.isWhole_whole _) rcvM (Memref.isWhole_whole _) cc0_scratch2 cc0_scratch3
          let v387 : FVec F S128x1 .bf16 ← k0_part15 a0 h0 a1 h1 a2 h2 a3 h3 a4 h4 a5 h5 ownM (Memref.isWhole_whole _) rcvM (Memref.isWhole_whole _) cc0_scratch2 cc0_scratch3 v336 v339 v341 v343 v355 v364 v365
          let ⟨v419, v432⟩ : Σ' (v419 : FVec F S128x1 .bf16), FVec F S64x1 .bf16 ← k0_part16 a0 h0 a1 h1 a2 h2 a3 h3 a4 h4 a5 h5 ownM (Memref.isWhole_whole _) rcvM (Memref.isWhole_whole _) cc0_scratch2 cc0_scratch3 v336 v339 v341 v343 v387
          let ⟨v451, v464, v465⟩ : Σ' (v451 : FVec F S128x1 .bf16) (v464 : FVec F S64x1 .bf16), Vec F S1x1x64x1 .bf16 ← k0_part17 a0 h0 a1 h1 a2 h2 a3 h3 a4 h4 a5 h5 ownM (Memref.isWhole_whole _) rcvM (Memref.isWhole_whole _) cc0_scratch2 cc0_scratch3 v336 v339 v341 v343 v419 v432
          let ⟨v474, v476, v478, v490, v499⟩ : Σ' (v474 : FVec F S128x256 .f32) (v476 : FVec F S128x256 .bf16) (v478 : FVec F S128x256 .bf16) (v490 : FVec F S128x1 .bf16), FVec F S64x64 .bf16 ← k0_part18 a0 h0 a1 h1 a2 h2 a3 h3 a4 h4 a5 h5 ownM (Memref.isWhole_whole _) rcvM (Memref.isWhole_whole _) cc0_scratch2 cc0_scratch3 v333 v336 v451 v464 v465
          let ⟨v522, v531⟩ : Σ' (v522 : FVec F S128x1 .bf16), FVec F S64x64 .bf16 ← k0_part19 a0 h0 a1 h1 a2 h2 a3 h3 a4 h4 a5 h5 ownM (Memref.isWhole_whole _) rcvM (Memref.isWhole_whole _) cc0_scratch2 cc0_scratch3 v336 v474 v476 v478 v490 v499
          let ⟨v554, v563⟩ : Σ' (v554 : FVec F S128x1 .bf16), FVec F S64x64 .bf16 ← k0_part20 a0 h0 a1 h1 a2 h2 a3 h3 a4 h4 a5 h5 ownM (Memref.isWhole_whole _) rcvM (Memref.isWhole_whole _) cc0_scratch2 cc0_scratch3 v336 v474 v476 v478 v522 v531
          let ⟨v586, v599⟩ : Σ' (v586 : FVec F S128x1 .bf16), FVec F S64x1 .bf16 ← k0_part21 a0 h0 a1 h1 a2 h2 a3 h3 a4 h4 a5 h5 ownM (Memref.isWhole_whole _) rcvM (Memref.isWhole_whole _) cc0_scratch2 cc0_scratch3 v336 v474 v476 v478 v554 v563
          let v600 : Vec F S1x1x64x1 .bf16 ← Prog.lift (.load ownM (Rect.unit (s := S4x9x64x64) ![2, 8, 0, 7] S1x1x64x1.size inb_S4x9x64x64_S1x1x64x1_2_8_0_7).toLoadRect (View.loadsAt_vmem h_S1x1x64x1))
          Prog.lift (.store ownM (Rect.unit (s := S4x9x64x64) ![2, 8, 0, 7] S1x1x64x1.size inb_S4x9x64x64_S1x1x64x1_2_8_0_7) (k0_pay182 v599) Finset.univ (View.stores_vmem h_S1x1x64x1 ((Memref.isWhole_whole cc0_scratch0).storeExact_slice rfl _ packedbf16_S4x9x64x64_S1x1x64x1_2_8_0_7) (fun _ => rfl)) (.inl rfl))
          let v604 : Vec F S1x1x64x1 .bf16 ← Prog.lift (.load ownM (Rect.unit (s := S4x9x64x64) ![3, 8, 0, 7] S1x1x64x1.size inb_S4x9x64x64_S1x1x64x1_3_8_0_7).toLoadRect (View.loadsAt_vmem h_S1x1x64x1))
          Prog.lift (.store ownM (Rect.unit (s := S4x9x64x64) ![3, 8, 0, 7] S1x1x64x1.size inb_S4x9x64x64_S1x1x64x1_3_8_0_7) (k0_pay183 v586) Finset.univ (View.stores_vmem h_S1x1x64x1 ((Memref.isWhole_whole cc0_scratch0).storeExact_slice rfl _ packedbf16_S4x9x64x64_S1x1x64x1_3_8_0_7) (fun _ => rfl)) (.inl rfl))
          kk ⟨⟩

/-- What the buffer holds then, where it carries a result. -/
def Filled1 (X : Vec F S2x256x512 .bf16) (W : Vec F S512x256 .bf16) (K V : Vec F S2x256x256 .bf16) (v : S4x9x64x64.Idx → F .bf16) : Prop :=
  ∀ y, ((y 1).val < 8 ∨ (y 3).val < 8) → 2 ≤ (y 0).val → v y = bufOf (o1 X W K V) (s1 X W K) y

set_option maxHeartbeats 8000000 in
set_option maxRecDepth 65536 in
theorem comp1 (q : PosShare TreeShare) (f0 : Buf (Elt F) (a0.view.loc (c : Thread nD τ))) (f1 : Buf (Elt F) (a1.view.loc (c : Thread nD τ)))
    (f2 : Buf (Elt F) (a2.view.loc (c : Thread nD τ))) (f3 : Buf (Elt F) (a3.view.loc (c : Thread nD τ))) (f6 : Buf (Elt F) (ownM.view.loc (c : Thread nD τ)))
    (kk : PUnit → Prog (TpuEff nD τ sig (Elt F) Λ₀ .tc) α) (Q : α → sProp (MT nD τ sig Unit (Elt F) ℕ UU ℕ)) :
    iprop((a0.view.loc (c : Thread nD τ) ↦{q} f0) ∗ (a1.view.loc (c : Thread nD τ) ↦{q} f1) ∗ (a2.view.loc (c : Thread nD τ) ↦{q} f2)
        ∗ (a3.view.loc (c : Thread nD τ) ↦{q} f3) ∗ (ownM.view.loc (c : Thread nD τ) ↦{fullShare} f6))
      ⊢ iprop(((a0.view.loc (c : Thread nD τ) ↦{q} f0) ∗ (a1.view.loc (c : Thread nD τ) ↦{q} f1) ∗ (a2.view.loc (c : Thread nD τ) ↦{q} f2)
          ∗ (a3.view.loc (c : Thread nD τ) ↦{q} f3) ∗ (∃ f, (ownM.view.loc (c : Thread nD τ) ↦{fullShare} f)
            ∗ ⌜Filled1 (a0.view.read (Elt F) f0) (a1.view.read (Elt F) f1) (a2.view.read (Elt F) f2) (a3.view.read (Elt F) f3) (ownM.view.read (Elt F) f)⌝)
          -∗ wp frame (wpE (defs₀ (F := F)) Variants.none c none) Set.univ (kk ⟨⟩) Q)
        -∗ wp frame (wpE (defs₀ (F := F)) Variants.none c none) Set.univ (fill1 a0 h0 a1 h1 a2 h2 a3 h3 a4 h4 a5 h5 kk) Q) := by
  unfold fill1
  iintro ⟨H0, H1, H2, H3, H6⟩ Hk
  sl_exec_parts
  iapply Hk
  isplitl [H0]; · iexact H0
  isplitl [H1]; · iexact H1
  isplitl [H2]; · iexact H2
  isplitl [H3]; · iexact H3
  iexists _
  isplitl [H6]; · iexact H6
  ipureintro
  intro y hy hy2
  refine View.read_writes_apply_of_pieces (Val := Elt F) ownM.view _ (bufOf (o1 (a0.view.read (Elt F) f0) (a1.view.read (Elt F) f1) (a2.view.read (Elt F) f2) (a3.view.read (Elt F) f3))
    (s1 (a0.view.read (Elt F) f0) (a1.view.read (Elt F) f1) (a2.view.read (Elt F) f2))) _ ?_ y ?_
  · clear hy hy2
    refine List.forall_mem_cons.2 ⟨fun x => piece_s1 _ _ 3 7 (sum1 (xb1 (a0.view.read (Elt F) f0) 1) (wqb (a1.view.read (Elt F) f1)) (kb1 (a2.view.read (Elt F) f2) 1) 3) (fun _ => rfl) slices_S128x1_o64_0_S64x1 shapeCasts_S64x1_S1x1x64x1 inb_S4x9x64x64_S1x1x64x1_3_8_0_7 x, ?_⟩
    refine List.forall_mem_cons.2 ⟨fun x => piece_s1 _ _ 2 7 (sum1 (xb1 (a0.view.read (Elt F) f0) 1) (wqb (a1.view.read (Elt F) f1)) (kb1 (a2.view.read (Elt F) f2) 1) 3) (fun _ => rfl) slices_S128x1_o0_0_S64x1 shapeCasts_S64x1_S1x1x64x1 inb_S4x9x64x64_S1x1x64x1_2_8_0_7 x, ?_⟩
    refine List.forall_mem_cons.2 ⟨fun x => piece_o1 _ _ 3 7 (out1 (xb1 (a0.view.read (Elt F) f0) 1) (wqb (a1.view.read (Elt F) f1)) (kb1 (a2.view.read (Elt F) f2) 1) (kb1 (a3.view.read (Elt F) f3) 1) 3) (fun _ _ => rfl) slices_S128x64_o64_0_S64x64 shapeCasts_S64x64_S1x1x64x64 inb_S4x9x64x64_S1x1x64x64_3_7_0_0 x, ?_⟩
    refine List.forall_mem_cons.2 ⟨fun x => piece_o1 _ _ 2 7 (out1 (xb1 (a0.view.read (Elt F) f0) 1) (wqb (a1.view.read (Elt F) f1)) (kb1 (a2.view.read (Elt F) f2) 1) (kb1 (a3.view.read (Elt F) f3) 1) 3) (fun _ _ => rfl) slices_S128x64_o0_0_S64x64 shapeCasts_S64x64_S1x1x64x64 inb_S4x9x64x64_S1x1x64x64_2_7_0_0 x, ?_⟩
    refine List.forall_mem_cons.2 ⟨fun x => piece_s1 _ _ 3 6 (sum1 (xb1 (a0.view.read (Elt F) f0) 1) (wqb (a1.view.read (Elt F) f1)) (kb1 (a2.view.read (Elt F) f2) 1) 2) (fun _ => rfl) slices_S128x1_o64_0_S64x1 shapeCasts_S64x1_S1x1x64x1 inb_S4x9x64x64_S1x1x64x1_3_8_0_6 x, ?_⟩
    refine List.forall_mem_cons.2 ⟨fun x => piece_s1 _ _ 2 6 (sum1 (xb1 (a0.view.read (Elt F) f0) 1) (wqb (a1.view.read (Elt F) f1)) (kb1 (a2.view.read (Elt F) f2) 1) 2) (fun _ => rfl) slices_S128x1_o0_0_S64x1 shapeCasts_S64x1_S1x1x64x1 inb_S4x9x64x64_S1x1x64x1_2_8_0_6 x, ?_⟩
    refine List.forall_mem_cons.2 ⟨fun x => piece_o1 _ _ 3 6 (out1 (xb1 (a0.view.read (Elt F) f0) 1) (wqb (a1.view.read (Elt F) f1)) (kb1 (a2.view.read (Elt F) f2) 1) (kb1 (a3.view.read (Elt F) f3) 1) 2) (fun _ _ => rfl) slices_S128x64_o64_0_S64x64 shapeCasts_S64x64_S1x1x64x64 inb_S4x9x64x64_S1x1x64x64_3_6_0_0 x, ?_⟩
    refine List.forall_mem_cons.2 ⟨fun x => piece_o1 _ _ 2 6 (out1 (xb1 (a0.view.read (Elt F) f0) 1) (wqb (a1.view.read (Elt F) f1)) (kb1 (a2.view.read (Elt F) f2) 1) (kb1 (a3.view.read (Elt F) f3) 1) 2) (fun _ _ => rfl) slices_S128x64_o0_0_S64x64 shapeCasts_S64x64_S1x1x64x64 inb_S4x9x64x64_S1x1x64x64_2_6_0_0 x, ?_⟩
    refine List.forall_mem_cons.2 ⟨fun x => piece_s1 _ _ 3 5 (sum1 (xb1 (a0.view.read (Elt F) f0) 1) (wqb (a1.view.read (Elt F) f1)) (kb1 (a2.view.read (Elt F) f2) 1) 1) (fun _ => rfl) slices_S128x1_o64_0_S64x1 shapeCasts_S64x1_S1x1x64x1 inb_S4x9x64x64_S1x1x64x1_3_8_0_5 x, ?_⟩
    refine List.forall_mem_cons.2 ⟨fun x => piece_s1 _ _ 2 5 (sum1 (xb1 (a0.view.read (Elt F) f0) 1) (wqb (a1.view.read (Elt F) f1)) (kb1 (a2.view.read (Elt F) f2) 1) 1) (fun _ => rfl) slices_S128x1_o0_0_S64x1 shapeCasts_S64x1_S1x1x64x1 inb_S4x9x64x64_S1x1x64x1_2_8_0_5 x, ?_⟩
    refine List.forall_mem_cons.2 ⟨fun x => piece_o1 _ _ 3 5 (out1 (xb1 (a0.view.read (Elt F) f0) 1) (wqb (a1.view.read (Elt F) f1)) (kb1 (a2.view.read (Elt F) f2) 1) (kb1 (a3.view.read (Elt F) f3) 1) 1) (fun _ _ => rfl) slices_S128x64_o64_0_S64x64 shapeCasts_S64x64_S1x1x64x64 inb_S4x9x64x64_S1x1x64x64_3_5_0_0 x, ?_⟩
    refine List.forall_mem_cons.2 ⟨fun x => piece_o1 _ _ 2 5 (out1 (xb1 (a0.view.read (Elt F) f0) 1) (wqb (a1.view.read (Elt F) f1)) (kb1 (a2.view.read (Elt F) f2) 1) (kb1 (a3.view.read (Elt F) f3) 1) 1) (fun _ _ => rfl) slices_S128x64_o0_0_S64x64 shapeCasts_S64x64_S1x1x64x64 inb_S4x9x64x64_S1x1x64x64_2_5_0_0 x, ?_⟩
    refine List.forall_mem_cons.2 ⟨fun x => piece_s1 _ _ 3 4 (sum1 (xb1 (a0.view.read (Elt F) f0) 1) (wqb (a1.view.read (Elt F) f1)) (kb1 (a2.view.read (Elt F) f2) 1) 0) (fun _ => rfl) slices_S128x1_o64_0_S64x1 shapeCasts_S64x1_S1x1x64x1 inb_S4x9x64x64_S1x1x64x1_3_8_0_4 x, ?_⟩
    refine List.forall_mem_cons.2 ⟨fun x => piece_s1 _ _ 2 4 (sum1 (xb1 (a0.view.read (Elt F) f0) 1) (wqb (a1.view.read (Elt F) f1)) (kb1 (a2.view.read (Elt F) f2) 1) 0) (fun _ => rfl) slices_S128x1_o0_0_S64x1 shapeCasts_S64x1_S1x1x64x1 inb_S4x9x64x64_S1x1x64x1_2_8_0_4 x, ?_⟩
    refine List.forall_mem_cons.2 ⟨fun x => piece_o1 _ _ 3 4 (out1 (xb1 (a0.view.read (Elt F) f0) 1) (wqb (a1.view.read (Elt F) f1)) (kb1 (a2.view.read (Elt F) f2) 1) (kb1 (a3.view.read (Elt F) f3) 1) 0) (fun _ _ => rfl) slices_S128x64_o64_0_S64x64 shapeCasts_S64x64_S1x1x64x64 inb_S4x9x64x64_S1x1x64x64_3_4_0_0 x, ?_⟩
    refine List.forall_mem_cons.2 ⟨fun x => piece_o1 _ _ 2 4 (out1 (xb1 (a0.view.read (Elt F) f0) 1) (wqb (a1.view.read (Elt F) f1)) (kb1 (a2.view.read (Elt F) f2) 1) (kb1 (a3.view.read (Elt F) f3) 1) 0) (fun _ _ => rfl) slices_S128x64_o0_0_S64x64 shapeCasts_S64x64_S1x1x64x64 inb_S4x9x64x64_S1x1x64x64_2_4_0_0 x, ?_⟩
    refine List.forall_mem_cons.2 ⟨fun x => piece_s1 _ _ 3 3 (sum1 (xb1 (a0.view.read (Elt F) f0) 0) (wqb (a1.view.read (Elt F) f1)) (kb1 (a2.view.read (Elt F) f2) 0) 3) (fun _ => rfl) slices_S128x1_o64_0_S64x1 shapeCasts_S64x1_S1x1x64x1 inb_S4x9x64x64_S1x1x64x1_3_8_0_3 x, ?_⟩
    refine List.forall_mem_cons.2 ⟨fun x => piece_s1 _ _ 2 3 (sum1 (xb1 (a0.view.read (Elt F) f0) 0) (wqb (a1.view.read (Elt F) f1)) (kb1 (a2.view.read (Elt F) f2) 0) 3) (fun _ => rfl) slices_S128x1_o0_0_S64x1 shapeCasts_S64x1_S1x1x64x1 inb_S4x9x64x64_S1x1x64x1_2_8_0_3 x, ?_⟩
    refine List.forall_mem_cons.2 ⟨fun x => piece_o1 _ _ 3 3 (out1 (xb1 (a0.view.read (Elt F) f0) 0) (wqb (a1.view.read (Elt F) f1)) (kb1 (a2.view.read (Elt F) f2) 0) (kb1 (a3.view.read (Elt F) f3) 0) 3) (fun _ _ => rfl) slices_S128x64_o64_0_S64x64 shapeCasts_S64x64_S1x1x64x64 inb_S4x9x64x64_S1x1x64x64_3_3_0_0 x, ?_⟩
    refine List.forall_mem_cons.2 ⟨fun x => piece_o1 _ _ 2 3 (out1 (xb1 (a0.view.read (Elt F) f0) 0) (wqb (a1.view.read (Elt F) f1)) (kb1 (a2.view.read (Elt F) f2) 0) (kb1 (a3.view.read (Elt F) f3) 0) 3) (fun _ _ => rfl) slices_S128x64_o0_0_S64x64 shapeCasts_S64x64_S1x1x64x64 inb_S4x9x64x64_S1x1x64x64_2_3_0_0 x, ?_⟩
    refine List.forall_mem_cons.2 ⟨fun x => piece_s1 _ _ 3 2 (sum1 (xb1 (a0.view.read (Elt F) f0) 0) (wqb (a1.view.read (Elt F) f1)) (kb1 (a2.view.read (Elt F) f2) 0) 2) (fun _ => rfl) slices_S128x1_o64_0_S64x1 shapeCasts_S64x1_S1x1x64x1 inb_S4x9x64x64_S1x1x64x1_3_8_0_2 x, ?_⟩
    refine List.forall_mem_cons.2 ⟨fun x => piece_s1 _ _ 2 2 (sum1 (xb1 (a0.view.read (Elt F) f0) 0) (wqb (a1.view.read (Elt F) f1)) (kb1 (a2.view.read (Elt F) f2) 0) 2) (fun _ => rfl) slices_S128x1_o0_0_S64x1 shapeCasts_S64x1_S1x1x64x1 inb_S4x9x64x64_S1x1x64x1_2_8_0_2 x, ?_⟩
    refine List.forall_mem_cons.2 ⟨fun x => piece_o1 _ _ 3 2 (out1 (xb1 (a0.view.read (Elt F) f0) 0) (wqb (a1.view.read (Elt F) f1)) (kb1 (a2.view.read (Elt F) f2) 0) (kb1 (a3.view.read (Elt F) f3) 0) 2) (fun _ _ => rfl) slices_S128x64_o64_0_S64x64 shapeCasts_S64x64_S1x1x64x64 inb_S4x9x64x64_S1x1x64x64_3_2_0_0 x, ?_⟩
    refine List.forall_mem_cons.2 ⟨fun x => piece_o1 _ _ 2 2 (out1 (xb1 (a0.view.read (Elt F) f0) 0) (wqb (a1.view.read (Elt F) f1)) (kb1 (a2.view.read (Elt F) f2) 0) (kb1 (a3.view.read (Elt F) f3) 0) 2) (fun _ _ => rfl) slices_S128x64_o0_0_S64x64 shapeCasts_S64x64_S1x1x64x64 inb_S4x9x64x64_S1x1x64x64_2_2_0_0 x, ?_⟩
    refine List.forall_mem_cons.2 ⟨fun x => piece_s1 _ _ 3 1 (sum1 (xb1 (a0.view.read (Elt F) f0) 0) (wqb (a1.view.read (Elt F) f1)) (kb1 (a2.view.read (Elt F) f2) 0) 1) (fun _ => rfl) slices_S128x1_o64_0_S64x1 shapeCasts_S64x1_S1x1x64x1 inb_S4x9x64x64_S1x1x64x1_3_8_0_1 x, ?_⟩
    refine List.forall_mem_cons.2 ⟨fun x => piece_s1 _ _ 2 1 (sum1 (xb1 (a0.view.read (Elt F) f0) 0) (wqb (a1.view.read (Elt F) f1)) (kb1 (a2.view.read (Elt F) f2) 0) 1) (fun _ => rfl) slices_S128x1_o0_0_S64x1 shapeCasts_S64x1_S1x1x64x1 inb_S4x9x64x64_S1x1x64x1_2_8_0_1 x, ?_⟩
    refine List.forall_mem_cons.2 ⟨fun x => piece_o1 _ _ 3 1 (out1 (xb1 (a0.view.read (Elt F) f0) 0) (wqb (a1.view.read (Elt F) f1)) (kb1 (a2.view.read (Elt F) f2) 0) (kb1 (a3.view.read (Elt F) f3) 0) 1) (fun _ _ => rfl) slices_S128x64_o64_0_S64x64 shapeCasts_S64x64_S1x1x64x64 inb_S4x9x64x64_S1x1x64x64_3_1_0_0 x, ?_⟩
    refine List.forall_mem_cons.2 ⟨fun x => piece_o1 _ _ 2 1 (out1 (xb1 (a0.view.read (Elt F) f0) 0) (wqb (a1.view.read (Elt F) f1)) (kb1 (a2.view.read (Elt F) f2) 0) (kb1 (a3.view.read (Elt F) f3) 0) 1) (fun _ _ => rfl) slices_S128x64_o0_0_S64x64 shapeCasts_S64x64_S1x1x64x64 inb_S4x9x64x64_S1x1x64x64_2_1_0_0 x, ?_⟩
    refine List.forall_mem_cons.2 ⟨fun x => piece_s1 _ _ 3 0 (sum1 (xb1 (a0.view.read (Elt F) f0) 0) (wqb (a1.view.read (Elt F) f1)) (kb1 (a2.view.read (Elt F) f2) 0) 0) (fun _ => rfl) slices_S128x1_o64_0_S64x1 shapeCasts_S64x1_S1x1x64x1 inb_S4x9x64x64_S1x1x64x1_3_8_0_0 x, ?_⟩
    refine List.forall_mem_cons.2 ⟨fun x => piece_s1 _ _ 2 0 (sum1 (xb1 (a0.view.read (Elt F) f0) 0) (wqb (a1.view.read (Elt F) f1)) (kb1 (a2.view.read (Elt F) f2) 0) 0) (fun _ => rfl) slices_S128x1_o0_0_S64x1 shapeCasts_S64x1_S1x1x64x1 inb_S4x9x64x64_S1x1x64x1_2_8_0_0 x, ?_⟩
    refine List.forall_mem_cons.2 ⟨fun x => piece_o1 _ _ 3 0 (out1 (xb1 (a0.view.read (Elt F) f0) 0) (wqb (a1.view.read (Elt F) f1)) (kb1 (a2.view.read (Elt F) f2) 0) (kb1 (a3.view.read (Elt F) f3) 0) 0) (fun _ _ => rfl) slices_S128x64_o64_0_S64x64 shapeCasts_S64x64_S1x1x64x64 inb_S4x9x64x64_S1x1x64x64_3_0_0_0 x, ?_⟩
    refine List.forall_mem_cons.2 ⟨fun x => piece_o1 _ _ 2 0 (out1 (xb1 (a0.view.read (Elt F) f0) 0) (wqb (a1.view.read (Elt F) f1)) (kb1 (a2.view.read (Elt F) f2) 0) (kb1 (a3.view.read (Elt F) f3) 0) 0) (fun _ _ => rfl) slices_S128x64_o0_0_S64x64 shapeCasts_S64x64_S1x1x64x64 inb_S4x9x64x64_S1x1x64x64_2_0_0_0 x, ?_⟩
    exact List.forall_mem_nil _
  · by_cases h : (y 1).val < 8
    · obtain ⟨q, hq⟩ : ∃ q : Fin 4, y 0 = q := ⟨y 0, rfl⟩
      obtain ⟨i, hi⟩ : ∃ i : Fin 8, (y 1).val = i.val := ⟨⟨(y 1).val, h⟩, rfl⟩
      exact (match q, i, hq, hi with
      | 0, _, hq, _ => absurd hy2 (by rw [hq]; decide)
      | 1, _, hq, _ => absurd hy2 (by rw [hq]; decide)
      | 2, 0, hq, hi => ⟨_, List.mem_of_getElem? (i := 31) rfl, mem_o 2 0 inb_S4x9x64x64_S1x1x64x64_2_0_0_0 y hq hi⟩
      | 2, 1, hq, hi => ⟨_, List.mem_of_getElem? (i := 27) rfl, mem_o 2 1 inb_S4x9x64x64_S1x1x64x64_2_1_0_0 y hq hi⟩
      | 2, 2, hq, hi => ⟨_, List.mem_of_getElem? (i := 23) rfl, mem_o 2 2 inb_S4x9x64x64_S1x1x64x64_2_2_0_0 y hq hi⟩
      | 2, 3, hq, hi => ⟨_, List.mem_of_getElem? (i := 19) rfl, mem_o 2 3 inb_S4x9x64x64_S1x1x64x64_2_3_0_0 y hq hi⟩
      | 2, 4, hq, hi => ⟨_, List.mem_of_getElem? (i := 15) rfl, mem_o 2 4 inb_S4x9x64x64_S1x1x64x64_2_4_0_0 y hq hi⟩
      | 2, 5, hq, hi => ⟨_, List.mem_of_getElem? (i := 11) rfl, mem_o 2 5 inb_S4x9x64x64_S1x1x64x64_2_5_0_0 y hq hi⟩
      | 2, 6, hq, hi => ⟨_, List.mem_of_getElem? (i := 7) rfl, mem_o 2 6 inb_S4x9x64x64_S1x1x64x64_2_6_0_0 y hq hi⟩
      | 2, 7, hq, hi => ⟨_, List.mem_of_getElem? (i := 3) rfl, mem_o 2 7 inb_S4x9x64x64_S1x1x64x64_2_7_0_0 y hq hi⟩
      | 3, 0, hq, hi => ⟨_, List.mem_of_getElem? (i := 30) rfl, mem_o 3 0 inb_S4x9x64x64_S1x1x64x64_3_0_0_0 y hq hi⟩
      | 3, 1, hq, hi => ⟨_, List.mem_of_getElem? (i := 26) rfl, mem_o 3 1 inb_S4x9x64x64_S1x1x64x64_3_1_0_0 y hq hi⟩
      | 3, 2, hq, hi => ⟨_, List.mem_of_getElem? (i := 22) rfl, mem_o 3 2 inb_S4x9x64x64_S1x1x64x64_3_2_0_0 y hq hi⟩
      | 3, 3, hq, hi => ⟨_, List.mem_of_getElem? (i := 18) rfl, mem_o 3 3 inb_S4x9x64x64_S1x1x64x64_3_3_0_0 y hq hi⟩
      | 3, 4, hq, hi => ⟨_, List.mem_of_getElem? (i := 14) rfl, mem_o 3 4 inb_S4x9x64x64_S1x1x64x64_3_4_0_0 y hq hi⟩
      | 3, 5, hq, hi => ⟨_, List.mem_of_getElem? (i := 10) rfl, mem_o 3 5 inb_S4x9x64x64_S1x1x64x64_3_5_0_0 y hq hi⟩
      | 3, 6, hq, hi => ⟨_, List.mem_of_getElem? (i := 6) rfl, mem_o 3 6 inb_S4x9x64x64_S1x1x64x64_3_6_0_0 y hq hi⟩
      | 3, 7, hq, hi => ⟨_, List.mem_of_getElem? (i := 2) rfl, mem_o 3 7 inb_S4x9x64x64_S1x1x64x64_3_7_0_0 y hq hi⟩
      )
    · have h8 : (y 1).val = 8 := by have := (y 1).isLt; change _ < 9 at this; omega
      have h3 : (y 3).val < 8 := hy.resolve_left h
      obtain ⟨q, hq⟩ : ∃ q : Fin 4, y 0 = q := ⟨y 0, rfl⟩
      obtain ⟨i, hi⟩ : ∃ i : Fin 8, (y 3).val = i.val := ⟨⟨(y 3).val, h3⟩, rfl⟩
      exact (match q, i, hq, hi with
      | 0, _, hq, _ => absurd hy2 (by rw [hq]; decide)
      | 1, _, hq, _ => absurd hy2 (by rw [hq]; decide)
      | 2, 0, hq, hi => ⟨_, List.mem_of_getElem? (i := 29) rfl, mem_s 2 0 inb_S4x9x64x64_S1x1x64x1_2_8_0_0 y hq h8 hi⟩
      | 2, 1, hq, hi => ⟨_, List.mem_of_getElem? (i := 25) rfl, mem_s 2 1 inb_S4x9x64x64_S1x1x64x1_2_8_0_1 y hq h8 hi⟩
      | 2, 2, hq, hi => ⟨_, List.mem_of_getElem? (i := 21) rfl, mem_s 2 2 inb_S4x9x64x64_S1x1x64x1_2_8_0_2 y hq h8 hi⟩
      | 2, 3, hq, hi => ⟨_, List.mem_of_getElem? (i := 17) rfl, mem_s 2 3 inb_S4x9x64x64_S1x1x64x1_2_8_0_3 y hq h8 hi⟩
      | 2, 4, hq, hi => ⟨_, List.mem_of_getElem? (i := 13) rfl, mem_s 2 4 inb_S4x9x64x64_S1x1x64x1_2_8_0_4 y hq h8 hi⟩
      | 2, 5, hq, hi => ⟨_, List.mem_of_getElem? (i := 9) rfl, mem_s 2 5 inb_S4x9x64x64_S1x1x64x1_2_8_0_5 y hq h8 hi⟩
      | 2, 6, hq, hi => ⟨_, List.mem_of_getElem? (i := 5) rfl, mem_s 2 6 inb_S4x9x64x64_S1x1x64x1_2_8_0_6 y hq h8 hi⟩
      | 2, 7, hq, hi => ⟨_, List.mem_of_getElem? (i := 1) rfl, mem_s 2 7 inb_S4x9x64x64_S1x1x64x1_2_8_0_7 y hq h8 hi⟩
      | 3, 0, hq, hi => ⟨_, List.mem_of_getElem? (i := 28) rfl, mem_s 3 0 inb_S4x9x64x64_S1x1x64x1_3_8_0_0 y hq h8 hi⟩
      | 3, 1, hq, hi => ⟨_, List.mem_of_getElem? (i := 24) rfl, mem_s 3 1 inb_S4x9x64x64_S1x1x64x1_3_8_0_1 y hq h8 hi⟩
      | 3, 2, hq, hi => ⟨_, List.mem_of_getElem? (i := 20) rfl, mem_s 3 2 inb_S4x9x64x64_S1x1x64x1_3_8_0_2 y hq h8 hi⟩
      | 3, 3, hq, hi => ⟨_, List.mem_of_getElem? (i := 16) rfl, mem_s 3 3 inb_S4x9x64x64_S1x1x64x1_3_8_0_3 y hq h8 hi⟩
      | 3, 4, hq, hi => ⟨_, List.mem_of_getElem? (i := 12) rfl, mem_s 3 4 inb_S4x9x64x64_S1x1x64x1_3_8_0_4 y hq h8 hi⟩
      | 3, 5, hq, hi => ⟨_, List.mem_of_getElem? (i := 8) rfl, mem_s 3 5 inb_S4x9x64x64_S1x1x64x1_3_8_0_5 y hq h8 hi⟩
      | 3, 6, hq, hi => ⟨_, List.mem_of_getElem? (i := 4) rfl, mem_s 3 6 inb_S4x9x64x64_S1x1x64x1_3_8_0_6 y hq h8 hi⟩
      | 3, 7, hq, hi => ⟨_, List.mem_of_getElem? (i := 0) rfl, mem_s 3 7 inb_S4x9x64x64_S1x1x64x1_3_8_0_7 y hq h8 hi⟩
      )

end Cert.KernelIdeal.Att
-- ==== Proof.Dev1.lean ====
/-
  Device 1's run: it computes its two packets, hands them on, and writes the output.
-/
module

public import proofs.«01_k».proof.Proof.Head
public import proofs.«01_k».proof.Proof.Comm1
public import proofs.«01_k».proof.Proof.Comp1

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (PK : Fin 6 → S9x64x64.Idx → F .bf16) (K : GSem nD τ sig → ℕ)

variable (a0 : Memref sig .tc .vmem S2x256x512 .bf16) (h0 : a0.IsWhole) (a1 : Memref sig .tc .vmem S512x256 .bf16) (h1 : a1.IsWhole)
  (a2 : Memref sig .tc .vmem S2x256x256 .bf16) (h2 : a2.IsWhole) (a3 : Memref sig .tc .vmem S2x256x256 .bf16) (h3 : a3.IsWhole)
  (a4 : Memref sig .tc .vmem S256x512 .bf16) (h4 : a4.IsWhole) (a5 : Memref sig .tc .vmem S2x256x512 .f32) (h5 : a5.IsWhole)

set_option maxHeartbeats 4000000 in
set_option maxRecDepth 65536 in
/-- The first two signals. -/
theorem sig1 (Q : _ → sProp (MT nD τ sig Unit (Elt F) ℕ UU ℕ)) :
    iprop(recs PK K 1 ∗ (∃ W, owes ((1 : Dev nD) : Thread nD τ) (O₀ 1) W) ∗ dutyTok ER (barC 2) 0 1 ∗ dutyTok ER (barC 3) 0 1
        ∗ lendAll 1 (lends 1 2) ∗ lendAll 1 (lends 1 3))
      ⊢ iprop(((∃ W, owes ((1 : Dev nD) : Thread nD τ) (owe (sends 1) + tallyAt (barC (nxt 1 3)) () 1) W)
          -∗ Q ⟨1, (Scalar.remsi (Scalar.divsi (Dev.word (1 : Dev nD)) 1#32) 4#32), SemArray.scalar (sig.barrier 0 rfl), Scalar.addi (Scalar.remsi (Scalar.divsi (Dev.word (1 : Dev nD)) 1#32) 4#32) 3#32, 4#32, Scalar.cmpi .eq 4#32 0#32⟩)
        -∗ wp frame (wpE (defs₀ (F := F)) Variants.none (1 : Dev nD) none) Set.univ (k0_part39 a0 h0 a1 h1 a2 h2 a3 h3 a4 h4 a5 h5 ownM (Memref.isWhole_whole _) rcvM (Memref.isWhole_whole _) cc0_scratch2 cc0_scratch3) Q) := by
  rw [k0_part39_eq_skeleton]
  unfold k0_part39_skel
  iintro ⟨#HR, ⟨%W, HO⟩, Ht1, Ht2, Hl1, Hl2⟩ Hk
  iapply (dev_step (F := F) 1)
  iapply (step_sig PK K 1 Variants.none 2 _ (Fin.ext (show k0_dev1 1 = 2 from rfl)) (by decide) _ rfl
    ((owe (sends 1) + tallyAt (barC (nxt 1 3)) () 1) + tallyAt (barC (nxt 1 2)) () 1) rfl) $$ [HO Ht1 Hl1]
  · isplitr; · iexact HR
    isplitl [HO]; · iexact HO
    isplitl [Ht1]; · iexact Ht1
    iexact Hl1
  iintro HO
  iapply (step_sig PK K 1 Variants.none 3 _ (Fin.ext (show k0_dev2 1 = 3 from rfl)) (by decide) _ rfl
    (owe (sends 1) + tallyAt (barC (nxt 1 3)) () 1) rfl) $$ [HO Ht2 Hl2]
  · isplitr; · iexact HR
    isplitl [HO]; · iexact HO
    isplitl [Ht2]; · iexact Ht2
    iexact Hl2
  iintro HO
  iapply (ret_step (F := F) 1)
  iapply Hk
  iexists _
  iexact HO

set_option maxHeartbeats 4000000 in
set_option maxRecDepth 65536 in
/-- From the last signal to the load of the first packet. -/
theorem head1 (q : PosShare TreeShare) (f0 : Buf (Elt F) (a0.view.loc ((1 : Dev nD) : Thread nD τ))) (f1 : Buf (Elt F) (a1.view.loc ((1 : Dev nD) : Thread nD τ))) (f2 : Buf (Elt F) (a2.view.loc ((1 : Dev nD) : Thread nD τ))) (f3 : Buf (Elt F) (a3.view.loc ((1 : Dev nD) : Thread nD τ))) (f6 : Buf (Elt F) (ownM.view.loc ((1 : Dev nD) : Thread nD τ)))
    (e4 : PK 4 = pkOf (o1 (a0.view.read (Elt F) f0) (a1.view.read (Elt F) f1) (a2.view.read (Elt F) f2) (a3.view.read (Elt F) f3) 2) (s1 (a0.view.read (Elt F) f0) (a1.view.read (Elt F) f1) (a2.view.read (Elt F) f2) 2))
    (e5 : PK 5 = pkOf (o1 (a0.view.read (Elt F) f0) (a1.view.read (Elt F) f1) (a2.view.read (Elt F) f2) (a3.view.read (Elt F) f3) 3) (s1 (a0.view.read (Elt F) f0) (a1.view.read (Elt F) f1) (a2.view.read (Elt F) f2) 3))
    (v30 : BitVec 32) (v31 : BitVec 1) (Q : Vec F S1x9x64x64 .bf16 → sProp (MT nD τ sig Unit (Elt F) ℕ UU ℕ)) :
    iprop(recs PK K 1
        ∗ (∃ W, owes ((1 : Dev nD) : Thread nD τ) (owe (sends 1) + tallyAt (barC (nxt 1 3)) () 1) W)
        ∗ dutyTok ER (barC 0) 0 1
        ∗ lendAll 1 (lends 1 0)
        ∗ (cred (tallyAt (barC 1) () 3) ∗ atPos ER (barC 1) 0 ∅ 0)
        ∗ (cred (tallyAt (rcvC 1 0) () N) ∗ atPos ER (rcvC 1 0) 0 ∅ 0)
        ∗ (cred (tallyAt (rcvC 1 1) () N) ∗ atPos ER (rcvC 1 1) 0 ∅ 0)
        ∗ (cred (tallyAt (rcvC 1 2) () N) ∗ atPos ER (rcvC 1 2) 0 ∅ 0)
        ∗ (cred (tallyAt (rcvC 1 3) () N) ∗ atPos ER (rcvC 1 3) 0 ∅ 0)
        ∗ (dutyTok ER (sndC 1 0) 0 0 ∗ dutyTok ER (rcvC 0 4) 0 0)
        ∗ (dutyTok ER (sndC 1 1) 0 0 ∗ dutyTok ER (rcvC 0 5) 0 0)
        ∗ (dutyTok ER (sndC 1 2) 0 0 ∗ dutyTok ER (rcvC 2 4) 0 0)
        ∗ (dutyTok ER (sndC 1 3) 0 0 ∗ dutyTok ER (rcvC 2 5) 0 0)
        ∗ (dutyTok ER (sndC 1 4) 0 0 ∗ dutyTok ER (rcvC 2 0) 0 0)
        ∗ (dutyTok ER (sndC 1 5) 0 0 ∗ dutyTok ER (rcvC 2 1) 0 0)
        ∗ (∃ f, pkt (rcvS 4) 1 fullShare f)
        ∗ (∃ f, pkt (rcvS 5) 1 fullShare f)
        ∗ (a0.view.loc ((1 : Dev nD) : Thread nD τ) ↦{q} f0)
        ∗ (a1.view.loc ((1 : Dev nD) : Thread nD τ) ↦{q} f1)
        ∗ (a2.view.loc ((1 : Dev nD) : Thread nD τ) ↦{q} f2)
        ∗ (a3.view.loc ((1 : Dev nD) : Thread nD τ) ↦{q} f3)
        ∗ (ownM.view.loc ((1 : Dev nD) : Thread nD τ) ↦{fullShare} f6))
      ⊢ iprop((∀ v, ⌜IsPk (PK 0) (shapeCast S9x64x64 v shapeCasts_S1x9x64x64_S9x64x64)⌝
          -∗ (∃ W, owes ((1 : Dev nD) : Thread nD τ) 0 W)
          ∗ atPos ER (barC 1) 1 ∅ 0
          ∗ (got PK 1 0 shK ∗ atPos ER (rcvC 1 0) 1 ∅ 0)
          ∗ (got PK 1 1 shK ∗ atPos ER (rcvC 1 1) 1 ∅ 0)
          ∗ (got PK 1 2 fullShare ∗ atPos ER (rcvC 1 2) 1 ∅ 0)
          ∗ (got PK 1 3 fullShare ∗ atPos ER (rcvC 1 3) 1 ∅ 0)
          ∗ got PK 1 4 fullShare ∗ (∃ f, pkt (ownS 2) 1 shK f)
          ∗ got PK 1 5 fullShare ∗ (∃ f, pkt (ownS 3) 1 shK f)
          ∗ cred (tallyAt (sndC 1 0) () N)
          ∗ cred (tallyAt (sndC 1 1) () N)
          ∗ cred (tallyAt (sndC 1 2) () N)
          ∗ cred (tallyAt (sndC 1 3) () N)
          ∗ cred (tallyAt (sndC 1 4) () N)
          ∗ cred (tallyAt (sndC 1 5) () N)
          ∗ (a0.view.loc ((1 : Dev nD) : Thread nD τ) ↦{q} f0)
          ∗ (a1.view.loc ((1 : Dev nD) : Thread nD τ) ↦{q} f1)
          ∗ (a2.view.loc ((1 : Dev nD) : Thread nD τ) ↦{q} f2)
          ∗ (a3.view.loc ((1 : Dev nD) : Thread nD τ) ↦{q} f3)
          ∗ (∃ f, pkt (ownS 0) 1 fullShare f)
          ∗ (∃ f, pkt (ownS 1) 1 fullShare f) -∗ Q v)
        -∗ wp frame (wpE (defs₀ (F := F)) Variants.none (1 : Dev nD) none) Set.univ (k0_part40 a0 h0 a1 h1 a2 h2 a3 h3 a4 h4 a5 h5 ownM (Memref.isWhole_whole _) rcvM (Memref.isWhole_whole _) cc0_scratch2 cc0_scratch3 1 (Scalar.remsi (Scalar.divsi (Dev.word (1 : Dev nD)) 1#32) 4#32) (SemArray.scalar (sig.barrier 0 rfl)) v30 4#32 v31) Q) := by
  rw [k0_part40_eq_skeleton]
  unfold k0_part40_skel
  rw [dif_neg (show ¬ _ from by decide), dif_pos (show _ = 1#1 from by decide), dif_neg (show ¬ _ from by decide), dif_pos (show k0_cond4 1 = 1#1 from by decide), dif_neg (show ¬ _ from by decide), dif_neg (show ¬ _ from by decide)]
  iintro ⟨#HR, ⟨%W, HO⟩, Ht, Hl, ⟨HcB, HaB⟩, Hr0, Hr1, Hr2, Hr3, Hd0, Hd1, Hd2, Hd3, Hd4, Hd5, Hs4, Hs5, H0, H1, H2, H3, H6⟩ Hk
  iapply (step_sig PK K 1 Variants.none 0 _ (Fin.ext (show k0_dev3 1 = 0 from rfl)) (by decide) _ rfl (owe (sends 1)) rfl) $$ [HO Ht Hl]
  · isplitr; · iexact HR
    isplitl [HO]; · iexact HO
    isplitl [Ht]; · iexact Ht
    iexact Hl
  iintro HO
  iapply (comp1 (α := Vec F S1x9x64x64 .bf16) (1 : Dev nD) a0 h0 a1 h1 a2 h2 a3 h3 a4 h4 a5 h5 q f0 f1 f2 f3 f6 (fun _ : PUnit.{1} => _)) $$ [H0 H1 H2 H3 H6]
  · isplitl [H0]; · iexact H0
    isplitl [H1]; · iexact H1
    isplitl [H2]; · iexact H2
    isplitl [H3]; · iexact H3
    iexact H6
  iintro ⟨H0, H1, H2, H3, ⟨%g, H6, %hg⟩⟩
  ihave H6 := (own_split (1 : Dev nD) g) $$ H6
  icases H6 with ⟨Hp0, Hp1, Hp2, Hp3⟩
  have m4 := isPk_own1 2 (by decide) hg (own_read2 g) e4
  have m5 := isPk_own1 3 (by decide) hg (own_read3 g) e5
  iapply (comm1 PK K a0 h0 a1 h1 a2 h2 a3 h3 a4 h4 a5 h5 _ (fun _ : PUnit.{1} => Prog.lift _)) $$ [HO HcB HaB Hr0 Hr1 Hr2 Hr3 Hd0 Hd1 Hd2 Hd3 Hd4 Hd5 Hp2 Hs4 Hp3 Hs5]
  · unfold pre1
    isplitr; · iexact HR
    isplitl [HO]; · iexists _; iexact HO
    isplitl [HcB]; · iexact HcB
    isplitl [HaB]; · iexact HaB
    isplitl [Hr0]; · iexact Hr0
    isplitl [Hr1]; · iexact Hr1
    isplitl [Hr2]; · iexact Hr2
    isplitl [Hr3]; · iexact Hr3
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hp2]
    · unfold made
      iexists g
      isplitl [Hp2]; · iexact Hp2
      ipureintro; exact m4
    isplitl [Hs4]; · iexact Hs4
    isplitl [Hp3]
    · unfold made
      iexists g
      isplitl [Hp3]; · iexact Hp3
      ipureintro; exact m5
    iexact Hs5
  unfold post1
  iintro ⟨HO, HaB, ⟨Hg0, Ha0⟩, ⟨Hg1, Ha1⟩, ⟨Hg2, Ha2⟩, ⟨Hg3, Ha3⟩, Hg4, Ho2, Hg5, Ho3, Hc0, Hc1, Hc2, Hc3, Hc4, Hc5⟩
  ihave Hg0 := (Entails.of_eq (show got PK 1 0 shK = iprop(∃ f, pkt (rcvS 0) 1 shK f ∗ ⌜IsPk (PK 0) ((rcvS 0).view.read (Elt F) f)⌝) from rfl)) $$ Hg0
  icases Hg0 with ⟨%r0, Hg0, %hr0⟩
  iapply (step_ld (1 : Dev nD) Variants.none rcvM (Rect.unit (s := S6x9x64x64) ![0, 0, 0, 0] S1x9x64x64.size inb_S6x9x64x64_S1x9x64x64_0_0_0_0) (fun _ => rfl) squeezes_S1x9x64x64_S9x64x64 (q := shK) (f := r0)) $$ [Hg0]
  · iexact Hg0
  iintro Hg0
  iapply (ret_step (F := F) 1)
  ispecialize Hk $$ %(rcvM.view.readAt (Elt F) (Rect.unit (s := S6x9x64x64) ![0, 0, 0, 0] S1x9x64x64.size inb_S6x9x64x64_S1x9x64x64_0_0_0_0).toLoadRect r0)
  iapply Hk $$ []
  · ipureintro
    rw [← own_ld r0]; exact hr0
  isplitl [HO]; · iexact HO
  isplitl [HaB]; · iexact HaB
  isplitl [Hg0 Ha0]
  · isplitl [Hg0]
    · unfold got
      iexists r0
      isplitl [Hg0]; · iexact Hg0
      ipureintro; exact hr0
    iexact Ha0
  isplitl [Hg1 Ha1]
  · isplitl [Hg1]
    · iexact Hg1
    iexact Ha1
  isplitl [Hg2 Ha2]
  · isplitl [Hg2]
    · iexact Hg2
    iexact Ha2
  isplitl [Hg3 Ha3]
  · isplitl [Hg3]
    · iexact Hg3
    iexact Ha3
  isplitl [Hg4]
  · iexact Hg4
  isplitl [Ho2]; · iexact Ho2
  isplitl [Hg5]
  · iexact Hg5
  isplitl [Ho3]; · iexact Ho3
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [H0]; · iexact H0
  isplitl [H1]; · iexact H1
  isplitl [H2]; · iexact H2
  isplitl [H3]; · iexact H3
  isplitl [Hp0]; · iexists _; iexact Hp0
  iexists _; iexact Hp1

set_option maxHeartbeats 4000000 in
set_option maxRecDepth 65536 in
/-- Three sends done: their sources are back. -/
theorem drain38 (Q : PUnit → sProp (MT nD τ sig Unit (Elt F) ℕ UU ℕ)) :
    iprop(recs PK K 1 ∗ (∃ W, owes ((1 : Dev nD) : Thread nD τ) 0 W) ∗ (cred (tallyAt (sndC 1 0) () N) ∗ atPos ER (sndC 1 0) 0 ∅ 0) ∗ (cred (tallyAt (sndC 1 1) () N) ∗ atPos ER (sndC 1 1) 0 ∅ 0) ∗ (cred (tallyAt (sndC 1 2) () N) ∗ atPos ER (sndC 1 2) 0 ∅ 0))
      ⊢ iprop(((∃ W, owes ((1 : Dev nD) : Thread nD τ) 0 W) ∗ (atPos ER (sndC 1 0) 1 ∅ 0 ∗ sndPay 1 0) ∗ (atPos ER (sndC 1 1) 1 ∅ 0 ∗ sndPay 1 1) ∗ (atPos ER (sndC 1 2) 1 ∅ 0 ∗ sndPay 1 2) -∗ Q ⟨⟩)
        -∗ wp frame (wpE (defs₀ (F := F)) Variants.none (1 : Dev nD) none) Set.univ (k0_part38 a0 h0 a1 h1 a2 h2 a3 h3 a4 h4 a5 h5 ownM (Memref.isWhole_whole _) rcvM (Memref.isWhole_whole _) cc0_scratch2 cc0_scratch3) Q) := by
  rw [k0_part38_eq_skeleton]
  unfold k0_part38_skel
  iintro ⟨#HR, HO, ⟨Hc0, Hx0⟩, ⟨Hc1, Hx1⟩, ⟨Hc2, Hx2⟩⟩ Hk
  iapply (step_snd PK K 1 Variants.none 0 (by decide) _ rfl (rcvS 0) (ownS 0) rfl) $$ [HO Hc0 Hx0]
  · isplitr; · iexact HR
    isplitl [HO]; · iexact HO
    isplitl [Hc0]; · iexact Hc0
    iexact Hx0
  iintro ⟨HO, Hx0, Hq0⟩
  iapply (step_snd PK K 1 Variants.none 1 (by decide) _ rfl (rcvS 0) (ownS 0) rfl) $$ [HO Hc1 Hx1]
  · isplitr; · iexact HR
    isplitl [HO]; · iexact HO
    isplitl [Hc1]; · iexact Hc1
    iexact Hx1
  iintro ⟨HO, Hx1, Hq1⟩
  iapply (step_snd PK K 1 Variants.none 2 (by decide) _ rfl (rcvS 0) (ownS 0) rfl) $$ [HO Hc2 Hx2]
  · isplitr; · iexact HR
    isplitl [HO]; · iexact HO
    isplitl [Hc2]; · iexact Hc2
    iexact Hx2
  iintro ⟨HO, Hx2, Hq2⟩
  iapply (ret_step (F := F) 1)
  iapply Hk
  isplitl [HO]; · iexact HO
  isplitl [Hx0 Hq0]
  · isplitl [Hx0]; · iexact Hx0
    iexact Hq0
  isplitl [Hx1 Hq1]
  · isplitl [Hx1]; · iexact Hx1
    iexact Hq1
  isplitl [Hx2]; · iexact Hx2
  iexact Hq2

set_option maxHeartbeats 4000000 in
set_option maxRecDepth 65536 in
/-- The whole body on device 1. -/
theorem body1 (q : PosShare TreeShare) (f0 : Buf (Elt F) (a0.view.loc ((1 : Dev nD) : Thread nD τ))) (f1 : Buf (Elt F) (a1.view.loc ((1 : Dev nD) : Thread nD τ))) (f2 : Buf (Elt F) (a2.view.loc ((1 : Dev nD) : Thread nD τ))) (f3 : Buf (Elt F) (a3.view.loc ((1 : Dev nD) : Thread nD τ))) (f4 : Buf (Elt F) (a4.view.loc ((1 : Dev nD) : Thread nD τ))) (f5 : Buf (Elt F) (a5.view.loc ((1 : Dev nD) : Thread nD τ)))
    (e4 : PK 4 = pkOf (o1 (a0.view.read (Elt F) f0) (a1.view.read (Elt F) f1) (a2.view.read (Elt F) f2) (a3.view.read (Elt F) f3) 2) (s1 (a0.view.read (Elt F) f0) (a1.view.read (Elt F) f1) (a2.view.read (Elt F) f2) 2))
    (e5 : PK 5 = pkOf (o1 (a0.view.read (Elt F) f0) (a1.view.read (Elt F) f1) (a2.view.read (Elt F) f2) (a3.view.read (Elt F) f3) 3) (s1 (a0.view.read (Elt F) f0) (a1.view.read (Elt F) f1) (a2.view.read (Elt F) f2) 3))
    (Q : PUnit → sProp (MT nD τ sig Unit (Elt F) ℕ UU ℕ)) :
    iprop(recs PK K 1
        ∗ (∃ W, owes ((1 : Dev nD) : Thread nD τ) (O₀ 1) W)
        ∗ dutyTok ER (barC 2) 0 1
        ∗ dutyTok ER (barC 3) 0 1
        ∗ dutyTok ER (barC 0) 0 1
        ∗ (cred (tallyAt (barC 1) () 3) ∗ atPos ER (barC 1) 0 ∅ 0)
        ∗ (cred (tallyAt (rcvC 1 0) () N) ∗ atPos ER (rcvC 1 0) 0 ∅ 0)
        ∗ (cred (tallyAt (rcvC 1 1) () N) ∗ atPos ER (rcvC 1 1) 0 ∅ 0)
        ∗ (cred (tallyAt (rcvC 1 2) () N) ∗ atPos ER (rcvC 1 2) 0 ∅ 0)
        ∗ (cred (tallyAt (rcvC 1 3) () N) ∗ atPos ER (rcvC 1 3) 0 ∅ 0)
        ∗ (dutyTok ER (sndC 1 0) 0 0 ∗ dutyTok ER (rcvC 0 4) 0 0)
        ∗ (dutyTok ER (sndC 1 1) 0 0 ∗ dutyTok ER (rcvC 0 5) 0 0)
        ∗ (dutyTok ER (sndC 1 2) 0 0 ∗ dutyTok ER (rcvC 2 4) 0 0)
        ∗ (dutyTok ER (sndC 1 3) 0 0 ∗ dutyTok ER (rcvC 2 5) 0 0)
        ∗ (dutyTok ER (sndC 1 4) 0 0 ∗ dutyTok ER (rcvC 2 0) 0 0)
        ∗ (dutyTok ER (sndC 1 5) 0 0 ∗ dutyTok ER (rcvC 2 1) 0 0)
        ∗ atPos ER (sndC 1 0) 0 ∅ 0
        ∗ atPos ER (sndC 1 1) 0 ∅ 0
        ∗ atPos ER (sndC 1 2) 0 ∅ 0
        ∗ atPos ER (sndC 1 3) 0 ∅ 0
        ∗ atPos ER (sndC 1 4) 0 ∅ 0
        ∗ atPos ER (sndC 1 5) 0 ∅ 0
        ∗ (a0.view.loc ((1 : Dev nD) : Thread nD τ) ↦{q} f0)
        ∗ (a1.view.loc ((1 : Dev nD) : Thread nD τ) ↦{q} f1)
        ∗ (a2.view.loc ((1 : Dev nD) : Thread nD τ) ↦{q} f2)
        ∗ (a3.view.loc ((1 : Dev nD) : Thread nD τ) ↦{q} f3)
        ∗ (a4.view.loc ((1 : Dev nD) : Thread nD τ) ↦{q} f4)
        ∗ (a5.view.loc ((1 : Dev nD) : Thread nD τ) ↦{fullShare} f5)
        ∗ (∃ f, ownM.view.loc ((1 : Dev nD) : Thread nD τ) ↦{fullShare} f)
        ∗ (∃ f, rcvM.view.loc ((1 : Dev nD) : Thread nD τ) ↦{fullShare} f))
      ⊢ iprop(((∃ W, owes ((1 : Dev nD) : Thread nD τ) 0 W)
          ∗ atPos ER (barC 1) 1 ∅ 0
          ∗ atPos ER (rcvC 1 0) 1 ∅ 0
          ∗ atPos ER (rcvC 1 1) 1 ∅ 0
          ∗ atPos ER (rcvC 1 2) 1 ∅ 0
          ∗ atPos ER (rcvC 1 3) 1 ∅ 0
          ∗ atPos ER (sndC 1 0) 1 ∅ 0
          ∗ atPos ER (sndC 1 1) 1 ∅ 0
          ∗ atPos ER (sndC 1 2) 1 ∅ 0
          ∗ atPos ER (sndC 1 3) 1 ∅ 0
          ∗ atPos ER (sndC 1 4) 1 ∅ 0
          ∗ atPos ER (sndC 1 5) 1 ∅ 0
          ∗ (a0.view.loc ((1 : Dev nD) : Thread nD τ) ↦{q} f0)
          ∗ (a1.view.loc ((1 : Dev nD) : Thread nD τ) ↦{q} f1)
          ∗ (a2.view.loc ((1 : Dev nD) : Thread nD τ) ↦{q} f2)
          ∗ (a3.view.loc ((1 : Dev nD) : Thread nD τ) ↦{q} f3)
          ∗ (a4.view.loc ((1 : Dev nD) : Thread nD τ) ↦{q} f4)
          ∗ (∃ f, (a5.view.loc ((1 : Dev nD) : Thread nD τ) ↦{fullShare} f) ∗ ⌜a5.view.read (Elt F) f = outP PK (a4.view.read (Elt F) f4)⌝)
          ∗ (∃ f, ownM.view.loc ((1 : Dev nD) : Thread nD τ) ↦{fullShare} f)
          ∗ (∃ f, rcvM.view.loc ((1 : Dev nD) : Thread nD τ) ↦{fullShare} f) -∗ Q ⟨⟩)
        -∗ wp frame (wpE (defs₀ (F := F)) Variants.none (1 : Dev nD) none) Set.univ (cc0_body a0 h0 a1 h1 a2 h2 a3 h3 a4 h4 a5 h5 ownM (Memref.isWhole_whole _) rcvM (Memref.isWhole_whole _) cc0_scratch2 cc0_scratch3) Q) := by
  rw [cc0_body_eq_skeleton]
  unfold cc0_body_skel
  iintro ⟨#HR, HO, Ht1, Ht2, Ht3, HB, Hr0, Hr1, Hr2, Hr3, Hd0, Hd1, Hd2, Hd3, Hd4, Hd5, Hx0, Hx1, Hx2, Hx3, Hx4, Hx5, H0, H1, H2, H3, H4, H5, ⟨%f6, H6⟩, ⟨%f7, H7⟩⟩ Hk
  ihave H7 := (rcv_split (1 : Dev nD) f7) $$ H7
  icases H7 with ⟨Hs0, Hs1, Hs2, Hs3, Hs4, Hs5⟩
  ihave Hl1 : (lendAll 1 (lends 1 2) : sProp (MT nD τ sig Unit (Elt F) ℕ UU ℕ)) $$ []
  · iapply (Entails.of_eq (show iprop(emp) = lendAll 1 (lends 1 2) from rfl))
    iempintro
  ihave Hl2 : (lendAll 1 (lends 1 3) : sProp (MT nD τ sig Unit (Elt F) ℕ UU ℕ)) $$ []
  · iapply (Entails.of_eq (show iprop(emp) = lendAll 1 (lends 1 3) from rfl))
    iempintro
  ihave Hl3 : (lendAll 1 (lends 1 0) : sProp (MT nD τ sig Unit (Elt F) ℕ UU ℕ)) $$ [Hs0 Hs1 Hs2 Hs3]
  · iapply (Entails.of_eq (show iprop(lend 1 0 ∗ lend 1 1 ∗ lend 1 2 ∗ lend 1 3 ∗ emp) = lendAll 1 (lends 1 0) from rfl))
    isplitl [Hs0]
    · iapply (lend_mk (PK := PK) (K := K) 1 0)
      isplitr; · iexact HR
      iexists f7; iexact Hs0
    isplitl [Hs1]
    · iapply (lend_mk (PK := PK) (K := K) 1 1)
      isplitr; · iexact HR
      iexists f7; iexact Hs1
    isplitl [Hs2]
    · iapply (lend_mk (PK := PK) (K := K) 1 2)
      isplitr; · iexact HR
      iexists f7; iexact Hs2
    isplitl [Hs3]
    · iapply (lend_mk (PK := PK) (K := K) 1 3)
      isplitr; · iexact HR
      iexists f7; iexact Hs3
    iempintro
  iapply (bind_step (F := F) 1)
  iapply (sig1 PK K a0 h0 a1 h1 a2 h2 a3 h3 a4 h4 a5 h5) $$ [HO Ht1 Ht2 Hl1 Hl2]
  · isplitr; · iexact HR
    isplitl [HO]; · iexact HO
    isplitl [Ht1]; · iexact Ht1
    isplitl [Ht2]; · iexact Ht2
    isplitl [Hl1]; · iexact Hl1
    iexact Hl2
  iintro HO
  iapply (bind_step (F := F) 1)
  iapply (head1 PK K a0 h0 a1 h1 a2 h2 a3 h3 a4 h4 a5 h5 q f0 f1 f2 f3 f6 e4 e5) $$ [HO Ht3 Hl3 HB Hr0 Hr1 Hr2 Hr3 Hd0 Hd1 Hd2 Hd3 Hd4 Hd5 Hs4 Hs5 H0 H1 H2 H3 H6]
  · isplitr; · iexact HR
    isplitl [HO]; · iexact HO
    isplitl [Ht3]; · iexact Ht3
    isplitl [Hl3]; · iexact Hl3
    isplitl [HB]; · iexact HB
    isplitl [Hr0]; · iexact Hr0
    isplitl [Hr1]; · iexact Hr1
    isplitl [Hr2]; · iexact Hr2
    isplitl [Hr3]; · iexact Hr3
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hs4]; · iexists f7; iexact Hs4
    isplitl [Hs5]; · iexists f7; iexact Hs5
    isplitl [H0]; · iexact H0
    isplitl [H1]; · iexact H1
    isplitl [H2]; · iexact H2
    isplitl [H3]; · iexact H3
    iexact H6
  iintro %v61 %hv ⟨HO, HaB, ⟨Hg0, Ha0⟩, ⟨Hg1, Ha1⟩, ⟨Hg2, Ha2⟩, ⟨Hg3, Ha3⟩, Hg4, Ho2, Hg5, Ho3, Hc0, Hc1, Hc2, Hc3, Hc4, Hc5, H0, H1, H2, H3, Hp0, Hp1⟩
  iapply (written PK 1 a0 h0 a1 h1 a2 h2 a3 h3 a4 h4 a5 h5 v61 hv q shK fullShare fullShare fullShare fullShare f4 f5 (fun _ : PUnit.{1} => _)) $$ [Hg1 Hg2 Hg3 Hg4 Hg5 H4 H5]
  · isplitl [Hg1]; · iexact Hg1
    isplitl [Hg2]; · iexact Hg2
    isplitl [Hg3]; · iexact Hg3
    isplitl [Hg4]; · iexact Hg4
    isplitl [Hg5]; · iexact Hg5
    isplitl [H4]; · iexact H4
    iexact H5
  iintro ⟨Hg1, Hg2, Hg3, Hg4, Hg5, H4, H5⟩
  rw [dif_neg (show ¬ _ from by decide), dif_pos (show _ = 1#1 from by decide), dif_neg (show ¬ _ from by decide)]
  iapply (bind_step (F := F) 1)
  iapply (drain38 PK K a0 h0 a1 h1 a2 h2 a3 h3 a4 h4 a5 h5) $$ [HO Hc0 Hx0 Hc1 Hx1 Hc2 Hx2]
  · isplitr; · iexact HR
    isplitl [HO]; · iexact HO
    isplitl [Hc0 Hx0]
    · isplitl [Hc0]; · iexact Hc0
      iexact Hx0
    isplitl [Hc1 Hx1]
    · isplitl [Hc1]; · iexact Hc1
      iexact Hx1
    isplitl [Hc2]; · iexact Hc2
    iexact Hx2
  iintro ⟨HO, ⟨Hx0, Hq0⟩, ⟨Hx1, Hq1⟩, ⟨Hx2, Hq2⟩⟩
  iapply (step_snd PK K 1 Variants.none 3 (by decide) _ rfl (rcvS 0) (ownS 0) rfl) $$ [HO Hc3 Hx3]
  · isplitr; · iexact HR
    isplitl [HO]; · iexact HO
    isplitl [Hc3]; · iexact Hc3
    iexact Hx3
  iintro ⟨HO, Hx3, Hq3⟩
  iapply (step_snd PK K 1 Variants.none 4 (by decide) _ rfl (rcvS 0) (ownS 0) rfl) $$ [HO Hc4 Hx4]
  · isplitr; · iexact HR
    isplitl [HO]; · iexact HO
    isplitl [Hc4]; · iexact Hc4
    iexact Hx4
  iintro ⟨HO, Hx4, Hq4⟩
  iapply (step_snd PK K 1 Variants.none 5 (by decide) _ rfl (rcvS 0) (ownS 0) rfl) $$ [HO Hc5 Hx5]
  · isplitr; · iexact HR
    isplitl [HO]; · iexact HO
    isplitl [Hc5]; · iexact Hc5
    iexact Hx5
  iintro ⟨HO, Hx5, Hq5⟩
  iapply (ret_step (F := F) 1)
  ihave Hg0 := (got_slot (PK := PK) 1 0 shK) $$ Hg0
  ihave Hg1 := (got_slot (PK := PK) 1 1 shK) $$ Hg1
  ihave Hg2 := (got_slot (PK := PK) 1 2 fullShare) $$ Hg2
  ihave Hg3 := (got_slot (PK := PK) 1 3 fullShare) $$ Hg3
  ihave Hg4 := (got_slot (PK := PK) 1 4 fullShare) $$ Hg4
  ihave Hg5 := (got_slot (PK := PK) 1 5 fullShare) $$ Hg5
  ihave Hq0 := (Entails.of_eq (show sndPay 1 0 = iprop(∃ f, pkt (ownS 2) 1 shA f) from rfl)) $$ Hq0
  ihave Hq1 := (Entails.of_eq (show sndPay 1 1 = iprop(∃ f, pkt (ownS 3) 1 shA f) from rfl)) $$ Hq1
  ihave Hq2 := (Entails.of_eq (show sndPay 1 2 = iprop(∃ f, pkt (ownS 2) 1 shB f) from rfl)) $$ Hq2
  ihave Hq3 := (Entails.of_eq (show sndPay 1 3 = iprop(∃ f, pkt (ownS 3) 1 shB f) from rfl)) $$ Hq3
  ihave Hq4 := (Entails.of_eq (show sndPay 1 4 = iprop(∃ f, pkt (rcvS 0) 1 shL f) from rfl)) $$ Hq4
  ihave Hq5 := (Entails.of_eq (show sndPay 1 5 = iprop(∃ f, pkt (rcvS 1) 1 shL f) from rfl)) $$ Hq5
  ihave Hq0 := (join_ex 1 (ownS 2) shL) $$ [Hq0 Hq2]
  · isplitl [Hq0]; · iexact Hq0
    iexact Hq2
  ihave Ho2 := (join_ex 1 (ownS 2) fullShare) $$ [Hq0 Ho2]
  · isplitl [Hq0]; · iexact Hq0
    iexact Ho2
  ihave Hq1 := (join_ex 1 (ownS 3) shL) $$ [Hq1 Hq3]
  · isplitl [Hq1]; · iexact Hq1
    iexact Hq3
  ihave Ho3 := (join_ex 1 (ownS 3) fullShare) $$ [Hq1 Ho3]
  · isplitl [Hq1]; · iexact Hq1
    iexact Ho3
  ihave Hg0 := (join_ex 1 (rcvS 0) fullShare) $$ [Hq4 Hg0]
  · isplitl [Hq4]; · iexact Hq4
    iexact Hg0
  ihave Hg1 := (join_ex 1 (rcvS 1) fullShare) $$ [Hq5 Hg1]
  · isplitl [Hq5]; · iexact Hq5
    iexact Hg1
  ihave H6 := (own_join (1 : Dev nD)) $$ [Hp0 Hp1 Ho2 Ho3]
  · isplitl [Hp0]; · iexact Hp0
    isplitl [Hp1]; · iexact Hp1
    isplitl [Ho2]; · iexact Ho2
    iexact Ho3
  ihave H7 := (rcv_join (1 : Dev nD)) $$ [Hg0 Hg1 Hg2 Hg3 Hg4 Hg5]
  · isplitl [Hg0]; · iexact Hg0
    isplitl [Hg1]; · iexact Hg1
    isplitl [Hg2]; · iexact Hg2
    isplitl [Hg3]; · iexact Hg3
    isplitl [Hg4]; · iexact Hg4
    iexact Hg5
  iapply Hk
  isplitl [HO]; · iexact HO
  isplitl [HaB]; · iexact HaB
  isplitl [Ha0]; · iexact Ha0
  isplitl [Ha1]; · iexact Ha1
  isplitl [Ha2]; · iexact Ha2
  isplitl [Ha3]; · iexact Ha3
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Att
-- ==== Proof.Comm2.lean ====
/-
  Device 2's exchange: all six packets arrive; packets 4 and 5 are passed on to device 3.
-/
module

public import proofs.«01_k».proof.Proof.Steps

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (PK : Fin 6 → S9x64x64.Idx → F .bf16) (K : GSem nD τ sig → ℕ)

/-- What device 2 has when its signals are sent. -/
def pre2 : sProp 𝕄 :=
  iprop(recs PK K 2 ∗ (∃ W, owes ((2 : Dev nD) : Thread nD τ) (owe (sends 2)) W)
    ∗ cred (tallyAt (barC 2) () 3) ∗ atPos ER (barC 2) 0 ∅ 0
    ∗ (cred (tallyAt (rcvC 2 0) () N) ∗ atPos ER (rcvC 2 0) 0 ∅ 0)
    ∗ (cred (tallyAt (rcvC 2 1) () N) ∗ atPos ER (rcvC 2 1) 0 ∅ 0)
    ∗ (cred (tallyAt (rcvC 2 2) () N) ∗ atPos ER (rcvC 2 2) 0 ∅ 0)
    ∗ (cred (tallyAt (rcvC 2 3) () N) ∗ atPos ER (rcvC 2 3) 0 ∅ 0)
    ∗ (cred (tallyAt (rcvC 2 4) () N) ∗ atPos ER (rcvC 2 4) 0 ∅ 0)
    ∗ (cred (tallyAt (rcvC 2 5) () N) ∗ atPos ER (rcvC 2 5) 0 ∅ 0)
    ∗ (dutyTok ER (sndC 2 0) 0 0 ∗ dutyTok ER (rcvC 3 4) 0 0)
    ∗ (dutyTok ER (sndC 2 1) 0 0 ∗ dutyTok ER (rcvC 3 5) 0 0))

/-- What device 2 has when its exchange is done. -/
def post2 : sProp 𝕄 :=
  iprop((∃ W, owes ((2 : Dev nD) : Thread nD τ) 0 W) ∗ atPos ER (barC 2) 1 ∅ 0
    ∗ (got PK 2 0 fullShare ∗ atPos ER (rcvC 2 0) 1 ∅ 0)
    ∗ (got PK 2 1 fullShare ∗ atPos ER (rcvC 2 1) 1 ∅ 0)
    ∗ (got PK 2 2 fullShare ∗ atPos ER (rcvC 2 2) 1 ∅ 0)
    ∗ (got PK 2 3 fullShare ∗ atPos ER (rcvC 2 3) 1 ∅ 0)
    ∗ (got PK 2 4 shK ∗ atPos ER (rcvC 2 4) 1 ∅ 0)
    ∗ (got PK 2 5 shK ∗ atPos ER (rcvC 2 5) 1 ∅ 0)
    ∗ cred (tallyAt (sndC 2 0) () N)
    ∗ cred (tallyAt (sndC 2 1) () N))
variable {α : Type} (a0 : Memref sig .tc .vmem S2x256x512 .bf16) (h0 : a0.IsWhole) (a1 : Memref sig .tc .vmem S512x256 .bf16) (h1 : a1.IsWhole)
  (a2 : Memref sig .tc .vmem S2x256x256 .bf16) (h2 : a2.IsWhole) (a3 : Memref sig .tc .vmem S2x256x256 .bf16) (h3 : a3.IsWhole)
  (a4 : Memref sig .tc .vmem S256x512 .bf16) (h4 : a4.IsWhole) (a5 : Memref sig .tc .vmem S2x256x512 .f32) (h5 : a5.IsWhole)

/-- The exchange's statements. -/
abbrev prog2 (k0_h5 : k0_cond5 2 = 1#1)
    (kk : PUnit → Prog (TpuEff nD τ sig (Elt F) Λ₀ .tc) α) : Prog (TpuEff nD τ sig (Elt F) Λ₀ .tc) α := do
          k0_part30 a0 h0 a1 h1 a2 h2 a3 h3 a4 h4 a5 h5 ownM (Memref.isWhole_whole _) rcvM (Memref.isWhole_whole _) cc0_scratch2 cc0_scratch3 2 (SemArray.scalar (sig.barrier 0 rfl)) k0_h5
          k0_part31 a0 h0 a1 h1 a2 h2 a3 h3 a4 h4 a5 h5 ownM (Memref.isWhole_whole _) rcvM (Memref.isWhole_whole _) cc0_scratch2 cc0_scratch3 2 k0_h5
          k0_part32 a0 h0 a1 h1 a2 h2 a3 h3 a4 h4 a5 h5 ownM (Memref.isWhole_whole _) rcvM (Memref.isWhole_whole _) cc0_scratch2 cc0_scratch3
          let v398 : Memref sig .tc .vmem S1x9x64x64 .bf16 := rcvM.slice (Rect.unit (s := S6x9x64x64) ![3, 0, 0, 0] S1x9x64x64.size inb_S6x9x64x64_S1x9x64x64_3_0_0_0) (fun _ => rfl)
          let v399 : Memref sig .tc .vmem S9x64x64 .bf16 := v398.squeeze S9x64x64 squeezes_S1x9x64x64_S9x64x64
          let v394 : DmaSems sig S1 := cc0_scratch3.slice (Rect.unit (s := S6) ![3] S1.size inb_S6_S1_3)
          let v395 : DmaSems sig S_ := v394.squeeze S_ squeezes_S1_S_
          let v396 : Memref sig .tc .vmem S1x9x64x64 .bf16 := rcvM.slice (Rect.unit (s := S6x9x64x64) ![3, 0, 0, 0] S1x9x64x64.size inb_S6x9x64x64_S1x9x64x64_3_0_0_0) (fun _ => rfl)
          let v397 : Memref sig .tc .vmem S9x64x64 .bf16 := v396.squeeze S9x64x64 squeezes_S1x9x64x64_S9x64x64
          Prog.lift (.waitDma2 v395.sem v399 v397 (((Memref.isWhole_whole cc0_scratch1).wordExact_slice rfl _ wordsbf16_S6x9x64x64_S1x9x64x64_3_0_0_0).reshape _ _) (((Memref.isWhole_whole cc0_scratch1).wordExact_slice rfl _ wordsbf16_S6x9x64x64_S1x9x64x64_3_0_0_0).reshape _ _))
          kk ⟨⟩

set_option maxHeartbeats 4000000 in
set_option maxRecDepth 65536 in
theorem comm2 (k0_h5 : k0_cond5 2 = 1#1) (kk : PUnit → Prog (TpuEff nD τ sig (Elt F) Λ₀ .tc) α)
    (Q : α → sProp (MT nD τ sig Unit (Elt F) ℕ UU ℕ)) :
    pre2 PK K ⊢ iprop((post2 PK -∗ wp frame (wpE (defs₀ (F := F)) Variants.none (2 : Dev nD) none) Set.univ (kk ⟨⟩) Q)
      -∗ wp frame (wpE (defs₀ (F := F)) Variants.none (2 : Dev nD) none) Set.univ (prog2 a0 h0 a1 h1 a2 h2 a3 h3 a4 h4 a5 h5 k0_h5 kk) Q) := by
  unfold prog2
  simp only [k0_part30_eq_skeleton, k0_part31_eq_skeleton, k0_part32_eq_skeleton]
  unfold k0_part30_skel k0_part31_skel k0_part32_skel
  unfold pre2
  iintro ⟨#HR, HO, HcB, HaB, ⟨Hc0, Ha0⟩, ⟨Hc1, Ha1⟩, ⟨Hc2, Ha2⟩, ⟨Hc3, Ha3⟩, ⟨Hc4, Ha4⟩, ⟨Hc5, Ha5⟩, ⟨Ht0, Hu0⟩, ⟨Ht1, Hu1⟩⟩ Hk
  -- the other devices' signals, and the slots they lend
  icases HO with ⟨%W, HO⟩
  iapply (step_bar PK K 2 Variants.none _ rfl [(3, 4), (3, 5)]) $$ [HO HcB HaB]
  · isplitr; · iexact HR
    isplitl [HO]; · iexact HO
    isplitl [HcB]; · iexact HcB
    iexact HaB
  iintro ⟨HO, HaB, Hp⟩
  ihave Hp := (bar_three (by decide) (by decide) (by decide) (by decide) (fun p => barPay (F := F) 2 p) (c := 2) (a := 0) (b := 1) (d := 3)) $$ Hp
  icases Hp with ⟨-, -, Hp3⟩
  ihave Hp3 := (Entails.of_eq (show barPay (F := F) 2 3 = iprop(lend 3 4 ∗ lend 3 5 ∗ emp) from rfl)) $$ Hp3
  icases Hp3 with ⟨HL34, HL35, -⟩
  -- packet 4 arrives
  iapply (step_rcv PK K 2 Variants.none 4 rfl _ rfl [(3, 4), (3, 5)] (by decide) (rcvS 4) (rcvS 4) rfl) $$ [HO Hc4 Ha4]
  · isplitr; · iexact HR
    isplitl [HO]; · iexact HO
    isplitl [Hc4]; · iexact Hc4
    iexact Ha4
  unfold rcvPay
  iintro ⟨HO, Ha4, ⟨%fs4', Hb4, %hs4⟩⟩
  ihave Hb4 := (halves 2 (rcvS 4) fs4') $$ Hb4
  icases Hb4 with ⟨HbL4, Hb4⟩
  -- packet 4 goes to device 3
  iapply (step_send PK K 2 Variants.none 0 3 4 rfl rfl _ _ _ _ _ rfl rfl (Fin.ext (show k0_dev18 = 3 from rfl)) rfl rfl rfl [(3, 5)] fs4' hs4) $$ [HO HbL4 HL34 Ht0 Hu0]
  · isplitr; · iexact HR
    isplitl [HO]; · iexact HO
    isplitl [HbL4]; · iexact HbL4
    isplitl [HL34]; · iexact HL34
    isplitl [Ht0]; · iexact Ht0
    iexact Hu0
  iintro ⟨HO, HS0⟩
  -- packet 5 arrives
  iapply (step_rcv PK K 2 Variants.none 5 rfl _ rfl [(3, 5)] (by decide) (rcvS 5) (rcvS 5) rfl) $$ [HO Hc5 Ha5]
  · isplitr; · iexact HR
    isplitl [HO]; · iexact HO
    isplitl [Hc5]; · iexact Hc5
    iexact Ha5
  unfold rcvPay
  iintro ⟨HO, Ha5, ⟨%fs5', Hb5, %hs5⟩⟩
  ihave Hb5 := (halves 2 (rcvS 5) fs5') $$ Hb5
  icases Hb5 with ⟨HbL5, Hb5⟩
  -- packet 5 goes to device 3
  iapply (step_send PK K 2 Variants.none 1 3 5 rfl rfl _ _ _ _ _ rfl rfl (Fin.ext (show k0_dev19 = 3 from rfl)) rfl rfl rfl [] fs5' hs5) $$ [HO HbL5 HL35 Ht1 Hu1]
  · isplitr; · iexact HR
    isplitl [HO]; · iexact HO
    isplitl [HbL5]; · iexact HbL5
    isplitl [HL35]; · iexact HL35
    isplitl [Ht1]; · iexact Ht1
    iexact Hu1
  iintro ⟨HO, HS1⟩
  -- packet 0 arrives
  iapply (step_rcv PK K 2 Variants.none 0 rfl _ rfl [] (by decide) (rcvS 0) (rcvS 0) rfl) $$ [HO Hc0 Ha0]
  · isplitr; · iexact HR
    isplitl [HO]; · iexact HO
    isplitl [Hc0]; · iexact Hc0
    iexact Ha0
  unfold rcvPay
  iintro ⟨HO, Ha0, ⟨%fs0', Hb0, %hs0⟩⟩
  -- packet 1 arrives
  iapply (step_rcv PK K 2 Variants.none 1 rfl _ rfl [] (by decide) (rcvS 1) (rcvS 1) rfl) $$ [HO Hc1 Ha1]
  · isplitr; · iexact HR
    isplitl [HO]; · iexact HO
    isplitl [Hc1]; · iexact Hc1
    iexact Ha1
  unfold rcvPay
  iintro ⟨HO, Ha1, ⟨%fs1', Hb1, %hs1⟩⟩
  -- packet 2 arrives
  iapply (step_rcv PK K 2 Variants.none 2 rfl _ rfl [] (by decide) (rcvS 2) (rcvS 2) rfl) $$ [HO Hc2 Ha2]
  · isplitr; · iexact HR
    isplitl [HO]; · iexact HO
    isplitl [Hc2]; · iexact Hc2
    iexact Ha2
  unfold rcvPay
  iintro ⟨HO, Ha2, ⟨%fs2', Hb2, %hs2⟩⟩
  -- packet 3 arrives
  iapply (step_rcv PK K 2 Variants.none 3 rfl _ rfl [] (by decide) (rcvS 3) (rcvS 3) rfl) $$ [HO Hc3 Ha3]
  · isplitr; · iexact HR
    isplitl [HO]; · iexact HO
    isplitl [Hc3]; · iexact Hc3
    iexact Ha3
  unfold rcvPay
  iintro ⟨HO, Ha3, ⟨%fs3', Hb3, %hs3⟩⟩
  simp only [Prog.bind]
  iapply Hk
  unfold post2 got
  isplitl [HO]; · iexact HO
  isplitl [HaB]; · iexact HaB
  isplitl [Hb0 Ha0]
  · isplitl [Hb0]
    · iexists fs0'
      isplitl [Hb0]; · iexact Hb0
      ipureintro; exact hs0
    iexact Ha0
  isplitl [Hb1 Ha1]
  · isplitl [Hb1]
    · iexists fs1'
      isplitl [Hb1]; · iexact Hb1
      ipureintro; exact hs1
    iexact Ha1
  isplitl [Hb2 Ha2]
  · isplitl [Hb2]
    · iexists fs2'
      isplitl [Hb2]; · iexact Hb2
      ipureintro; exact hs2
    iexact Ha2
  isplitl [Hb3 Ha3]
  · isplitl [Hb3]
    · iexists fs3'
      isplitl [Hb3]; · iexact Hb3
      ipureintro; exact hs3
    iexact Ha3
  isplitl [Hb4 Ha4]
  · isplitl [Hb4]
    · iexists fs4'
      isplitl [Hb4]; · iexact Hb4
      ipureintro; exact hs4
    iexact Ha4
  isplitl [Hb5 Ha5]
  · isplitl [Hb5]
    · iexists fs5'
      isplitl [Hb5]; · iexact Hb5
      ipureintro; exact hs5
    iexact Ha5
  isplitl [HS0]
  · iexact HS0
  iexact HS1

end Cert.KernelIdeal.Att
-- ==== Proof.Dev2.lean ====
/-
  Device 2's run: it passes two packets on and writes the output.
-/
module

public import proofs.«01_k».proof.Proof.Head
public import proofs.«01_k».proof.Proof.Comm2

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (PK : Fin 6 → S9x64x64.Idx → F .bf16) (K : GSem nD τ sig → ℕ)

variable (a0 : Memref sig .tc .vmem S2x256x512 .bf16) (h0 : a0.IsWhole) (a1 : Memref sig .tc .vmem S512x256 .bf16) (h1 : a1.IsWhole)
  (a2 : Memref sig .tc .vmem S2x256x256 .bf16) (h2 : a2.IsWhole) (a3 : Memref sig .tc .vmem S2x256x256 .bf16) (h3 : a3.IsWhole)
  (a4 : Memref sig .tc .vmem S256x512 .bf16) (h4 : a4.IsWhole) (a5 : Memref sig .tc .vmem S2x256x512 .f32) (h5 : a5.IsWhole)

set_option maxHeartbeats 4000000 in
set_option maxRecDepth 65536 in
/-- The first two signals. -/
theorem sig2 (Q : _ → sProp (MT nD τ sig Unit (Elt F) ℕ UU ℕ)) :
    iprop(recs PK K 2 ∗ (∃ W, owes ((2 : Dev nD) : Thread nD τ) (O₀ 2) W) ∗ dutyTok ER (barC 3) 0 2 ∗ dutyTok ER (barC 0) 0 2
        ∗ lendAll 2 (lends 2 3) ∗ lendAll 2 (lends 2 0))
      ⊢ iprop(((∃ W, owes ((2 : Dev nD) : Thread nD τ) (owe (sends 2) + tallyAt (barC (nxt 2 3)) () 1) W)
          -∗ Q ⟨2, (Scalar.remsi (Scalar.divsi (Dev.word (2 : Dev nD)) 1#32) 4#32), SemArray.scalar (sig.barrier 0 rfl), Scalar.addi (Scalar.remsi (Scalar.divsi (Dev.word (2 : Dev nD)) 1#32) 4#32) 3#32, 4#32, Scalar.cmpi .eq 4#32 0#32⟩)
        -∗ wp frame (wpE (defs₀ (F := F)) Variants.none (2 : Dev nD) none) Set.univ (k0_part39 a0 h0 a1 h1 a2 h2 a3 h3 a4 h4 a5 h5 ownM (Memref.isWhole_whole _) rcvM (Memref.isWhole_whole _) cc0_scratch2 cc0_scratch3) Q) := by
  rw [k0_part39_eq_skeleton]
  unfold k0_part39_skel
  iintro ⟨#HR, ⟨%W, HO⟩, Ht1, Ht2, Hl1, Hl2⟩ Hk
  iapply (dev_step (F := F) 2)
  iapply (step_sig PK K 2 Variants.none 3 _ (Fin.ext (show k0_dev1 2 = 3 from rfl)) (by decide) _ rfl
    ((owe (sends 2) + tallyAt (barC (nxt 2 3)) () 1) + tallyAt (barC (nxt 2 2)) () 1) rfl) $$ [HO Ht1 Hl1]
  · isplitr; · iexact HR
    isplitl [HO]; · iexact HO
    isplitl [Ht1]; · iexact Ht1
    iexact Hl1
  iintro HO
  iapply (step_sig PK K 2 Variants.none 0 _ (Fin.ext (show k0_dev2 2 = 0 from rfl)) (by decide) _ rfl
    (owe (sends 2) + tallyAt (barC (nxt 2 3)) () 1) rfl) $$ [HO Ht2 Hl2]
  · isplitr; · iexact HR
    isplitl [HO]; · iexact HO
    isplitl [Ht2]; · iexact Ht2
    iexact Hl2
  iintro HO
  iapply (ret_step (F := F) 2)
  iapply Hk
  iexists _
  iexact HO

set_option maxHeartbeats 4000000 in
set_option maxRecDepth 65536 in
/-- From the last signal to the load of the first packet. -/
theorem head2 (v30 : BitVec 32) (v31 : BitVec 1) (Q : Vec F S1x9x64x64 .bf16 → sProp (MT nD τ sig Unit (Elt F) ℕ UU ℕ)) :
    iprop(recs PK K 2
        ∗ (∃ W, owes ((2 : Dev nD) : Thread nD τ) (owe (sends 2) + tallyAt (barC (nxt 2 3)) () 1) W)
        ∗ dutyTok ER (barC 1) 0 2
        ∗ lendAll 2 (lends 2 1)
        ∗ (cred (tallyAt (barC 2) () 3) ∗ atPos ER (barC 2) 0 ∅ 0)
        ∗ (cred (tallyAt (rcvC 2 0) () N) ∗ atPos ER (rcvC 2 0) 0 ∅ 0)
        ∗ (cred (tallyAt (rcvC 2 1) () N) ∗ atPos ER (rcvC 2 1) 0 ∅ 0)
        ∗ (cred (tallyAt (rcvC 2 2) () N) ∗ atPos ER (rcvC 2 2) 0 ∅ 0)
        ∗ (cred (tallyAt (rcvC 2 3) () N) ∗ atPos ER (rcvC 2 3) 0 ∅ 0)
        ∗ (cred (tallyAt (rcvC 2 4) () N) ∗ atPos ER (rcvC 2 4) 0 ∅ 0)
        ∗ (cred (tallyAt (rcvC 2 5) () N) ∗ atPos ER (rcvC 2 5) 0 ∅ 0)
        ∗ (dutyTok ER (sndC 2 0) 0 0 ∗ dutyTok ER (rcvC 3 4) 0 0)
        ∗ (dutyTok ER (sndC 2 1) 0 0 ∗ dutyTok ER (rcvC 3 5) 0 0))
      ⊢ iprop((∀ v, ⌜IsPk (PK 0) (shapeCast S9x64x64 v shapeCasts_S1x9x64x64_S9x64x64)⌝
          -∗ (∃ W, owes ((2 : Dev nD) : Thread nD τ) 0 W)
          ∗ atPos ER (barC 2) 1 ∅ 0
          ∗ (got PK 2 0 fullShare ∗ atPos ER (rcvC 2 0) 1 ∅ 0)
          ∗ (got PK 2 1 fullShare ∗ atPos ER (rcvC 2 1) 1 ∅ 0)
          ∗ (got PK 2 2 fullShare ∗ atPos ER (rcvC 2 2) 1 ∅ 0)
          ∗ (got PK 2 3 fullShare ∗ atPos ER (rcvC 2 3) 1 ∅ 0)
          ∗ (got PK 2 4 shK ∗ atPos ER (rcvC 2 4) 1 ∅ 0)
          ∗ (got PK 2 5 shK ∗ atPos ER (rcvC 2 5) 1 ∅ 0)
          ∗ cred (tallyAt (sndC 2 0) () N)
          ∗ cred (tallyAt (sndC 2 1) () N) -∗ Q v)
        -∗ wp frame (wpE (defs₀ (F := F)) Variants.none (2 : Dev nD) none) Set.univ (k0_part40 a0 h0 a1 h1 a2 h2 a3 h3 a4 h4 a5 h5 ownM (Memref.isWhole_whole _) rcvM (Memref.isWhole_whole _) cc0_scratch2 cc0_scratch3 2 (Scalar.remsi (Scalar.divsi (Dev.word (2 : Dev nD)) 1#32) 4#32) (SemArray.scalar (sig.barrier 0 rfl)) v30 4#32 v31) Q) := by
  rw [k0_part40_eq_skeleton]
  unfold k0_part40_skel
  rw [dif_neg (show ¬ _ from by decide), dif_neg (show ¬ _ from by decide), dif_neg (show ¬ _ from by decide), dif_neg (show ¬ _ from by decide), dif_pos (show k0_cond5 2 = 1#1 from by decide), dif_neg (show ¬ _ from by decide)]
  iintro ⟨#HR, ⟨%W, HO⟩, Ht, Hl, ⟨HcB, HaB⟩, Hr0, Hr1, Hr2, Hr3, Hr4, Hr5, Hd0, Hd1⟩ Hk
  iapply (step_sig PK K 2 Variants.none 1 _ (Fin.ext (show k0_dev3 2 = 1 from rfl)) (by decide) _ rfl (owe (sends 2)) rfl) $$ [HO Ht Hl]
  · isplitr; · iexact HR
    isplitl [HO]; · iexact HO
    isplitl [Ht]; · iexact Ht
    iexact Hl
  iintro HO
  iapply (comm2 PK K a0 h0 a1 h1 a2 h2 a3 h3 a4 h4 a5 h5 (by decide) (fun _ : PUnit.{1} => Prog.lift _)) $$ [HO HcB HaB Hr0 Hr1 Hr2 Hr3 Hr4 Hr5 Hd0 Hd1]
  · unfold pre2
    isplitr; · iexact HR
    isplitl [HO]; · iexists _; iexact HO
    isplitl [HcB]; · iexact HcB
    isplitl [HaB]; · iexact HaB
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hd0]; · iexact Hd0
    iexact Hd1
  unfold post2
  iintro ⟨HO, HaB, ⟨Hg0, Ha0⟩, ⟨Hg1, Ha1⟩, ⟨Hg2, Ha2⟩, ⟨Hg3, Ha3⟩, ⟨Hg4, Ha4⟩, ⟨Hg5, Ha5⟩, Hc0, Hc1⟩
  ihave Hg0 := (Entails.of_eq (show got PK 2 0 fullShare = iprop(∃ f, pkt (rcvS 0) 2 fullShare f ∗ ⌜IsPk (PK 0) ((rcvS 0).view.read (Elt F) f)⌝) from rfl)) $$ Hg0
  icases Hg0 with ⟨%r0, Hg0, %hr0⟩
  iapply (step_ld (2 : Dev nD) Variants.none rcvM (Rect.unit (s := S6x9x64x64) ![0, 0, 0, 0] S1x9x64x64.size inb_S6x9x64x64_S1x9x64x64_0_0_0_0) (fun _ => rfl) squeezes_S1x9x64x64_S9x64x64 (q := fullShare) (f := r0)) $$ [Hg0]
  · iexact Hg0
  iintro Hg0
  iapply (ret_step (F := F) 2)
  ispecialize Hk $$ %(rcvM.view.readAt (Elt F) (Rect.unit (s := S6x9x64x64) ![0, 0, 0, 0] S1x9x64x64.size inb_S6x9x64x64_S1x9x64x64_0_0_0_0).toLoadRect r0)
  iapply Hk $$ []
  · ipureintro
    rw [← own_ld r0]; exact hr0
  isplitl [HO]; · iexact HO
  isplitl [HaB]; · iexact HaB
  isplitl [Hg0 Ha0]
  · isplitl [Hg0]
    · unfold got
      iexists r0
      isplitl [Hg0]; · iexact Hg0
      ipureintro; exact hr0
    iexact Ha0
  isplitl [Hg1 Ha1]
  · isplitl [Hg1]
    · iexact Hg1
    iexact Ha1
  isplitl [Hg2 Ha2]
  · isplitl [Hg2]
    · iexact Hg2
    iexact Ha2
  isplitl [Hg3 Ha3]
  · isplitl [Hg3]
    · iexact Hg3
    iexact Ha3
  isplitl [Hg4 Ha4]
  · isplitl [Hg4]
    · iexact Hg4
    iexact Ha4
  isplitl [Hg5 Ha5]
  · isplitl [Hg5]
    · iexact Hg5
    iexact Ha5
  isplitl [Hc0]; · iexact Hc0
  iexact Hc1

set_option maxHeartbeats 4000000 in
set_option maxRecDepth 65536 in
/-- The whole body on device 2. -/
theorem body2 (q : PosShare TreeShare) (f4 : Buf (Elt F) (a4.view.loc ((2 : Dev nD) : Thread nD τ))) (f5 : Buf (Elt F) (a5.view.loc ((2 : Dev nD) : Thread nD τ)))
    (Q : PUnit → sProp (MT nD τ sig Unit (Elt F) ℕ UU ℕ)) :
    iprop(recs PK K 2
        ∗ (∃ W, owes ((2 : Dev nD) : Thread nD τ) (O₀ 2) W)
        ∗ dutyTok ER (barC 3) 0 2
        ∗ dutyTok ER (barC 0) 0 2
        ∗ dutyTok ER (barC 1) 0 2
        ∗ (cred (tallyAt (barC 2) () 3) ∗ atPos ER (barC 2) 0 ∅ 0)
        ∗ (cred (tallyAt (rcvC 2 0) () N) ∗ atPos ER (rcvC 2 0) 0 ∅ 0)
        ∗ (cred (tallyAt (rcvC 2 1) () N) ∗ atPos ER (rcvC 2 1) 0 ∅ 0)
        ∗ (cred (tallyAt (rcvC 2 2) () N) ∗ atPos ER (rcvC 2 2) 0 ∅ 0)
        ∗ (cred (tallyAt (rcvC 2 3) () N) ∗ atPos ER (rcvC 2 3) 0 ∅ 0)
        ∗ (cred (tallyAt (rcvC 2 4) () N) ∗ atPos ER (rcvC 2 4) 0 ∅ 0)
        ∗ (cred (tallyAt (rcvC 2 5) () N) ∗ atPos ER (rcvC 2 5) 0 ∅ 0)
        ∗ (dutyTok ER (sndC 2 0) 0 0 ∗ dutyTok ER (rcvC 3 4) 0 0)
        ∗ (dutyTok ER (sndC 2 1) 0 0 ∗ dutyTok ER (rcvC 3 5) 0 0)
        ∗ atPos ER (sndC 2 0) 0 ∅ 0
        ∗ atPos ER (sndC 2 1) 0 ∅ 0
        ∗ (a4.view.loc ((2 : Dev nD) : Thread nD τ) ↦{q} f4)
        ∗ (a5.view.loc ((2 : Dev nD) : Thread nD τ) ↦{fullShare} f5)
        ∗ (∃ f, ownM.view.loc ((2 : Dev nD) : Thread nD τ) ↦{fullShare} f)
        ∗ (∃ f, rcvM.view.loc ((2 : Dev nD) : Thread nD τ) ↦{fullShare} f))
      ⊢ iprop(((∃ W, owes ((2 : Dev nD) : Thread nD τ) 0 W)
          ∗ atPos ER (barC 2) 1 ∅ 0
          ∗ atPos ER (rcvC 2 0) 1 ∅ 0
          ∗ atPos ER (rcvC 2 1) 1 ∅ 0
          ∗ atPos ER (rcvC 2 2) 1 ∅ 0
          ∗ atPos ER (rcvC 2 3) 1 ∅ 0
          ∗ atPos ER (rcvC 2 4) 1 ∅ 0
          ∗ atPos ER (rcvC 2 5) 1 ∅ 0
          ∗ atPos ER (sndC 2 0) 1 ∅ 0
          ∗ atPos ER (sndC 2 1) 1 ∅ 0
          ∗ (a4.view.loc ((2 : Dev nD) : Thread nD τ) ↦{q} f4)
          ∗ (∃ f, (a5.view.loc ((2 : Dev nD) : Thread nD τ) ↦{fullShare} f) ∗ ⌜a5.view.read (Elt F) f = outP PK (a4.view.read (Elt F) f4)⌝)
          ∗ (∃ f, ownM.view.loc ((2 : Dev nD) : Thread nD τ) ↦{fullShare} f)
          ∗ (∃ f, rcvM.view.loc ((2 : Dev nD) : Thread nD τ) ↦{fullShare} f) -∗ Q ⟨⟩)
        -∗ wp frame (wpE (defs₀ (F := F)) Variants.none (2 : Dev nD) none) Set.univ (cc0_body a0 h0 a1 h1 a2 h2 a3 h3 a4 h4 a5 h5 ownM (Memref.isWhole_whole _) rcvM (Memref.isWhole_whole _) cc0_scratch2 cc0_scratch3) Q) := by
  rw [cc0_body_eq_skeleton]
  unfold cc0_body_skel
  iintro ⟨#HR, HO, Ht1, Ht2, Ht3, HB, Hr0, Hr1, Hr2, Hr3, Hr4, Hr5, Hd0, Hd1, Hx0, Hx1, H4, H5, ⟨%f6, H6⟩, ⟨%f7, H7⟩⟩ Hk
  ihave H7 := (rcv_split (2 : Dev nD) f7) $$ H7
  icases H7 with ⟨Hs0, Hs1, Hs2, Hs3, Hs4, Hs5⟩
  ihave Hl1 : (lendAll 2 (lends 2 3) : sProp (MT nD τ sig Unit (Elt F) ℕ UU ℕ)) $$ [Hs2 Hs3]
  · iapply (Entails.of_eq (show iprop(lend 2 2 ∗ lend 2 3 ∗ emp) = lendAll 2 (lends 2 3) from rfl))
    isplitl [Hs2]
    · iapply (lend_mk (PK := PK) (K := K) 2 2)
      isplitr; · iexact HR
      iexists f7; iexact Hs2
    isplitl [Hs3]
    · iapply (lend_mk (PK := PK) (K := K) 2 3)
      isplitr; · iexact HR
      iexists f7; iexact Hs3
    iempintro
  ihave Hl2 : (lendAll 2 (lends 2 0) : sProp (MT nD τ sig Unit (Elt F) ℕ UU ℕ)) $$ []
  · iapply (Entails.of_eq (show iprop(emp) = lendAll 2 (lends 2 0) from rfl))
    iempintro
  ihave Hl3 : (lendAll 2 (lends 2 1) : sProp (MT nD τ sig Unit (Elt F) ℕ UU ℕ)) $$ [Hs4 Hs5 Hs0 Hs1]
  · iapply (Entails.of_eq (show iprop(lend 2 4 ∗ lend 2 5 ∗ lend 2 0 ∗ lend 2 1 ∗ emp) = lendAll 2 (lends 2 1) from rfl))
    isplitl [Hs4]
    · iapply (lend_mk (PK := PK) (K := K) 2 4)
      isplitr; · iexact HR
      iexists f7; iexact Hs4
    isplitl [Hs5]
    · iapply (lend_mk (PK := PK) (K := K) 2 5)
      isplitr; · iexact HR
      iexists f7; iexact Hs5
    isplitl [Hs0]
    · iapply (lend_mk (PK := PK) (K := K) 2 0)
      isplitr; · iexact HR
      iexists f7; iexact Hs0
    isplitl [Hs1]
    · iapply (lend_mk (PK := PK) (K := K) 2 1)
      isplitr; · iexact HR
      iexists f7; iexact Hs1
    iempintro
  iapply (bind_step (F := F) 2)
  iapply (sig2 PK K a0 h0 a1 h1 a2 h2 a3 h3 a4 h4 a5 h5) $$ [HO Ht1 Ht2 Hl1 Hl2]
  · isplitr; · iexact HR
    isplitl [HO]; · iexact HO
    isplitl [Ht1]; · iexact Ht1
    isplitl [Ht2]; · iexact Ht2
    isplitl [Hl1]; · iexact Hl1
    iexact Hl2
  iintro HO
  iapply (bind_step (F := F) 2)
  iapply (head2 PK K a0 h0 a1 h1 a2 h2 a3 h3 a4 h4 a5 h5) $$ [HO Ht3 Hl3 HB Hr0 Hr1 Hr2 Hr3 Hr4 Hr5 Hd0 Hd1]
  · isplitr; · iexact HR
    isplitl [HO]; · iexact HO
    isplitl [Ht3]; · iexact Ht3
    isplitl [Hl3]; · iexact Hl3
    isplitl [HB]; · iexact HB
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hd0]; · iexact Hd0
    iexact Hd1
  iintro %v61 %hv ⟨HO, HaB, ⟨Hg0, Ha0⟩, ⟨Hg1, Ha1⟩, ⟨Hg2, Ha2⟩, ⟨Hg3, Ha3⟩, ⟨Hg4, Ha4⟩, ⟨Hg5, Ha5⟩, Hc0, Hc1⟩
  iapply (written PK 2 a0 h0 a1 h1 a2 h2 a3 h3 a4 h4 a5 h5 v61 hv q fullShare fullShare fullShare shK shK f4 f5 (fun _ : PUnit.{1} => _)) $$ [Hg1 Hg2 Hg3 Hg4 Hg5 H4 H5]
  · isplitl [Hg1]; · iexact Hg1
    isplitl [Hg2]; · iexact Hg2
    isplitl [Hg3]; · iexact Hg3
    isplitl [Hg4]; · iexact Hg4
    isplitl [Hg5]; · iexact Hg5
    isplitl [H4]; · iexact H4
    iexact H5
  iintro ⟨Hg1, Hg2, Hg3, Hg4, Hg5, H4, H5⟩
  rw [dif_neg (show ¬ _ from by decide), dif_neg (show ¬ _ from by decide), dif_pos (show _ = 1#1 from by decide)]
  iapply (step_snd PK K 2 Variants.none 0 (by decide) _ rfl (rcvS 0) (ownS 0) rfl) $$ [HO Hc0 Hx0]
  · isplitr; · iexact HR
    isplitl [HO]; · iexact HO
    isplitl [Hc0]; · iexact Hc0
    iexact Hx0
  iintro ⟨HO, Hx0, Hq0⟩
  iapply (step_snd PK K 2 Variants.none 1 (by decide) _ rfl (rcvS 0) (ownS 0) rfl) $$ [HO Hc1 Hx1]
  · isplitr; · iexact HR
    isplitl [HO]; · iexact HO
    isplitl [Hc1]; · iexact Hc1
    iexact Hx1
  iintro ⟨HO, Hx1, Hq1⟩
  iapply (ret_step (F := F) 2)
  ihave Hg0 := (got_slot (PK := PK) 2 0 fullShare) $$ Hg0
  ihave Hg1 := (got_slot (PK := PK) 2 1 fullShare) $$ Hg1
  ihave Hg2 := (got_slot (PK := PK) 2 2 fullShare) $$ Hg2
  ihave Hg3 := (got_slot (PK := PK) 2 3 fullShare) $$ Hg3
  ihave Hg4 := (got_slot (PK := PK) 2 4 shK) $$ Hg4
  ihave Hg5 := (got_slot (PK := PK) 2 5 shK) $$ Hg5
  ihave Hq0 := (Entails.of_eq (show sndPay 2 0 = iprop(∃ f, pkt (rcvS 4) 2 shL f) from rfl)) $$ Hq0
  ihave Hq1 := (Entails.of_eq (show sndPay 2 1 = iprop(∃ f, pkt (rcvS 5) 2 shL f) from rfl)) $$ Hq1
  ihave Hg4 := (join_ex 2 (rcvS 4) fullShare) $$ [Hq0 Hg4]
  · isplitl [Hq0]; · iexact Hq0
    iexact Hg4
  ihave Hg5 := (join_ex 2 (rcvS 5) fullShare) $$ [Hq1 Hg5]
  · isplitl [Hq1]; · iexact Hq1
    iexact Hg5
  ihave H7 := (rcv_join (2 : Dev nD)) $$ [Hg0 Hg1 Hg2 Hg3 Hg4 Hg5]
  · isplitl [Hg0]; · iexact Hg0
    isplitl [Hg1]; · iexact Hg1
    isplitl [Hg2]; · iexact Hg2
    isplitl [Hg3]; · iexact Hg3
    isplitl [Hg4]; · iexact Hg4
    iexact Hg5
  iapply Hk
  isplitl [HO]; · iexact HO
  isplitl [HaB]; · iexact HaB
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Hx0]; · iexact Hx0
  isplitl [Hx1]; · iexact Hx1
  isplitl [H4]; · iexact H4
  isplitl [H5]; · iexact H5
  isplitl [H6]; · iexists f6; iexact H6
  iexact H7

end Cert.KernelIdeal.Att
-- ==== Proof.Comm3.lean ====
/-
  Device 3's exchange: all six packets arrive; packets 2 and 3 are passed on to device 2.
-/
module

public import proofs.«01_k».proof.Proof.Steps

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (PK : Fin 6 → S9x64x64.Idx → F .bf16) (K : GSem nD τ sig → ℕ)

/-- What device 3 has when its signals are sent. -/
def pre3 : sProp 𝕄 :=
  iprop(recs PK K 3 ∗ (∃ W, owes ((3 : Dev nD) : Thread nD τ) (owe (sends 3)) W)
    ∗ cred (tallyAt (barC 3) () 3) ∗ atPos ER (barC 3) 0 ∅ 0
    ∗ (cred (tallyAt (rcvC 3 0) () N) ∗ atPos ER (rcvC 3 0) 0 ∅ 0)
    ∗ (cred (tallyAt (rcvC 3 1) () N) ∗ atPos ER (rcvC 3 1) 0 ∅ 0)
    ∗ (cred (tallyAt (rcvC 3 2) () N) ∗ atPos ER (rcvC 3 2) 0 ∅ 0)
    ∗ (cred (tallyAt (rcvC 3 3) () N) ∗ atPos ER (rcvC 3 3) 0 ∅ 0)
    ∗ (cred (tallyAt (rcvC 3 4) () N) ∗ atPos ER (rcvC 3 4) 0 ∅ 0)
    ∗ (cred (tallyAt (rcvC 3 5) () N) ∗ atPos ER (rcvC 3 5) 0 ∅ 0)
    ∗ (dutyTok ER (sndC 3 0) 0 0 ∗ dutyTok ER (rcvC 2 2) 0 0)
    ∗ (dutyTok ER (sndC 3 1) 0 0 ∗ dutyTok ER (rcvC 2 3) 0 0))

/-- What device 3 has when its exchange is done. -/
def post3 : sProp 𝕄 :=
  iprop((∃ W, owes ((3 : Dev nD) : Thread nD τ) 0 W) ∗ atPos ER (barC 3) 1 ∅ 0
    ∗ (got PK 3 0 fullShare ∗ atPos ER (rcvC 3 0) 1 ∅ 0)
    ∗ (got PK 3 1 fullShare ∗ atPos ER (rcvC 3 1) 1 ∅ 0)
    ∗ (got PK 3 2 shK ∗ atPos ER (rcvC 3 2) 1 ∅ 0)
    ∗ (got PK 3 3 shK ∗ atPos ER (rcvC 3 3) 1 ∅ 0)
    ∗ (got PK 3 4 fullShare ∗ atPos ER (rcvC 3 4) 1 ∅ 0)
    ∗ (got PK 3 5 fullShare ∗ atPos ER (rcvC 3 5) 1 ∅ 0)
    ∗ cred (tallyAt (sndC 3 0) () N)
    ∗ cred (tallyAt (sndC 3 1) () N))
variable {α : Type} (a0 : Memref sig .tc .vmem S2x256x512 .bf16) (h0 : a0.IsWhole) (a1 : Memref sig .tc .vmem S512x256 .bf16) (h1 : a1.IsWhole)
  (a2 : Memref sig .tc .vmem S2x256x256 .bf16) (h2 : a2.IsWhole) (a3 : Memref sig .tc .vmem S2x256x256 .bf16) (h3 : a3.IsWhole)
  (a4 : Memref sig .tc .vmem S256x512 .bf16) (h4 : a4.IsWhole) (a5 : Memref sig .tc .vmem S2x256x512 .f32) (h5 : a5.IsWhole)

/-- The exchange's statements. -/
abbrev prog3 (k0_h6 : k0_cond6 3 = 1#1)
    (kk : PUnit → Prog (TpuEff nD τ sig (Elt F) Λ₀ .tc) α) : Prog (TpuEff nD τ sig (Elt F) Λ₀ .tc) α := do
          k0_part33 a0 h0 a1 h1 a2 h2 a3 h3 a4 h4 a5 h5 ownM (Memref.isWhole_whole _) rcvM (Memref.isWhole_whole _) cc0_scratch2 cc0_scratch3 3 (SemArray.scalar (sig.barrier 0 rfl)) k0_h6
          k0_part34 a0 h0 a1 h1 a2 h2 a3 h3 a4 h4 a5 h5 ownM (Memref.isWhole_whole _) rcvM (Memref.isWhole_whole _) cc0_scratch2 cc0_scratch3 3 k0_h6
          k0_part35 a0 h0 a1 h1 a2 h2 a3 h3 a4 h4 a5 h5 ownM (Memref.isWhole_whole _) rcvM (Memref.isWhole_whole _) cc0_scratch2 cc0_scratch3
          let v398 : Memref sig .tc .vmem S1x9x64x64 .bf16 := rcvM.slice (Rect.unit (s := S6x9x64x64) ![5, 0, 0, 0] S1x9x64x64.size inb_S6x9x64x64_S1x9x64x64_5_0_0_0) (fun _ => rfl)
          let v399 : Memref sig .tc .vmem S9x64x64 .bf16 := v398.squeeze S9x64x64 squeezes_S1x9x64x64_S9x64x64
          let v394 : DmaSems sig S1 := cc0_scratch3.slice (Rect.unit (s := S6) ![5] S1.size inb_S6_S1_5)
          let v395 : DmaSems sig S_ := v394.squeeze S_ squeezes_S1_S_
          let v396 : Memref sig .tc .vmem S1x9x64x64 .bf16 := rcvM.slice (Rect.unit (s := S6x9x64x64) ![5, 0, 0, 0] S1x9x64x64.size inb_S6x9x64x64_S1x9x64x64_5_0_0_0) (fun _ => rfl)
          let v397 : Memref sig .tc .vmem S9x64x64 .bf16 := v396.squeeze S9x64x64 squeezes_S1x9x64x64_S9x64x64
          Prog.lift (.waitDma2 v395.sem v399 v397 (((Memref.isWhole_whole cc0_scratch1).wordExact_slice rfl _ wordsbf16_S6x9x64x64_S1x9x64x64_5_0_0_0).reshape _ _) (((Memref.isWhole_whole cc0_scratch1).wordExact_slice rfl _ wordsbf16_S6x9x64x64_S1x9x64x64_5_0_0_0).reshape _ _))
          kk ⟨⟩

set_option maxHeartbeats 4000000 in
set_option maxRecDepth 65536 in
theorem comm3 (k0_h6 : k0_cond6 3 = 1#1) (kk : PUnit → Prog (TpuEff nD τ sig (Elt F) Λ₀ .tc) α)
    (Q : α → sProp (MT nD τ sig Unit (Elt F) ℕ UU ℕ)) :
    pre3 PK K ⊢ iprop((post3 PK -∗ wp frame (wpE (defs₀ (F := F)) Variants.none (3 : Dev nD) none) Set.univ (kk ⟨⟩) Q)
      -∗ wp frame (wpE (defs₀ (F := F)) Variants.none (3 : Dev nD) none) Set.univ (prog3 a0 h0 a1 h1 a2 h2 a3 h3 a4 h4 a5 h5 k0_h6 kk) Q) := by
  unfold prog3
  simp only [k0_part33_eq_skeleton, k0_part34_eq_skeleton, k0_part35_eq_skeleton]
  unfold k0_part33_skel k0_part34_skel k0_part35_skel
  unfold pre3
  iintro ⟨#HR, HO, HcB, HaB, ⟨Hc0, Ha0⟩, ⟨Hc1, Ha1⟩, ⟨Hc2, Ha2⟩, ⟨Hc3, Ha3⟩, ⟨Hc4, Ha4⟩, ⟨Hc5, Ha5⟩, ⟨Ht0, Hu0⟩, ⟨Ht1, Hu1⟩⟩ Hk
  -- the other devices' signals, and the slots they lend
  icases HO with ⟨%W, HO⟩
  iapply (step_bar PK K 3 Variants.none _ rfl [(2, 2), (2, 3)]) $$ [HO HcB HaB]
  · isplitr; · iexact HR
    isplitl [HO]; · iexact HO
    isplitl [HcB]; · iexact HcB
    iexact HaB
  iintro ⟨HO, HaB, Hp⟩
  ihave Hp := (bar_three (by decide) (by decide) (by decide) (by decide) (fun p => barPay (F := F) 3 p) (c := 3) (a := 0) (b := 1) (d := 2)) $$ Hp
  icases Hp with ⟨-, -, Hp2⟩
  ihave Hp2 := (Entails.of_eq (show barPay (F := F) 3 2 = iprop(lend 2 2 ∗ lend 2 3 ∗ emp) from rfl)) $$ Hp2
  icases Hp2 with ⟨HL22, HL23, -⟩
  -- packet 2 arrives
  iapply (step_rcv PK K 3 Variants.none 2 rfl _ rfl [(2, 2), (2, 3)] (by decide) (rcvS 2) (rcvS 2) rfl) $$ [HO Hc2 Ha2]
  · isplitr; · iexact HR
    isplitl [HO]; · iexact HO
    isplitl [Hc2]; · iexact Hc2
    iexact Ha2
  unfold rcvPay
  iintro ⟨HO, Ha2, ⟨%fs2', Hb2, %hs2⟩⟩
  ihave Hb2 := (halves 3 (rcvS 2) fs2') $$ Hb2
  icases Hb2 with ⟨HbL2, Hb2⟩
  -- packet 2 goes to device 2
  iapply (step_send PK K 3 Variants.none 0 2 2 rfl rfl _ _ _ _ _ rfl rfl (Fin.ext (show k0_dev20 = 2 from rfl)) rfl rfl rfl [(2, 3)] fs2' hs2) $$ [HO HbL2 HL22 Ht0 Hu0]
  · isplitr; · iexact HR
    isplitl [HO]; · iexact HO
    isplitl [HbL2]; · iexact HbL2
    isplitl [HL22]; · iexact HL22
    isplitl [Ht0]; · iexact Ht0
    iexact Hu0
  iintro ⟨HO, HS0⟩
  -- packet 3 arrives
  iapply (step_rcv PK K 3 Variants.none 3 rfl _ rfl [(2, 3)] (by decide) (rcvS 3) (rcvS 3) rfl) $$ [HO Hc3 Ha3]
  · isplitr; · iexact HR
    isplitl [HO]; · iexact HO
    isplitl [Hc3]; · iexact Hc3
    iexact Ha3
  unfold rcvPay
  iintro ⟨HO, Ha3, ⟨%fs3', Hb3, %hs3⟩⟩
  ihave Hb3 := (halves 3 (rcvS 3) fs3') $$ Hb3
  icases Hb3 with ⟨HbL3, Hb3⟩
  -- packet 3 goes to device 2
  iapply (step_send PK K 3 Variants.none 1 2 3 rfl rfl _ _ _ _ _ rfl rfl (Fin.ext (show k0_dev21 = 2 from rfl)) rfl rfl rfl [] fs3' hs3) $$ [HO HbL3 HL23 Ht1 Hu1]
  · isplitr; · iexact HR
    isplitl [HO]; · iexact HO
    isplitl [HbL3]; · iexact HbL3
    isplitl [HL23]; · iexact HL23
    isplitl [Ht1]; · iexact Ht1
    iexact Hu1
  iintro ⟨HO, HS1⟩
  -- packet 0 arrives
  iapply (step_rcv PK K 3 Variants.none 0 rfl _ rfl [] (by decide) (rcvS 0) (rcvS 0) rfl) $$ [HO Hc0 Ha0]
  · isplitr; · iexact HR
    isplitl [HO]; · iexact HO
    isplitl [Hc0]; · iexact Hc0
    iexact Ha0
  unfold rcvPay
  iintro ⟨HO, Ha0, ⟨%fs0', Hb0, %hs0⟩⟩
  -- packet 1 arrives
  iapply (step_rcv PK K 3 Variants.none 1 rfl _ rfl [] (by decide) (rcvS 1) (rcvS 1) rfl) $$ [HO Hc1 Ha1]
  · isplitr; · iexact HR
    isplitl [HO]; · iexact HO
    isplitl [Hc1]; · iexact Hc1
    iexact Ha1
  unfold rcvPay
  iintro ⟨HO, Ha1, ⟨%fs1', Hb1, %hs1⟩⟩
  -- packet 4 arrives
  iapply (step_rcv PK K 3 Variants.none 4 rfl _ rfl [] (by decide) (rcvS 4) (rcvS 4) rfl) $$ [HO Hc4 Ha4]
  · isplitr; · iexact HR
    isplitl [HO]; · iexact HO
    isplitl [Hc4]; · iexact Hc4
    iexact Ha4
  unfold rcvPay
  iintro ⟨HO, Ha4, ⟨%fs4', Hb4, %hs4⟩⟩
  -- packet 5 arrives
  iapply (step_rcv PK K 3 Variants.none 5 rfl _ rfl [] (by decide) (rcvS 5) (rcvS 5) rfl) $$ [HO Hc5 Ha5]
  · isplitr; · iexact HR
    isplitl [HO]; · iexact HO
    isplitl [Hc5]; · iexact Hc5
    iexact Ha5
  unfold rcvPay
  iintro ⟨HO, Ha5, ⟨%fs5', Hb5, %hs5⟩⟩
  simp only [Prog.bind]
  iapply Hk
  unfold post3 got
  isplitl [HO]; · iexact HO
  isplitl [HaB]; · iexact HaB
  isplitl [Hb0 Ha0]
  · isplitl [Hb0]
    · iexists fs0'
      isplitl [Hb0]; · iexact Hb0
      ipureintro; exact hs0
    iexact Ha0
  isplitl [Hb1 Ha1]
  · isplitl [Hb1]
    · iexists fs1'
      isplitl [Hb1]; · iexact Hb1
      ipureintro; exact hs1
    iexact Ha1
  isplitl [Hb2 Ha2]
  · isplitl [Hb2]
    · iexists fs2'
      isplitl [Hb2]; · iexact Hb2
      ipureintro; exact hs2
    iexact Ha2
  isplitl [Hb3 Ha3]
  · isplitl [Hb3]
    · iexists fs3'
      isplitl [Hb3]; · iexact Hb3
      ipureintro; exact hs3
    iexact Ha3
  isplitl [Hb4 Ha4]
  · isplitl [Hb4]
    · iexists fs4'
      isplitl [Hb4]; · iexact Hb4
      ipureintro; exact hs4
    iexact Ha4
  isplitl [Hb5 Ha5]
  · isplitl [Hb5]
    · iexists fs5'
      isplitl [Hb5]; · iexact Hb5
      ipureintro; exact hs5
    iexact Ha5
  isplitl [HS0]
  · iexact HS0
  iexact HS1

end Cert.KernelIdeal.Att
-- ==== Proof.Dev3.lean ====
/-
  Device 3's run: it passes two packets on and writes the output.
-/
module

public import proofs.«01_k».proof.Proof.Head
public import proofs.«01_k».proof.Proof.Comm3

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (PK : Fin 6 → S9x64x64.Idx → F .bf16) (K : GSem nD τ sig → ℕ)

variable (a0 : Memref sig .tc .vmem S2x256x512 .bf16) (h0 : a0.IsWhole) (a1 : Memref sig .tc .vmem S512x256 .bf16) (h1 : a1.IsWhole)
  (a2 : Memref sig .tc .vmem S2x256x256 .bf16) (h2 : a2.IsWhole) (a3 : Memref sig .tc .vmem S2x256x256 .bf16) (h3 : a3.IsWhole)
  (a4 : Memref sig .tc .vmem S256x512 .bf16) (h4 : a4.IsWhole) (a5 : Memref sig .tc .vmem S2x256x512 .f32) (h5 : a5.IsWhole)

set_option maxHeartbeats 4000000 in
set_option maxRecDepth 65536 in
/-- The first two signals. -/
theorem sig3 (Q : _ → sProp (MT nD τ sig Unit (Elt F) ℕ UU ℕ)) :
    iprop(recs PK K 3 ∗ (∃ W, owes ((3 : Dev nD) : Thread nD τ) (O₀ 3) W) ∗ dutyTok ER (barC 0) 0 3 ∗ dutyTok ER (barC 1) 0 3
        ∗ lendAll 3 (lends 3 0) ∗ lendAll 3 (lends 3 1))
      ⊢ iprop(((∃ W, owes ((3 : Dev nD) : Thread nD τ) (owe (sends 3) + tallyAt (barC (nxt 3 3)) () 1) W)
          -∗ Q ⟨3, (Scalar.remsi (Scalar.divsi (Dev.word (3 : Dev nD)) 1#32) 4#32), SemArray.scalar (sig.barrier 0 rfl), Scalar.addi (Scalar.remsi (Scalar.divsi (Dev.word (3 : Dev nD)) 1#32) 4#32) 3#32, 4#32, Scalar.cmpi .eq 4#32 0#32⟩)
        -∗ wp frame (wpE (defs₀ (F := F)) Variants.none (3 : Dev nD) none) Set.univ (k0_part39 a0 h0 a1 h1 a2 h2 a3 h3 a4 h4 a5 h5 ownM (Memref.isWhole_whole _) rcvM (Memref.isWhole_whole _) cc0_scratch2 cc0_scratch3) Q) := by
  rw [k0_part39_eq_skeleton]
  unfold k0_part39_skel
  iintro ⟨#HR, ⟨%W, HO⟩, Ht1, Ht2, Hl1, Hl2⟩ Hk
  iapply (dev_step (F := F) 3)
  iapply (step_sig PK K 3 Variants.none 0 _ (Fin.ext (show k0_dev1 3 = 0 from rfl)) (by decide) _ rfl
    ((owe (sends 3) + tallyAt (barC (nxt 3 3)) () 1) + tallyAt (barC (nxt 3 2)) () 1) rfl) $$ [HO Ht1 Hl1]
  · isplitr; · iexact HR
    isplitl [HO]; · iexact HO
    isplitl [Ht1]; · iexact Ht1
    iexact Hl1
  iintro HO
  iapply (step_sig PK K 3 Variants.none 1 _ (Fin.ext (show k0_dev2 3 = 1 from rfl)) (by decide) _ rfl
    (owe (sends 3) + tallyAt (barC (nxt 3 3)) () 1) rfl) $$ [HO Ht2 Hl2]
  · isplitr; · iexact HR
    isplitl [HO]; · iexact HO
    isplitl [Ht2]; · iexact Ht2
    iexact Hl2
  iintro HO
  iapply (ret_step (F := F) 3)
  iapply Hk
  iexists _
  iexact HO

set_option maxHeartbeats 4000000 in
set_option maxRecDepth 65536 in
/-- From the last signal to the load of the first packet. -/
theorem head3 (v30 : BitVec 32) (v31 : BitVec 1) (Q : Vec F S1x9x64x64 .bf16 → sProp (MT nD τ sig Unit (Elt F) ℕ UU ℕ)) :
    iprop(recs PK K 3
        ∗ (∃ W, owes ((3 : Dev nD) : Thread nD τ) (owe (sends 3) + tallyAt (barC (nxt 3 3)) () 1) W)
        ∗ dutyTok ER (barC 2) 0 3
        ∗ lendAll 3 (lends 3 2)
        ∗ (cred (tallyAt (barC 3) () 3) ∗ atPos ER (barC 3) 0 ∅ 0)
        ∗ (cred (tallyAt (rcvC 3 0) () N) ∗ atPos ER (rcvC 3 0) 0 ∅ 0)
        ∗ (cred (tallyAt (rcvC 3 1) () N) ∗ atPos ER (rcvC 3 1) 0 ∅ 0)
        ∗ (cred (tallyAt (rcvC 3 2) () N) ∗ atPos ER (rcvC 3 2) 0 ∅ 0)
        ∗ (cred (tallyAt (rcvC 3 3) () N) ∗ atPos ER (rcvC 3 3) 0 ∅ 0)
        ∗ (cred (tallyAt (rcvC 3 4) () N) ∗ atPos ER (rcvC 3 4) 0 ∅ 0)
        ∗ (cred (tallyAt (rcvC 3 5) () N) ∗ atPos ER (rcvC 3 5) 0 ∅ 0)
        ∗ (dutyTok ER (sndC 3 0) 0 0 ∗ dutyTok ER (rcvC 2 2) 0 0)
        ∗ (dutyTok ER (sndC 3 1) 0 0 ∗ dutyTok ER (rcvC 2 3) 0 0))
      ⊢ iprop((∀ v, ⌜IsPk (PK 0) (shapeCast S9x64x64 v shapeCasts_S1x9x64x64_S9x64x64)⌝
          -∗ (∃ W, owes ((3 : Dev nD) : Thread nD τ) 0 W)
          ∗ atPos ER (barC 3) 1 ∅ 0
          ∗ (got PK 3 0 fullShare ∗ atPos ER (rcvC 3 0) 1 ∅ 0)
          ∗ (got PK 3 1 fullShare ∗ atPos ER (rcvC 3 1) 1 ∅ 0)
          ∗ (got PK 3 2 shK ∗ atPos ER (rcvC 3 2) 1 ∅ 0)
          ∗ (got PK 3 3 shK ∗ atPos ER (rcvC 3 3) 1 ∅ 0)
          ∗ (got PK 3 4 fullShare ∗ atPos ER (rcvC 3 4) 1 ∅ 0)
          ∗ (got PK 3 5 fullShare ∗ atPos ER (rcvC 3 5) 1 ∅ 0)
          ∗ cred (tallyAt (sndC 3 0) () N)
          ∗ cred (tallyAt (sndC 3 1) () N) -∗ Q v)
        -∗ wp frame (wpE (defs₀ (F := F)) Variants.none (3 : Dev nD) none) Set.univ (k0_part40 a0 h0 a1 h1 a2 h2 a3 h3 a4 h4 a5 h5 ownM (Memref.isWhole_whole _) rcvM (Memref.isWhole_whole _) cc0_scratch2 cc0_scratch3 3 (Scalar.remsi (Scalar.divsi (Dev.word (3 : Dev nD)) 1#32) 4#32) (SemArray.scalar (sig.barrier 0 rfl)) v30 4#32 v31) Q) := by
  rw [k0_part40_eq_skeleton]
  unfold k0_part40_skel
  rw [dif_neg (show ¬ _ from by decide), dif_neg (show ¬ _ from by decide), dif_neg (show ¬ _ from by decide), dif_neg (show ¬ _ from by decide), dif_neg (show ¬ _ from by decide), dif_pos (show k0_cond6 3 = 1#1 from by decide)]
  iintro ⟨#HR, ⟨%W, HO⟩, Ht, Hl, ⟨HcB, HaB⟩, Hr0, Hr1, Hr2, Hr3, Hr4, Hr5, Hd0, Hd1⟩ Hk
  iapply (step_sig PK K 3 Variants.none 2 _ (Fin.ext (show k0_dev3 3 = 2 from rfl)) (by decide) _ rfl (owe (sends 3)) rfl) $$ [HO Ht Hl]
  · isplitr; · iexact HR
    isplitl [HO]; · iexact HO
    isplitl [Ht]; · iexact Ht
    iexact Hl
  iintro HO
  iapply (comm3 PK K a0 h0 a1 h1 a2 h2 a3 h3 a4 h4 a5 h5 (by decide) (fun _ : PUnit.{1} => Prog.lift _)) $$ [HO HcB HaB Hr0 Hr1 Hr2 Hr3 Hr4 Hr5 Hd0 Hd1]
  · unfold pre3
    isplitr; · iexact HR
    isplitl [HO]; · iexists _; iexact HO
    isplitl [HcB]; · iexact HcB
    isplitl [HaB]; · iexact HaB
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hd0]; · iexact Hd0
    iexact Hd1
  unfold post3
  iintro ⟨HO, HaB, ⟨Hg0, Ha0⟩, ⟨Hg1, Ha1⟩, ⟨Hg2, Ha2⟩, ⟨Hg3, Ha3⟩, ⟨Hg4, Ha4⟩, ⟨Hg5, Ha5⟩, Hc0, Hc1⟩
  ihave Hg0 := (Entails.of_eq (show got PK 3 0 fullShare = iprop(∃ f, pkt (rcvS 0) 3 fullShare f ∗ ⌜IsPk (PK 0) ((rcvS 0).view.read (Elt F) f)⌝) from rfl)) $$ Hg0
  icases Hg0 with ⟨%r0, Hg0, %hr0⟩
  iapply (step_ld (3 : Dev nD) Variants.none rcvM (Rect.unit (s := S6x9x64x64) ![0, 0, 0, 0] S1x9x64x64.size inb_S6x9x64x64_S1x9x64x64_0_0_0_0) (fun _ => rfl) squeezes_S1x9x64x64_S9x64x64 (q := fullShare) (f := r0)) $$ [Hg0]
  · iexact Hg0
  iintro Hg0
  iapply (ret_step (F := F) 3)
  ispecialize Hk $$ %(rcvM.view.readAt (Elt F) (Rect.unit (s := S6x9x64x64) ![0, 0, 0, 0] S1x9x64x64.size inb_S6x9x64x64_S1x9x64x64_0_0_0_0).toLoadRect r0)
  iapply Hk $$ []
  · ipureintro
    rw [← own_ld r0]; exact hr0
  isplitl [HO]; · iexact HO
  isplitl [HaB]; · iexact HaB
  isplitl [Hg0 Ha0]
  · isplitl [Hg0]
    · unfold got
      iexists r0
      isplitl [Hg0]; · iexact Hg0
      ipureintro; exact hr0
    iexact Ha0
  isplitl [Hg1 Ha1]
  · isplitl [Hg1]
    · iexact Hg1
    iexact Ha1
  isplitl [Hg2 Ha2]
  · isplitl [Hg2]
    · iexact Hg2
    iexact Ha2
  isplitl [Hg3 Ha3]
  · isplitl [Hg3]
    · iexact Hg3
    iexact Ha3
  isplitl [Hg4 Ha4]
  · isplitl [Hg4]
    · iexact Hg4
    iexact Ha4
  isplitl [Hg5 Ha5]
  · isplitl [Hg5]
    · iexact Hg5
    iexact Ha5
  isplitl [Hc0]; · iexact Hc0
  iexact Hc1

set_option maxHeartbeats 4000000 in
set_option maxRecDepth 65536 in
/-- The whole body on device 3. -/
theorem body3 (q : PosShare TreeShare) (f4 : Buf (Elt F) (a4.view.loc ((3 : Dev nD) : Thread nD τ))) (f5 : Buf (Elt F) (a5.view.loc ((3 : Dev nD) : Thread nD τ)))
    (Q : PUnit → sProp (MT nD τ sig Unit (Elt F) ℕ UU ℕ)) :
    iprop(recs PK K 3
        ∗ (∃ W, owes ((3 : Dev nD) : Thread nD τ) (O₀ 3) W)
        ∗ dutyTok ER (barC 0) 0 3
        ∗ dutyTok ER (barC 1) 0 3
        ∗ dutyTok ER (barC 2) 0 3
        ∗ (cred (tallyAt (barC 3) () 3) ∗ atPos ER (barC 3) 0 ∅ 0)
        ∗ (cred (tallyAt (rcvC 3 0) () N) ∗ atPos ER (rcvC 3 0) 0 ∅ 0)
        ∗ (cred (tallyAt (rcvC 3 1) () N) ∗ atPos ER (rcvC 3 1) 0 ∅ 0)
        ∗ (cred (tallyAt (rcvC 3 2) () N) ∗ atPos ER (rcvC 3 2) 0 ∅ 0)
        ∗ (cred (tallyAt (rcvC 3 3) () N) ∗ atPos ER (rcvC 3 3) 0 ∅ 0)
        ∗ (cred (tallyAt (rcvC 3 4) () N) ∗ atPos ER (rcvC 3 4) 0 ∅ 0)
        ∗ (cred (tallyAt (rcvC 3 5) () N) ∗ atPos ER (rcvC 3 5) 0 ∅ 0)
        ∗ (dutyTok ER (sndC 3 0) 0 0 ∗ dutyTok ER (rcvC 2 2) 0 0)
        ∗ (dutyTok ER (sndC 3 1) 0 0 ∗ dutyTok ER (rcvC 2 3) 0 0)
        ∗ atPos ER (sndC 3 0) 0 ∅ 0
        ∗ atPos ER (sndC 3 1) 0 ∅ 0
        ∗ (a4.view.loc ((3 : Dev nD) : Thread nD τ) ↦{q} f4)
        ∗ (a5.view.loc ((3 : Dev nD) : Thread nD τ) ↦{fullShare} f5)
        ∗ (∃ f, ownM.view.loc ((3 : Dev nD) : Thread nD τ) ↦{fullShare} f)
        ∗ (∃ f, rcvM.view.loc ((3 : Dev nD) : Thread nD τ) ↦{fullShare} f))
      ⊢ iprop(((∃ W, owes ((3 : Dev nD) : Thread nD τ) 0 W)
          ∗ atPos ER (barC 3) 1 ∅ 0
          ∗ atPos ER (rcvC 3 0) 1 ∅ 0
          ∗ atPos ER (rcvC 3 1) 1 ∅ 0
          ∗ atPos ER (rcvC 3 2) 1 ∅ 0
          ∗ atPos ER (rcvC 3 3) 1 ∅ 0
          ∗ atPos ER (rcvC 3 4) 1 ∅ 0
          ∗ atPos ER (rcvC 3 5) 1 ∅ 0
          ∗ atPos ER (sndC 3 0) 1 ∅ 0
          ∗ atPos ER (sndC 3 1) 1 ∅ 0
          ∗ (a4.view.loc ((3 : Dev nD) : Thread nD τ) ↦{q} f4)
          ∗ (∃ f, (a5.view.loc ((3 : Dev nD) : Thread nD τ) ↦{fullShare} f) ∗ ⌜a5.view.read (Elt F) f = outP PK (a4.view.read (Elt F) f4)⌝)
          ∗ (∃ f, ownM.view.loc ((3 : Dev nD) : Thread nD τ) ↦{fullShare} f)
          ∗ (∃ f, rcvM.view.loc ((3 : Dev nD) : Thread nD τ) ↦{fullShare} f) -∗ Q ⟨⟩)
        -∗ wp frame (wpE (defs₀ (F := F)) Variants.none (3 : Dev nD) none) Set.univ (cc0_body a0 h0 a1 h1 a2 h2 a3 h3 a4 h4 a5 h5 ownM (Memref.isWhole_whole _) rcvM (Memref.isWhole_whole _) cc0_scratch2 cc0_scratch3) Q) := by
  rw [cc0_body_eq_skeleton]
  unfold cc0_body_skel
  iintro ⟨#HR, HO, Ht1, Ht2, Ht3, HB, Hr0, Hr1, Hr2, Hr3, Hr4, Hr5, Hd0, Hd1, Hx0, Hx1, H4, H5, ⟨%f6, H6⟩, ⟨%f7, H7⟩⟩ Hk
  ihave H7 := (rcv_split (3 : Dev nD) f7) $$ H7
  icases H7 with ⟨Hs0, Hs1, Hs2, Hs3, Hs4, Hs5⟩
  ihave Hl1 : (lendAll 3 (lends 3 0) : sProp (MT nD τ sig Unit (Elt F) ℕ UU ℕ)) $$ [Hs0 Hs1 Hs2 Hs3]
  · iapply (Entails.of_eq (show iprop(lend 3 0 ∗ lend 3 1 ∗ lend 3 2 ∗ lend 3 3 ∗ emp) = lendAll 3 (lends 3 0) from rfl))
    isplitl [Hs0]
    · iapply (lend_mk (PK := PK) (K := K) 3 0)
      isplitr; · iexact HR
      iexists f7; iexact Hs0
    isplitl [Hs1]
    · iapply (lend_mk (PK := PK) (K := K) 3 1)
      isplitr; · iexact HR
      iexists f7; iexact Hs1
    isplitl [Hs2]
    · iapply (lend_mk (PK := PK) (K := K) 3 2)
      isplitr; · iexact HR
      iexists f7; iexact Hs2
    isplitl [Hs3]
    · iapply (lend_mk (PK := PK) (K := K) 3 3)
      isplitr; · iexact HR
      iexists f7; iexact Hs3
    iempintro
  ihave Hl2 : (lendAll 3 (lends 3 1) : sProp (MT nD τ sig Unit (Elt F) ℕ UU ℕ)) $$ []
  · iapply (Entails.of_eq (show iprop(emp) = lendAll 3 (lends 3 1) from rfl))
    iempintro
  ihave Hl3 : (lendAll 3 (lends 3 2) : sProp (MT nD τ sig Unit (Elt F) ℕ UU ℕ)) $$ [Hs4 Hs5]
  · iapply (Entails.of_eq (show iprop(lend 3 4 ∗ lend 3 5 ∗ emp) = lendAll 3 (lends 3 2) from rfl))
    isplitl [Hs4]
    · iapply (lend_mk (PK := PK) (K := K) 3 4)
      isplitr; · iexact HR
      iexists f7; iexact Hs4
    isplitl [Hs5]
    · iapply (lend_mk (PK := PK) (K := K) 3 5)
      isplitr; · iexact HR
      iexists f7; iexact Hs5
    iempintro
  iapply (bind_step (F := F) 3)
  iapply (sig3 PK K a0 h0 a1 h1 a2 h2 a3 h3 a4 h4 a5 h5) $$ [HO Ht1 Ht2 Hl1 Hl2]
  · isplitr; · iexact HR
    isplitl [HO]; · iexact HO
    isplitl [Ht1]; · iexact Ht1
    isplitl [Ht2]; · iexact Ht2
    isplitl [Hl1]; · iexact Hl1
    iexact Hl2
  iintro HO
  iapply (bind_step (F := F) 3)
  iapply (head3 PK K a0 h0 a1 h1 a2 h2 a3 h3 a4 h4 a5 h5) $$ [HO Ht3 Hl3 HB Hr0 Hr1 Hr2 Hr3 Hr4 Hr5 Hd0 Hd1]
  · isplitr; · iexact HR
    isplitl [HO]; · iexact HO
    isplitl [Ht3]; · iexact Ht3
    isplitl [Hl3]; · iexact Hl3
    isplitl [HB]; · iexact HB
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hd0]; · iexact Hd0
    iexact Hd1
  iintro %v61 %hv ⟨HO, HaB, ⟨Hg0, Ha0⟩, ⟨Hg1, Ha1⟩, ⟨Hg2, Ha2⟩, ⟨Hg3, Ha3⟩, ⟨Hg4, Ha4⟩, ⟨Hg5, Ha5⟩, Hc0, Hc1⟩
  iapply (written PK 3 a0 h0 a1 h1 a2 h2 a3 h3 a4 h4 a5 h5 v61 hv q fullShare shK shK fullShare fullShare f4 f5 (fun _ : PUnit.{1} => _)) $$ [Hg1 Hg2 Hg3 Hg4 Hg5 H4 H5]
  · isplitl [Hg1]; · iexact Hg1
    isplitl [Hg2]; · iexact Hg2
    isplitl [Hg3]; · iexact Hg3
    isplitl [Hg4]; · iexact Hg4
    isplitl [Hg5]; · iexact Hg5
    isplitl [H4]; · iexact H4
    iexact H5
  iintro ⟨Hg1, Hg2, Hg3, Hg4, Hg5, H4, H5⟩
  rw [dif_neg (show ¬ _ from by decide), dif_neg (show ¬ _ from by decide), dif_pos (show _ = 1#1 from by decide)]
  iapply (step_snd PK K 3 Variants.none 0 (by decide) _ rfl (rcvS 0) (ownS 0) rfl) $$ [HO Hc0 Hx0]
  · isplitr; · iexact HR
    isplitl [HO]; · iexact HO
    isplitl [Hc0]; · iexact Hc0
    iexact Hx0
  iintro ⟨HO, Hx0, Hq0⟩
  iapply (step_snd PK K 3 Variants.none 1 (by decide) _ rfl (rcvS 0) (ownS 0) rfl) $$ [HO Hc1 Hx1]
  · isplitr; · iexact HR
    isplitl [HO]; · iexact HO
    isplitl [Hc1]; · iexact Hc1
    iexact Hx1
  iintro ⟨HO, Hx1, Hq1⟩
  iapply (ret_step (F := F) 3)
  ihave Hg0 := (got_slot (PK := PK) 3 0 fullShare) $$ Hg0
  ihave Hg1 := (got_slot (PK := PK) 3 1 fullShare) $$ Hg1
  ihave Hg2 := (got_slot (PK := PK) 3 2 shK) $$ Hg2
  ihave Hg3 := (got_slot (PK := PK) 3 3 shK) $$ Hg3
  ihave Hg4 := (got_slot (PK := PK) 3 4 fullShare) $$ Hg4
  ihave Hg5 := (got_slot (PK := PK) 3 5 fullShare) $$ Hg5
  ihave Hq0 := (Entails.of_eq (show sndPay 3 0 = iprop(∃ f, pkt (rcvS 2) 3 shL f) from rfl)) $$ Hq0
  ihave Hq1 := (Entails.of_eq (show sndPay 3 1 = iprop(∃ f, pkt (rcvS 3) 3 shL f) from rfl)) $$ Hq1
  ihave Hg2 := (join_ex 3 (rcvS 2) fullShare) $$ [Hq0 Hg2]
  · isplitl [Hq0]; · iexact Hq0
    iexact Hg2
  ihave Hg3 := (join_ex 3 (rcvS 3) fullShare) $$ [Hq1 Hg3]
  · isplitl [Hq1]; · iexact Hq1
    iexact Hg3
  ihave H7 := (rcv_join (3 : Dev nD)) $$ [Hg0 Hg1 Hg2 Hg3 Hg4 Hg5]
  · isplitl [Hg0]; · iexact Hg0
    isplitl [Hg1]; · iexact Hg1
    isplitl [Hg2]; · iexact Hg2
    isplitl [Hg3]; · iexact Hg3
    isplitl [Hg4]; · iexact Hg4
    iexact Hg5
  iapply Hk
  isplitl [HO]; · iexact HO
  isplitl [HaB]; · iexact HaB
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Hx0]; · iexact Hx0
  isplitl [Hx1]; · iexact Hx1
  isplitl [H4]; · iexact H4
  isplitl [H5]; · iexact H5
  isplitl [H6]; · iexists f6; iexact H6
  iexact H7

end Cert.KernelIdeal.Att
-- ==== Proof.Deal.lean ====
/-
  What the run starts with and how it is shared out: the tokens each device pays with, and the credit each device holds
  against what the others owe it.
-/
module

public import proofs.«01_k».proof.Proof.Steps
public import Idealize.ShloMosaic.Lib.Rounds.Family
public import Idealize.ShloMosaic.Lib.Pipeline.Launch
public import Idealize.ShloMosaic.Lib.Pipeline.BigSepL

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (PK : Fin 6 → S9x64x64.Idx → F .bf16)

/-! ## Tokens -/

/-- The tokens device `c` pays with when it sends the packets of a list, the first with its send cell `d`. -/
abbrev sendPays (c : Dev nD) : Fin 8 → List (Fin 4 × Fin 6) → List (GSem nD τ sig × ℕ × Fin 4)
  | _, [] => []
  | d, x :: l => (sndC c d, 0, 0) :: (rcvC x.1 x.2, 0, 0) :: sendPays c (d + 1) l
/-- All the tokens device `c` pays with. -/
abbrev pays (c : Dev nD) : List (GSem nD τ sig × ℕ × Fin 4) :=
  (barC (nxt c 1), 0, c) :: (barC (nxt c 2), 0, c) :: (barC (nxt c 3), 0, c) :: sendPays c 0 (sends c)

def toks : Finset (GSem nD τ sig × ℕ × Fin 4) := Finset.univ.biUnion fun c => (pays c).toFinset

theorem pays_nodup : ∀ c : Dev nD, (pays c).Nodup := by decide +kernel
theorem pays_apart : ∀ c c' : Dev nD, c ≠ c' → ∀ x ∈ pays c, x ∉ pays c' := by decide +kernel

theorem toks_deal (Φ : GSem nD τ sig × ℕ × Fin 4 → sProp (MT nD τ sig Unit (Elt F) ℕ UU ℕ)) :
    bigSep toks Φ = bigSep Finset.univ fun c : Dev nD => bigSepL (pays c) Φ := by
  unfold toks
  rw [bigSep_biUnion_eq _ _ _ (fun c _ c' _ h => Finset.disjoint_left.mpr fun x hx hx' =>
    pays_apart c c' h x (List.mem_toFinset.mp hx) (List.mem_toFinset.mp hx'))]
  exact bigSep_congr fun c _ => bigSep_eq_bigSepL_of_eq (pays c) rfl (pays_nodup c) Φ

/-! ## Credit -/

theorem bar_inj {a b : Dev nD} (h : barC a = barC b) : a = b := barEmb.injective h
theorem bar_ne_rcv (a b : Dev nD) (k : Fin 6) : barC a ≠ rcvC b k := fun h => by
  have := congrArg (fun g : GSem nD τ sig => g.2) h
  cases this
theorem rcv_inj {a b : Dev nD} {k k' : Fin 6} (h : rcvC a k = rcvC b k') : (a, k) = (b, k') := by
  rw [rcv_eq, rcv_eq] at h
  have := scEmb.injective h
  have h1 : a = b := congrArg Prod.fst this
  have h2 : 8 + k.val = 8 + k'.val := congrArg (fun p : Dev nD × Fin 14 => p.2.val) this
  exact Prod.ext h1 (Fin.ext (Nat.add_left_cancel h2))

theorem owe_rcv (c : Dev nD) (k : Fin 6) : (l : List (Fin 4 × Fin 6)) → owe l (rcvC c k) () = N * l.count (c, k)
  | [] => rfl
  | x :: l => by
    show (owe l + tallyAt (rcvC x.1 x.2) () N) (rcvC c k) () = _
    rw [Pi.add_apply, Finsupp.add_apply, tallyAt_apply, owe_rcv c k l, List.count_cons]
    by_cases h : x = (c, k)
    · subst h; rw [if_pos ⟨rfl, rfl⟩]; simp [Nat.mul_add]
    · rw [if_neg (fun e => h (rcv_inj e.1).symm)]; simp [h]
theorem owe_bar (c : Dev nD) : (l : List (Fin 4 × Fin 6)) → owe l (barC c) () = 0
  | [] => rfl
  | x :: l => by
    show (owe l + tallyAt (rcvC x.1 x.2) () N) (barC c) () = _
    rw [Pi.add_apply, Finsupp.add_apply, tallyAt_apply, owe_bar c l, if_neg (fun e => bar_ne_rcv _ _ _ e.1)]

theorem tally_bar (d c : Dev nD) : (tallyAt (barC d) () 1 : CellTallies nD τ sig Unit) (barC c) () = if c = d then 1 else 0 := by
  rw [tallyAt_apply]
  by_cases h : c = d
  · subst h; rw [if_pos ⟨rfl, rfl⟩, if_pos rfl]
  · rw [if_neg (fun e => h (bar_inj e.1)), if_neg h]
theorem tally_bar_rcv (d c : Dev nD) (k : Fin 6) : (tallyAt (barC d) () 1 : CellTallies nD τ sig Unit) (rcvC c k) () = 0 := by
  rw [tallyAt_apply, if_neg (fun e => bar_ne_rcv _ _ _ e.1.symm)]

theorem owed_rcv (d c : Dev nD) (k : Fin 6) : O₀ d (rcvC c k) () = N * (sends d).count (c, k) := by
  unfold O₀
  rw [Pi.add_apply, Finsupp.add_apply, Pi.add_apply, Finsupp.add_apply, Pi.add_apply, Finsupp.add_apply, tally_bar_rcv, tally_bar_rcv,
    tally_bar_rcv, owe_rcv]; rfl
theorem owed_bar (d c : Dev nD) : O₀ d (barC c) ()
    = 0 + (if c = nxt d 3 then 1 else 0) + (if c = nxt d 2 then 1 else 0) + (if c = nxt d 1 then 1 else 0) := by
  unfold O₀
  rw [Pi.add_apply, Finsupp.add_apply, Pi.add_apply, Finsupp.add_apply, Pi.add_apply, Finsupp.add_apply, tally_bar, tally_bar, tally_bar, owe_bar]

/-- The packets a device waits for. -/
abbrev wants : Fin 4 → List (Fin 6)
  | 0 => [4, 5]
  | 1 => [0, 1, 2, 3]
  | _ => [0, 1, 2, 3, 4, 5]

theorem sent_once : ∀ c : Dev nD, ∀ k ∈ wants c, ∑ d : Dev nD, (sends d).count (c, k) = 1 := by decide +kernel
theorem signals_three : ∀ c : Dev nD, ∑ d : Dev nD,
    (0 + (if c = nxt d 3 then 1 else 0) + (if c = nxt d 2 then 1 else 0) + (if c = nxt d 1 then 1 else 0)) = 3 := by decide +kernel

theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c]
  exact signals_three c
theorem launch_rcv (c : Dev nD) (k : Fin 6) (hk : k ∈ wants c) :
    tallyOn (rcvC c k) (launchCredit (Pipeline.owing O₀) 0 (rcvC c k)) = (tallyAt (rcvC c k) () N : CellTallies nD τ sig Unit) := by
  unfold tallyAt; refine congrArg _ (Finsupp.ext fun u => ?_); cases u
  rw [Pipeline.launchCredit_owing, Finsupp.single_eq_same, Finset.sum_congr rfl fun d _ => owed_rcv d c k, ← Finset.mul_sum, sent_once c k hk, Nat.mul_one]

/-- The credit device `c` holds for its packets. -/
abbrev due (c : Dev nD) : sProp (MT nD τ sig Unit (Elt F) ℕ UU ℕ) := bigSepL (wants c) fun k => cred (tallyAt (rcvC c k) () N)

theorem wants_nodup : ∀ c : Dev nD, (wants c).Nodup := by decide
theorem rcv_apart (c : Dev nD) : ((wants c).map fun k => (SemLoc.dma (rcvSem k) : SemLoc sig)).Nodup :=
  (wants_nodup c).map fun a b h => by
    have : rcvC c a = rcvC c b := Prod.ext rfl h
    exact congrArg Prod.snd (rcv_inj this)

theorem dma_ne_bar (s : DmaSem sig) : (SemLoc.dma s : SemLoc sig) ≠ .reg barSem := fun h => by cases h

theorem due_intro (c : Dev nD) (Φ : SemLoc sig → sProp (MT nD τ sig Unit (Elt F) ℕ UU ℕ)) (S : Finset (SemLoc sig))
    (hS : ∀ k, SemLoc.dma (rcvSem k) ∈ S) : bigSep S Φ ⊢ bigSepL (wants c) fun k => Φ (.dma (rcvSem k)) := by
  have h := bigSep_subset (Φ := Φ) (s := S) (t := ((wants c).map fun k => (SemLoc.dma (rcvSem k) : SemLoc sig)).toFinset) (fun x hx => by
    obtain ⟨k, -, rfl⟩ := List.mem_map.mp (List.mem_toFinset.mp hx); exact hS k)
  rw [bigSep_eq_bigSepL_of_eq _ rfl (rcv_apart c) Φ, bigSepL_map] at h
  exact h

theorem creds (c : Dev nD) : (Pipeline.launchCred O₀ c : sProp 𝕄) ⊢ iprop(cred (tallyAt (barC c) () 3) ∗ due c) := by
  unfold Pipeline.launchCred
  rw [bigSep_univ_at _ (SemLoc.reg barSem), launch_bar]
  refine sep_mono_right ?_
  refine (due_intro c _ _ fun k => Finset.mem_erase.mpr ⟨dma_ne_bar _, Finset.mem_univ _⟩).trans ?_
  exact bigSepL_mono fun k hk => Entails.of_eq (congrArg _ (launch_rcv c k hk))

end Cert.KernelIdeal.Att
-- ==== Proof.Ran.lean ====
/-
  The body's run on every device, in one form: from the device's share of the tokens, credits and positions to the
  positions with every round used done.
-/
module

public import proofs.«01_k».proof.Proof.Dev0
public import proofs.«01_k».proof.Proof.Dev1
public import proofs.«01_k».proof.Proof.Dev2
public import proofs.«01_k».proof.Proof.Dev3
public import proofs.«01_k».proof.Proof.Deal

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A token to pay with. -/
abbrev tok (p : GSem nD τ sig × ℕ × Fin 4) : sProp (MT nD τ sig Unit (Elt F) ℕ UU ℕ) := dutyTok ER p.1 p.2.1 p.2.2
/-- The round a device's DMA cell ends at. -/
abbrev lastR (c : Dev nD) (i : Fin 14) : ℕ := if used c (6 + i.val) = true then 1 else 0

/-- What a device brings to the body beside the buffers. -/
def gear (PK : Fin 6 → S9x64x64.Idx → F .bf16) (K : GSem nD τ sig → ℕ) (c : Dev nD) : sProp (MT nD τ sig Unit (Elt F) ℕ UU ℕ) :=
  iprop(recs PK K c ∗ bigSepL (pays c) tok ∗ (cred (tallyAt (barC c) () 3) ∗ due c) ∗ atPos ER (barC c) 0 ∅ 0
    ∗ bigSep Finset.univ fun i : Fin 14 => atPos ER (scC (c, i)) 0 ∅ 0)
/-- What is left of it after. -/
def used_up (c : Dev nD) : sProp (MT nD τ sig Unit (Elt F) ℕ UU ℕ) :=
  iprop(atPos ER (barC c) 1 ∅ 0 ∗ bigSep Finset.univ fun i : Fin 14 => atPos ER (scC (c, i)) (lastR c i) ∅ 0)

theorem all14 (Φ : Fin 14 → sProp (MT nD τ sig Unit (Elt F) ℕ UU ℕ)) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [(0 : Fin 14), 1, 2, 3, 4, 5, 6, 7, 8, 9, 10, 11, 12, 13] (by decide) (by decide) Φ

theorem pays_eq0 : (bigSepL (pays 0) tok : sProp (MT nD τ sig Unit (Elt F) ℕ UU ℕ))
    = iprop(dutyTok ER (barC 1) 0 0 ∗ dutyTok ER (barC 2) 0 0 ∗ dutyTok ER (barC 3) 0 0 ∗ dutyTok ER (sndC 0 0) 0 0 ∗ dutyTok ER (rcvC 1 0) 0 0 ∗ dutyTok ER (sndC 0 1) 0 0 ∗ dutyTok ER (rcvC 1 1) 0 0 ∗ dutyTok ER (sndC 0 2) 0 0 ∗ dutyTok ER (rcvC 1 2) 0 0 ∗ dutyTok ER (sndC 0 3) 0 0 ∗ dutyTok ER (rcvC 1 3) 0 0 ∗ dutyTok ER (sndC 0 4) 0 0 ∗ dutyTok ER (rcvC 3 2) 0 0 ∗ dutyTok ER (sndC 0 5) 0 0 ∗ dutyTok ER (rcvC 3 3) 0 0 ∗ dutyTok ER (sndC 0 6) 0 0 ∗ dutyTok ER (rcvC 3 0) 0 0 ∗ dutyTok ER (sndC 0 7) 0 0 ∗ dutyTok ER (rcvC 3 1) 0 0) := rfl
theorem due_eq0 : (due 0 : sProp (MT nD τ sig Unit (Elt F) ℕ UU ℕ))
    = iprop(cred (tallyAt (rcvC 0 4) () N) ∗ cred (tallyAt (rcvC 0 5) () N)) := rfl
theorem pos_eq0 : (bigSep Finset.univ fun i : Fin 14 => atPos ER (scC (0, i)) 0 ∅ 0 : sProp (MT nD τ sig Unit (Elt F) ℕ UU ℕ))
    = iprop(atPos ER (sndC 0 0) 0 ∅ 0 ∗ atPos ER (sndC 0 1) 0 ∅ 0 ∗ atPos ER (sndC 0 2) 0 ∅ 0 ∗ atPos ER (sndC 0 3) 0 ∅ 0 ∗ atPos ER (sndC 0 4) 0 ∅ 0 ∗ atPos ER (sndC 0 5) 0 ∅ 0 ∗ atPos ER (sndC 0 6) 0 ∅ 0 ∗ atPos ER (sndC 0 7) 0 ∅ 0 ∗ atPos ER (rcvC 0 0) 0 ∅ 0 ∗ atPos ER (rcvC 0 1) 0 ∅ 0 ∗ atPos ER (rcvC 0 2) 0 ∅ 0 ∗ atPos ER (rcvC 0 3) 0 ∅ 0 ∗ atPos ER (rcvC 0 4) 0 ∅ 0 ∗ atPos ER (rcvC 0 5) 0 ∅ 0) := (all14 _).trans rfl
theorem end_eq0 : (bigSep Finset.univ fun i : Fin 14 => atPos ER (scC (0, i)) (lastR 0 i) ∅ 0 : sProp (MT nD τ sig Unit (Elt F) ℕ UU ℕ))
    = iprop(atPos ER (sndC 0 0) 1 ∅ 0 ∗ atPos ER (sndC 0 1) 1 ∅ 0 ∗ atPos ER (sndC 0 2) 1 ∅ 0 ∗ atPos ER (sndC 0 3) 1 ∅ 0 ∗ atPos ER (sndC 0 4) 1 ∅ 0 ∗ atPos ER (sndC 0 5) 1 ∅ 0 ∗ atPos ER (sndC 0 6) 1 ∅ 0 ∗ atPos ER (sndC 0 7) 1 ∅ 0 ∗ atPos ER (rcvC 0 0) 0 ∅ 0 ∗ atPos ER (rcvC 0 1) 0 ∅ 0 ∗ atPos ER (rcvC 0 2) 0 ∅ 0 ∗ atPos ER (rcvC 0 3) 0 ∅ 0 ∗ atPos ER (rcvC 0 4) 1 ∅ 0 ∗ atPos ER (rcvC 0 5) 1 ∅ 0) := (all14 _).trans rfl

theorem pays_eq1 : (bigSepL (pays 1) tok : sProp (MT nD τ sig Unit (Elt F) ℕ UU ℕ))
    = iprop(dutyTok ER (barC 2) 0 1 ∗ dutyTok ER (barC 3) 0 1 ∗ dutyTok ER (barC 0) 0 1 ∗ dutyTok ER (sndC 1 0) 0 0 ∗ dutyTok ER (rcvC 0 4) 0 0 ∗ dutyTok ER (sndC 1 1) 0 0 ∗ dutyTok ER (rcvC 0 5) 0 0 ∗ dutyTok ER (sndC 1 2) 0 0 ∗ dutyTok ER (rcvC 2 4) 0 0 ∗ dutyTok ER (sndC 1 3) 0 0 ∗ dutyTok ER (rcvC 2 5) 0 0 ∗ dutyTok ER (sndC 1 4) 0 0 ∗ dutyTok ER (rcvC 2 0) 0 0 ∗ dutyTok ER (sndC 1 5) 0 0 ∗ dutyTok ER (rcvC 2 1) 0 0) := rfl
theorem due_eq1 : (due 1 : sProp (MT nD τ sig Unit (Elt F) ℕ UU ℕ))
    = iprop(cred (tallyAt (rcvC 1 0) () N) ∗ cred (tallyAt (rcvC 1 1) () N) ∗ cred (tallyAt (rcvC 1 2) () N) ∗ cred (tallyAt (rcvC 1 3) () N)) := rfl
theorem pos_eq1 : (bigSep Finset.univ fun i : Fin 14 => atPos ER (scC (1, i)) 0 ∅ 0 : sProp (MT nD τ sig Unit (Elt F) ℕ UU ℕ))
    = iprop(atPos ER (sndC 1 0) 0 ∅ 0 ∗ atPos ER (sndC 1 1) 0 ∅ 0 ∗ atPos ER (sndC 1 2) 0 ∅ 0 ∗ atPos ER (sndC 1 3) 0 ∅ 0 ∗ atPos ER (sndC 1 4) 0 ∅ 0 ∗ atPos ER (sndC 1 5) 0 ∅ 0 ∗ atPos ER (sndC 1 6) 0 ∅ 0 ∗ atPos ER (sndC 1 7) 0 ∅ 0 ∗ atPos ER (rcvC 1 0) 0 ∅ 0 ∗ atPos ER (rcvC 1 1) 0 ∅ 0 ∗ atPos ER (rcvC 1 2) 0 ∅ 0 ∗ atPos ER (rcvC 1 3) 0 ∅ 0 ∗ atPos ER (rcvC 1 4) 0 ∅ 0 ∗ atPos ER (rcvC 1 5) 0 ∅ 0) := (all14 _).trans rfl
theorem end_eq1 : (bigSep Finset.univ fun i : Fin 14 => atPos ER (scC (1, i)) (lastR 1 i) ∅ 0 : sProp (MT nD τ sig Unit (Elt F) ℕ UU ℕ))
    = iprop(atPos ER (sndC 1 0) 1 ∅ 0 ∗ atPos ER (sndC 1 1) 1 ∅ 0 ∗ atPos ER (sndC 1 2) 1 ∅ 0 ∗ atPos ER (sndC 1 3) 1 ∅ 0 ∗ atPos ER (sndC 1 4) 1 ∅ 0 ∗ atPos ER (sndC 1 5) 1 ∅ 0 ∗ atPos ER (sndC 1 6) 0 ∅ 0 ∗ atPos ER (sndC 1 7) 0 ∅ 0 ∗ atPos ER (rcvC 1 0) 1 ∅ 0 ∗ atPos ER (rcvC 1 1) 1 ∅ 0 ∗ atPos ER (rcvC 1 2) 1 ∅ 0 ∗ atPos ER (rcvC 1 3) 1 ∅ 0 ∗ atPos ER (rcvC 1 4) 0 ∅ 0 ∗ atPos ER (rcvC 1 5) 0 ∅ 0) := (all14 _).trans rfl

theorem pays_eq2 : (bigSepL (pays 2) tok : sProp (MT nD τ sig Unit (Elt F) ℕ UU ℕ))
    = iprop(dutyTok ER (barC 3) 0 2 ∗ dutyTok ER (barC 0) 0 2 ∗ dutyTok ER (barC 1) 0 2 ∗ dutyTok ER (sndC 2 0) 0 0 ∗ dutyTok ER (rcvC 3 4) 0 0 ∗ dutyTok ER (sndC 2 1) 0 0 ∗ dutyTok ER (rcvC 3 5) 0 0) := rfl
theorem due_eq2 : (due 2 : sProp (MT nD τ sig Unit (Elt F) ℕ UU ℕ))
    = iprop(cred (tallyAt (rcvC 2 0) () N) ∗ cred (tallyAt (rcvC 2 1) () N) ∗ cred (tallyAt (rcvC 2 2) () N) ∗ cred (tallyAt (rcvC 2 3) () N) ∗ cred (tallyAt (rcvC 2 4) () N) ∗ cred (tallyAt (rcvC 2 5) () N)) := rfl
theorem pos_eq2 : (bigSep Finset.univ fun i : Fin 14 => atPos ER (scC (2, i)) 0 ∅ 0 : sProp (MT nD τ sig Unit (Elt F) ℕ UU ℕ))
    = iprop(atPos ER (sndC 2 0) 0 ∅ 0 ∗ atPos ER (sndC 2 1) 0 ∅ 0 ∗ atPos ER (sndC 2 2) 0 ∅ 0 ∗ atPos ER (sndC 2 3) 0 ∅ 0 ∗ atPos ER (sndC 2 4) 0 ∅ 0 ∗ atPos ER (sndC 2 5) 0 ∅ 0 ∗ atPos ER (sndC 2 6) 0 ∅ 0 ∗ atPos ER (sndC 2 7) 0 ∅ 0 ∗ atPos ER (rcvC 2 0) 0 ∅ 0 ∗ atPos ER (rcvC 2 1) 0 ∅ 0 ∗ atPos ER (rcvC 2 2) 0 ∅ 0 ∗ atPos ER (rcvC 2 3) 0 ∅ 0 ∗ atPos ER (rcvC 2 4) 0 ∅ 0 ∗ atPos ER (rcvC 2 5) 0 ∅ 0) := (all14 _).trans rfl
theorem end_eq2 : (bigSep Finset.univ fun i : Fin 14 => atPos ER (scC (2, i)) (lastR 2 i) ∅ 0 : sProp (MT nD τ sig Unit (Elt F) ℕ UU ℕ))
    = iprop(atPos ER (sndC 2 0) 1 ∅ 0 ∗ atPos ER (sndC 2 1) 1 ∅ 0 ∗ atPos ER (sndC 2 2) 0 ∅ 0 ∗ atPos ER (sndC 2 3) 0 ∅ 0 ∗ atPos ER (sndC 2 4) 0 ∅ 0 ∗ atPos ER (sndC 2 5) 0 ∅ 0 ∗ atPos ER (sndC 2 6) 0 ∅ 0 ∗ atPos ER (sndC 2 7) 0 ∅ 0 ∗ atPos ER (rcvC 2 0) 1 ∅ 0 ∗ atPos ER (rcvC 2 1) 1 ∅ 0 ∗ atPos ER (rcvC 2 2) 1 ∅ 0 ∗ atPos ER (rcvC 2 3) 1 ∅ 0 ∗ atPos ER (rcvC 2 4) 1 ∅ 0 ∗ atPos ER (rcvC 2 5) 1 ∅ 0) := (all14 _).trans rfl

theorem pays_eq3 : (bigSepL (pays 3) tok : sProp (MT nD τ sig Unit (Elt F) ℕ UU ℕ))
    = iprop(dutyTok ER (barC 0) 0 3 ∗ dutyTok ER (barC 1) 0 3 ∗ dutyTok ER (barC 2) 0 3 ∗ dutyTok ER (sndC 3 0) 0 0 ∗ dutyTok ER (rcvC 2 2) 0 0 ∗ dutyTok ER (sndC 3 1) 0 0 ∗ dutyTok ER (rcvC 2 3) 0 0) := rfl
theorem due_eq3 : (due 3 : sProp (MT nD τ sig Unit (Elt F) ℕ UU ℕ))
    = iprop(cred (tallyAt (rcvC 3 0) () N) ∗ cred (tallyAt (rcvC 3 1) () N) ∗ cred (tallyAt (rcvC 3 2) () N) ∗ cred (tallyAt (rcvC 3 3) () N) ∗ cred (tallyAt (rcvC 3 4) () N) ∗ cred (tallyAt (rcvC 3 5) () N)) := rfl
theorem pos_eq3 : (bigSep Finset.univ fun i : Fin 14 => atPos ER (scC (3, i)) 0 ∅ 0 : sProp (MT nD τ sig Unit (Elt F) ℕ UU ℕ))
    = iprop(atPos ER (sndC 3 0) 0 ∅ 0 ∗ atPos ER (sndC 3 1) 0 ∅ 0 ∗ atPos ER (sndC 3 2) 0 ∅ 0 ∗ atPos ER (sndC 3 3) 0 ∅ 0 ∗ atPos ER (sndC 3 4) 0 ∅ 0 ∗ atPos ER (sndC 3 5) 0 ∅ 0 ∗ atPos ER (sndC 3 6) 0 ∅ 0 ∗ atPos ER (sndC 3 7) 0 ∅ 0 ∗ atPos ER (rcvC 3 0) 0 ∅ 0 ∗ atPos ER (rcvC 3 1) 0 ∅ 0 ∗ atPos ER (rcvC 3 2) 0 ∅ 0 ∗ atPos ER (rcvC 3 3) 0 ∅ 0 ∗ atPos ER (rcvC 3 4) 0 ∅ 0 ∗ atPos ER (rcvC 3 5) 0 ∅ 0) := (all14 _).trans rfl
theorem end_eq3 : (bigSep Finset.univ fun i : Fin 14 => atPos ER (scC (3, i)) (lastR 3 i) ∅ 0 : sProp (MT nD τ sig Unit (Elt F) ℕ UU ℕ))
    = iprop(atPos ER (sndC 3 0) 1 ∅ 0 ∗ atPos ER (sndC 3 1) 1 ∅ 0 ∗ atPos ER (sndC 3 2) 0 ∅ 0 ∗ atPos ER (sndC 3 3) 0 ∅ 0 ∗ atPos ER (sndC 3 4) 0 ∅ 0 ∗ atPos ER (sndC 3 5) 0 ∅ 0 ∗ atPos ER (sndC 3 6) 0 ∅ 0 ∗ atPos ER (sndC 3 7) 0 ∅ 0 ∗ atPos ER (rcvC 3 0) 1 ∅ 0 ∗ atPos ER (rcvC 3 1) 1 ∅ 0 ∗ atPos ER (rcvC 3 2) 1 ∅ 0 ∗ atPos ER (rcvC 3 3) 1 ∅ 0 ∗ atPos ER (rcvC 3 4) 1 ∅ 0 ∗ atPos ER (rcvC 3 5) 1 ∅ 0) := (all14 _).trans rfl

variable (X : Dev nD → Vec F S2x256x512 .bf16) (W : Dev nD → Vec F S512x256 .bf16) (Kx Vx : Dev nD → Vec F S2x256x256 .bf16)
variable (K : GSem nD τ sig → ℕ)

/-- The six packets of the devices' operands. -/
abbrev six : Fin 6 → S9x64x64.Idx → F .bf16 := pkts (X 0) (W 0) (Kx 0) (Vx 0) (X 1) (W 1) (Kx 1) (Vx 1)

variable (a0 : Memref sig .tc .vmem S2x256x512 .bf16) (h0 : a0.IsWhole) (a1 : Memref sig .tc .vmem S512x256 .bf16) (h1 : a1.IsWhole)
  (a2 : Memref sig .tc .vmem S2x256x256 .bf16) (h2 : a2.IsWhole) (a3 : Memref sig .tc .vmem S2x256x256 .bf16) (h3 : a3.IsWhole)
  (a4 : Memref sig .tc .vmem S256x512 .bf16) (h4 : a4.IsWhole) (a5 : Memref sig .tc .vmem S2x256x512 .f32) (h5 : a5.IsWhole)

set_option maxHeartbeats 4000000 in
set_option maxRecDepth 65536 in
theorem ran0 (f0 : Buf (Elt F) (a0.view.loc ((0 : Dev nD) : Thread nD τ))) (f1 : Buf (Elt F) (a1.view.loc ((0 : Dev nD) : Thread nD τ))) (f2 : Buf (Elt F) (a2.view.loc ((0 : Dev nD) : Thread nD τ))) (f3 : Buf (Elt F) (a3.view.loc ((0 : Dev nD) : Thread nD τ))) (f4 : Buf (Elt F) (a4.view.loc ((0 : Dev nD) : Thread nD τ))) (f5 : Buf (Elt F) (a5.view.loc ((0 : Dev nD) : Thread nD τ)))
    (r0 : a0.view.read (Elt F) f0 = X 0) (r1 : a1.view.read (Elt F) f1 = W 0) (r2 : a2.view.read (Elt F) f2 = Kx 0) (r3 : a3.view.read (Elt F) f3 = Vx 0)
    (Q : PUnit → sProp (MT nD τ sig Unit (Elt F) ℕ UU ℕ)) :
    iprop(gear (six X W Kx Vx) K 0 ∗ (∃ Wt, owes ((0 : Dev nD) : Thread nD τ) (O₀ 0) Wt)
        ∗ (a0.view.loc ((0 : Dev nD) : Thread nD τ) ↦{fullShare} f0) ∗ (a1.view.loc ((0 : Dev nD) : Thread nD τ) ↦{fullShare} f1) ∗ (a2.view.loc ((0 : Dev nD) : Thread nD τ) ↦{fullShare} f2)
        ∗ (a3.view.loc ((0 : Dev nD) : Thread nD τ) ↦{fullShare} f3) ∗ (a4.view.loc ((0 : Dev nD) : Thread nD τ) ↦{fullShare} f4) ∗ (a5.view.loc ((0 : Dev nD) : Thread nD τ) ↦{fullShare} f5)
        ∗ (∃ f, ownM.view.loc ((0 : Dev nD) : Thread nD τ) ↦{fullShare} f) ∗ (∃ f, rcvM.view.loc ((0 : Dev nD) : Thread nD τ) ↦{fullShare} f))
      ⊢ iprop((used_up 0 ∗ (∃ Wt, owes ((0 : Dev nD) : Thread nD τ) 0 Wt)
          ∗ (a0.view.loc ((0 : Dev nD) : Thread nD τ) ↦{fullShare} f0) ∗ (a1.view.loc ((0 : Dev nD) : Thread nD τ) ↦{fullShare} f1) ∗ (a2.view.loc ((0 : Dev nD) : Thread nD τ) ↦{fullShare} f2)
          ∗ (a3.view.loc ((0 : Dev nD) : Thread nD τ) ↦{fullShare} f3) ∗ (a4.view.loc ((0 : Dev nD) : Thread nD τ) ↦{fullShare} f4)
          ∗ (∃ f, (a5.view.loc ((0 : Dev nD) : Thread nD τ) ↦{fullShare} f) ∗ ⌜a5.view.read (Elt F) f = outP (six X W Kx Vx) (a4.view.read (Elt F) f4)⌝)
          ∗ (∃ f, ownM.view.loc ((0 : Dev nD) : Thread nD τ) ↦{fullShare} f) ∗ (∃ f, rcvM.view.loc ((0 : Dev nD) : Thread nD τ) ↦{fullShare} f) -∗ Q ⟨⟩)
        -∗ wp frame (wpE (defs₀ (F := F)) Variants.none (0 : Dev nD) none) Set.univ (cc0_body a0 h0 a1 h1 a2 h2 a3 h3 a4 h4 a5 h5 ownM (Memref.isWhole_whole _) rcvM (Memref.isWhole_whole _) cc0_scratch2 cc0_scratch3) Q) := by
  have e0 : six X W Kx Vx 0 = pkOf (o0 (a0.view.read (Elt F) f0) (a1.view.read (Elt F) f1) (a2.view.read (Elt F) f2) (a3.view.read (Elt F) f3) 0)
      (s0 (a0.view.read (Elt F) f0) (a1.view.read (Elt F) f1) (a2.view.read (Elt F) f2) 0) := by rw [r0, r1, r2, r3]; rfl
  have e1 : six X W Kx Vx 1 = pkOf (o0 (a0.view.read (Elt F) f0) (a1.view.read (Elt F) f1) (a2.view.read (Elt F) f2) (a3.view.read (Elt F) f3) 1)
      (s0 (a0.view.read (Elt F) f0) (a1.view.read (Elt F) f1) (a2.view.read (Elt F) f2) 1) := by rw [r0, r1, r2, r3]; rfl
  have e2 : six X W Kx Vx 2 = pkOf (o0 (a0.view.read (Elt F) f0) (a1.view.read (Elt F) f1) (a2.view.read (Elt F) f2) (a3.view.read (Elt F) f3) 2)
      (s0 (a0.view.read (Elt F) f0) (a1.view.read (Elt F) f1) (a2.view.read (Elt F) f2) 2) := by rw [r0, r1, r2, r3]; rfl
  have e3 : six X W Kx Vx 3 = pkOf (o0 (a0.view.read (Elt F) f0) (a1.view.read (Elt F) f1) (a2.view.read (Elt F) f2) (a3.view.read (Elt F) f3) 3)
      (s0 (a0.view.read (Elt F) f0) (a1.view.read (Elt F) f1) (a2.view.read (Elt F) f2) 3) := by rw [r0, r1, r2, r3]; rfl
  unfold gear used_up
  rw [pays_eq0, due_eq0, pos_eq0, end_eq0]
  iintro ⟨⟨#HR, ⟨Ta, Tb, Tc, Ts0, Tr0, Ts1, Tr1, Ts2, Tr2, Ts3, Tr3, Ts4, Tr4, Ts5, Tr5, Ts6, Tr6, Ts7, Tr7⟩, ⟨Cb, C4, C5⟩, Pb, P0, P1, P2, P3, P4, P5, P6, P7, P8, P9, P10, P11, P12, P13⟩, HO, H0, H1, H2, H3, H4, H5, H6, H7⟩ Hk
  iapply (body0 (six X W Kx Vx) K a0 h0 a1 h1 a2 h2 a3 h3 a4 h4 a5 h5 fullShare f0 f1 f2 f3 f4 f5 e0 e1 e2 e3 Q) $$ [HO Ta Tb Tc Cb Pb C4 P12 C5 P13 Ts0 Tr0 Ts1 Tr1 Ts2 Tr2 Ts3 Tr3 Ts4 Tr4 Ts5 Tr5 Ts6 Tr6 Ts7 Tr7 P0 P1 P2 P3 P4 P5 P6 P7 H0 H1 H2 H3 H4 H5 H6 H7]
  · isplitr; · iexact HR
    isplitl [HO]; · iexact HO
    isplitl [Ta]; · iexact Ta
    isplitl [Tb]; · iexact Tb
    isplitl [Tc]; · iexact Tc
    isplitl [Cb Pb]
    · isplitl [Cb]; · iexact Cb
      iexact Pb
    isplitl [C4 P12]
    · isplitl [C4]; · iexact C4
      iexact P12
    isplitl [C5 P13]
    · isplitl [C5]; · iexact C5
      iexact P13
    isplitl [Ts0 Tr0]
    · isplitl [Ts0]; · iexact Ts0
      iexact Tr0
    isplitl [Ts1 Tr1]
    · isplitl [Ts1]; · iexact Ts1
      iexact Tr1
    isplitl [Ts2 Tr2]
    · isplitl [Ts2]; · iexact Ts2
      iexact Tr2
    isplitl [Ts3 Tr3]
    · isplitl [Ts3]; · iexact Ts3
      iexact Tr3
    isplitl [Ts4 Tr4]
    · isplitl [Ts4]; · iexact Ts4
      iexact Tr4
    isplitl [Ts5 Tr5]
    · isplitl [Ts5]; · iexact Ts5
      iexact Tr5
    isplitl [Ts6 Tr6]
    · isplitl [Ts6]; · iexact Ts6
      iexact Tr6
    isplitl [Ts7 Tr7]
    · isplitl [Ts7]; · iexact Ts7
      iexact Tr7
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HO, Pb, P12, P13, P0, P1, P2, P3, P4, P5, P6, P7, H0, H1, H2, H3, H4, H5, H6, H7⟩
  iapply Hk
  isplitl [Pb P0 P1 P2 P3 P4 P5 P6 P7 P8 P9 P10 P11 P12 P13]
  · isplitl [Pb]; · iexact Pb
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    iexact P13
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
set_option maxRecDepth 65536 in
theorem ran1 (f0 : Buf (Elt F) (a0.view.loc ((1 : Dev nD) : Thread nD τ))) (f1 : Buf (Elt F) (a1.view.loc ((1 : Dev nD) : Thread nD τ))) (f2 : Buf (Elt F) (a2.view.loc ((1 : Dev nD) : Thread nD τ))) (f3 : Buf (Elt F) (a3.view.loc ((1 : Dev nD) : Thread nD τ))) (f4 : Buf (Elt F) (a4.view.loc ((1 : Dev nD) : Thread nD τ))) (f5 : Buf (Elt F) (a5.view.loc ((1 : Dev nD) : Thread nD τ)))
    (r0 : a0.view.read (Elt F) f0 = X 1) (r1 : a1.view.read (Elt F) f1 = W 1) (r2 : a2.view.read (Elt F) f2 = Kx 1) (r3 : a3.view.read (Elt F) f3 = Vx 1)
    (Q : PUnit → sProp (MT nD τ sig Unit (Elt F) ℕ UU ℕ)) :
    iprop(gear (six X W Kx Vx) K 1 ∗ (∃ Wt, owes ((1 : Dev nD) : Thread nD τ) (O₀ 1) Wt)
        ∗ (a0.view.loc ((1 : Dev nD) : Thread nD τ) ↦{fullShare} f0) ∗ (a1.view.loc ((1 : Dev nD) : Thread nD τ) ↦{fullShare} f1) ∗ (a2.view.loc ((1 : Dev nD) : Thread nD τ) ↦{fullShare} f2)
        ∗ (a3.view.loc ((1 : Dev nD) : Thread nD τ) ↦{fullShare} f3) ∗ (a4.view.loc ((1 : Dev nD) : Thread nD τ) ↦{fullShare} f4) ∗ (a5.view.loc ((1 : Dev nD) : Thread nD τ) ↦{fullShare} f5)
        ∗ (∃ f, ownM.view.loc ((1 : Dev nD) : Thread nD τ) ↦{fullShare} f) ∗ (∃ f, rcvM.view.loc ((1 : Dev nD) : Thread nD τ) ↦{fullShare} f))
      ⊢ iprop((used_up 1 ∗ (∃ Wt, owes ((1 : Dev nD) : Thread nD τ) 0 Wt)
          ∗ (a0.view.loc ((1 : Dev nD) : Thread nD τ) ↦{fullShare} f0) ∗ (a1.view.loc ((1 : Dev nD) : Thread nD τ) ↦{fullShare} f1) ∗ (a2.view.loc ((1 : Dev nD) : Thread nD τ) ↦{fullShare} f2)
          ∗ (a3.view.loc ((1 : Dev nD) : Thread nD τ) ↦{fullShare} f3) ∗ (a4.view.loc ((1 : Dev nD) : Thread nD τ) ↦{fullShare} f4)
          ∗ (∃ f, (a5.view.loc ((1 : Dev nD) : Thread nD τ) ↦{fullShare} f) ∗ ⌜a5.view.read (Elt F) f = outP (six X W Kx Vx) (a4.view.read (Elt F) f4)⌝)
          ∗ (∃ f, ownM.view.loc ((1 : Dev nD) : Thread nD τ) ↦{fullShare} f) ∗ (∃ f, rcvM.view.loc ((1 : Dev nD) : Thread nD τ) ↦{fullShare} f) -∗ Q ⟨⟩)
        -∗ wp frame (wpE (defs₀ (F := F)) Variants.none (1 : Dev nD) none) Set.univ (cc0_body a0 h0 a1 h1 a2 h2 a3 h3 a4 h4 a5 h5 ownM (Memref.isWhole_whole _) rcvM (Memref.isWhole_whole _) cc0_scratch2 cc0_scratch3) Q) := by
  have e4 : six X W Kx Vx 4 = pkOf (o1 (a0.view.read (Elt F) f0) (a1.view.read (Elt F) f1) (a2.view.read (Elt F) f2) (a3.view.read (Elt F) f3) 2)
      (s1 (a0.view.read (Elt F) f0) (a1.view.read (Elt F) f1) (a2.view.read (Elt F) f2) 2) := by rw [r0, r1, r2, r3]; rfl
  have e5 : six X W Kx Vx 5 = pkOf (o1 (a0.view.read (Elt F) f0) (a1.view.read (Elt F) f1) (a2.view.read (Elt F) f2) (a3.view.read (Elt F) f3) 3)
      (s1 (a0.view.read (Elt F) f0) (a1.view.read (Elt F) f1) (a2.view.read (Elt F) f2) 3) := by rw [r0, r1, r2, r3]; rfl
  unfold gear used_up
  rw [pays_eq1, due_eq1, pos_eq1, end_eq1]
  iintro ⟨⟨#HR, ⟨Ta, Tb, Tc, Ts0, Tr0, Ts1, Tr1, Ts2, Tr2, Ts3, Tr3, Ts4, Tr4, Ts5, Tr5⟩, ⟨Cb, C0, C1, C2, C3⟩, Pb, P0, P1, P2, P3, P4, P5, P6, P7, P8, P9, P10, P11, P12, P13⟩, HO, H0, H1, H2, H3, H4, H5, H6, H7⟩ Hk
  iapply (body1 (six X W Kx Vx) K a0 h0 a1 h1 a2 h2 a3 h3 a4 h4 a5 h5 fullShare f0 f1 f2 f3 f4 f5 e4 e5 Q) $$ [HO Ta Tb Tc Cb Pb C0 P8 C1 P9 C2 P10 C3 P11 Ts0 Tr0 Ts1 Tr1 Ts2 Tr2 Ts3 Tr3 Ts4 Tr4 Ts5 Tr5 P0 P1 P2 P3 P4 P5 H0 H1 H2 H3 H4 H5 H6 H7]
  · isplitr; · iexact HR
    isplitl [HO]; · iexact HO
    isplitl [Ta]; · iexact Ta
    isplitl [Tb]; · iexact Tb
    isplitl [Tc]; · iexact Tc
    isplitl [Cb Pb]
    · isplitl [Cb]; · iexact Cb
      iexact Pb
    isplitl [C0 P8]
    · isplitl [C0]; · iexact C0
      iexact P8
    isplitl [C1 P9]
    · isplitl [C1]; · iexact C1
      iexact P9
    isplitl [C2 P10]
    · isplitl [C2]; · iexact C2
      iexact P10
    isplitl [C3 P11]
    · isplitl [C3]; · iexact C3
      iexact P11
    isplitl [Ts0 Tr0]
    · isplitl [Ts0]; · iexact Ts0
      iexact Tr0
    isplitl [Ts1 Tr1]
    · isplitl [Ts1]; · iexact Ts1
      iexact Tr1
    isplitl [Ts2 Tr2]
    · isplitl [Ts2]; · iexact Ts2
      iexact Tr2
    isplitl [Ts3 Tr3]
    · isplitl [Ts3]; · iexact Ts3
      iexact Tr3
    isplitl [Ts4 Tr4]
    · isplitl [Ts4]; · iexact Ts4
      iexact Tr4
    isplitl [Ts5 Tr5]
    · isplitl [Ts5]; · iexact Ts5
      iexact Tr5
    isplitl [P0]; · iexact P0
    isplitl [P1]; · iexact P1
    isplitl [P2]; · iexact P2
    isplitl [P3]; · iexact P3
    isplitl [P4]; · iexact P4
    isplitl [P5]; · iexact P5
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HO, Pb, P8, P9, P10, P11, P0, P1, P2, P3, P4, P5, H0, H1, H2, H3, H4, H5, H6, H7⟩
  iapply Hk
  isplitl [Pb P0 P1 P2 P3 P4 P5 P6 P7 P8 P9 P10 P11 P12 P13]
  · isplitl [Pb]; · iexact Pb
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    iexact P13
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
set_option maxRecDepth 65536 in
theorem ran2 (f0 : Buf (Elt F) (a0.view.loc ((2 : Dev nD) : Thread nD τ))) (f1 : Buf (Elt F) (a1.view.loc ((2 : Dev nD) : Thread nD τ))) (f2 : Buf (Elt F) (a2.view.loc ((2 : Dev nD) : Thread nD τ))) (f3 : Buf (Elt F) (a3.view.loc ((2 : Dev nD) : Thread nD τ))) (f4 : Buf (Elt F) (a4.view.loc ((2 : Dev nD) : Thread nD τ))) (f5 : Buf (Elt F) (a5.view.loc ((2 : Dev nD) : Thread nD τ)))
    (r0 : a0.view.read (Elt F) f0 = X 2) (r1 : a1.view.read (Elt F) f1 = W 2) (r2 : a2.view.read (Elt F) f2 = Kx 2) (r3 : a3.view.read (Elt F) f3 = Vx 2)
    (Q : PUnit → sProp (MT nD τ sig Unit (Elt F) ℕ UU ℕ)) :
    iprop(gear (six X W Kx Vx) K 2 ∗ (∃ Wt, owes ((2 : Dev nD) : Thread nD τ) (O₀ 2) Wt)
        ∗ (a0.view.loc ((2 : Dev nD) : Thread nD τ) ↦{fullShare} f0) ∗ (a1.view.loc ((2 : Dev nD) : Thread nD τ) ↦{fullShare} f1) ∗ (a2.view.loc ((2 : Dev nD) : Thread nD τ) ↦{fullShare} f2)
        ∗ (a3.view.loc ((2 : Dev nD) : Thread nD τ) ↦{fullShare} f3) ∗ (a4.view.loc ((2 : Dev nD) : Thread nD τ) ↦{fullShare} f4) ∗ (a5.view.loc ((2 : Dev nD) : Thread nD τ) ↦{fullShare} f5)
        ∗ (∃ f, ownM.view.loc ((2 : Dev nD) : Thread nD τ) ↦{fullShare} f) ∗ (∃ f, rcvM.view.loc ((2 : Dev nD) : Thread nD τ) ↦{fullShare} f))
      ⊢ iprop((used_up 2 ∗ (∃ Wt, owes ((2 : Dev nD) : Thread nD τ) 0 Wt)
          ∗ (a0.view.loc ((2 : Dev nD) : Thread nD τ) ↦{fullShare} f0) ∗ (a1.view.loc ((2 : Dev nD) : Thread nD τ) ↦{fullShare} f1) ∗ (a2.view.loc ((2 : Dev nD) : Thread nD τ) ↦{fullShare} f2)
          ∗ (a3.view.loc ((2 : Dev nD) : Thread nD τ) ↦{fullShare} f3) ∗ (a4.view.loc ((2 : Dev nD) : Thread nD τ) ↦{fullShare} f4)
          ∗ (∃ f, (a5.view.loc ((2 : Dev nD) : Thread nD τ) ↦{fullShare} f) ∗ ⌜a5.view.read (Elt F) f = outP (six X W Kx Vx) (a4.view.read (Elt F) f4)⌝)
          ∗ (∃ f, ownM.view.loc ((2 : Dev nD) : Thread nD τ) ↦{fullShare} f) ∗ (∃ f, rcvM.view.loc ((2 : Dev nD) : Thread nD τ) ↦{fullShare} f) -∗ Q ⟨⟩)
        -∗ wp frame (wpE (defs₀ (F := F)) Variants.none (2 : Dev nD) none) Set.univ (cc0_body a0 h0 a1 h1 a2 h2 a3 h3 a4 h4 a5 h5 ownM (Memref.isWhole_whole _) rcvM (Memref.isWhole_whole _) cc0_scratch2 cc0_scratch3) Q) := by
  unfold gear used_up
  rw [pays_eq2, due_eq2, pos_eq2, end_eq2]
  iintro ⟨⟨#HR, ⟨Ta, Tb, Tc, Ts0, Tr0, Ts1, Tr1⟩, ⟨Cb, C0, C1, C2, C3, C4, C5⟩, Pb, P0, P1, P2, P3, P4, P5, P6, P7, P8, P9, P10, P11, P12, P13⟩, HO, H0, H1, H2, H3, H4, H5, H6, H7⟩ Hk
  iapply (body2 (six X W Kx Vx) K a0 h0 a1 h1 a2 h2 a3 h3 a4 h4 a5 h5 fullShare f4 f5 Q) $$ [HO Ta Tb Tc Cb Pb C0 P8 C1 P9 C2 P10 C3 P11 C4 P12 C5 P13 Ts0 Tr0 Ts1 Tr1 P0 P1 H4 H5 H6 H7]
  · isplitr; · iexact HR
    isplitl [HO]; · iexact HO
    isplitl [Ta]; · iexact Ta
    isplitl [Tb]; · iexact Tb
    isplitl [Tc]; · iexact Tc
    isplitl [Cb Pb]
    · isplitl [Cb]; · iexact Cb
      iexact Pb
    isplitl [C0 P8]
    · isplitl [C0]; · iexact C0
      iexact P8
    isplitl [C1 P9]
    · isplitl [C1]; · iexact C1
      iexact P9
    isplitl [C2 P10]
    · isplitl [C2]; · iexact C2
      iexact P10
    isplitl [C3 P11]
    · isplitl [C3]; · iexact C3
      iexact P11
    isplitl [C4 P12]
    · isplitl [C4]; · iexact C4
      iexact P12
    isplitl [C5 P13]
    · isplitl [C5]; · iexact C5
      iexact P13
    isplitl [Ts0 Tr0]
    · isplitl [Ts0]; · iexact Ts0
      iexact Tr0
    isplitl [Ts1 Tr1]
    · isplitl [Ts1]; · iexact Ts1
      iexact Tr1
    isplitl [P0]; · iexact P0
    isplitl [P1]; · iexact P1
    isplitl [H4]; · iexact H4
    isplitl [H5]; · iexact H5
    isplitl [H6]; · iexact H6
    iexact H7
  iintro ⟨HO, Pb, P8, P9, P10, P11, P12, P13, P0, P1, H4, H5, H6, H7⟩
  iapply Hk
  isplitl [Pb P0 P1 P2 P3 P4 P5 P6 P7 P8 P9 P10 P11 P12 P13]
  · isplitl [Pb]; · iexact Pb
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    iexact P13
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
set_option maxRecDepth 65536 in
theorem ran3 (f0 : Buf (Elt F) (a0.view.loc ((3 : Dev nD) : Thread nD τ))) (f1 : Buf (Elt F) (a1.view.loc ((3 : Dev nD) : Thread nD τ))) (f2 : Buf (Elt F) (a2.view.loc ((3 : Dev nD) : Thread nD τ))) (f3 : Buf (Elt F) (a3.view.loc ((3 : Dev nD) : Thread nD τ))) (f4 : Buf (Elt F) (a4.view.loc ((3 : Dev nD) : Thread nD τ))) (f5 : Buf (Elt F) (a5.view.loc ((3 : Dev nD) : Thread nD τ)))
    (r0 : a0.view.read (Elt F) f0 = X 3) (r1 : a1.view.read (Elt F) f1 = W 3) (r2 : a2.view.read (Elt F) f2 = Kx 3) (r3 : a3.view.read (Elt F) f3 = Vx 3)
    (Q : PUnit → sProp (MT nD τ sig Unit (Elt F) ℕ UU ℕ)) :
    iprop(gear (six X W Kx Vx) K 3 ∗ (∃ Wt, owes ((3 : Dev nD) : Thread nD τ) (O₀ 3) Wt)
        ∗ (a0.view.loc ((3 : Dev nD) : Thread nD τ) ↦{fullShare} f0) ∗ (a1.view.loc ((3 : Dev nD) : Thread nD τ) ↦{fullShare} f1) ∗ (a2.view.loc ((3 : Dev nD) : Thread nD τ) ↦{fullShare} f2)
        ∗ (a3.view.loc ((3 : Dev nD) : Thread nD τ) ↦{fullShare} f3) ∗ (a4.view.loc ((3 : Dev nD) : Thread nD τ) ↦{fullShare} f4) ∗ (a5.view.loc ((3 : Dev nD) : Thread nD τ) ↦{fullShare} f5)
        ∗ (∃ f, ownM.view.loc ((3 : Dev nD) : Thread nD τ) ↦{fullShare} f) ∗ (∃ f, rcvM.view.loc ((3 : Dev nD) : Thread nD τ) ↦{fullShare} f))
      ⊢ iprop((used_up 3 ∗ (∃ Wt, owes ((3 : Dev nD) : Thread nD τ) 0 Wt)
          ∗ (a0.view.loc ((3 : Dev nD) : Thread nD τ) ↦{fullShare} f0) ∗ (a1.view.loc ((3 : Dev nD) : Thread nD τ) ↦{fullShare} f1) ∗ (a2.view.loc ((3 : Dev nD) : Thread nD τ) ↦{fullShare} f2)
          ∗ (a3.view.loc ((3 : Dev nD) : Thread nD τ) ↦{fullShare} f3) ∗ (a4.view.loc ((3 : Dev nD) : Thread nD τ) ↦{fullShare} f4)
          ∗ (∃ f, (a5.view.loc ((3 : Dev nD) : Thread nD τ) ↦{fullShare} f) ∗ ⌜a5.view.read (Elt F) f = outP (six X W Kx Vx) (a4.view.read (Elt F) f4)⌝)
          ∗ (∃ f, ownM.view.loc ((3 : Dev nD) : Thread nD τ) ↦{fullShare} f) ∗ (∃ f, rcvM.view.loc ((3 : Dev nD) : Thread nD τ) ↦{fullShare} f) -∗ Q ⟨⟩)
        -∗ wp frame (wpE (defs₀ (F := F)) Variants.none (3 : Dev nD) none) Set.univ (cc0_body a0 h0 a1 h1 a2 h2 a3 h3 a4 h4 a5 h5 ownM (Memref.isWhole_whole _) rcvM (Memref.isWhole_whole _) cc0_scratch2 cc0_scratch3) Q) := by
  unfold gear used_up
  rw [pays_eq3, due_eq3, pos_eq3, end_eq3]
  iintro ⟨⟨#HR, ⟨Ta, Tb, Tc, Ts0, Tr0, Ts1, Tr1⟩, ⟨Cb, C0, C1, C2, C3, C4, C5⟩, Pb, P0, P1, P2, P3, P4, P5, P6, P7, P8, P9, P10, P11, P12, P13⟩, HO, H0, H1, H2, H3, H4, H5, H6, H7⟩ Hk
  iapply (body3 (six X W Kx Vx) K a0 h0 a1 h1 a2 h2 a3 h3 a4 h4 a5 h5 fullShare f4 f5 Q) $$ [HO Ta Tb Tc Cb Pb C0 P8 C1 P9 C2 P10 C3 P11 C4 P12 C5 P13 Ts0 Tr0 Ts1 Tr1 P0 P1 H4 H5 H6 H7]
  · isplitr; · iexact HR
    isplitl [HO]; · iexact HO
    isplitl [Ta]; · iexact Ta
    isplitl [Tb]; · iexact Tb
    isplitl [Tc]; · iexact Tc
    isplitl [Cb Pb]
    · isplitl [Cb]; · iexact Cb
      iexact Pb
    isplitl [C0 P8]
    · isplitl [C0]; · iexact C0
      iexact P8
    isplitl [C1 P9]
    · isplitl [C1]; · iexact C1
      iexact P9
    isplitl [C2 P10]
    · isplitl [C2]; · iexact C2
      iexact P10
    isplitl [C3 P11]
    · isplitl [C3]; · iexact C3
      iexact P11
    isplitl [C4 P12]
    · isplitl [C4]; · iexact C4
      iexact P12
    isplitl [C5 P13]
    · isplitl [C5]; · iexact C5
      iexact P13
    isplitl [Ts0 Tr0]
    · isplitl [Ts0]; · iexact Ts0
      iexact Tr0
    isplitl [Ts1 Tr1]
    · isplitl [Ts1]; · iexact Ts1
      iexact Tr1
    isplitl [P0]; · iexact P0
    isplitl [P1]; · iexact P1
    isplitl [H4]; · iexact H4
    isplitl [H5]; · iexact H5
    isplitl [H6]; · iexact H6
    iexact H7
  iintro ⟨HO, Pb, P8, P9, P10, P11, P12, P13, P0, P1, H4, H5, H6, H7⟩
  iapply Hk
  isplitl [Pb P0 P1 P2 P3 P4 P5 P6 P7 P8 P9 P10 P11 P12 P13]
  · isplitl [Pb]; · iexact Pb
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    iexact P13
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's run on any device. -/
theorem ran (c : Dev nD) (f0 : Buf (Elt F) (a0.view.loc (c : Thread nD τ))) (f1 : Buf (Elt F) (a1.view.loc (c : Thread nD τ))) (f2 : Buf (Elt F) (a2.view.loc (c : Thread nD τ))) (f3 : Buf (Elt F) (a3.view.loc (c : Thread nD τ))) (f4 : Buf (Elt F) (a4.view.loc (c : Thread nD τ))) (f5 : Buf (Elt F) (a5.view.loc (c : Thread nD τ)))
    (r0 : a0.view.read (Elt F) f0 = X c) (r1 : a1.view.read (Elt F) f1 = W c) (r2 : a2.view.read (Elt F) f2 = Kx c) (r3 : a3.view.read (Elt F) f3 = Vx c)
    (Q : PUnit → sProp (MT nD τ sig Unit (Elt F) ℕ UU ℕ)) :
    iprop(gear (six X W Kx Vx) K c ∗ (∃ Wt, owes (c : Thread nD τ) (O₀ c) Wt)
        ∗ (a0.view.loc (c : Thread nD τ) ↦{fullShare} f0) ∗ (a1.view.loc (c : Thread nD τ) ↦{fullShare} f1) ∗ (a2.view.loc (c : Thread nD τ) ↦{fullShare} f2)
        ∗ (a3.view.loc (c : Thread nD τ) ↦{fullShare} f3) ∗ (a4.view.loc (c : Thread nD τ) ↦{fullShare} f4) ∗ (a5.view.loc (c : Thread nD τ) ↦{fullShare} f5)
        ∗ (∃ f, ownM.view.loc (c : Thread nD τ) ↦{fullShare} f) ∗ (∃ f, rcvM.view.loc (c : Thread nD τ) ↦{fullShare} f))
      ⊢ iprop((used_up c ∗ (∃ Wt, owes (c : Thread nD τ) 0 Wt)
          ∗ (a0.view.loc (c : Thread nD τ) ↦{fullShare} f0) ∗ (a1.view.loc (c : Thread nD τ) ↦{fullShare} f1) ∗ (a2.view.loc (c : Thread nD τ) ↦{fullShare} f2)
          ∗ (a3.view.loc (c : Thread nD τ) ↦{fullShare} f3) ∗ (a4.view.loc (c : Thread nD τ) ↦{fullShare} f4)
          ∗ (∃ f, (a5.view.loc (c : Thread nD τ) ↦{fullShare} f) ∗ ⌜a5.view.read (Elt F) f = outP (six X W Kx Vx) (a4.view.read (Elt F) f4)⌝)
          ∗ (∃ f, ownM.view.loc (c : Thread nD τ) ↦{fullShare} f) ∗ (∃ f, rcvM.view.loc (c : Thread nD τ) ↦{fullShare} f) -∗ Q ⟨⟩)
        -∗ wp frame (wpE (defs₀ (F := F)) Variants.none c none) Set.univ (cc0_body a0 h0 a1 h1 a2 h2 a3 h3 a4 h4 a5 h5 ownM (Memref.isWhole_whole _) rcvM (Memref.isWhole_whole _) cc0_scratch2 cc0_scratch3) Q) := by
  obtain rfl | rfl | rfl | rfl := (by decide : ∀ c : Fin 4, c = 0 ∨ c = 1 ∨ c = 2 ∨ c = 3) c
  · exact ran0 X W Kx Vx K a0 h0 a1 h1 a2 h2 a3 h3 a4 h4 a5 h5 f0 f1 f2 f3 f4 f5 r0 r1 r2 r3 Q
  · exact ran1 X W Kx Vx K a0 h0 a1 h1 a2 h2 a3 h3 a4 h4 a5 h5 f0 f1 f2 f3 f4 f5 r0 r1 r2 r3 Q
  · exact ran2 X W Kx Vx K a0 h0 a1 h1 a2 h2 a3 h3 a4 h4 a5 h5 f0 f1 f2 f3 f4 f5 r0 r1 r2 r3 Q
  · exact ran3 X W Kx Vx K a0 h0 a1 h1 a2 h2 a3 h3 a4 h4 a5 h5 f0 f1 f2 f3 f4 f5 r0 r1 r2 r3 Q

end Cert.KernelIdeal.Att
-- ==== Proof.Region.lean ====
/-
  The kernel's region: what each device's windows hold before and after, and the body's run at its one point, from the
  device's share of the exchange to every counter back at zero.
-/
module

public import proofs.«01_k».proof.Proof.Ran

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The operands, the packets and the output -/

abbrev opX (c : Dev nD) : Vec F S2x256x512 .bf16 := iblk m c 0 t0_0
abbrev opW (c : Dev nD) : Vec F S512x256 .bf16 := iblk m c 1 t0_0
abbrev opK (c : Dev nD) : Vec F S2x256x256 .bf16 := iblk m c 2 t0_0
abbrev opV (c : Dev nD) : Vec F S2x256x256 .bf16 := iblk m c 3 t0_0
abbrev opO (c : Dev nD) : Vec F S256x512 .bf16 := iblk m c 4 t0_0

/-- The six packets of this run. -/
abbrev six' : Fin 6 → S9x64x64.Idx → F .bf16 := six (opX m) (opW m) (opK m) (opV m)
/-- What device `c` writes. -/
def res (c : Dev nD) : Vec F S2x256x512 .f32 := outP (six' m) (opO m c)

/-! ## The windows -/

/-- The invariant before the point: the exchange's share, and the scratch buffers. -/
def before_ (c : Dev nD) : sProp (MT nD τ sig Unit (Elt F) ℕ UU ℕ) :=
  iprop((∃ K, gear (six' m) K c)
    ∗ ((∃ f, ownM.view.loc (c : Thread nD τ) ↦{fullShare} f) ∗ (∃ f, rcvM.view.loc (c : Thread nD τ) ↦{fullShare} f)) ∗ ∃ r, prngReg c r)
/-- After it: the counters at zero, and the scratch buffers. -/
def after_ (c : Dev nD) : sProp (MT nD τ sig Unit (Elt F) ℕ UU ℕ) :=
  iprop((semVal (barC c) 0 ∗ bigSep Finset.univ fun i : Fin 14 => semVal (scC (c, i)) 0)
    ∗ ((∃ f, ownM.view.loc (c : Thread nD τ) ↦{fullShare} f) ∗ (∃ f, rcvM.view.loc (c : Thread nD τ) ↦{fullShare} f)) ∗ ∃ r, prngReg c r)

/-- One thing before the point, another after. -/
def stepped {α : Type _} (a b : α) (t : Fin (cfg0.N + 1)) : α := if t.val = 0 then a else b
theorem stepped_zero {α : Type _} (a b : α) (t : Fin (cfg0.N + 1)) (h : t.val = 0) : stepped a b t = a := if_pos h
theorem stepped_one {α : Type _} (a b : α) (t : Fin (cfg0.N + 1)) (h : t.val ≠ 0) : stepped a b t = b := if_neg h

def datR (c : Dev nD) : Dat τ (Elt F) Unit ℕ UU ℕ cfg0 c where
  A w := V m c (Pipeline.arrRef spec0 w)
  after w t := match w with
    | 0 => iblk m c 0 t | 1 => iblk m c 1 t | 2 => iblk m c 2 t | 3 => iblk m c 3 t | 4 => iblk m c 4 t
    | 5 => res m c
  Φ := stepped (before_ m c) (after_ c)
  q _ := fullShare
  owed := stepped (O₀ c) 0

theorem found0 (c : Dev nD) (t : Fin cfg0.N) (d) : (datR m c).before 0 t d = iblk m c 0 t :=
  ((datR m c).before_in_eq_fetched 0 rfl (fun _ => rfl) (fun _ _ _ => rfl) (fun _ => rfl) t d).trans rfl
theorem found1 (c : Dev nD) (t : Fin cfg0.N) (d) : (datR m c).before 1 t d = iblk m c 1 t :=
  ((datR m c).before_in_eq_fetched 1 rfl (fun _ => rfl) (fun _ _ _ => rfl) (fun _ => rfl) t d).trans rfl
theorem found2 (c : Dev nD) (t : Fin cfg0.N) (d) : (datR m c).before 2 t d = iblk m c 2 t :=
  ((datR m c).before_in_eq_fetched 2 rfl (fun _ => rfl) (fun _ _ _ => rfl) (fun _ => rfl) t d).trans rfl
theorem found3 (c : Dev nD) (t : Fin cfg0.N) (d) : (datR m c).before 3 t d = iblk m c 3 t :=
  ((datR m c).before_in_eq_fetched 3 rfl (fun _ => rfl) (fun _ _ _ => rfl) (fun _ => rfl) t d).trans rfl
theorem found4 (c : Dev nD) (t : Fin cfg0.N) (d) : (datR m c).before 4 t d = iblk m c 4 t :=
  ((datR m c).before_in_eq_fetched 4 rfl (fun _ => rfl) (fun _ _ _ => rfl) (fun _ => rfl) t d).trans rfl

/-! ## Closing the cells -/

theorem last_done (PK : Fin 6 → S9x64x64.Idx → F .bf16) (c : Dev nD) (i : Fin 14) (r : ℕ) (h : lastR c i ≤ r) :
    (sched PK).duties (scC (c, i)) r = ∅ := by
  by_cases hu : used c (6 + i.val) = true
  · exact duties_later PK _ r (by unfold lastR at h; rw [if_pos hu] at h; exact h)
  · exact duties_unused PK c (scSem i) (by simpa using hu) r

theorem invs_at (PK : Fin 6 → S9x64x64.Idx → F .bf16) (K : GSem nD τ sig → ℕ) (c : Dev nD) (R : Fin 14 → ℕ) :
    iprop(recs PK K c ∗ bigSep Finset.univ fun i : Fin 14 => atPos ER (scC (c, i)) (R i) ∅ 0)
      ⊢ bigSep Finset.univ fun i : Fin 14 => (iprop(cellInv ER (sched PK) (K (scC (c, i))) (scC (c, i)) ∗ atPos ER (scC (c, i)) (R i) ∅ 0) : sProp 𝕄) :=
  bigSep_with_persistent fun i _ => sep_mono_left (recs_inv PK K c (sc_mem (c, i)))

theorem close_all (PK : Fin 6 → S9x64x64.Idx → F .bf16) (K : GSem nD τ sig → ℕ) (c : Dev nD) :
    iprop(recs PK K c ∗ used_up c)
      ⊢ |={Set.univ}=> (iprop(semVal (barC c) 0 ∗ bigSep Finset.univ fun i : Fin 14 => semVal (scC (c, i)) 0) : sProp 𝕄) := by
  unfold used_up
  iintro ⟨#HR, Hb, Hs⟩
  ihave Hs := (invs_at PK K c (lastR c)) $$ [Hs]
  · isplitr; · iexact HR
    iexact Hs
  imod (Rounds.cell_close ER (sched PK) (g := barC c) (R := 1) (κ := K (barC c)) (Set.mem_univ _) (fun h => h) (duties_later PK _)) $$ [Hb] with Hb
  · isplitr; · iapply (recs_inv PK K c (bar_mem c)); iexact HR
    iexact Hb
  imod (Rounds.cells_close ER (sched PK) Finset.univ (fun i : Fin 14 => scC (c, i)) (fun i => K (scC (c, i))) (fun _ _ => Set.mem_univ _)
    (fun _ _ h => h) (lastR c) (fun i _ r h => last_done PK c i r h)) $$ Hs with Hs
  imodintro
  isplitl [Hb] <;> iassumption

/-! ## The body at its point -/

theorem owesAt_intro {c : Dev nD} (dat : Dat τ (Elt F) Unit ℕ UU ℕ cfg0 c) (t : Fin (cfg0.N + 1)) (O : CellTallies nD τ sig Unit)
    (h0 : dat.owed t = O) (W : Waits sig Unit) (hr : dat.recorded t = Set.univ) : (owes (c : Thread nD τ) O W : sProp 𝕄) ⊢ dat.owesAt () t := by
  unfold Dat.owesAt Pipeline.owesWithin Dat.bound; rw [h0, hr]
  iintro HO; iexists W; isplitr; · ipureintro; exact fun _ _ => Or.inl trivial
  iexact HO
theorem owesAt_elim {c : Dev nD} (dat : Dat τ (Elt F) Unit ℕ UU ℕ cfg0 c) (t : Fin (cfg0.N + 1)) (O : CellTallies nD τ sig Unit)
    (h0 : dat.owed t = O) : (dat.owesAt () t : sProp 𝕄) ⊢ iprop(∃ W, owes (c : Thread nD τ) O W) := by
  unfold Dat.owesAt Pipeline.owesWithin; rw [h0]
  iintro ⟨%W, -, HO⟩; iexists W; iexact HO

theorem owed_first (c : Dev nD) : (datR m c).owed t0_0.castSucc = O₀ c := stepped_zero (O₀ c) 0 t0_0.castSucc rfl
theorem owed_last (c : Dev nD) : (datR m c).owed t0_0.succ = 0 := stepped_one (O₀ c) 0 t0_0.succ (Nat.succ_ne_zero _)
theorem inv_first (c : Dev nD) : (datR m c).Φ t0_0.castSucc = before_ m c := stepped_zero (before_ m c) (after_ c) t0_0.castSucc rfl
theorem inv_last (c : Dev nD) : (datR m c).Φ t0_0.succ = after_ c := stepped_one (before_ m c) (after_ c) t0_0.succ (Nat.succ_ne_zero _)

theorem whole_elim {s : Shape} {e : EltTy} (a : Memref sig .tc .vmem s e) (h : a.IsWhole) (c : Dev nD) (X : s.Idx → Elt F e) :
    (owns c a fullShare X : sProp 𝕄) ⊢ iprop(∃ f, ⌜a.view.read (Elt F) f = X⌝ ∗ (a.view.loc (c : Thread nD τ) ↦{fullShare} f)) := by
  unfold owns
  rw [h.set_eq_univ]
theorem whole_intro {s : Shape} {e : EltTy} (a : Memref sig .tc .vmem s e) (h : a.IsWhole) (c : Dev nD) (X : s.Idx → Elt F e)
    (f : Buf (Elt F) (a.view.loc (c : Thread nD τ))) (hf : a.view.read (Elt F) f = X) :
    (a.view.loc (c : Thread nD τ) ↦{fullShare} f : sProp 𝕄) ⊢ owns c a fullShare X := by
  unfold owns
  rw [h.set_eq_univ]
  iintro H; iexists f; isplitr; · ipureintro; exact hf
  iexact H

set_option maxHeartbeats 1000000 in
theorem body_point (c : Dev nD) : BodyObligation (datR m c) defs₀ Variants.none () Set.univ := fun t => by
  obtain rfl := fin_N0 t
  rw [bigSep_W0, bigSep_W0, inv_first, inv_last]
  show iprop(before_ m c ∗ (datR m c).owesAt () t0_0.castSucc
      ∗ (∃ d, owns c (st0_0 t0_0) fullShare ((datR m c).before 0 t0_0 d)) ∗ (∃ d, owns c (st0_1 t0_0) fullShare ((datR m c).before 1 t0_0 d))
      ∗ (∃ d, owns c (st0_2 t0_0) fullShare ((datR m c).before 2 t0_0 d)) ∗ (∃ d, owns c (st0_3 t0_0) fullShare ((datR m c).before 3 t0_0 d))
      ∗ (∃ d, owns c (st0_4 t0_0) fullShare ((datR m c).before 4 t0_0 d)) ∗ (∃ d, owns c (st0_5 t0_0) fullShare ((datR m c).before 5 t0_0 d)))
    ⊢ wp frame (wpE (defs₀ (F := F)) Variants.none c none) Set.univ (bodyAt0 t0_0) fun _ =>
      iprop(after_ c ∗ (datR m c).owesAt () t0_0.succ
      ∗ owns c (st0_0 t0_0) fullShare (iblk m c 0 t0_0) ∗ owns c (st0_1 t0_0) fullShare (iblk m c 1 t0_0)
      ∗ owns c (st0_2 t0_0) fullShare (iblk m c 2 t0_0) ∗ owns c (st0_3 t0_0) fullShare (iblk m c 3 t0_0)
      ∗ owns c (st0_4 t0_0) fullShare (iblk m c 4 t0_0) ∗ owns c (st0_5 t0_0) fullShare (res m c))
  unfold before_ after_
  iintro ⟨⟨⟨%K, HG⟩, ⟨H6, H7⟩, Hreg⟩, HO, ⟨%d0, H0⟩, ⟨%d1, H1⟩, ⟨%d2, H2⟩, ⟨%d3, H3⟩, ⟨%d4, H4⟩, ⟨%d5, H5⟩⟩
  rw [found0, found1, found2, found3, found4]
  ihave H0 := (whole_elim (st0_0 t0_0) (hstage0_0 0) c _) $$ H0
  icases H0 with ⟨%f0, %r0, H0⟩
  ihave H1 := (whole_elim (st0_1 t0_0) (hstage0_1 0) c _) $$ H1
  icases H1 with ⟨%f1, %r1, H1⟩
  ihave H2 := (whole_elim (st0_2 t0_0) (hstage0_2 0) c _) $$ H2
  icases H2 with ⟨%f2, %r2, H2⟩
  ihave H3 := (whole_elim (st0_3 t0_0) (hstage0_3 0) c _) $$ H3
  icases H3 with ⟨%f3, %r3, H3⟩
  ihave H4 := (whole_elim (st0_4 t0_0) (hstage0_4 0) c _) $$ H4
  icases H4 with ⟨%f4, %r4, H4⟩
  ihave H5 := (whole_elim (st0_5 t0_0) (hstage0_5 0) c _) $$ H5
  icases H5 with ⟨%f5, -, H5⟩
  ihave #HR := (show gear (six' m) K c ⊢ recs (six' m) K c from by unfold gear; exact sep_elim_left) $$ HG
  ihave HO := (owesAt_elim (datR m c) _ (O₀ c) (owed_first m c)) $$ HO
  iapply (wp_fupd (Fr := frame))
  iapply (ran (opX m) (opW m) (opK m) (opV m) K (st0_0 t0_0) (hstage0_0 0) (st0_1 t0_0) (hstage0_1 0) (st0_2 t0_0) (hstage0_2 0)
    (st0_3 t0_0) (hstage0_3 0) (st0_4 t0_0) (hstage0_4 0) (st0_5 t0_0) (hstage0_5 0) c f0 f1 f2 f3 f4 f5 r0 r1 r2 r3 _) $$ [HG HO H0 H1 H2 H3 H4 H5 H6 H7]
  · isplitl [HG]; · iexact HG
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HU, ⟨%Wt, HO⟩, H0, H1, H2, H3, H4, ⟨%f5', H5, %r5⟩, H6, H7⟩
  imod (close_all (six' m) K c) $$ [HU] with HZ
  · isplitr; · iexact HR
    iexact HU
  imodintro
  isplitl [HZ H6 H7 Hreg]
  · isplitl [HZ]; · iexact HZ
    isplitl [H6 H7]
    · isplitl [H6] <;> iassumption
    iexact Hreg
  isplitl [HO]; · iapply (owesAt_intro (datR m c) t0_0.succ 0 (owed_last m c) Wt rfl); iexact HO
  isplitl [H0]; · iapply (whole_intro (st0_0 t0_0) (hstage0_0 0) c _ f0 r0); iexact H0
  isplitl [H1]; · iapply (whole_intro (st0_1 t0_0) (hstage0_1 0) c _ f1 r1); iexact H1
  isplitl [H2]; · iapply (whole_intro (st0_2 t0_0) (hstage0_2 0) c _ f2 r2); iexact H2
  isplitl [H3]; · iapply (whole_intro (st0_3 t0_0) (hstage0_3 0) c _ f3 r3); iexact H3
  isplitl [H4]; · iapply (whole_intro (st0_4 t0_0) (hstage0_4 0) c _ f4 r4); iexact H4
  iapply (whole_intro (st0_5 t0_0) (hstage0_5 0) c _ f5' (r5.trans (by rw [r4]; rfl))); iexact H5

end Cert.KernelIdeal.Att
-- ==== Proof.Run.lean ====
/-
  The whole run: the region between the launch and the end, on the four devices together.
-/
module

public import proofs.«01_k».proof.Proof.Region
public import Idealize.ShloMosaic.Lib.Pipeline.Regions
public import Idealize.ShloMosaic.Lib.StableHlo

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

abbrev adm (p : Fin 1) : (pcfgs (F := F) p).Adm := (cfgs p).toPCfg_adm

/-! ## The buffers -/

def bufs : Finset (DevRef τ sig) := (StableHlo.tcRefs τ sig).filter fun b => ¬ b.isScoped
/-- The buffers no window is on. -/
def rest : Finset (DevRef τ sig) := bufs \ Pipeline.arrRefs spec0

abbrev Va (c : Dev nD) : Valuation τ sig (Elt F) := fun b => m (c, b)
abbrev Vb (c : Dev nD) : Valuation τ sig (Elt F) := StableHlo.after hostOps0 (Va m c)
/-- After the region: the output's buffer written. -/
def Vc (c : Dev nD) : Valuation τ sig (Elt F) := Function.update (Vb m c) (Proc.devRef .tc main_v3) ((datR m c).arrAt 5 cfg0.N)
theorem Vc_at (c : Dev nD) : Vc m c (Proc.devRef .tc main_v3) = (datR m c).arrAt 5 cfg0.N := Function.update_self ..
theorem Vc_ne (c : Dev nD) (b : DevRef τ sig) (h : b ≠ Proc.devRef .tc main_v3) : Vc m c b = Vb m c b := Function.update_of_ne h ..

theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem sems_eq (c : Dev nD) : (unscopedSems0 c : sProp 𝕄) = semVal (barC c) 0 := by
  unfold unscopedSems0
  rw [show (Finset.univ.filter fun sm : SemLoc sig => ¬ sm.isScoped .tc) = {SemLoc.reg barSem} from by decide, BI.bigSep_singleton]
theorem unscoped_eq : ∀ sm : SemLoc sig, sm.isScoped .tc = false → sm = .reg barSem := by decide

theorem windows_sub : (Pipeline.arrRefs spec0 : Finset (DevRef τ sig)) ⊆ bufs := by decide
theorem out_notMem_rest : Proc.devRef .tc main_v3 ∉ (rest : Finset (DevRef τ sig)) := by decide

/-! ## The launch's shares -/

/-- The region's own semaphores. -/
abbrev osem (i : Fin 14) : SemLoc sig := .dma (scSem i)

/-- What launch leaves with a device for the exchange. -/
def held_ (K : GSem nD τ sig → ℕ) (c : Dev nD) : sProp (MT nD τ sig Unit (Elt F) ℕ UU ℕ) :=
  iprop(((bigSep (barCells ∪ scCells) fun g => cellInv ER (sched (six' m)) (K g) g) ∗ bigSep Finset.univ fun c' : Dev nD => reached ER (barC c') 0)
    ∗ atPos ER (barC c) 0 ∅ 0 ∗ (bigSep Finset.univ fun i : Fin 14 => openTok ER (scC (c, i))) ∗ bigSepL (pays c) tok
    ∗ cred (tallyAt (barC c) () 3) ∗ due c)

def Tk (c : Dev nD) : sProp (MT nD τ sig Unit (Elt F) ℕ UU ℕ) := iprop(∃ K, held_ m K c)
def Xk (c : Dev nD) : sProp (MT nD τ sig Unit (Elt F) ℕ UU ℕ) := iprop(∃ K, gear (six' m) K c)
def Yk (c : Dev nD) : sProp (MT nD τ sig Unit (Elt F) ℕ UU ℕ) := semVal (barC c) 0

theorem own_eq (c : Dev nD) : (Pipeline.ownSems0 osem c : sProp 𝕄) = bigSep Finset.univ fun i : Fin 14 => semVal (scC (c, i)) 0 := rfl

theorem hopen (c : Dev nD) : iprop(Tk m c ∗ Pipeline.ownSems0 osem c ∗ levAts L lv) ⊢ (|={Set.univ}=> Xk m c : sProp 𝕄) := by
  rw [own_eq]
  unfold Tk Xk held_
  iintro ⟨⟨%K, ⟨#HI, #HB⟩, Hb, Ho, Ht, Hc, Hd⟩, Hs, #HL⟩
  ihave Ho := (show iprop((bigSep (barCells ∪ scCells) fun g => cellInv ER (sched (six' m)) (K g) g)
        ∗ bigSep Finset.univ fun i : Fin 14 => openTok ER (scC (c, i)))
      ⊢ bigSep Finset.univ fun i : Fin 14 => (iprop(cellInv ER (sched (six' m)) (K (scC (c, i))) (scC (c, i)) ∗ openTok ER (scC (c, i))) : sProp 𝕄)
      from bigSep_with_persistent fun i _ => sep_mono_left (bigSep_elim (sc_mem (c, i)))) $$ [Ho]
  · isplitr; · iexact HI
    iexact Ho
  imod (Rounds.cells_open ER (sched (six' m)) Finset.univ (fun i : Fin 14 => scC (c, i)) (fun i => K (scC (c, i))) (fun _ _ => Set.mem_univ _)) $$ [Ho Hs] with Ha
  · isplitl [Ho] <;> iassumption
  ihave Ha := (Entails.of_eq (bigSep_sep' _ _ _)) $$ Ha
  icases Ha with ⟨Ha, #Hr⟩
  imodintro
  iexists K
  unfold gear recs
  isplitr
  · isplitr; · iexact HI
    isplitr; · iexact HB
    isplitr; · iexact Hr
    iexact HL
  isplitl [Ht]; · iexact Ht
  isplitl [Hc Hd]
  · isplitl [Hc] <;> iassumption
  isplitl [Hb] <;> iassumption

theorem hin (c : Dev nD) : iprop(Pipeline.scopedRest spec0 c ∗ (∃ r, prngReg c r) ∗ StableHlo.held (c.tc : Thread nD τ) ∅ (Vb m c) ∗ Xk m c)
    ⊢ ((datR m c).Φ 0 : sProp 𝕄) := by
  rw [show (datR m c).Φ 0 = before_ m c from inv_first m c, scopedRest0_eq]
  unfold before_ Xk
  iintro ⟨Hs, Hp, -, HK⟩
  isplitl [HK]; · iexact HK
  isplitl [Hs]; · iexact Hs
  iexact Hp

theorem hout (c : Dev nD) : ((datR m c).Φ (Fin.last cfg0.N) : sProp 𝕄)
    ⊢ iprop(Pipeline.scopedRest spec0 c ∗ (∃ r, prngReg c r) ∗ StableHlo.held (c.tc : Thread nD τ) ∅ (Vc m c) ∗ Pipeline.ownSems0 osem c ∗ Yk c) := by
  rw [show (datR m c).Φ (Fin.last cfg0.N) = after_ c from stepped_one (before_ m c) (after_ c) (Fin.last cfg0.N) (by rw [Fin.val_last, show cfg0.N = 1 from N_0]; decide),
    scopedRest0_eq, own_eq]
  unfold after_ Yk
  iintro ⟨⟨Hb, Ho⟩, Hs, Hp⟩
  isplitl [Hs]; · iexact Hs
  isplitl [Hp]; · iexact Hp
  isplitr
  · unfold StableHlo.held; rw [bigSep_empty]; iempintro
  isplitl [Ho] <;> iassumption

theorem O₀_pos {c : Dev nD} {g : GSem nD τ sig} {u : Unit} (h : 0 < O₀ c g u) : (∃ c' k, g = rcvC c' k) ∨ ∃ c', g = barC c' := by
  unfold O₀ at h
  rw [Pi.add_apply, Finsupp.add_apply, Pi.add_apply, Finsupp.add_apply, Pi.add_apply, Finsupp.add_apply, tallyAt_apply, tallyAt_apply,
    tallyAt_apply] at h
  by_cases h1 : g = barC (nxt c 1) ∧ u = ()
  · exact .inr ⟨_, h1.1⟩
  by_cases h2 : g = barC (nxt c 2) ∧ u = ()
  · exact .inr ⟨_, h2.1⟩
  by_cases h3 : g = barC (nxt c 3) ∧ u = ()
  · exact .inr ⟨_, h3.1⟩
  rw [if_neg h1, if_neg h2, if_neg h3] at h
  obtain ⟨x, -, e⟩ := owe_pos h
  exact .inl ⟨_, _, e⟩

theorem lv_rcv_pos : ∀ (c : Fin 4) (k : Fin 6), 0 < lvAt c (.dma (rcvSem k)) := by decide
theorem cut (c : Dev nD) (t : Fin (cfg0.N + 1)) (g : GSem nD τ sig) (i : Unit) (h : 0 < (datR m c).owed t g i) : i ∈ L g ∧ (0 : ℕ) < lv g i := by
  by_cases ht : t.val = 0
  · rw [show (datR m c).owed t = O₀ c from stepped_zero (O₀ c) 0 t ht] at h
    obtain ⟨c', k, rfl⟩ | ⟨c', rfl⟩ := O₀_pos h
    · exact ⟨by rw [L_tc]; exact Finset.mem_singleton_self _, lv_rcv_pos c' k⟩
    · exact ⟨by rw [L_tc]; exact Finset.mem_singleton_self _, Nat.one_pos⟩
  · rw [show (datR m c).owed t = 0 from stepped_one (O₀ c) 0 t ht] at h
    exact absurd h (Nat.lt_irrefl 0)

/-! ## The segments -/

def pdats (p : Fin 1) (c : Dev nD) : Dat τ (Elt F) Unit ℕ UU ℕ (Pipeline.pin (pcfgs (F := F)) adm p) c := match p with | 0 => datR m c

theorem hops_sub : ∀ op ∈ (hostOps0 : List (HloOp τ sig (Elt F))), op.bufs ⊆ bufs := fun op h => by
  simp only [List.mem_cons, List.not_mem_nil, or_false] at h
  obtain rfl | rfl := h
  · show ({Proc.devRef .tc main_arg2, Proc.devRef .tc main_v1} : Finset (DevRef τ sig)) ⊆ bufs; decide
  · show ({Proc.devRef .tc main_arg3, Proc.devRef .tc main_v2} : Finset (DevRef τ sig)) ⊆ bufs; decide
theorem hops_fresh : ∀ op ∈ (hostOps0 : List (HloOp τ sig (Elt F))), op.fresh = ∅ := fun op h =>
  (List.forall_iff_forall_mem.mp hostOps0_fresh) op h

/-- What rides beside the buffers up to the region. -/
def R (c : Dev nD) : sProp (MT nD τ sig Unit (Elt F) ℕ UU ℕ) :=
  iprop((∃ r, prngReg c r) ∗ Tk m c ∗ ∃ W, owes (c : Thread nD τ) (O₀ c) W)

def seg0 : Pipeline.HostSeg (Name := ℕ) (U := UU) (pcfgs (F := F)) defs₀ Variants.none L lv :=
  Pipeline.HostSeg.ofOps _ _ _ _ _ bufs hostOps0 hops_sub hops_fresh (Va m) (R m)

theorem arr_out (c : Dev nD) (w : Fin 6) : (datR m c).arrAt w cfg0.N = Vc m c (Proc.devRef .tc (Pipeline.arrRef spec0 w)) := by
  have hin : ∀ w : Fin 6, (cfg0.win w).isOut = false → Proc.devRef .tc (Pipeline.arrRef spec0 w) ≠ (Proc.devRef .tc main_v3 : DevRef τ sig) := by decide
  by_cases h : (cfg0.win w).isOut = false
  · exact ((datR m c).arrAt_in w h _).trans (Vc_ne m c _ (hin w h)).symm
  · have h5 : ∀ w : Fin 6, (cfg0.win w).isOut ≠ false → w = 5 := by decide
    obtain rfl := h5 w h
    exact (Vc_at m c).symm

set_option backward.isDefEq.respectTransparency.types false in
def reg0 : Pipeline.RegionSeg (pcfgs (F := F)) adm (pdats m) () defs₀ Variants.none L lv 0 :=
  Pipeline.RegionSeg.ofTalk (pcfgs (F := F)) adm (pdats m) () defs₀ Variants.none L lv 0 osem (by decide : Pipeline.OwnSemFacts spec0 osem)
    ∅ rest (Finset.empty_subset _) launch0.toP rfl (fun c => (body_point m c).loose)
    (fun _ => 0) O₀ (fun c => (owed_first m c).trans (zero_add _).symm) (fun c => owed_last m c) (fun _ => rfl)
    (fun c w => by show (if _ then fullShare else fullShare) = fullShare; exact ite_self _)
    (Vb m) (Vc m) (fun c b hb => Vc_ne m c b fun e => out_notMem_rest (e ▸ (Finset.mem_sdiff.mp hb).1))
    (Tk m) Yk (Xk m) Yk (hopen m) (hin m) (hout m)
    (fun c => by iintro H; imodintro; iexact H)
    (fun _ => 0)
    ⟨fun c w s => by rw [L_tc]; exact Finset.mem_singleton_self _,
     fun c w s => Nat.le_of_eq ((by decide : ∀ (c : Fin 4) (w : Fin 6) (s : Fin ((cfg0.win w).nbuf)), lvAt c (.dma ((cfg0.win w).sem s)) = 0) c w s),
     fun c t g i h => cut m c t g i h⟩
    (fun _ => iprop(emp))
    (fun _ _ => rfl) (fun c w => arr_out m c w)

/-! ## The launch -/

def segs : List (Pipeline.Seg (pcfgs (F := F)) adm (pdats m) () defs₀ Variants.none L lv) := [.host (seg0 m), .region (reg0 m)]

theorem cells_apart : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact dma_ne_bar _ (congrArg Prod.snd h)

/-- A resource of all the devices, kept with device 0 until they share it. -/
def parked (X : sProp (MT nD τ sig Unit (Elt F) ℕ UU ℕ)) (c : Dev nD) : sProp (MT nD τ sig Unit (Elt F) ℕ UU ℕ) := if c = 0 then X else iprop(emp)
theorem parked_all (X : sProp (MT nD τ sig Unit (Elt F) ℕ UU ℕ)) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def u₀ : UU :=
  (initOf (Pipeline.cells (Pipeline.pin (pcfgs (F := F)) adm) cellOf_inj) (Pipeline.launchToks (Pipeline.pin (pcfgs (F := F)) adm) cellOf_inj),
    launchOf barCells scCells toks)
abbrev fund : sProp (MT nD τ sig Unit (Elt F) ℕ UU ℕ) := BI.own (ER (launchOf barCells scCells toks))

abbrev T₀ (c : Dev nD) : sProp (MT nD τ sig Unit (Elt F) ℕ UU ℕ) := iprop(StableHlo.held (c : Thread nD τ) bufs (Va m c) ∗ R m c)
abbrev Tₙ (c : Dev nD) : sProp (MT nD τ sig Unit (Elt F) ℕ UU ℕ) := iprop(StableHlo.held (c : Thread nD τ) bufs (Vc m c) ∗ semVal (barC c) 0)

/-- What a device has at launch that is not of the exchange's records. -/
def bundle (c : Dev nD) : sProp (MT nD τ sig Unit (Elt F) ℕ UU ℕ) :=
  iprop(StableHlo.held (c : Thread nD τ) bufs (Va m c) ∗ (cred (tallyAt (barC c) () 3) ∗ due c)
    ∗ owes (c : Thread nD τ) (O₀ c) ∅ ∗ ∃ r, prngReg c r)
def records (K : GSem nD τ sig → ℕ) : sProp (MT nD τ sig Unit (Elt F) ℕ UU ℕ) :=
  iprop((bigSep (barCells ∪ scCells) fun g => cellInv ER (sched (six' m)) (K g) g) ∗ bigSep Finset.univ fun c' : Dev nD => reached ER (barC c') 0)
instance records_persistent (K : GSem nD τ sig → ℕ) : BI.Persistent (records m K) := by unfold records; infer_instance
def linear (c : Dev nD) : sProp (MT nD τ sig Unit (Elt F) ℕ UU ℕ) :=
  iprop(atPos ER (barC c) 0 ∅ 0 ∗ (bigSep Finset.univ fun i : Fin 14 => openTok ER (scC (c, i))) ∗ bigSepL (pays c) tok)

theorem start_intro (K : GSem nD τ sig → ℕ) (c : Dev nD) : iprop(records m K ∗ (linear c ∗ bundle m c)) ⊢ T₀ m c := by
  unfold bundle T₀ R Tk held_ records linear
  iintro ⟨#HR, ⟨Hb, Ho, Ht⟩, Hh, ⟨Hc, Hd⟩, HO, Hp⟩
  isplitl [Hh]; · iexact Hh
  isplitl [Hp]; · iexact Hp
  isplitr [HO]
  · iexists K
    isplitr; · iexact HR
    isplitl [Hb]; · iexact Hb
    isplitl [Ho]; · iexact Ho
    isplitl [Ht]; · iexact Ht
    isplitl [Hc] <;> iassumption
  · iexists ∅; iexact HO

theorem per_device (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked fund c)
      ⊢ (iprop(bundle m c ∗ (semVal (barC c) 0 ∗ parked fund c)) : sProp 𝕄) := by
  rw [show unscopedBufs c (fun b => m ((c : Thread nD τ).loc b)) = StableHlo.held (c : Thread nD τ) bufs (Va m c) from bufs_held c (Va m c), sems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked fund c)) ∗ levAts L lv)
      ⊢ (|={Set.univ}=> bigSep Finset.univ (T₀ m) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barC c) 0 : sProp 𝕄)) :=
    Entails.of_eq (bigSep_map (s := Finset.univ) barEmb (Φ := fun g : GSem nD τ sig => (reached ER g 0 : sProp 𝕄)))
  have hopn : bigSep scCells (fun g => (openTok ER g : sProp 𝕄))
      ⊢ bigSep Finset.univ (fun c : Dev nD => bigSep Finset.univ fun i : Fin 14 => (openTok ER (scC (c, i)) : sProp 𝕄)) :=
    Entails.of_eq ((bigSep_map (s := Finset.univ) scEmb (Φ := fun g : GSem nD τ sig => (openTok ER g : sProp 𝕄))).trans (bigSep_univ_prod _))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked fund c))
      ⊢ (bigSep Finset.univ fun c : Dev nD => iprop(bundle m c ∗ (semVal (barC c) 0 ∗ parked fund c)) : sProp 𝕄) from
    bigSep_mono fun c _ => per_device m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (parked_all (F := F) fund)) $$ HG
  imod (Rounds.fund_launch ER (sched (six' m)) cells_apart (fun g _ h => h) toks) $$ [Hv Hu] with ⟨%κ, -, #Hinv, Hr, Hat, Hopen, Htok⟩
  · isplitl [Hv]
    · iapply hv $$ Hv
    · iexact Hu
  ihave #Hr := hre $$ Hr
  imodintro
  iapply (bigSep_with_persistent (R := records m κ) (Φ := fun c => iprop(linear c ∗ bundle m c)) fun c _ => start_intro m κ c)
  isplitr
  · unfold records
    isplitr; · iexact Hinv
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hopn $$ Hopen
    ihave Htok := (Entails.of_eq (toks_deal (F := F) tok)) $$ Htok
    iexact Htok
  · iexact HB

theorem reg0_pre (c : Dev nD) : (iprop(StableHlo.held (c : Thread nD τ) bufs (Vb m c) ∗ R m c) : sProp 𝕄) ⊢ (reg0 m).pre c := by
  rw [show (reg0 m).pre c = iprop(StableHlo.held (c.tc : Thread nD τ) (Pipeline.arrRefs spec0) (Vb m c) ∗ (∃ r, prngReg c r)
    ∗ (StableHlo.held (c.tc : Thread nD τ) rest (Vb m c) ∗ emp) ∗ Tk m c ∗ ∃ Wd, owes (c : Thread nD τ) ((0 : CellTallies nD τ sig Unit) + O₀ c) Wd) from rfl,
    zero_add, StableHlo.held_sub_split (c : Thread nD τ) windows_sub (Vb m c)]
  unfold R rest
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption
theorem reg0_post (c : Dev nD) : ((reg0 m).post c : sProp 𝕄)
    ⊢ iprop(Tₙ m c ∗ ∃ W, owes (c : Thread nD τ) (0 : CellTallies nD τ sig Unit) W) := by
  rw [show (reg0 m).post c = iprop(StableHlo.held (c.tc : Thread nD τ) (Pipeline.arrRefs spec0) (Vc m c) ∗ (∃ r, prngReg c r)
    ∗ (StableHlo.held (c.tc : Thread nD τ) rest (Vc m c) ∗ emp) ∗ Yk c ∗ ∃ Wd, owes (c : Thread nD τ) (0 : CellTallies nD τ sig Unit) Wd) from rfl]
  unfold Tₙ
  rw [StableHlo.held_sub_split (c : Thread nD τ) windows_sub (Vc m c)]
  unfold Yk rest
  iintro ⟨Ha, -, ⟨Hr, -⟩, Hb, HO⟩
  isplitr [HO]
  · isplitl [Ha Hr]
    · isplitl [Ha] <;> iassumption
    iexact Hb
  iexact HO

/-! ## The run -/

theorem bufs_list (c : Dev nD) (Φ : DevRef τ sig → sProp (MT nD τ sig Unit (Elt F) ℕ UU ℕ)) : bigSep bufs Φ
    = iprop(Φ (Proc.devRef .tc main_arg0) ∗ Φ (Proc.devRef .tc main_arg1) ∗ Φ (Proc.devRef .tc main_arg2) ∗ Φ (Proc.devRef .tc main_arg3)
      ∗ Φ (Proc.devRef .tc main_arg4) ∗ Φ (Proc.devRef .tc main_v1) ∗ Φ (Proc.devRef .tc main_v2) ∗ Φ (Proc.devRef .tc main_v3)) :=
  bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide) Φ

theorem bufs_eq (c : Dev nD) (W : Valuation τ sig (Elt F)) : (StableHlo.held (c : Thread nD τ) bufs W : sProp 𝕄)
    = iprop(((c : Thread nD τ).loc main_arg0 ↦{fullShare} W (Proc.devRef .tc main_arg0)) ∗ ((c : Thread nD τ).loc main_arg1 ↦{fullShare} W (Proc.devRef .tc main_arg1))
      ∗ ((c : Thread nD τ).loc main_arg2 ↦{fullShare} W (Proc.devRef .tc main_arg2)) ∗ ((c : Thread nD τ).loc main_arg3 ↦{fullShare} W (Proc.devRef .tc main_arg3))
      ∗ ((c : Thread nD τ).loc main_arg4 ↦{fullShare} W (Proc.devRef .tc main_arg4)) ∗ ((c : Thread nD τ).loc main_v1 ↦{fullShare} W (Proc.devRef .tc main_v1))
      ∗ ((c : Thread nD τ).loc main_v2 ↦{fullShare} W (Proc.devRef .tc main_v2)) ∗ ((c : Thread nD τ).loc main_v3 ↦{fullShare} W (Proc.devRef .tc main_v3))) := by
  unfold StableHlo.held
  exact bufs_list c _

/-- A device's arguments are as they were, and its output's buffer is as the region leaves it. -/
def Ends (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_v3) = (datR m c).arrAt 5 cfg0.N

set_option backward.isDefEq.respectTransparency.types false in
theorem run_main : θ_run defs (onTc (τ := τ) (main (F := F))) (s₀ m ρ)
    (fun r => (∀ c : Dev nD, Ends m c r.2) ∧ r.2.sem = fun _ => 0) :=
  Pipeline.θ_run_regions_kit_sems (pcfgs (F := F)) adm (pdats m) () cellOf_inj EP defs₀ Variants.none L lv m ρ main (segs m)
    (fun c Q => by rw [main_segs adm (pdats m) () Variants.none L lv (seg0 m) (reg0 m) rfl c]; rfl)
    (by simp only [segs, Pipeline.Seg.pipes_host, Pipeline.Seg.pipes_region, Pipeline.Seg.pipes_nil]; decide)
    (O₀ := O₀) (hL := L_of_ne) (G := parked fund) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := ⟨fun c => .rfl, fun c => reg0_pre m c, fun c => reg0_post m c⟩)
    (hinit := init m ρ)
    (QY := fun c s => Ends m c s ∧ s.sem (barC c) = 0)
    (hfin := fun c s' => by
      dsimp only [Tₙ]; rw [bufs_eq]
      iintro ⟨⟨⟨H0, H1, H2, H3, H4, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨(Buf.eq_of_forall_mem_univ h0).trans ((Vc_ne m c _ (by decide)).trans (V_main_arg0 m c)),
          (Buf.eq_of_forall_mem_univ h1).trans ((Vc_ne m c _ (by decide)).trans (V_main_arg1 m c)),
          (Buf.eq_of_forall_mem_univ h2).trans ((Vc_ne m c _ (by decide)).trans (V_main_arg2 m c)),
          (Buf.eq_of_forall_mem_univ h3).trans ((Vc_ne m c _ (by decide)).trans (V_main_arg3 m c)),
          (Buf.eq_of_forall_mem_univ h4).trans ((Vc_ne m c _ (by decide)).trans (V_main_arg4 m c)),
          (Buf.eq_of_forall_mem_univ h5).trans (Vc_at m c)⟩, by simpa using hb⟩
      iexact HSI)
    (hQ := fun s h hs => ⟨fun c => (h c).1, sem_eq_zero hs fun c sm hsm => by
        obtain rfl := unscoped_eq sm hsm
        exact (h c).2⟩)

end Cert.KernelIdeal.Att
-- ==== Proof.Frames.lean ====
/-
  The frames: every program runs, leaves its arguments as they were and ends with every counter at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

open Cert.KernelIdeal in
theorem ran_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono
    (fun _ h => ⟨fun c => ⟨(h.1 c).1, (h.1 c).2.1, (h.1 c).2.2.1, (h.1 c).2.2.2.1, (h.1 c).2.2.2.2.1⟩, h.2⟩)
    (Att.run_main (F := F) m ρ)

section same
set_option backward.isDefEq.respectTransparency.types false
set_option maxRecDepth 100000
variable {F : FTy → Type} [FloatOps F]

/-! The two printed kernels are one text, so the run written for any floats is a run of both. -/

theorem body_same : @Cert.Kernel.cc0_body F _ _ = @Cert.KernelIdeal.cc0_body F _ _ := by
  funext a0 h0 a1 h1 a2 h2 a3 h3 a4 h4 a5 h5 a6 h6 a7 h7 a8 a9
  delta Cert.Kernel.cc0_body Cert.KernelIdeal.cc0_body
  with_unfolding_all rfl

theorem table_same : @Cert.Kernel.defs₀ F _ _ = @Cert.KernelIdeal.defs₀ F _ _ := by
  delta Cert.Kernel.defs₀ Cert.KernelIdeal.defs₀
  rw [body_same]
  refine congrArg Defs.onTc ?_
  funext l a
  match l, a with
  | ⟨0, _⟩, (t, s) => with_unfolding_all rfl
  | ⟨_ + 1, h⟩, _ => exact absurd h (Nat.not_lt.2 (Nat.le_add_left _ _))

theorem defs_same : @Cert.Kernel.defs F _ _ = @Cert.KernelIdeal.defs F _ _ := by
  delta Cert.Kernel.defs Cert.KernelIdeal.defs
  rw [table_same]
  rfl

theorem frame_kernel : Cert.quiescent_Kernel := by
  intro m ρ _
  rw [defs_same]
  exact ran_any (F := Bits) m ρ
end same

theorem frame_kernel_ideal : Cert.quiescent_KernelIdeal := fun m ρ _ => ran_any (F := Ideal) m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Finite.lean ====
/-
  The frames under the precondition, which are the frames without it.
-/
module

public import proofs.«01_k».proof.Proof.Frames

@[expose] public section

noncomputable section

namespace Cert.Proof

open Idealize.ShloMosaic Idealize.SL.Sem

instance pre_kernel : Cert.Pre_finite_scores_KernelIdeal.Facts := ⟨by decide, by decide, by decide⟩
instance pre_reference : Cert.Pre_finite_scores_ReferenceIdeal.Facts := ⟨by decide, by decide, by decide⟩

theorem frame_kernel_finite : Cert.quiescent_KernelIdeal_pre_finite_scores_KernelIdeal := fun m ρ _ =>
  frame_kernel_ideal m ρ trivial

theorem frame_reference_finite : Cert.quiescent_ReferenceIdeal_pre_finite_scores_ReferenceIdeal := fun m ρ _ =>
  frame_reference m ρ trivial

end Cert.Proof

end
-- ==== Proof.Words.lean ====
/-
  The masks' words, and the mathematics of a softmax whose maximum cancels.
-/
module

public import Idealize.ShloMosaic.PureOps
public import Idealize.ShloMosaic.PureOps.Ideal
public import Idealize.ShloMosaic.Lib.Pointwise

@[expose] public section

noncomputable section

namespace Cert.Soft

open Idealize.ShloMosaic

/-! ## The masks -/

theorem toInt_small (n : ℕ) (h : n < 2048) : (BitVec.ofNat 32 n).toInt = n := by
  rw [BitVec.toInt_eq_toNat_cond, BitVec.toNat_ofNat, Nat.mod_eq_of_lt (by omega), if_pos (by omega)]

theorem absi_small (i j : ℕ) (hi : i < 256) (hj : j < 1024) :
    IntOp.absi (IntOp.subi (BitVec.ofNat 32 i) (BitVec.ofNat 32 j)) = BitVec.ofNat 32 (if j ≤ i then i - j else j - i) := by
  unfold IntOp.absi IntOp.subi
  by_cases h : j ≤ i
  · have e : BitVec.ofNat 32 i - BitVec.ofNat 32 j = BitVec.ofNat 32 (i - j) := by
      apply BitVec.eq_of_toNat_eq
      simp only [BitVec.toNat_sub, BitVec.toNat_ofNat]
      omega
    rw [e, if_pos h, if_neg]
    rw [BitVec.msb_eq_decide, BitVec.toNat_ofNat]
    simp only [decide_eq_true_eq]
    omega
  · have e : BitVec.ofNat 32 i - BitVec.ofNat 32 j = - BitVec.ofNat 32 (j - i) := by
      apply BitVec.eq_of_toNat_eq
      simp only [BitVec.toNat_sub, BitVec.toNat_neg, BitVec.toNat_ofNat]
      omega
    rw [e, if_neg h, if_pos, BitVec.neg_neg]
    rw [BitVec.msb_eq_decide, BitVec.toNat_neg, BitVec.toNat_ofNat]
    simp only [decide_eq_true_eq]
    omega

/-- Whether key `j` is in row `i`'s window. -/
def In (i j : ℕ) : Prop := i ≤ j + 128 ∧ j ≤ i + 128
instance (i j : ℕ) : Decidable (In i j) := inferInstanceAs (Decidable (_ ∧ _))

theorem band_word (i j : ℕ) (hi : i < 256) (hj : j < 1024) :
    IntOp.cmpi .sle (IntOp.absi (IntOp.subi (BitVec.ofNat 32 i) (BitVec.ofNat 32 j))) 128#32 = BitVec.ofBool (decide (In i j)) := by
  rw [absi_small i j hi hj]
  show BitVec.ofBool (BitVec.sle _ _) = _
  congr 1
  rw [BitVec.sle_eq_decide, toInt_small _ (by split <;> omega), show (128#32 : BitVec 32).toInt = 128 from by decide]
  apply decide_eq_decide.mpr
  unfold In
  split <;> omega

theorem low_word (r c : ℕ) (hr : r < 128) (hc : c < 128) :
    IntOp.cmpi .sge (BitVec.ofNat 32 r) (BitVec.ofNat 32 c) = BitVec.ofBool (decide (In (128 + r) (256 + c))) := by
  show BitVec.ofBool (BitVec.sle _ _) = _
  congr 1
  rw [BitVec.sle_eq_decide, toInt_small _ (by omega), toInt_small _ (by omega)]
  apply decide_eq_decide.mpr
  unfold In
  omega

theorem select_word {α : Type} (p : Prop) [Decidable p] (a b : α) : Scalar.select (BitVec.ofBool (decide p)) a b = if p then a else b := by
  by_cases h : p
  · rw [if_pos h, decide_eq_true h]; rfl
  · rw [if_neg h, decide_eq_false h]; rfl

theorem fold_ori {ι : Type} [Fintype ι] [DecidableEq ι] (f : ι → BitVec 1) (i : ι) (h : f i = 1#1) :
    Finset.fold IntOp.ori (0#1) f Finset.univ = 1#1 := by
  rw [← Finset.insert_erase (Finset.mem_univ i), Finset.fold_insert (Finset.notMem_erase _ _), h]
  exact (by decide : ∀ x : BitVec 1, IntOp.ori 1#1 x = 1#1) _

/-! ## Reals among the extended reals -/

/-- A value that is a real number. -/
def IsR (a : EReal) : Prop := ∃ r : ℝ, a = (r : EReal)

theorem IsR.add {a b : EReal} (ha : IsR a) (hb : IsR b) : IsR (a + b) := by
  obtain ⟨x, rfl⟩ := ha; obtain ⟨y, rfl⟩ := hb
  exact ⟨x + y, (EReal.coe_add x y).symm⟩
theorem IsR.mul {a b : EReal} (ha : IsR a) (hb : IsR b) : IsR (a * b) := by
  obtain ⟨x, rfl⟩ := ha; obtain ⟨y, rfl⟩ := hb
  exact ⟨x * y, (EReal.coe_mul x y).symm⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem IsR.sum {ι : Type} (s : Finset ι) {f : ι → EReal} (h : ∀ i, IsR (f i)) : IsR (∑ i ∈ s, f i) := by
  choose g hg using h
  exact ⟨∑ i ∈ s, g i, by rw [coe_sum]; exact Finset.sum_congr rfl fun i _ => hg i⟩

theorem eighth : IsR (Ideal.ofBits .f32 0x3E000000#32) := by
  unfold Ideal.ofBits Ideal.ieee
  exact ⟨_, rfl⟩
theorem ninf : Ideal.ofBits .f32 0xFF800000#32 = (⊥ : EReal) := by
  simp [Ideal.ofBits, Ideal.ieee]

/-- A scale moved out of a sum of products of reals. -/
theorem scale_out {ι : Type} [Fintype ι] {q k : ι → EReal} {c : EReal} (hq : ∀ i, IsR (q i)) (hk : ∀ i, IsR (k i)) (hc : IsR c) :
    ∑ i, q i * c * k i = (∑ i, q i * k i) * c := by
  choose q' hq using hq
  choose k' hk using hk
  obtain ⟨c', rfl⟩ := hc
  simp only [hq, hk, ← EReal.coe_mul, ← coe_sum]
  rw [Finset.sum_mul]
  exact congrArg _ (Finset.sum_congr rfl fun i _ => by ring)

/-- A nonnegative real factor of a sum. -/
theorem mul_out {ι : Type} (s : Finset ι) (f : ι → EReal) (c : ℝ) (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-! ## The softmax -/

section softmax
variable {ι : Type} [Fintype ι] (M : ι → Prop) [DecidablePred M] (σ : ι → EReal)

/-- A weight: the exponential of the score within the window. -/
def wgt (j : ι) : EReal := if M j then Ideal.exp (σ j) else 0
/-- A score, minus infinity outside the window. -/
def msk (j : ι) : EReal := if M j then σ j else ⊥

variable {M σ}

theorem max_real (hσ : ∀ j, M j → IsR (σ j)) (hM : ∃ j, M j) : IsR (Finset.fold max ⊥ (msk M σ) Finset.univ) := by
  have hf : Finset.fold max ⊥ (msk M σ) Finset.univ = Finset.univ.sup (msk M σ) := rfl
  rw [hf]
  obtain ⟨j₀, h₀⟩ := hM
  obtain ⟨j, -, hj⟩ := Finset.exists_mem_eq_sup (Finset.univ : Finset ι) ⟨j₀, Finset.mem_univ _⟩ (msk M σ)
  rw [hj]
  by_cases h : M j
  · unfold msk; rw [if_pos h]; exact hσ j h
  · have hle : msk M σ j₀ ≤ msk M σ j := hj ▸ Finset.le_sup (Finset.mem_univ j₀)
    unfold msk at hle
    rw [if_pos h₀, if_neg h] at hle
    obtain ⟨r, hr⟩ := hσ j₀ h₀
    rw [hr] at hle
    exact absurd (le_bot_iff.mp hle) (EReal.coe_ne_bot r)

/-- Dividing by the sum of the exponentials, the maximum cancels. -/
theorem softmax (hσ : ∀ j, M j → IsR (σ j)) (hM : ∃ j, M j) (v : ι → EReal) :
    ∑ j, v j * Ideal.div (Ideal.exp (msk M σ j - Finset.fold max ⊥ (msk M σ) Finset.univ))
        (∑ k, Ideal.exp (msk M σ k - Finset.fold max ⊥ (msk M σ) Finset.univ))
      = Ideal.div (∑ j, wgt M σ j * v j) (∑ j, wgt M σ j) := by
  obtain ⟨μ, hμ⟩ := max_real hσ hM
  rw [hμ]
  have hw : ∀ j, ∃ r : ℝ, 0 ≤ r ∧ (M j → 0 < r) ∧ wgt M σ j = (r : EReal) ∧ Ideal.exp (msk M σ j - (μ : EReal)) = ((r * Real.exp (-μ) : ℝ) : EReal) := by
    intro j
    by_cases h : M j
    · obtain ⟨r, hr⟩ := hσ j h
      refine ⟨Real.exp r, (Real.exp_pos r).le, fun _ => Real.exp_pos r, ?_, ?_⟩
      · unfold wgt; rw [if_pos h, hr]; rfl
      · unfold msk; rw [if_pos h, hr, ← EReal.coe_sub, ← Real.exp_add, ← sub_eq_add_neg]; rfl
    · refine ⟨0, le_refl _, fun h' => absurd h' h, ?_, ?_⟩
      · unfold wgt; rw [if_neg h]; rfl
      · unfold msk; rw [if_neg h, zero_mul, EReal.bot_sub]; rfl
  choose r h0 hp hr he using hw
  simp only [hr, he, ← coe_sum]
  obtain ⟨j₀, h₀⟩ := hM
  have hS : 0 < ∑ j, r j := Finset.sum_pos' (fun j _ => h0 j) ⟨j₀, Finset.mem_univ _, hp j₀ h₀⟩
  have hE : (∑ j, r j * Real.exp (-μ)) = (∑ j, r j) * Real.exp (-μ) := (Finset.sum_mul _ _ _).symm
  rw [hE]
  have hκ := Real.exp_pos (-μ)
  have n1 : ((((∑ j, r j) * Real.exp (-μ) : ℝ)) : EReal) ≠ 0 := EReal.coe_ne_zero.mpr (mul_pos hS hκ).ne'
  have n2 : (((∑ j, r j : ℝ)) : EReal) ≠ 0 := EReal.coe_ne_zero.mpr hS.ne'
  unfold Ideal.div
  rw [if_neg n2]
  simp only [if_neg n1]
  simp only [← EReal.coe_inv]
  rw [← mul_out _ _ _ (inv_nonneg.mpr hS.le)]
  refine Finset.sum_congr rfl fun j _ => ?_
  rw [mul_comm (r j : EReal) (v j), mul_assoc (v j), ← EReal.coe_mul, ← EReal.coe_mul]
  congr 2
  field_simp

end softmax

/-! ## Sums over the keys -/

theorem sum_low (f : Fin 1024 → EReal) (h : ∀ j : Fin 1024, 256 ≤ j.val → f j = 0) :
    ∑ j, f j = ∑ j : Fin 256, f ⟨j.val, by omega⟩ := by
  have e := Fin.sum_univ_add (a := 256) (b := 768) f
  rw [show (∑ j, f j) = _ from e, Finset.sum_eq_zero (s := Finset.univ) (f := fun i : Fin 768 => f (Fin.natAdd 256 i))
    (fun i _ => h _ (by show 256 ≤ 256 + i.val; omega)), add_zero]
  rfl

theorem sum_two (f : Fin 1024 → EReal) (h : ∀ j : Fin 1024, 384 ≤ j.val → f j = 0) :
    ∑ j, f j = ∑ j : Fin 256, f ⟨j.val, by omega⟩ + ∑ j : Fin 128, f ⟨256 + j.val, by omega⟩ := by
  have e := Fin.sum_univ_add (a := 256) (b := 768) f
  have e' := Fin.sum_univ_add (a := 128) (b := 640) (fun i : Fin 768 => f (Fin.natAdd 256 i))
  rw [Finset.sum_eq_zero (s := Finset.univ) (f := fun i : Fin 640 => f (Fin.natAdd 256 (Fin.natAdd 128 i)))
    (fun i _ => h _ (by show 384 ≤ 256 + (128 + i.val); omega)), add_zero] at e'
  rw [show (∑ j, f j) = _ from e, show (∑ i : Fin 768, f (Fin.natAdd 256 i)) = _ from e']
  rfl

/-- The 256 columns as four heads of 64. -/
theorem sum_heads (f : Fin 256 → EReal) : ∑ x, f x = ∑ h : Fin 4, ∑ d : Fin 64, f ⟨h.val * 64 + d.val, by omega⟩ := by
  rw [← Fintype.sum_prod_type']
  refine (Equiv.sum_comp (finProdFinEquiv (m := 4) (n := 64)) f).symm.trans ?_
  refine Finset.sum_congr rfl fun p _ => congrArg f (Fin.ext ?_)
  show p.2.val + 64 * p.1.val = p.1.val * 64 + p.2.val
  omega

end Cert.Soft

end
-- ==== Proof.Read.lean ====
/-
  The packets and the output, read entry by entry over the extended reals.
-/
module

public import proofs.«01_k».proof.Proof.Out
public import proofs.«01_k».proof.Proof.Words

@[expose] public section

noncomputable section

namespace Cert.KernelIdeal.Att

open Idealize.ShloMosaic Idealize.ShloMosaic.TcCoe
open Cert.KernelIdeal Cert.KernelIdeal.Gen Cert.Soft

theorem col0_apply {f : FTy} (h : Fin 4) (v : FVec Ideal S256x256 f) (i : Fin 256) (d : Fin 64) :
    col0 h v (ix2 i d) = v (ix2 i ⟨h.val * 64 + d.val, by omega⟩) := by
  match h with
  | 0 => pointwise [col0]
  | 1 => pointwise [col0]
  | 2 => pointwise [col0]
  | 3 => pointwise [col0]
theorem col1_apply {f : FTy} (h : Fin 4) (v : FVec Ideal S128x256 f) (i : Fin 128) (d : Fin 64) :
    col1 h v (ix2 i d) = v (ix2 i ⟨h.val * 64 + d.val, by omega⟩) := by
  match h with
  | 0 => pointwise [col1]
  | 1 => pointwise [col1]
  | 2 => pointwise [col1]
  | 3 => pointwise [col1]

theorem wts0_apply (x : Vec Ideal S1x256x512 .bf16) (wq : Vec Ideal S512x256 .bf16) (k : Vec Ideal S1x256x256 .bf16) (h : Fin 4) (i j : Fin 256) :
    wts0 x wq k h (ix2 i j) = if In i.val j.val then Ideal.exp (∑ d : Fin 64, (∑ e : Fin 512, x (ix3 0 i e) * wq (ix2 e ⟨h.val * 64 + d.val, by omega⟩)) * Ideal.ofBits .f32 0x3E000000#32 * k (ix3 0 j ⟨h.val * 64 + d.val, by omega⟩)) else 0 := by
  have e : wts0 x wq k h (ix2 i j) = Scalar.select (IntOp.cmpi .sle (IntOp.absi (IntOp.subi (BitVec.ofNat 32 i) (BitVec.ofNat 32 j))) 128#32) (Ideal.exp (∑ d : Fin 64, (∑ e : Fin 512, x (ix3 0 i e) * wq (ix2 e ⟨h.val * 64 + d.val, by omega⟩)) * Ideal.ofBits .f32 0x3E000000#32 * k (ix3 0 j ⟨h.val * 64 + d.val, by omega⟩))) 0 := by
    pointwise [wts0, col0_apply, k0_pay2]
  rw [e, band_word i.val j.val i.isLt (by omega), select_word]

theorem sum0_apply (x : Vec Ideal S1x256x512 .bf16) (wq : Vec Ideal S512x256 .bf16) (k : Vec Ideal S1x256x256 .bf16) (h : Fin 4) (i : Fin 256) :
    sum0 x wq k h (ix2 i 0) = ∑ j : Fin 256, wts0 x wq k h (ix2 i j) := by
  pointwise [sum0]

theorem out0_apply (x : Vec Ideal S1x256x512 .bf16) (wq : Vec Ideal S512x256 .bf16) (k v : Vec Ideal S1x256x256 .bf16) (h : Fin 4) (i : Fin 256) (d : Fin 64) :
    out0 x wq k v h (ix2 i d) = ∑ j : Fin 256, wts0 x wq k h (ix2 i j) * v (ix3 0 j ⟨h.val * 64 + d.val, by omega⟩) := by
  pointwise [out0, col0_apply]

theorem wts1_apply (x : Vec Ideal S1x128x512 .bf16) (wq : Vec Ideal S512x256 .bf16) (k : Vec Ideal S1x128x256 .bf16) (h : Fin 4) (i j : Fin 128) :
    wts1 x wq k h (ix2 i j) = if In (128 + i.val) (256 + j.val) then Ideal.exp (∑ d : Fin 64, (∑ e : Fin 512, x (ix3 0 i e) * wq (ix2 e ⟨h.val * 64 + d.val, by omega⟩)) * Ideal.ofBits .f32 0x3E000000#32 * k (ix3 0 j ⟨h.val * 64 + d.val, by omega⟩)) else 0 := by
  have e : wts1 x wq k h (ix2 i j) = Scalar.select (IntOp.cmpi .sge (BitVec.ofNat 32 i) (BitVec.ofNat 32 j)) (Ideal.exp (∑ d : Fin 64, (∑ e : Fin 512, x (ix3 0 i e) * wq (ix2 e ⟨h.val * 64 + d.val, by omega⟩)) * Ideal.ofBits .f32 0x3E000000#32 * k (ix3 0 j ⟨h.val * 64 + d.val, by omega⟩))) 0 := by
    pointwise [wts1, col1_apply, k0_pay107]
  rw [e, low_word i.val j.val i.isLt j.isLt, select_word]

theorem sum1_apply (x : Vec Ideal S1x128x512 .bf16) (wq : Vec Ideal S512x256 .bf16) (k : Vec Ideal S1x128x256 .bf16) (h : Fin 4) (i : Fin 128) :
    sum1 x wq k h (ix2 i 0) = ∑ j : Fin 128, wts1 x wq k h (ix2 i j) := by
  pointwise [sum1]

theorem out1_apply (x : Vec Ideal S1x128x512 .bf16) (wq : Vec Ideal S512x256 .bf16) (k v : Vec Ideal S1x128x256 .bf16) (h : Fin 4) (i : Fin 128) (d : Fin 64) :
    out1 x wq k v h (ix2 i d) = ∑ j : Fin 128, wts1 x wq k h (ix2 i j) * v (ix3 0 j ⟨h.val * 64 + d.val, by omega⟩) := by
  pointwise [out1, col1_apply]

theorem xb0_apply (X : Vec Ideal S2x256x512 .bf16) (b : Fin 2) (i : Fin 256) (e : Fin 512) : xb0 X b (ix3 0 i e) = X (ix3 b i e) := by
  match b with
  | 0 => pointwise [xb0]
  | 1 => pointwise [xb0]
theorem kb0_apply (X : Vec Ideal S2x256x256 .bf16) (b : Fin 2) (i e : Fin 256) : kb0 X b (ix3 0 i e) = X (ix3 b i e) := by
  match b with
  | 0 => pointwise [kb0]
  | 1 => pointwise [kb0]
theorem xb1_apply (X : Vec Ideal S2x256x512 .bf16) (b : Fin 2) (i : Fin 128) (e : Fin 512) :
    xb1 X b (ix3 0 i e) = X (ix3 b ⟨128 + i.val, by omega⟩ e) := by
  match b with
  | 0 => pointwise [xb1]
  | 1 => pointwise [xb1]
theorem kb1_apply (X : Vec Ideal S2x256x256 .bf16) (b : Fin 2) (i : Fin 128) (e : Fin 256) :
    kb1 X b (ix3 0 i e) = X (ix3 b ⟨i.val, by omega⟩ e) := by
  match b with
  | 0 => pointwise [kb1]
  | 1 => pointwise [kb1]
theorem wqb_apply (X : Vec Ideal S512x256 .bf16) (e : Fin 512) (c : Fin 256) : wqb X (ix2 e c) = X (ix2 e c) := by
  pointwise [wqb]
theorem wol_apply (X : Vec Ideal S256x512 .bf16) (e : Fin 256) (c : Fin 512) : wol X (ix2 e c) = X (ix2 e c) := by
  pointwise [wol]

theorem ctx_apply (i : Fin 8) (m0 m1 m2 m3 : FVec Ideal S9x64x64 .f32) (r : Fin 256) (d : Fin 64) :
    ctx i m0 m1 m2 m3 (ix2 r d) = if h0 : r.val < 64 then quo i m0 (ix2 ⟨r.val, h0⟩ d)
      else if h1 : r.val - 64 < 64 then quo i m1 (ix2 ⟨r.val - 64, h1⟩ d)
      else if h2 : r.val - 64 - 64 < 64 then quo i m2 (ix2 ⟨r.val - 64 - 64, h2⟩ d)
      else quo i m3 (ix2 ⟨r.val - 64 - 64 - 64, by omega⟩ d) := by
  pointwise [ctx]

theorem prj_apply (i : Fin 8) (h : Fin 4) (m0 m1 m2 m3 : FVec Ideal S9x64x64 .f32) (wo : FVec Ideal S256x512 .bf16) (r : Fin 256) (n : Fin 512) :
    prj i h m0 m1 m2 m3 wo (ix2 r n) = ∑ d : Fin 64, ctx i m0 m1 m2 m3 (ix2 r d) * wo (ix2 ⟨64 * h.val + d.val, by omega⟩ n) := by
  pointwise [prj]

theorem outB_apply (b : Fin 2) (m0 m1 m2 m3 : FVec Ideal S9x64x64 .f32) (wo : FVec Ideal S256x512 .bf16) (r : Fin 256) (n : Fin 512) :
    outB b m0 m1 m2 m3 wo (ix2 r n) = ∑ h : Fin 4, prj ⟨b.val * 4 + h.val, by omega⟩ h m0 m1 m2 m3 wo (ix2 r n) := by
  rw [Fin.sum_univ_four]
  match b with
  | 0 => pointwise [outB]
  | 1 => pointwise [outB]

end Cert.KernelIdeal.Att

end
-- ==== Proof.Ref.lean ====
/-
  The reference's result, read entry by entry over the extended reals.
-/
module

public import proofs.«01_k».proof.Proof.Gen.ReferenceIdeal
public import proofs.«01_k».proof.Proof.Gen.ReferenceIdeal.Run
public import Idealize.ShloMosaic.Lib.Pointwise
public import proofs.«01_k».proof.Proof.Words
public import Idealize.ShloMosaic.Lib.Tactic.CleanTypes

@[expose] public section

noncomputable section

namespace Cert.ReferenceIdeal.Att

open Cert.ReferenceIdeal Cert.ReferenceIdeal.Gen Idealize.ShloMosaic Idealize.ShloMosaic.TcCoe Idealize.SL.Sem

/-- The queries. -/
def qs (x : FVec Ideal S2x256x512 .bf16) (w : FVec Ideal S512x256 .bf16) : FVec Ideal S2x256x4x64 .bf16 :=
  shapeCast _ (truncf .bf16 (Host.dotGeneral dot_S2x256x512_S512x256_S2x256x256_2_0_01_1_n_n none x w) bitsLt_bf16_f32) shapeCasts_S2x256x256_S2x256x4x64

/-- The window. -/
def band : IVec S256x1024 1 :=
  cmpi .sle (absi (subi (broadcastInDim S256x1024 ![0, 1] bcast_S256x1_S256x1024_0_1 (broadcastInDim S256x1 ![0] bcast_S256_S256x1_0 (iotaInDim S256 32 0)))
    (broadcastInDim S256x1024 ![0, 1] bcast_S1x1024_S256x1024_0_1 (broadcastInDim S1x1024 ![1] bcast_S1024_S1x1024_1 (iotaInDim S1024 32 0)))))
    (broadcastInDim S256x1024 ![] bcast_S_S256x1024 (constantI S_ 32 128#32))

/-- The scores, minus infinity outside the window. -/
def sc (q : FVec Ideal S2x256x4x64 .bf16) (k : FVec Ideal S2x1024x4x64 .bf16) : FVec Ideal S2x4x256x1024 .f32 :=
  select (broadcastInDim S2x4x256x1024 ![0, 1, 2, 3] bcast_S1x1x256x1024_S2x4x256x1024_0_1_2_3 (broadcastInDim S1x1x256x1024 ![2, 3] bcast_S256x1024_S1x1x256x1024_2_3 band))
    (mulf (extf .f32 (truncf .bf16 (Host.dotGeneral dot_S2x256x4x64_S2x1024x4x64_S2x4x256x1024_3_3_1_1_02_02 none q k) bitsLt_bf16_f32) bitsLt_bf16_f32)
      (broadcastInDim S2x4x256x1024 ![] bcast_S_S2x4x256x1024 (constant S_ .f32 0x3E000000#32)))
    (broadcastInDim S2x4x256x1024 ![] bcast_S_S2x4x256x1024 (id (constant S_ .f32 0xFF800000#32)))

/-- The exponentials of the scores less their row's maximum. -/
def ex (s : FVec Ideal S2x4x256x1024 .f32) : FVec Ideal S2x4x256x1024 .f32 :=
  Host.exp (subf s (broadcastInDim S2x4x256x1024 ![0, 1, 2, 3] bcast_S2x4x256x1_S2x4x256x1024_0_1_2_3 (broadcastInDim S2x4x256x1 ![0, 1, 2] bcast_S2x4x256_S2x4x256x1_0_1_2
    (Host.reduce FloatOps.maximumf s (constant S_ .f32 0xFF800000#32) reducesTo_S2x4x256x1024_S2x4x256_d3 h_S_))))

/-- Whether a row has a key. -/
def keep : IVec S1x1x256x1 1 :=
  broadcastInDim S1x1x256x1 ![2] bcast_S256_S1x1x256x1_2 (Host.reduce IntOp.ori band (constantI S_ 1 0#1) reducesTo_S256x1024_S256_d1 h_S_)

/-- The weights. -/
def wt (e : FVec Ideal S2x4x256x1024 .f32) : FVec Ideal S2x4x256x1024 .f32 :=
  select (broadcastInDim S2x4x256x1024 ![0, 1, 2, 3] bcast_S1x1x256x1_S2x4x256x1024_0_1_2_3 keep)
    (Host.divf e (broadcastInDim S2x4x256x1024 ![0, 1, 2, 3] bcast_S2x4x256x1_S2x4x256x1024_0_1_2_3
      (select (broadcastInDim S2x4x256x1 ![0, 1, 2, 3] bcast_S1x1x256x1_S2x4x256x1_0_1_2_3 keep)
        (broadcastInDim S2x4x256x1 ![0, 1, 2] bcast_S2x4x256_S2x4x256x1_0_1_2 (Host.reduceAdd e (constant S_ .f32 0x00000000#32) reducesTo_S2x4x256x1024_S2x4x256_d3 h_S_))
        (broadcastInDim S2x4x256x1 ![] bcast_S_S2x4x256x1 (id (constant S_ .f32 0x3F800000#32))))))
    (broadcastInDim S2x4x256x1024 ![] bcast_S_S2x4x256x1024 (id (constant S_ .f32 0x00000000#32)))

/-- The result. -/
def out (w : FVec Ideal S2x4x256x1024 .f32) (v : FVec Ideal S2x1024x4x64 .bf16) (wo : FVec Ideal S256x512 .bf16) : FVec Ideal S2x256x512 .f32 :=
  Host.dotGeneral dot_S2x256x256_S256x512_S2x256x512_2_0_01_1_n_n none
    (shapeCast _ (transpose S2x256x4x64 [0, 3, 1, 2] (Host.dotGeneral dot_S2x1024x4x64_S2x4x256x1024_S2x4x64x256_1_3_3_2_02_01 none (extf .f32 v bitsLt_bf16_f32) w)
      transposes_S2x4x64x256_S2x256x4x64_0_3_1_2) shapeCasts_S2x256x4x64_S2x256x256)
    (extf .f32 wo bitsLt_bf16_f32)

theorem res_eq (m : (ℓ : Loc nD τ sig) → Buf (Elt Ideal) ℓ) (c : Dev nD) :
    Value.res_main_v39 m c = out (wt (ex (sc (qs (m ((c.tc : Thread nD τ).loc main_arg0)) (m ((c.tc : Thread nD τ).loc main_arg1)))
      (m ((c.tc : Thread nD τ).loc main_arg2))))) (m ((c.tc : Thread nD τ).loc main_arg3)) (m ((c.tc : Thread nD τ).loc main_arg4)) := by
  unfold Value.res_main_v39
  rfl

theorem qs_apply (x : FVec Ideal S2x256x512 .bf16) (w : FVec Ideal S512x256 .bf16) (b : Fin 2) (i : Fin 256) (h : Fin 4) (d : Fin 64) :
    qs x w (ix4 b i h d) = ∑ e : Fin 512, x (ix3 b i e) * w (ix2 e ⟨h.val * 64 + d.val, by omega⟩) := by
  pointwise [qs]

open Cert.Soft

theorem band_apply (i : Fin 256) (j : Fin 1024) : band (ix2 i j) = BitVec.ofBool (decide (In i.val j.val)) := by
  rw [← band_word i.val j.val i.isLt j.isLt]
  pointwise [band]

theorem sc_apply (q : FVec Ideal S2x256x4x64 .bf16) (k : FVec Ideal S2x1024x4x64 .bf16) (b : Fin 2) (h : Fin 4) (i : Fin 256) (j : Fin 1024) :
    sc q k (ix4 b h i j) = msk (fun j : Fin 1024 => In i.val j.val)
      (fun j => (∑ d : Fin 64, q (ix4 b i h d) * k (ix4 b j h d)) * Ideal.ofBits .f32 0x3E000000#32) j := by
  have e : sc q k (ix4 b h i j) = Scalar.select (band (ix2 i j))
      ((∑ d : Fin 64, q (ix4 b i h d) * k (ix4 b j h d)) * Ideal.ofBits .f32 0x3E000000#32) (Ideal.ofBits .f32 0xFF800000#32) := by
    pointwise [sc]
    rfl
  rw [e, band_apply, select_word, ninf]
  rfl

theorem ex_apply (s : FVec Ideal S2x4x256x1024 .f32) (b : Fin 2) (h : Fin 4) (i : Fin 256) (j : Fin 1024) :
    ex s (ix4 b h i j) = Ideal.exp (s (ix4 b h i j) - Finset.fold max ⊥ (fun x => s (ix4 b h i x)) Finset.univ) := by
  rw [← ninf]
  pointwise [ex]

theorem keep_apply (i : Fin 256) : keep (ix4 0 0 i 0) = 1#1 := by
  have e : keep (ix4 0 0 i 0) = Finset.fold IntOp.ori (0#1) (fun x => band (ix2 i x)) Finset.univ := by
    pointwise [keep]
  rw [e]
  refine fold_ori _ (⟨i.val, by omega⟩ : Fin 1024) ?_
  show band (ix2 i _) = _
  rw [band_apply, decide_eq_true ((by constructor <;> exact Nat.le_add_right i.val 128 : In i.val i.val))]
  rfl

theorem wt_apply (s : FVec Ideal S2x4x256x1024 .f32) (b : Fin 2) (h : Fin 4) (i : Fin 256) (j : Fin 1024) :
    wt s (ix4 b h i j) = Ideal.div (s (ix4 b h i j)) (∑ x : Fin 1024, s (ix4 b h i x)) := by
  have e : wt s (ix4 b h i j) = Scalar.select (keep (ix4 0 0 i 0)) (Ideal.div (s (ix4 b h i j))
      (Scalar.select (keep (ix4 0 0 i 0)) (∑ x : Fin 1024, s (ix4 b h i x)) (id (constant (F := Ideal) S_ .f32 0x3F800000#32) ix0)))
      (id (constant (F := Ideal) S_ .f32 0x00000000#32) ix0) := by
    pointwise [wt]
  rw [e, keep_apply]
  rfl

theorem out_apply (w : FVec Ideal S2x4x256x1024 .f32) (v : FVec Ideal S2x1024x4x64 .bf16) (wo : FVec Ideal S256x512 .bf16)
    (b : Fin 2) (i : Fin 256) (n : Fin 512) : out w v wo (ix3 b i n) = ∑ x : Fin 256, (∑ j : Fin 1024,
      v (ix4 b j ⟨x.val / 64, by omega⟩ ⟨x.val % 64, by omega⟩) * w (ix4 b ⟨x.val / 64, by omega⟩ i j)) * wo (ix2 x n) := by
  pointwise [out]

end Cert.ReferenceIdeal.Att

end
-- ==== Proof.Rows.lean ====
/-
  A row of the kernel's context is a row of the reference's.
-/
module

public import proofs.«01_k».proof.Proof.Read
public import proofs.«01_k».proof.Proof.Ref

@[expose] public section

noncomputable section

namespace Cert.KernelIdeal.Att

open Idealize.ShloMosaic Idealize.ShloMosaic.TcCoe
open Cert.KernelIdeal Cert.KernelIdeal.Gen Cert.Soft

theorem pkOf_blk (o : Fin 8 → Fin 64 → Fin 64 → Ideal .bf16) (s : Fin 8 → Fin 64 → Ideal .bf16) (i : Fin 8) (r d : Fin 64) :
    pkOf o s (ix3 (⟨i.val, by omega⟩ : Fin 9) r d) = o i r d := by
  show (if h : i.val < 8 then o ⟨i.val, h⟩ r d else _) = _
  rw [dif_pos i.isLt]
theorem pkOf_col (o : Fin 8 → Fin 64 → Fin 64 → Ideal .bf16) (s : Fin 8 → Fin 64 → Ideal .bf16) (i : Fin 8) (a : Fin 9) (ha : a.val = 8) (r : Fin 64) :
    pkOf o s (ix3 a r (⟨i.val, by omega⟩ : Fin 64)) = s i r := by
  show (if h : a.val < 8 then _ else s ⟨i.val % 8, _⟩ r) = _
  rw [dif_neg (by omega)]
  exact congrArg (fun a => s a r) (Fin.ext (Nat.mod_eq_of_lt i.isLt))

section
variable (X0 : Vec Ideal S2x256x512 .bf16) (W0 : Vec Ideal S512x256 .bf16) (K0 V0 : Vec Ideal S2x256x256 .bf16)
    (X1 : Vec Ideal S2x256x512 .bf16) (W1 : Vec Ideal S512x256 .bf16) (K1 V1 : Vec Ideal S2x256x256 .bf16)

/-- The context rows of head `i`, from the two devices' operands. -/
def ctxP (i : Fin 8) : FVec Ideal S256x64 .bf16 :=
  ctx i (extf .f32 (pkts X0 W0 K0 V0 X1 W1 K1 V1 0 : FVec Ideal S9x64x64 .bf16) bitsLt_bf16_f32)
    (extf .f32 (pkts X0 W0 K0 V0 X1 W1 K1 V1 1 : FVec Ideal S9x64x64 .bf16) bitsLt_bf16_f32)
    (addf (extf .f32 (pkts X0 W0 K0 V0 X1 W1 K1 V1 2 : FVec Ideal S9x64x64 .bf16) bitsLt_bf16_f32)
      (extf .f32 (pkts X0 W0 K0 V0 X1 W1 K1 V1 4 : FVec Ideal S9x64x64 .bf16) bitsLt_bf16_f32))
    (addf (extf .f32 (pkts X0 W0 K0 V0 X1 W1 K1 V1 3 : FVec Ideal S9x64x64 .bf16) bitsLt_bf16_f32)
      (extf .f32 (pkts X0 W0 K0 V0 X1 W1 K1 V1 5 : FVec Ideal S9x64x64 .bf16) bitsLt_bf16_f32))

theorem outP_apply (O : Vec Ideal S256x512 .bf16) (b : Fin 2) (r : Fin 256) (n : Fin 512) :
    outP (pkts X0 W0 K0 V0 X1 W1 K1 V1) O (ix3 b r n) = ∑ h : Fin 4, ∑ d : Fin 64,
      ctxP X0 W0 K0 V0 X1 W1 K1 V1 ⟨b.val * 4 + h.val, by omega⟩ (ix2 r d) * O (ix2 ⟨64 * h.val + d.val, by omega⟩ n) := by
  show outB b _ _ _ _ (wol O) (ix2 r n) = _
  rw [outB_apply]
  refine Finset.sum_congr rfl fun h _ => ?_
  rw [prj_apply]
  refine Finset.sum_congr rfl fun d _ => ?_
  rw [wol_apply]
  rfl

theorem div_congr {a b c d : EReal} (h : a = c) (h' : b = d) : Ideal.div a b = Ideal.div c d := by rw [h, h']

/-- A row of the first half: device 0's part only. -/
theorem ctxP_low (i : Fin 8) (r : Fin 256) (d : Fin 64) (hr : r.val < 128) :
    ctxP X0 W0 K0 V0 X1 W1 K1 V1 i (ix2 r d)
      = Ideal.div (out0 (xb0 X0 (bOf i)) (wqb W0) (kb0 K0 (bOf i)) (kb0 V0 (bOf i)) (hOf i) (ix2 r d))
        (sum0 (xb0 X0 (bOf i)) (wqb W0) (kb0 K0 (bOf i)) (hOf i) (ix2 r 0)) := by
  unfold ctxP
  rw [ctx_apply]
  by_cases h0 : r.val < 64
  · rw [dif_pos h0, quo_apply]
    refine div_congr ((pkOf_blk _ _ i _ d).trans ?_) ((pkOf_col (o0 X0 W0 K0 V0 0) (s0 X0 W0 K0 0) i 8 rfl _).trans ?_)
    · exact congrArg (fun a => out0 _ _ _ _ _ (ix2 a d)) (Fin.ext (by show 64 * 0 + r.val = r.val; omega))
    · exact congrArg (fun a => sum0 _ _ _ _ (ix2 a 0)) (Fin.ext (by show 64 * 0 + r.val = r.val; omega))
  · rw [dif_neg h0, dif_pos (by omega), quo_apply]
    refine div_congr ((pkOf_blk _ _ i _ d).trans ?_) ((pkOf_col (o0 X0 W0 K0 V0 1) (s0 X0 W0 K0 1) i 8 rfl _).trans ?_)
    · exact congrArg (fun a => out0 _ _ _ _ _ (ix2 a d)) (Fin.ext (by show 64 * 1 + (r.val - 64) = r.val; omega))
    · exact congrArg (fun a => sum0 _ _ _ _ (ix2 a 0)) (Fin.ext (by show 64 * 1 + (r.val - 64) = r.val; omega))

/-- A row of the second half: both devices' parts. -/
theorem ctxP_high (i : Fin 8) (r : Fin 256) (d : Fin 64) (hr : 128 ≤ r.val) :
    ctxP X0 W0 K0 V0 X1 W1 K1 V1 i (ix2 r d)
      = Ideal.div (out0 (xb0 X0 (bOf i)) (wqb W0) (kb0 K0 (bOf i)) (kb0 V0 (bOf i)) (hOf i) (ix2 r d)
          + out1 (xb1 X1 (bOf i)) (wqb W1) (kb1 K1 (bOf i)) (kb1 V1 (bOf i)) (hOf i) (ix2 ⟨r.val - 128, by omega⟩ d))
        (sum0 (xb0 X0 (bOf i)) (wqb W0) (kb0 K0 (bOf i)) (hOf i) (ix2 r 0)
          + sum1 (xb1 X1 (bOf i)) (wqb W1) (kb1 K1 (bOf i)) (hOf i) (ix2 ⟨r.val - 128, by omega⟩ 0)) := by
  unfold ctxP
  rw [ctx_apply, dif_neg (by omega), dif_neg (by omega)]
  by_cases h2 : r.val - 64 - 64 < 64
  · rw [dif_pos h2, quo_apply]
    refine div_congr (congrArg₂ (· + ·) ((pkOf_blk _ _ i _ d).trans ?_) ((pkOf_blk _ _ i _ d).trans ?_))
      (congrArg₂ (· + ·) ((pkOf_col (o0 X0 W0 K0 V0 2) (s0 X0 W0 K0 2) i 8 rfl _).trans ?_) ((pkOf_col (o1 X1 W1 K1 V1 2) (s1 X1 W1 K1 2) i 8 rfl _).trans ?_))
    · exact congrArg (fun a => out0 _ _ _ _ _ (ix2 a d)) (Fin.ext (by show 64 * 2 + (r.val - 64 - 64) = r.val; omega))
    · exact congrArg (fun a => out1 _ _ _ _ _ (ix2 a d)) (Fin.ext (by show 64 * 0 + (r.val - 64 - 64) = r.val - 128; omega))
    · exact congrArg (fun a => sum0 _ _ _ _ (ix2 a 0)) (Fin.ext (by show 64 * 2 + (r.val - 64 - 64) = r.val; omega))
    · exact congrArg (fun a => sum1 _ _ _ _ (ix2 a 0)) (Fin.ext (by show 64 * 0 + (r.val - 64 - 64) = r.val - 128; omega))
  · rw [dif_neg h2, quo_apply]
    refine div_congr (congrArg₂ (· + ·) ((pkOf_blk _ _ i _ d).trans ?_) ((pkOf_blk _ _ i _ d).trans ?_))
      (congrArg₂ (· + ·) ((pkOf_col (o0 X0 W0 K0 V0 3) (s0 X0 W0 K0 3) i 8 rfl _).trans ?_) ((pkOf_col (o1 X1 W1 K1 V1 3) (s1 X1 W1 K1 3) i 8 rfl _).trans ?_))
    · exact congrArg (fun a => out0 _ _ _ _ _ (ix2 a d)) (Fin.ext (by show 64 * 3 + (r.val - 64 - 64 - 64) = r.val; omega))
    · exact congrArg (fun a => out1 _ _ _ _ _ (ix2 a d)) (Fin.ext (by show 64 * 1 + (r.val - 64 - 64 - 64) = r.val - 128; omega))
    · exact congrArg (fun a => sum0 _ _ _ _ (ix2 a 0)) (Fin.ext (by show 64 * 3 + (r.val - 64 - 64 - 64) = r.val; omega))
    · exact congrArg (fun a => sum1 _ _ _ _ (ix2 a 0)) (Fin.ext (by show 64 * 1 + (r.val - 64 - 64 - 64) = r.val - 128; omega))

end

section
variable (x : Vec Ideal S2x256x512 .bf16) (w : Vec Ideal S512x256 .bf16)
  (kk vv : FVec Ideal Cert.ReferenceIdeal.S2x1024x4x64 .bf16)

/-- The score of key `j` for row `i`, scaled before the product. -/
def scr (b : Fin 2) (h : Fin 4) (i : Fin 256) (j : Fin 1024) : EReal :=
  ∑ d : Fin 64, (∑ e : Fin 512, x (ix3 b i e) * w (ix2 e ⟨h.val * 64 + d.val, by omega⟩)) * Ideal.ofBits .f32 0x3E000000#32 * kk (ix4 b j h d)

/-- The weight of key `j` for row `i`. -/
def wg (b : Fin 2) (h : Fin 4) (i : Fin 256) (j : Fin 1024) : EReal := wgt (fun j : Fin 1024 => In i.val j.val) (scr x w kk b h i) j

/-- A block of keys or values is the array's from key `s` on. -/
def At (n s : ℕ) (hn : n ≤ 256) (hs : s + n ≤ 1024) (K : Vec Ideal S2x256x256 .bf16) (k : FVec Ideal Cert.ReferenceIdeal.S2x1024x4x64 .bf16) : Prop :=
  ∀ (b : Fin 2) (j : Fin n) (h : Fin 4) (d : Fin 64),
    K (ix3 b ⟨j.val, by omega⟩ ⟨h.val * 64 + d.val, by omega⟩) = k (ix4 b ⟨s + j.val, by omega⟩ h d)

variable {x w kk vv} {K0 V0 K1 V1 : Vec Ideal S2x256x256 .bf16}

theorem wts0_eq (hK : At 256 0 (by omega) (by omega) K0 kk) (b : Fin 2) (h : Fin 4) (i j : Fin 256) :
    wts0 (xb0 x b) (wqb w) (kb0 K0 b) h (ix2 i j) = wg x w kk b h i ⟨0 + j.val, by omega⟩ := by
  have e : (0 + j.val) = j.val := by omega
  unfold wg wgt scr
  simp only [wts0_apply, xb0_apply, wqb_apply, kb0_apply, e]
  refine if_congr Iff.rfl (congrArg _ (Finset.sum_congr rfl fun d _ => congrArg _ ?_)) rfl
  refine (hK b j h d).trans (congrArg (fun a => kk (ix4 b a h d)) (Fin.ext e))

theorem wts1_eq (hK : At 128 256 (by omega) (by omega) K1 kk) (b : Fin 2) (h : Fin 4) (i j : Fin 128) :
    wts1 (xb1 x b) (wqb w) (kb1 K1 b) h (ix2 i j) = wg x w kk b h ⟨128 + i.val, by omega⟩ ⟨256 + j.val, by omega⟩ := by
  unfold wg wgt scr
  simp only [wts1_apply, xb1_apply, wqb_apply, kb1_apply]
  exact if_congr Iff.rfl (congrArg _ (Finset.sum_congr rfl fun d _ => congrArg _ (hK b j h d))) rfl

theorem wg_out {b : Fin 2} {h : Fin 4} {i : Fin 256} {j : Fin 1024} (hj : ¬ In i.val j.val) : wg x w kk b h i j = 0 := if_neg hj

/-- A row of the context: the weighted sum of the values over the sum of the weights. -/
theorem ctxP_eq (hK0 : At 256 0 (by omega) (by omega) K0 kk) (hV0 : At 256 0 (by omega) (by omega) V0 vv)
    (hK1 : At 128 256 (by omega) (by omega) K1 kk) (hV1 : At 128 256 (by omega) (by omega) V1 vv) (b : Fin 2) (h : Fin 4) (r : Fin 256) (d : Fin 64) :
    ctxP x w K0 V0 x w K1 V1 ⟨b.val * 4 + h.val, by omega⟩ (ix2 r d)
      = Ideal.div (∑ j : Fin 1024, wg x w kk b h r j * vv (ix4 b j h d)) (∑ j : Fin 1024, wg x w kk b h r j) := by
  have hb : bOf ⟨b.val * 4 + h.val, by omega⟩ = b := Fin.ext (by show (b.val * 4 + h.val) / 4 = b.val; omega)
  have hh : hOf ⟨b.val * 4 + h.val, by omega⟩ = h := Fin.ext (by show (b.val * 4 + h.val) % 4 = h.val; omega)
  have z : ∀ j : Fin 256, (⟨0 + j.val, by omega⟩ : Fin 1024) = ⟨j.val, by omega⟩ := fun j => Fin.ext (by show 0 + j.val = j.val; omega)
  have f0 : ∀ i : Fin 256, out0 (xb0 x b) (wqb w) (kb0 K0 b) (kb0 V0 b) h (ix2 i d)
      = ∑ j : Fin 256, wg x w kk b h i ⟨j.val, by omega⟩ * vv (ix4 b ⟨j.val, by omega⟩ h d) := fun i => by
    rw [out0_apply]
    refine Finset.sum_congr rfl fun j _ => ?_
    rw [wts0_eq hK0, kb0_apply, z]
    exact congrArg _ ((hV0 b j h d).trans (by rw [z]))
  have g0 : ∀ i : Fin 256, sum0 (xb0 x b) (wqb w) (kb0 K0 b) h (ix2 i 0) = ∑ j : Fin 256, wg x w kk b h i ⟨j.val, by omega⟩ := fun i => by
    rw [sum0_apply]
    exact Finset.sum_congr rfl fun j _ => by rw [wts0_eq hK0, z]
  have f1 : ∀ i : Fin 128, out1 (xb1 x b) (wqb w) (kb1 K1 b) (kb1 V1 b) h (ix2 i d)
      = ∑ j : Fin 128, wg x w kk b h ⟨128 + i.val, by omega⟩ ⟨256 + j.val, by omega⟩ * vv (ix4 b ⟨256 + j.val, by omega⟩ h d) := fun i => by
    rw [out1_apply]
    refine Finset.sum_congr rfl fun j _ => ?_
    rw [wts1_eq hK1, kb1_apply]
    exact congrArg _ (hV1 b j h d)
  have g1 : ∀ i : Fin 128, sum1 (xb1 x b) (wqb w) (kb1 K1 b) h (ix2 i 0)
      = ∑ j : Fin 128, wg x w kk b h ⟨128 + i.val, by omega⟩ ⟨256 + j.val, by omega⟩ := fun i => by
    rw [sum1_apply]
    exact Finset.sum_congr rfl fun j _ => wts1_eq hK1 b h i j
  by_cases hr : r.val < 128
  · rw [ctxP_low _ _ _ _ _ _ _ _ _ _ _ hr, hb, hh, f0, g0]
    have o : ∀ j : Fin 1024, 256 ≤ j.val → wg x w kk b h r j = 0 := fun j hj => wg_out (by unfold In; omega)
    rw [sum_low _ o, sum_low _ (fun j hj => by rw [o j hj, zero_mul])]
  · rw [ctxP_high _ _ _ _ _ _ _ _ _ _ _ (by omega), hb, hh, f0, g0, f1, g1]
    have o : ∀ j : Fin 1024, 384 ≤ j.val → wg x w kk b h r j = 0 := fun j hj => wg_out (by unfold In; omega)
    have er : (⟨128 + (r.val - 128), by omega⟩ : Fin 256) = r := Fin.ext (by show 128 + (r.val - 128) = r.val; omega)
    rw [sum_two _ o, sum_two _ (fun j hj => by rw [o j hj, zero_mul])]
    simp only [er]

theorem ref_eq (hx : ∀ y, IsR (x y)) (hw : ∀ y, IsR (w y)) (hk : ∀ y, IsR (kk y)) (b : Fin 2) (h : Fin 4) (r : Fin 256) (d : Fin 64) :
    (∑ j : Fin 1024, vv (ix4 b j h d) * Cert.ReferenceIdeal.Att.wt (Cert.ReferenceIdeal.Att.ex (Cert.ReferenceIdeal.Att.sc (Cert.ReferenceIdeal.Att.qs x w) kk)) (ix4 b h r j))
      = Ideal.div (∑ j : Fin 1024, wg x w kk b h r j * vv (ix4 b j h d)) (∑ j : Fin 1024, wg x w kk b h r j) := by
  have hq : ∀ d : Fin 64, IsR (∑ e : Fin 512, x (ix3 b r e) * w (ix2 e ⟨h.val * 64 + d.val, by omega⟩)) := fun d =>
    IsR.sum _ fun e => (hx _).mul (hw _)
  have es : ∀ j : Fin 1024, (∑ d : Fin 64, Cert.ReferenceIdeal.Att.qs x w (ix4 b r h d) * kk (ix4 b j h d)) * Ideal.ofBits .f32 0x3E000000#32
      = scr x w kk b h r j := fun j => by
    simp only [Cert.ReferenceIdeal.Att.qs_apply]
    exact (scale_out hq (fun d => hk _) eighth).symm
  have hs : ∀ j : Fin 1024, In r.val j.val → IsR (scr x w kk b h r j) := fun j _ =>
    IsR.sum _ fun d => ((hq d).mul eighth).mul (hk _)
  have := softmax hs ⟨⟨r.val, by omega⟩, (by constructor <;> exact Nat.le_add_right r.val 128 : In r.val r.val)⟩ (fun j => vv (ix4 b j h d))
  refine Eq.trans ?_ this
  simp only [Cert.ReferenceIdeal.Att.wt_apply, Cert.ReferenceIdeal.Att.ex_apply, Cert.ReferenceIdeal.Att.sc_apply, es]

/-- The kernel's result is the reference's. -/
theorem out_eq (hx : ∀ y, IsR (x y)) (hw : ∀ y, IsR (w y)) (hk : ∀ y, IsR (kk y))
    (hK0 : At 256 0 (by omega) (by omega) K0 kk) (hV0 : At 256 0 (by omega) (by omega) V0 vv)
    (hK1 : At 128 256 (by omega) (by omega) K1 kk) (hV1 : At 128 256 (by omega) (by omega) V1 vv) (O : Vec Ideal S256x512 .bf16) :
    outP (pkts x w K0 V0 x w K1 V1) O
      = Cert.ReferenceIdeal.Att.out (Cert.ReferenceIdeal.Att.wt (Cert.ReferenceIdeal.Att.ex (Cert.ReferenceIdeal.Att.sc (Cert.ReferenceIdeal.Att.qs x w) kk))) vv O := by
  funext y
  obtain ⟨b, r, n, rfl⟩ : ∃ b r n, y = ix3 b r n := ⟨_, _, _, eq_ix3 y⟩
  rw [outP_apply, Cert.ReferenceIdeal.Att.out_apply, sum_heads]
  refine Finset.sum_congr rfl fun h _ => Finset.sum_congr rfl fun d _ => ?_
  have e1 : (⟨(h.val * 64 + d.val) / 64, by omega⟩ : Fin 4) = h := Fin.ext (by show (h.val * 64 + d.val) / 64 = h.val; omega)
  have e2 : (⟨(h.val * 64 + d.val) % 64, by omega⟩ : Fin 64) = d := Fin.ext (by show (h.val * 64 + d.val) % 64 = d.val; omega)
  have e3 : (⟨64 * h.val + d.val, by omega⟩ : Fin 256) = ⟨h.val * 64 + d.val, by omega⟩ := Fin.ext (by show 64 * h.val + d.val = h.val * 64 + d.val; omega)
  simp only [e1, e2, e3]
  rw [ctxP_eq hK0 hV0 hK1 hV1, ref_eq hx hw hk]

end

end Cert.KernelIdeal.Att

end
-- ==== Proof.Value.lean ====
/-
  The two programs' results agree.
-/
module

public import proofs.«01_k».proof.Proof.Finite
public import proofs.«01_k».proof.Proof.Rows
public import Idealize.ShloMosaic.Lib.Claim
public import Idealize.ShloMosaic.Lib.Layout

@[expose] public section

noncomputable section

namespace Cert.KernelIdeal.Att

open Idealize.ShloMosaic Idealize.ShloMosaic.TcCoe Idealize.SL.Sem Idealize.ShloMosaic.Pipeline
open Cert.KernelIdeal Cert.KernelIdeal.Gen Cert.Soft

/-! ## The windows are whole arrays -/

section
variable (m : (ℓ : Loc nD τ sig) → Buf (Elt Ideal) ℓ) (c : Dev nD)

/-- The only block starts at the array's start. -/
theorem start (n k : ℕ) : 0 * n + 1 * k = k := by omega

theorem opX_eq : opX m c = m ((c : Thread nD τ).loc main_arg0) := by
  funext y
  show V m c main_arg0 (((cfg0.win 0).blk t0_0).view.emb y) = _
  rw [V_main_arg0]
  exact congrArg _ (funext fun a => Fin.ext (by match a with | 0 => exact start _ _ | 1 => exact start _ _ | 2 => exact start _ _))
theorem opW_eq : opW m c = m ((c : Thread nD τ).loc main_arg1) := by
  funext y
  show V m c main_arg1 (((cfg0.win 1).blk t0_0).view.emb y) = _
  rw [V_main_arg1]
  exact congrArg _ (funext fun a => Fin.ext (by match a with | 0 => exact start _ _ | 1 => exact start _ _))
theorem opO_eq : opO m c = m ((c : Thread nD τ).loc main_arg4) := by
  funext y
  show V m c main_arg4 (((cfg0.win 4).blk t0_0).view.emb y) = _
  rw [V_main_arg4]
  exact congrArg _ (funext fun a => Fin.ext (by match a with | 0 => exact start _ _ | 1 => exact start _ _))

theorem opK_apply (b : Fin 2) (j : Fin 256) (h : Fin 4) (d : Fin 64) :
    opK m c (ix3 b j ⟨h.val * 64 + d.val, by omega⟩) = m ((c : Thread nD τ).loc main_arg2) (ix4 b j h d) := by
  have e : opK m c (ix3 b j ⟨h.val * 64 + d.val, by omega⟩) = V m c main_v1 (ix3 b j ⟨h.val * 64 + d.val, by omega⟩) :=
    congrArg (V m c main_v1) (funext fun a => Fin.ext (by match a with | 0 => exact start _ _ | 1 => exact start _ _ | 2 => exact start _ _))
  rw [e]
  entry_read
  pointwise
theorem opV_apply (b : Fin 2) (j : Fin 256) (h : Fin 4) (d : Fin 64) :
    opV m c (ix3 b j ⟨h.val * 64 + d.val, by omega⟩) = m ((c : Thread nD τ).loc main_arg3) (ix4 b j h d) := by
  have e : opV m c (ix3 b j ⟨h.val * 64 + d.val, by omega⟩) = V m c main_v2 (ix3 b j ⟨h.val * 64 + d.val, by omega⟩) :=
    congrArg (V m c main_v2) (funext fun a => Fin.ext (by match a with | 0 => exact start _ _ | 1 => exact start _ _ | 2 => exact start _ _))
  rw [e]
  entry_read
  pointwise

theorem result_eq : (datR m c).arrAt 5 cfg0.N = res m c := by
  have hemb : ∀ (t : Fin cfg0.N) (y), ((cfg0.win 5).blk t).view.emb y = y := fun t y =>
    funext fun a => Fin.ext (by match a with | 0 => exact start _ _ | 1 => exact start _ _ | 2 => exact start _ _)
  refine (datR m c).arrAt_eq_of_cover 5 (res m c) (fun t _ => ?_) (fun i => ⟨t0_0, flush0_5 _, ?_⟩)
  · funext y
    show res m c _ = res m c (((cfg0.win 5).blk t).view.emb y)
    rw [hemb]
  · exact Finset.mem_map.mpr ⟨i, Finset.mem_univ _, hemb t0_0 i⟩

end

/-! ## Finite entries -/

theorem real_of {x : EReal} (h : Ideal.cmp .olt (max x (-x)) (Ideal.ofBits .bf16 0x7F80#16) = 1#1) : IsR x := by
  have ht : Ideal.ofBits .bf16 0x7F80#16 = (⊤ : EReal) := by simp [Ideal.ofBits, Ideal.ieee]
  rw [ht] at h
  have hl : max x (-x) < ⊤ := by
    by_contra hn
    have : Ideal.cmp .olt (max x (-x)) (⊤ : EReal) = BitVec.ofBool (decide (max x (-x) < (⊤ : EReal))) := rfl
    rw [this, decide_eq_false hn] at h
    exact absurd h (by decide)
  induction x with
  | bot => simp at hl
  | top => simp at hl
  | coe r => exact ⟨r, rfl⟩

variable (m : (ℓ : Loc nD τ sig) → Buf (Elt Ideal) ℓ)

theorem finite (hp : Cert.Pre_KernelIdeal_finite_scores_KernelIdeal m) (c : Dev nD) :
    (∀ y, IsR (m ((c : Thread nD τ).loc main_arg0) y)) ∧ (∀ y, IsR (m ((c : Thread nD τ).loc main_arg1) y))
      ∧ ∀ y, IsR (m ((c : Thread nD τ).loc main_arg2) y) :=
  ⟨fun y => real_of (congrFun (hp c).1 y), fun y => real_of (congrFun (hp c).2.1 y), fun y => real_of (congrFun (hp c).2.2 y)⟩

/-! ## A device's block -/

theorem block_at (c : Fin 4) (k : FVec Ideal Cert.ReferenceIdeal.S2x1024x4x64 .bf16) (b : Fin 2) (j : Fin 256) (h : Fin 4) (d : Fin 64)
    (a : Fin 1024) (ha : a.val = c.val * 256 + j.val) :
    Layout.block ⟨4, ![2, 256, 4, 64]⟩ ⟨4, ![2, 1024, 4, 64]⟩ 1 4 c k (by decide) (ix4 b j h d) = k (ix4 b a h d) := by
  rw [Layout.block_apply]
  refine congrArg k (funext fun x => Fin.ext ?_)
  match x with
  | 0 => rfl
  | 1 => exact ha.symm
  | 2 => rfl
  | 3 => rfl

theorem whole_real {k : FVec Ideal Cert.ReferenceIdeal.S2x1024x4x64 .bf16}
    (h : ∀ (c : Fin 4) y, IsR (Layout.block ⟨4, ![2, 256, 4, 64]⟩ ⟨4, ![2, 1024, 4, 64]⟩ 1 4 c k (by decide) y)) (y) : IsR (k y) := by
  obtain ⟨b, a, n, d, rfl⟩ : ∃ b a n d, y = ix4 b a n d := ⟨_, _, _, _, eq_ix4 y⟩
  have ha : a.val < 1024 := a.isLt
  rw [← block_at ⟨a.val / 256, by omega⟩ k b ⟨a.val % 256, by omega⟩ n d a (by show a.val = a.val / 256 * 256 + a.val % 256; omega)]
  exact h _ _

/-- Every device writes the reference's result of the whole arrays. -/
theorem agree (hp : Cert.Pre_KernelIdeal_finite_scores_KernelIdeal m) (x : Vec Ideal S2x256x512 .bf16) (w : Vec Ideal S512x256 .bf16)
    (kk vv : FVec Ideal Cert.ReferenceIdeal.S2x1024x4x64 .bf16) (o : Vec Ideal S256x512 .bf16)
    (h0 : ∀ c : Dev nD, m ((c : Thread nD τ).loc main_arg0) = x) (h1 : ∀ c : Dev nD, m ((c : Thread nD τ).loc main_arg1) = w)
    (h2 : ∀ c : Dev nD, m ((c : Thread nD τ).loc main_arg2) = Layout.block ⟨4, ![2, 256, 4, 64]⟩ ⟨4, ![2, 1024, 4, 64]⟩ 1 4 c kk (by decide))
    (h3 : ∀ c : Dev nD, m ((c : Thread nD τ).loc main_arg3) = Layout.block ⟨4, ![2, 256, 4, 64]⟩ ⟨4, ![2, 1024, 4, 64]⟩ 1 4 c vv (by decide))
    (h4 : ∀ c : Dev nD, m ((c : Thread nD τ).loc main_arg4) = o) (c : Dev nD) :
    res m c = Cert.ReferenceIdeal.Att.out (Cert.ReferenceIdeal.Att.wt (Cert.ReferenceIdeal.Att.ex (Cert.ReferenceIdeal.Att.sc (Cert.ReferenceIdeal.Att.qs x w) kk))) vv o := by
  have hk : ∀ y, IsR (kk y) := whole_real fun c y => by rw [← h2 c]; exact (finite m hp c).2.2 y
  have hx : ∀ y, IsR (x y) := by rw [← h0 0]; exact (finite m hp 0).1
  have hw : ∀ y, IsR (w y) := by rw [← h1 0]; exact (finite m hp 0).2.1
  show outP (pkts (opX m 0) (opW m 0) (opK m 0) (opV m 0) (opX m 1) (opW m 1) (opK m 1) (opV m 1)) (opO m c) = _
  have ex0 := (opX_eq m 0).trans (h0 0)
  have ex1 := (opX_eq m 1).trans (h0 1)
  have ew0 := (opW_eq m 0).trans (h1 0)
  have ew1 := (opW_eq m 1).trans (h1 1)
  have eo := (opO_eq m c).trans (h4 c)
  rw [ex0, ex1, ew0, ew1, eo]
  refine out_eq hx hw hk ?_ ?_ ?_ ?_ o
  · exact fun b j h d => (opK_apply m 0 b _ h d).trans ((congrFun (h2 0) _).trans (block_at 0 kk b _ h d _ (by show 0 + j.val = 0 * 256 + j.val; omega)))
  · exact fun b j h d => (opV_apply m 0 b _ h d).trans ((congrFun (h3 0) _).trans (block_at 0 vv b _ h d _ (by show 0 + j.val = 0 * 256 + j.val; omega)))
  · exact fun b j h d => (opK_apply m 1 b _ h d).trans ((congrFun (h2 1) _).trans (block_at 1 kk b _ h d _ (by show 256 + j.val = 1 * 256 + j.val; omega)))
  · exact fun b j h d => (opV_apply m 1 b _ h d).trans ((congrFun (h3 1) _).trans (block_at 1 vv b _ h d _ (by show 256 + j.val = 1 * 256 + j.val; omega)))

end Cert.KernelIdeal.Att

namespace Cert.Proof

open Idealize.ShloMosaic Idealize.ShloMosaic.TcCoe Idealize.SL.Sem
open Cert.KernelIdeal.Att

theorem algebraic : Cert.algebraic_KernelIdeal_ReferenceIdeal_pre_finite_scores_KernelIdeal := fun m g m' g' hp hin => by
  have hv : ∀ c, res m c = Cert.ReferenceIdeal.Value.res_main_v39 m' 0 := fun c =>
    (agree m hp _ _ _ _ _ (fun c => (hin c).1) (fun c => (hin c).2.1) (fun c => (hin c).2.2.1) (fun c => (hin c).2.2.2.1)
      (fun c => (hin c).2.2.2.2) c).trans (Cert.ReferenceIdeal.Att.res_eq m' 0).symm
  refine ⟨Cert.ReferenceIdeal.Value.res_main_v39 m' 0, ?_, ?_⟩
  · refine (θ_run Cert.KernelIdeal.defs _ _).mono (fun r h c => ?_) (run_main (F := Ideal) m g)
    obtain ⟨a0, a1, a2, a3, a4, a5⟩ := h.1 c
    exact ⟨a5.trans ((result_eq m c).trans (hv c)), a0, a1, a2, a3, a4⟩
  · exact (θ_run Cert.ReferenceIdeal.defs _ _).mono (fun r h => h 0) (Cert.ReferenceIdeal.Value.run (F := Ideal) m' g')

end Cert.Proof

end
-- ==== Proof.lean ====
/-
  The claim, from its parts.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Finite
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, pre_kernel, pre_reference,
  frame_kernel, frame_kernel_ideal, frame_kernel_finite, frame_reference, frame_reference_finite, trivial, algebraic⟩

end Cert.Proof

end
